-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_object_named [hPre_object_named : Cert.Pre_object_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_object_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_object_named [hPre_object_named : Cert.Pre_object_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_object_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_object_named [hKernel2Ideal : Cert.Kernel2Ideal.Facts] [hPre_object_named : Cert.Pre_object_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_object_named m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_object_named [hReference2Ideal : Cert.Reference2Ideal.Facts] [hPre_object_named : Cert.Pre_object_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_object_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def preserves_Kernel2_Kernel2Ideal : Prop :=
  True

def algebraic_Kernel2Ideal_Reference2Ideal_pre_object_named [hKernel2Ideal : Cert.Kernel2Ideal.Facts] [hReference2Ideal : Cert.Reference2Ideal.Facts] [hPre_object_named : Cert.Pre_object_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_object_named m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_inputs_finite : Cert.Pre_inputs_finite.Facts) (hPre_object_named : Cert.Pre_object_named.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Kernel2Ideal_pre_object_named (hKernel2Ideal := hKernel2Ideal) (hPre_object_named := hPre_object_named)
    ∧ quiescent_Reference2Ideal (hReference2Ideal := hReference2Ideal)
    ∧ quiescent_Reference2Ideal_pre_object_named (hReference2Ideal := hReference2Ideal) (hPre_object_named := hPre_object_named)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal_pre_object_named (hKernel2Ideal := hKernel2Ideal) (hReference2Ideal := hReference2Ideal) (hPre_object_named := hPre_object_named)
-- ==== Pre_inputs_finite.lean ====
abbrev S64x128x32x32 : Shape := ⟨4, ![64, 128, 32, 32]⟩
abbrev S64x2x32x32 : Shape := ⟨4, ![64, 2, 32, 32]⟩
abbrev S64x1x32x32 : Shape := ⟨4, ![64, 1, 32, 32]⟩
abbrev S64x8x64x64 : Shape := ⟨4, ![64, 8, 64, 64]⟩
abbrev S128x8x3x3 : Shape := ⟨4, ![128, 8, 3, 3]⟩
abbrev S128 : Shape := ⟨1, ![128]⟩
abbrev S64x128x3x3 : Shape := ⟨4, ![64, 128, 3, 3]⟩
abbrev S64 : Shape := ⟨1, ![64]⟩
abbrev S128x2x7x7 : Shape := ⟨4, ![128, 2, 7, 7]⟩
abbrev S64x1x3x3 : Shape := ⟨4, ![64, 1, 3, 3]⟩
abbrev S32x64x3x3 : Shape := ⟨4, ![32, 64, 3, 3]⟩
abbrev S32 : Shape := ⟨1, ![32]⟩
abbrev S128x288x3x3 : Shape := ⟨4, ![128, 288, 3, 3]⟩
abbrev S128x128x3x3 : Shape := ⟨4, ![128, 128, 3, 3]⟩
abbrev S_ : Shape := ⟨0, ![]⟩

class Facts : Prop where
  bcast_S_S64x128x32x32 : S_.BroadcastsInDim S64x128x32x32 (![] : Fin 0 → Fin S64x128x32x32.rank)
  reducesTo_S64x128x32x32_S_d0_1_2_3 : S64x128x32x32.ReducesTo [0, 1, 2, 3] S_
  h_S_ : 0 < S_.numel
  bcast_S_S64x2x32x32 : S_.BroadcastsInDim S64x2x32x32 (![] : Fin 0 → Fin S64x2x32x32.rank)
  reducesTo_S64x2x32x32_S_d0_1_2_3 : S64x2x32x32.ReducesTo [0, 1, 2, 3] S_
  bcast_S_S64x1x32x32 : S_.BroadcastsInDim S64x1x32x32 (![] : Fin 0 → Fin S64x1x32x32.rank)
  reducesTo_S64x1x32x32_S_d0_1_2_3 : S64x1x32x32.ReducesTo [0, 1, 2, 3] S_
  bcast_S_S64x8x64x64 : S_.BroadcastsInDim S64x8x64x64 (![] : Fin 0 → Fin S64x8x64x64.rank)
  reducesTo_S64x8x64x64_S_d0_1_2_3 : S64x8x64x64.ReducesTo [0, 1, 2, 3] S_
  bcast_S_S128x8x3x3 : S_.BroadcastsInDim S128x8x3x3 (![] : Fin 0 → Fin S128x8x3x3.rank)
  reducesTo_S128x8x3x3_S_d0_1_2_3 : S128x8x3x3.ReducesTo [0, 1, 2, 3] S_
  bcast_S_S128 : S_.BroadcastsInDim S128 (![] : Fin 0 → Fin S128.rank)
  reducesTo_S128_S_d0 : S128.ReducesTo [0] S_
  bcast_S_S64x128x3x3 : S_.BroadcastsInDim S64x128x3x3 (![] : Fin 0 → Fin S64x128x3x3.rank)
  reducesTo_S64x128x3x3_S_d0_1_2_3 : S64x128x3x3.ReducesTo [0, 1, 2, 3] S_
  bcast_S_S64 : S_.BroadcastsInDim S64 (![] : Fin 0 → Fin S64.rank)
  reducesTo_S64_S_d0 : S64.ReducesTo [0] S_
  bcast_S_S128x2x7x7 : S_.BroadcastsInDim S128x2x7x7 (![] : Fin 0 → Fin S128x2x7x7.rank)
  reducesTo_S128x2x7x7_S_d0_1_2_3 : S128x2x7x7.ReducesTo [0, 1, 2, 3] S_
  bcast_S_S64x1x3x3 : S_.BroadcastsInDim S64x1x3x3 (![] : Fin 0 → Fin S64x1x3x3.rank)
  reducesTo_S64x1x3x3_S_d0_1_2_3 : S64x1x3x3.ReducesTo [0, 1, 2, 3] S_
  bcast_S_S32x64x3x3 : S_.BroadcastsInDim S32x64x3x3 (![] : Fin 0 → Fin S32x64x3x3.rank)
  reducesTo_S32x64x3x3_S_d0_1_2_3 : S32x64x3x3.ReducesTo [0, 1, 2, 3] S_
  bcast_S_S32 : S_.BroadcastsInDim S32 (![] : Fin 0 → Fin S32.rank)
  reducesTo_S32_S_d0 : S32.ReducesTo [0] S_
  bcast_S_S128x288x3x3 : S_.BroadcastsInDim S128x288x3x3 (![] : Fin 0 → Fin S128x288x3x3.rank)
  reducesTo_S128x288x3x3_S_d0_1_2_3 : S128x288x3x3.ReducesTo [0, 1, 2, 3] S_
  bcast_S_S128x128x3x3 : S_.BroadcastsInDim S128x128x3x3 (![] : Fin 0 → Fin S128x128x3x3.rank)
  reducesTo_S128x128x3x3_S_d0_1_2_3 : S128x128x3x3.ReducesTo [0, 1, 2, 3] S_

variable [Facts]

def fn_part7 {F : FTy → Type} [FloatOps F] (main_arg25 : FVec F S128 .f32) (main_v118 : IVec S_ 1) (main_v119 : FVec F S128x128x3x3 .f32) : IVec S_ 1 :=
  let main_cst_46 : FVec F S_ .f32 := constant S_ .f32 0x7F800000#32
  let main_v120 : FVec F S128x128x3x3 .f32 := broadcastInDim S128x128x3x3 ![] bcast_S_S128x128x3x3 main_cst_46
  let main_v121 : IVec S128x128x3x3 1 := cmpf .olt main_v119 main_v120
  let main_c_47 : IVec S_ 1 := constantI S_ 1 1#1
  let main_v122 : IVec S_ 1 := (fun x v => Host.reduce IntOp.andi x v reducesTo_S128x128x3x3_S_d0_1_2_3 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S128 .f32) (main_arg22 : FVec F S128 .f32) (main_arg23 : FVec F S128 .f32) (main_arg24 : FVec F S128x128x3x3 .f32) (main_arg25 : FVec F S128 .f32) (main_v98 : IVec S_ 1) (main_v101 : IVec S128x128x3x3 1) (main_c_39 : IVec S_ 1) : IVec S_ 1 :=
  let main_v102 : IVec S_ 1 := (fun x v => Host.reduce IntOp.andi x v reducesTo_S128x128x3x3_S_d0_1_2_3 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128x3x3 .f32 := Host.absf main_arg24
  fn_part7 (F := F) main_arg25 main_v118 main_v119

def fn_part5 {F : FTy → Type} [FloatOps F] (main_arg18 : FVec F S128 .f32) (main_arg19 : FVec F S128 .f32) (main_arg20 : FVec F S128x128x3x3 .f32) (main_arg21 : FVec F S128 .f32) (main_arg22 : FVec F S128 .f32) (main_arg23 : FVec F S128 .f32) (main_arg24 : FVec F S128x128x3x3 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128x3x3 .f32 := Host.absf main_arg20
  let main_cst_38 : FVec F S_ .f32 := constant S_ .f32 0x7F800000#32
  let main_v100 : FVec F S128x128x3x3 .f32 := broadcastInDim S128x128x3x3 ![] bcast_S_S128x128x3x3 main_cst_38
  let main_v101 : IVec S128x128x3x3 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S32x64x3x3 .f32) (main_arg15 : FVec F S32 .f32) (main_arg16 : FVec F S128x288x3x3 .f32) (main_arg17 : FVec F S128 .f32) (main_arg18 : FVec F S128 .f32) (main_arg19 : FVec F S128 .f32) (main_arg20 : FVec F S128x128x3x3 .f32) (main_arg21 : FVec F S128 .f32) (main_arg22 : FVec F S128 .f32) (main_arg23 : FVec F S128 .f32) (main_arg24 : FVec F S128x128x3x3 .f32) (main_arg25 : FVec F S128 .f32) (main_v63 : IVec S_ 1) (main_v67 : IVec S_ 1) : IVec S_ 1 :=
  let main_v68 : IVec S_ 1 := andi main_v63 main_v67
  let main_v69 : FVec F S32x64x3x3 .f32 := Host.absf main_arg14
  let main_cst_26 : FVec F S_ .f32 := constant S_ .f32 0x7F800000#32
  let main_v70 : FVec F S32x64x3x3 .f32 := broadcastInDim S32x64x3x3 ![] bcast_S_S32x64x3x3 main_cst_26
  let main_v71 : IVec S32x64x3x3 1 := cmpf .olt main_v69 main_v70
  let main_c_27 : IVec S_ 1 := constantI S_ 1 1#1
  let main_v72 : IVec S_ 1 := (fun x v => Host.reduce IntOp.andi x v reducesTo_S32x64x3x3_S_d0_1_2_3 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S128x288x3x3 .f32 := Host.absf main_arg16
  let main_cst_30 : FVec F S_ .f32 := constant S_ .f32 0x7F800000#32
  let main_v80 : FVec F S128x288x3x3 .f32 := broadcastInDim S128x288x3x3 ![] bcast_S_S128x288x3x3 main_cst_30
  let main_v81 : IVec S128x288x3x3 1 := cmpf .olt main_v79 main_v80
  let main_c_31 : IVec S_ 1 := constantI S_ 1 1#1
  let main_v82 : IVec S_ 1 := (fun x v => Host.reduce IntOp.andi x v reducesTo_S128x288x3x3_S_d0_1_2_3 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S64 .f32) (main_arg12 : FVec F S64x1x3x3 .f32) (main_arg13 : FVec F S64 .f32) (main_arg14 : FVec F S32x64x3x3 .f32) (main_arg15 : FVec F S32 .f32) (main_arg16 : FVec F S128x288x3x3 .f32) (main_arg17 : FVec F S128 .f32) (main_arg18 : FVec F S128 .f32) (main_arg19 : FVec F S128 .f32) (main_arg20 : FVec F S128x128x3x3 .f32) (main_arg21 : FVec F S128 .f32) (main_arg22 : FVec F S128 .f32) (main_arg23 : FVec F S128 .f32) (main_arg24 : FVec F S128x128x3x3 .f32) (main_arg25 : FVec F S128 .f32) (main_v48 : IVec S_ 1) (main_v49 : FVec F S64x128x3x3 .f32) (main_v50 : FVec F S64x128x3x3 .f32) : IVec S_ 1 :=
  let main_v51 : IVec S64x128x3x3 1 := cmpf .olt main_v49 main_v50
  let main_c_19 : IVec S_ 1 := constantI S_ 1 1#1
  let main_v52 : IVec S_ 1 := (fun x v => Host.reduce IntOp.andi x v reducesTo_S64x128x3x3_S_d0_1_2_3 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1x3x3 .f32 := Host.absf main_arg12
  let main_cst_22 : FVec F S_ .f32 := constant S_ .f32 0x7F800000#32
  let main_v60 : FVec F S64x1x3x3 .f32 := broadcastInDim S64x1x3x3 ![] bcast_S_S64x1x3x3 main_cst_22
  let main_v61 : IVec S64x1x3x3 1 := cmpf .olt main_v59 main_v60
  let main_c_23 : IVec S_ 1 := constantI S_ 1 1#1
  let main_v62 : IVec S_ 1 := (fun x v => Host.reduce IntOp.andi x v reducesTo_S64x1x3x3_S_d0_1_2_3 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S64 .f32) (main_arg8 : FVec F S128x2x7x7 .f32) (main_arg9 : FVec F S128 .f32) (main_arg10 : FVec F S64x128x3x3 .f32) (main_arg11 : FVec F S64 .f32) (main_arg12 : FVec F S64x1x3x3 .f32) (main_arg13 : FVec F S64 .f32) (main_arg14 : FVec F S32x64x3x3 .f32) (main_arg15 : FVec F S32 .f32) (main_arg16 : FVec F S128x288x3x3 .f32) (main_arg17 : FVec F S128 .f32) (main_arg18 : FVec F S128 .f32) (main_arg19 : FVec F S128 .f32) (main_arg20 : FVec F S128x128x3x3 .f32) (main_arg21 : FVec F S128 .f32) (main_arg22 : FVec F S128 .f32) (main_arg23 : FVec F S128 .f32) (main_arg24 : FVec F S128x128x3x3 .f32) (main_arg25 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x2x7x7 .f32 := Host.absf main_arg8
  let main_cst_14 : FVec F S_ .f32 := constant S_ .f32 0x7F800000#32
  let main_v40 : FVec F S128x2x7x7 .f32 := broadcastInDim S128x2x7x7 ![] bcast_S_S128x2x7x7 main_cst_14
  let main_v41 : IVec S128x2x7x7 1 := cmpf .olt main_v39 main_v40
  let main_c_15 : IVec S_ 1 := constantI S_ 1 1#1
  let main_v42 : IVec S_ 1 := (fun x v => Host.reduce IntOp.andi x v reducesTo_S128x2x7x7_S_d0_1_2_3 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128x3x3 .f32 := Host.absf main_arg10
  let main_cst_18 : FVec F S_ .f32 := constant S_ .f32 0x7F800000#32
  let main_v50 : FVec F S64x128x3x3 .f32 := broadcastInDim S64x128x3x3 ![] bcast_S_S64x128x3x3 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128x8x3x3 .f32) (main_arg5 : FVec F S128 .f32) (main_arg6 : FVec F S64x128x3x3 .f32) (main_arg7 : FVec F S64 .f32) (main_arg8 : FVec F S128x2x7x7 .f32) (main_arg9 : FVec F S128 .f32) (main_arg10 : FVec F S64x128x3x3 .f32) (main_arg11 : FVec F S64 .f32) (main_arg12 : FVec F S64x1x3x3 .f32) (main_arg13 : FVec F S64 .f32) (main_arg14 : FVec F S32x64x3x3 .f32) (main_arg15 : FVec F S32 .f32) (main_arg16 : FVec F S128x288x3x3 .f32) (main_arg17 : FVec F S128 .f32) (main_arg18 : FVec F S128 .f32) (main_arg19 : FVec F S128 .f32) (main_arg20 : FVec F S128x128x3x3 .f32) (main_arg21 : FVec F S128 .f32) (main_arg22 : FVec F S128 .f32) (main_arg23 : FVec F S128 .f32) (main_arg24 : FVec F S128x128x3x3 .f32) (main_arg25 : FVec F S128 .f32) (main_v13 : IVec S_ 1) (main_v16 : IVec S64x8x64x64 1) : IVec S_ 1 :=
  let main_c_5 : IVec S_ 1 := constantI S_ 1 1#1
  let main_v17 : IVec S_ 1 := (fun x v => Host.reduce IntOp.andi x v reducesTo_S64x8x64x64_S_d0_1_2_3 h_S_) main_v16 main_c_5
  let main_v18 : IVec S_ 1 := andi main_v13 main_v17
  let main_v19 : FVec F S128x8x3x3 .f32 := Host.absf main_arg4
  let main_cst_6 : FVec F S_ .f32 := constant S_ .f32 0x7F800000#32
  let main_v20 : FVec F S128x8x3x3 .f32 := broadcastInDim S128x8x3x3 ![] bcast_S_S128x8x3x3 main_cst_6
  let main_v21 : IVec S128x8x3x3 1 := cmpf .olt main_v19 main_v20
  let main_c_7 : IVec S_ 1 := constantI S_ 1 1#1
  let main_v22 : IVec S_ 1 := (fun x v => Host.reduce IntOp.andi x v reducesTo_S128x8x3x3_S_d0_1_2_3 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128x3x3 .f32 := Host.absf main_arg6
  let main_cst_10 : FVec F S_ .f32 := constant S_ .f32 0x7F800000#32
  let main_v30 : FVec F S64x128x3x3 .f32 := broadcastInDim S64x128x3x3 ![] bcast_S_S64x128x3x3 main_cst_10
  let main_v31 : IVec S64x128x3x3 1 := cmpf .olt main_v29 main_v30
  let main_c_11 : IVec S_ 1 := constantI S_ 1 1#1
  let main_v32 : IVec S_ 1 := (fun x v => Host.reduce IntOp.andi x v reducesTo_S64x128x3x3_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S64x128x32x32 .f32) (main_arg1 : FVec F S64x2x32x32 .f32) (main_arg2 : FVec F S64x1x32x32 .f32) (main_arg3 : FVec F S64x8x64x64 .f32) (main_arg4 : FVec F S128x8x3x3 .f32) (main_arg5 : FVec F S128 .f32) (main_arg6 : FVec F S64x128x3x3 .f32) (main_arg7 : FVec F S64 .f32) (main_arg8 : FVec F S128x2x7x7 .f32) (main_arg9 : FVec F S128 .f32) (main_arg10 : FVec F S64x128x3x3 .f32) (main_arg11 : FVec F S64 .f32) (main_arg12 : FVec F S64x1x3x3 .f32) (main_arg13 : FVec F S64 .f32) (main_arg14 : FVec F S32x64x3x3 .f32) (main_arg15 : FVec F S32 .f32) (main_arg16 : FVec F S128x288x3x3 .f32) (main_arg17 : FVec F S128 .f32) (main_arg18 : FVec F S128 .f32) (main_arg19 : FVec F S128 .f32) (main_arg20 : FVec F S128x128x3x3 .f32) (main_arg21 : FVec F S128 .f32) (main_arg22 : FVec F S128 .f32) (main_arg23 : FVec F S128 .f32) (main_arg24 : FVec F S128x128x3x3 .f32) (main_arg25 : FVec F S128 .f32) (main_arg26 : FVec F S128 .f32) (main_arg27 : FVec F S128 .f32) : IVec S_ 1 :=
  let main_v0 : FVec F S64x128x32x32 .f32 := Host.absf main_arg0
  let main_cst : FVec F S_ .f32 := constant S_ .f32 0x7F800000#32
  let main_v1 : FVec F S64x128x32x32 .f32 := broadcastInDim S64x128x32x32 ![] bcast_S_S64x128x32x32 main_cst
  let main_v2 : IVec S64x128x32x32 1 := cmpf .olt main_v0 main_v1
  let main_c : IVec S_ 1 := constantI S_ 1 1#1
  let main_v3 : IVec S_ 1 := (fun x v => Host.reduce IntOp.andi x v reducesTo_S64x128x32x32_S_d0_1_2_3 h_S_) main_v2 main_c
  let main_v4 : FVec F S64x2x32x32 .f32 := Host.absf main_arg1
  let main_cst_0 : FVec F S_ .f32 := constant S_ .f32 0x7F800000#32
  let main_v5 : FVec F S64x2x32x32 .f32 := broadcastInDim S64x2x32x32 ![] bcast_S_S64x2x32x32 main_cst_0
  let main_v6 : IVec S64x2x32x32 1 := cmpf .olt main_v4 main_v5
  let main_c_1 : IVec S_ 1 := constantI S_ 1 1#1
  let main_v7 : IVec S_ 1 := (fun x v => Host.reduce IntOp.andi x v reducesTo_S64x2x32x32_S_d0_1_2_3 h_S_) main_v6 main_c_1
  let main_v8 : IVec S_ 1 := andi main_v3 main_v7
  let main_v9 : FVec F S64x1x32x32 .f32 := Host.absf main_arg2
  let main_cst_2 : FVec F S_ .f32 := constant S_ .f32 0x7F800000#32
  let main_v10 : FVec F S64x1x32x32 .f32 := broadcastInDim S64x1x32x32 ![] bcast_S_S64x1x32x32 main_cst_2
  let main_v11 : IVec S64x1x32x32 1 := cmpf .olt main_v9 main_v10
  let main_c_3 : IVec S_ 1 := constantI S_ 1 1#1
  let main_v12 : IVec S_ 1 := (fun x v => Host.reduce IntOp.andi x v reducesTo_S64x1x32x32_S_d0_1_2_3 h_S_) main_v11 main_c_3
  let main_v13 : IVec S_ 1 := andi main_v8 main_v12
  let main_v14 : FVec F S64x8x64x64 .f32 := Host.absf main_arg3
  let main_cst_4 : FVec F S_ .f32 := constant S_ .f32 0x7F800000#32
  let main_v15 : FVec F S64x8x64x64 .f32 := broadcastInDim S64x8x64x64 ![] bcast_S_S64x8x64x64 main_cst_4
  let main_v16 : IVec S64x8x64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Pre_object_named.lean ====
abbrev S64x128x16 : Shape := ⟨3, ![64, 128, 16]⟩
abbrev S64 : Shape := ⟨1, ![64]⟩
abbrev S1024x2048 : Shape := ⟨2, ![1024, 2048]⟩
abbrev S1024 : Shape := ⟨1, ![1024]⟩
abbrev S256x1024 : Shape := ⟨2, ![256, 1024]⟩
abbrev S256 : Shape := ⟨1, ![256]⟩
abbrev S126x256 : Shape := ⟨2, ![126, 256]⟩
abbrev S126 : Shape := ⟨1, ![126]⟩
abbrev S63x256 : Shape := ⟨2, ![63, 256]⟩
abbrev S63 : Shape := ⟨1, ![63]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64x128x16 .f32) (main_arg1 : IVec S64 32) (main_arg2 : FVec F S1024x2048 .f32) (main_arg3 : FVec F S1024 .f32) (main_arg4 : FVec F S256x1024 .f32) (main_arg5 : FVec F S256 .f32) (main_arg6 : FVec F S126x256 .f32) (main_arg7 : FVec F S126 .f32) (main_arg8 : FVec F S63x256 .f32) (main_arg9 : FVec F S63 .f32) : IVec S_ 1 :=
  let main_c : IVec S_ 32 := constantI S_ 32 1#32
  let main_v0 : IVec S64 32 := broadcastInDim S64 ![] bcast_S_S64 main_c
  let main_v1 : IVec S64 1 := cmpi .sge main_arg1 main_v0
  let main_c_0 : IVec S_ 32 := constantI S_ 32 21#32
  let main_v2 : IVec S64 32 := broadcastInDim S64 ![] bcast_S_S64 main_c_0
  let main_v3 : IVec S64 1 := cmpi .sle main_arg1 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  main_v5
-- ==== Kernel.lean ====
abbrev S64x128x32x32 : Shape := ⟨4, ![64, 128, 32, 32]⟩
abbrev S64x2x32x32 : Shape := ⟨4, ![64, 2, 32, 32]⟩
abbrev S64x1x32x32 : Shape := ⟨4, ![64, 1, 32, 32]⟩
abbrev S64x8x64x64 : Shape := ⟨4, ![64, 8, 64, 64]⟩
abbrev S128x8x3x3 : Shape := ⟨4, ![128, 8, 3, 3]⟩
abbrev S128 : Shape := ⟨1, ![128]⟩
abbrev S64x128x3x3 : Shape := ⟨4, ![64, 128, 3, 3]⟩
abbrev S64 : Shape := ⟨1, ![64]⟩
abbrev S128x2x7x7 : Shape := ⟨4, ![128, 2, 7, 7]⟩
abbrev S64x1x3x3 : Shape := ⟨4, ![64, 1, 3, 3]⟩
abbrev S32x64x3x3 : Shape := ⟨4, ![32, 64, 3, 3]⟩
abbrev S32 : Shape := ⟨1, ![32]⟩
abbrev S128x288x3x3 : Shape := ⟨4, ![128, 288, 3, 3]⟩
abbrev S128x128x3x3 : Shape := ⟨4, ![128, 128, 3, 3]⟩
abbrev S64x128x1024 : Shape := ⟨3, ![64, 128, 1024]⟩
abbrev S64x8x4096 : Shape := ⟨3, ![64, 8, 4096]⟩
abbrev S_ : Shape := ⟨0, ![]⟩
abbrev S64x8x32x32 : Shape := ⟨4, ![64, 8, 32, 32]⟩
abbrev S64x8x1024 : Shape := ⟨3, ![64, 8, 1024]⟩
abbrev S128x3x3x8 : Shape := ⟨4, ![128, 3, 3, 8]⟩
abbrev S128x72 : Shape := ⟨2, ![128, 72]⟩
abbrev S128x7x7x2 : Shape := ⟨4, ![128, 7, 7, 2]⟩
abbrev S128x7x7x8 : Shape := ⟨4, ![128, 7, 7, 8]⟩
abbrev S128x392 : Shape := ⟨2, ![128, 392]⟩
abbrev S64x3x3x1 : Shape := ⟨4, ![64, 3, 3, 1]⟩
abbrev S64x3x3x8 : Shape := ⟨4, ![64, 3, 3, 8]⟩
abbrev S64x72 : Shape := ⟨2, ![64, 72]⟩
abbrev S3x3x128x64 : Shape := ⟨4, ![3, 3, 128, 64]⟩
abbrev S1152x64 : Shape := ⟨2, ![1152, 64]⟩
abbrev S3x3x64x32 : Shape := ⟨4, ![3, 3, 64, 32]⟩
abbrev S576x32 : Shape := ⟨2, ![576, 32]⟩
abbrev S3x3x288x128 : Shape := ⟨4, ![3, 3, 288, 128]⟩
abbrev S3x3x128x128 : Shape := ⟨4, ![3, 3, 128, 128]⟩
abbrev S3x3x64x128 : Shape := ⟨4, ![3, 3, 64, 128]⟩
abbrev S3x3x256x128 : Shape := ⟨4, ![3, 3, 256, 128]⟩
abbrev S2304x128 : Shape := ⟨2, ![2304, 128]⟩
abbrev S3x3x32x128 : Shape := ⟨4, ![3, 3, 32, 128]⟩
abbrev S288x128 : Shape := ⟨2, ![288, 128]⟩
abbrev S1152x128 : Shape := ⟨2, ![1152, 128]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S1x32 : Shape := ⟨2, ![1, 32]⟩
abbrev S64x128x16 : Shape := ⟨3, ![64, 128, 16]⟩
abbrev S4x128x1024 : Shape := ⟨3, ![4, 128, 1024]⟩
abbrev S4x8x4096 : Shape := ⟨3, ![4, 8, 4096]⟩
abbrev S4x8x1024 : Shape := ⟨3, ![4, 8, 1024]⟩
abbrev S4x128x16 : Shape := ⟨3, ![4, 128, 16]⟩
abbrev S1x1x4096 : Shape := ⟨3, ![1, 1, 4096]⟩
abbrev S4x8x65 : Shape := ⟨3, ![4, 8, 65]⟩
abbrev S4x8x4031 : Shape := ⟨3, ![4, 8, 4031]⟩
abbrev S4x8x64 : Shape := ⟨3, ![4, 8, 64]⟩
abbrev S4x8x4032 : Shape := ⟨3, ![4, 8, 4032]⟩
abbrev S4x8x63 : Shape := ⟨3, ![4, 8, 63]⟩
abbrev S4x8x4033 : Shape := ⟨3, ![4, 8, 4033]⟩
abbrev S4x8x1 : Shape := ⟨3, ![4, 8, 1]⟩
abbrev S4x8x4095 : Shape := ⟨3, ![4, 8, 4095]⟩
abbrev S4x72x4096 : Shape := ⟨3, ![4, 72, 4096]⟩
abbrev S1x72x4096 : Shape := ⟨3, ![1, 72, 4096]⟩
abbrev S72x4096 : Shape := ⟨2, ![72, 4096]⟩
abbrev S4096x128 : Shape := ⟨2, ![4096, 128]⟩
abbrev S64x64x128 : Shape := ⟨3, ![64, 64, 128]⟩
abbrev S1x64x64x128 : Shape := ⟨4, ![1, 64, 64, 128]⟩
abbrev S4x64x64x128 : Shape := ⟨4, ![4, 64, 64, 128]⟩
abbrev S1x1x1024 : Shape := ⟨3, ![1, 1, 1024]⟩
abbrev S4x8x99 : Shape := ⟨3, ![4, 8, 99]⟩
abbrev S4x8x925 : Shape := ⟨3, ![4, 8, 925]⟩
abbrev S4x8x98 : Shape := ⟨3, ![4, 8, 98]⟩
abbrev S4x8x926 : Shape := ⟨3, ![4, 8, 926]⟩
abbrev S4x8x97 : Shape := ⟨3, ![4, 8, 97]⟩
abbrev S4x8x927 : Shape := ⟨3, ![4, 8, 927]⟩
abbrev S4x8x96 : Shape := ⟨3, ![4, 8, 96]⟩
abbrev S4x8x928 : Shape := ⟨3, ![4, 8, 928]⟩
abbrev S4x8x95 : Shape := ⟨3, ![4, 8, 95]⟩
abbrev S4x8x929 : Shape := ⟨3, ![4, 8, 929]⟩
abbrev S4x8x94 : Shape := ⟨3, ![4, 8, 94]⟩
abbrev S4x8x930 : Shape := ⟨3, ![4, 8, 930]⟩
abbrev S4x8x93 : Shape := ⟨3, ![4, 8, 93]⟩
abbrev S4x8x931 : Shape := ⟨3, ![4, 8, 931]⟩
abbrev S4x8x67 : Shape := ⟨3, ![4, 8, 67]⟩
abbrev S4x8x957 : Shape := ⟨3, ![4, 8, 957]⟩
abbrev S4x8x66 : Shape := ⟨3, ![4, 8, 66]⟩
abbrev S4x8x958 : Shape := ⟨3, ![4, 8, 958]⟩
abbrev S4x8x959 : Shape := ⟨3, ![4, 8, 959]⟩
abbrev S4x8x960 : Shape := ⟨3, ![4, 8, 960]⟩
abbrev S4x8x961 : Shape := ⟨3, ![4, 8, 961]⟩
abbrev S4x8x62 : Shape := ⟨3, ![4, 8, 62]⟩
abbrev S4x8x962 : Shape := ⟨3, ![4, 8, 962]⟩
abbrev S4x8x61 : Shape := ⟨3, ![4, 8, 61]⟩
abbrev S4x8x963 : Shape := ⟨3, ![4, 8, 963]⟩
abbrev S4x8x35 : Shape := ⟨3, ![4, 8, 35]⟩
abbrev S4x8x989 : Shape := ⟨3, ![4, 8, 989]⟩
abbrev S4x8x34 : Shape := ⟨3, ![4, 8, 34]⟩
abbrev S4x8x990 : Shape := ⟨3, ![4, 8, 990]⟩
abbrev S4x8x33 : Shape := ⟨3, ![4, 8, 33]⟩
abbrev S4x8x991 : Shape := ⟨3, ![4, 8, 991]⟩
abbrev S4x8x32 : Shape := ⟨3, ![4, 8, 32]⟩
abbrev S4x8x992 : Shape := ⟨3, ![4, 8, 992]⟩
abbrev S4x8x31 : Shape := ⟨3, ![4, 8, 31]⟩
abbrev S4x8x993 : Shape := ⟨3, ![4, 8, 993]⟩
abbrev S4x8x30 : Shape := ⟨3, ![4, 8, 30]⟩
abbrev S4x8x994 : Shape := ⟨3, ![4, 8, 994]⟩
abbrev S4x8x29 : Shape := ⟨3, ![4, 8, 29]⟩
abbrev S4x8x995 : Shape := ⟨3, ![4, 8, 995]⟩
abbrev S4x8x3 : Shape := ⟨3, ![4, 8, 3]⟩
abbrev S4x8x1021 : Shape := ⟨3, ![4, 8, 1021]⟩
abbrev S4x8x2 : Shape := ⟨3, ![4, 8, 2]⟩
abbrev S4x8x1022 : Shape := ⟨3, ![4, 8, 1022]⟩
abbrev S4x8x1023 : Shape := ⟨3, ![4, 8, 1023]⟩
abbrev S4x392x1024 : Shape := ⟨3, ![4, 392, 1024]⟩
abbrev S1x392x1024 : Shape := ⟨3, ![1, 392, 1024]⟩
abbrev S392x1024 : Shape := ⟨2, ![392, 1024]⟩
abbrev S1024x128 : Shape := ⟨2, ![1024, 128]⟩
abbrev S32x32x128 : Shape := ⟨3, ![32, 32, 128]⟩
abbrev S1x32x32x128 : Shape := ⟨4, ![1, 32, 32, 128]⟩
abbrev S4x32x32x128 : Shape := ⟨4, ![4, 32, 32, 128]⟩
abbrev S4x72x1024 : Shape := ⟨3, ![4, 72, 1024]⟩
abbrev S1x72x1024 : Shape := ⟨3, ![1, 72, 1024]⟩
abbrev S72x1024 : Shape := ⟨2, ![72, 1024]⟩
abbrev S1024x64 : Shape := ⟨2, ![1024, 64]⟩
abbrev S32x32x64 : Shape := ⟨3, ![32, 32, 64]⟩
abbrev S1x32x32x64 : Shape := ⟨4, ![1, 32, 32, 64]⟩
abbrev S4x32x32x64 : Shape := ⟨4, ![4, 32, 32, 64]⟩
abbrev S1x128x1024 : Shape := ⟨3, ![1, 128, 1024]⟩
abbrev S128x1024 : Shape := ⟨2, ![128, 1024]⟩
abbrev S4x1x64x128 : Shape := ⟨4, ![4, 1, 64, 128]⟩
abbrev S4x65x64x128 : Shape := ⟨4, ![4, 65, 64, 128]⟩
abbrev S4x66x64x128 : Shape := ⟨4, ![4, 66, 64, 128]⟩
abbrev S4x66x1x128 : Shape := ⟨4, ![4, 66, 1, 128]⟩
abbrev S4x66x65x128 : Shape := ⟨4, ![4, 66, 65, 128]⟩
abbrev S4x66x66x128 : Shape := ⟨4, ![4, 66, 66, 128]⟩
abbrev S4x33x2x66x128 : Shape := ⟨5, ![4, 33, 2, 66, 128]⟩
abbrev S4x33x1x66x128 : Shape := ⟨5, ![4, 33, 1, 66, 128]⟩
abbrev S4x33x66x128 : Shape := ⟨4, ![4, 33, 66, 128]⟩
abbrev S4x33x33x2x128 : Shape := ⟨5, ![4, 33, 33, 2, 128]⟩
abbrev S4x33x33x1x128 : Shape := ⟨5, ![4, 33, 33, 1, 128]⟩
abbrev S4x33x33x128 : Shape := ⟨4, ![4, 33, 33, 128]⟩
abbrev S4x32x32x1152 : Shape := ⟨4, ![4, 32, 32, 1152]⟩
abbrev S4096x1152 : Shape := ⟨2, ![4096, 1152]⟩
abbrev S4096x64 : Shape := ⟨2, ![4096, 64]⟩
abbrev S4x1x32x128 : Shape := ⟨4, ![4, 1, 32, 128]⟩
abbrev S4x33x32x128 : Shape := ⟨4, ![4, 33, 32, 128]⟩
abbrev S4x34x32x128 : Shape := ⟨4, ![4, 34, 32, 128]⟩
abbrev S4x34x1x128 : Shape := ⟨4, ![4, 34, 1, 128]⟩
abbrev S4x34x33x128 : Shape := ⟨4, ![4, 34, 33, 128]⟩
abbrev S4x34x34x128 : Shape := ⟨4, ![4, 34, 34, 128]⟩
abbrev S4x1x32x64 : Shape := ⟨4, ![4, 1, 32, 64]⟩
abbrev S4x33x32x64 : Shape := ⟨4, ![4, 33, 32, 64]⟩
abbrev S4x34x32x64 : Shape := ⟨4, ![4, 34, 32, 64]⟩
abbrev S4x34x1x64 : Shape := ⟨4, ![4, 34, 1, 64]⟩
abbrev S4x34x33x64 : Shape := ⟨4, ![4, 34, 33, 64]⟩
abbrev S4x34x34x64 : Shape := ⟨4, ![4, 34, 34, 64]⟩
abbrev S4x32x32x576 : Shape := ⟨4, ![4, 32, 32, 576]⟩
abbrev S4096x576 : Shape := ⟨2, ![4096, 576]⟩
abbrev S4096x32 : Shape := ⟨2, ![4096, 32]⟩
abbrev S4x32x32x32 : Shape := ⟨4, ![4, 32, 32, 32]⟩
abbrev S4x32x32x256 : Shape := ⟨4, ![4, 32, 32, 256]⟩
abbrev S4x1x32x256 : Shape := ⟨4, ![4, 1, 32, 256]⟩
abbrev S4x33x32x256 : Shape := ⟨4, ![4, 33, 32, 256]⟩
abbrev S4x34x32x256 : Shape := ⟨4, ![4, 34, 32, 256]⟩
abbrev S4x34x1x256 : Shape := ⟨4, ![4, 34, 1, 256]⟩
abbrev S4x34x33x256 : Shape := ⟨4, ![4, 34, 33, 256]⟩
abbrev S4x34x34x256 : Shape := ⟨4, ![4, 34, 34, 256]⟩
abbrev S4x1x32x32 : Shape := ⟨4, ![4, 1, 32, 32]⟩
abbrev S4x33x32x32 : Shape := ⟨4, ![4, 33, 32, 32]⟩
abbrev S4x34x32x32 : Shape := ⟨4, ![4, 34, 32, 32]⟩
abbrev S4x34x1x32 : Shape := ⟨4, ![4, 34, 1, 32]⟩
abbrev S4x34x33x32 : Shape := ⟨4, ![4, 34, 33, 32]⟩
abbrev S4x34x34x32 : Shape := ⟨4, ![4, 34, 34, 32]⟩
abbrev S4x17x2x34x256 : Shape := ⟨5, ![4, 17, 2, 34, 256]⟩
abbrev S4x17x1x34x256 : Shape := ⟨5, ![4, 17, 1, 34, 256]⟩
abbrev S4x17x34x256 : Shape := ⟨4, ![4, 17, 34, 256]⟩
abbrev S4x17x17x2x256 : Shape := ⟨5, ![4, 17, 17, 2, 256]⟩
abbrev S4x17x17x1x256 : Shape := ⟨5, ![4, 17, 17, 1, 256]⟩
abbrev S4x17x17x256 : Shape := ⟨4, ![4, 17, 17, 256]⟩
abbrev S4x17x2x34x32 : Shape := ⟨5, ![4, 17, 2, 34, 32]⟩
abbrev S4x17x1x34x32 : Shape := ⟨5, ![4, 17, 1, 34, 32]⟩
abbrev S4x17x34x32 : Shape := ⟨4, ![4, 17, 34, 32]⟩
abbrev S4x17x17x2x32 : Shape := ⟨5, ![4, 17, 17, 2, 32]⟩
abbrev S4x17x17x1x32 : Shape := ⟨5, ![4, 17, 17, 1, 32]⟩
abbrev S4x17x17x32 : Shape := ⟨4, ![4, 17, 17, 32]⟩
abbrev S4x16x16x256 : Shape := ⟨4, ![4, 16, 16, 256]⟩
abbrev S4x16x16x32 : Shape := ⟨4, ![4, 16, 16, 32]⟩
abbrev S4x16x16x2304 : Shape := ⟨4, ![4, 16, 16, 2304]⟩
abbrev S1024x2304 : Shape := ⟨2, ![1024, 2304]⟩
abbrev S4x16x16x288 : Shape := ⟨4, ![4, 16, 16, 288]⟩
abbrev S1024x288 : Shape := ⟨2, ![1024, 288]⟩
abbrev S4x16x16x128 : Shape := ⟨4, ![4, 16, 16, 128]⟩
abbrev S4x128 : Shape := ⟨2, ![4, 128]⟩
abbrev S4x1x1x128 : Shape := ⟨4, ![4, 1, 1, 128]⟩
abbrev S1x1x1x128 : Shape := ⟨4, ![1, 1, 1, 128]⟩
abbrev S4x1x16x128 : Shape := ⟨4, ![4, 1, 16, 128]⟩
abbrev S4x17x16x128 : Shape := ⟨4, ![4, 17, 16, 128]⟩
abbrev S4x18x16x128 : Shape := ⟨4, ![4, 18, 16, 128]⟩
abbrev S4x18x1x128 : Shape := ⟨4, ![4, 18, 1, 128]⟩
abbrev S4x18x17x128 : Shape := ⟨4, ![4, 18, 17, 128]⟩
abbrev S4x18x18x128 : Shape := ⟨4, ![4, 18, 18, 128]⟩
abbrev S4x9x2x18x128 : Shape := ⟨5, ![4, 9, 2, 18, 128]⟩
abbrev S4x9x1x18x128 : Shape := ⟨5, ![4, 9, 1, 18, 128]⟩
abbrev S4x9x18x128 : Shape := ⟨4, ![4, 9, 18, 128]⟩
abbrev S4x9x9x2x128 : Shape := ⟨5, ![4, 9, 9, 2, 128]⟩
abbrev S4x9x9x1x128 : Shape := ⟨5, ![4, 9, 9, 1, 128]⟩
abbrev S4x9x9x128 : Shape := ⟨4, ![4, 9, 9, 128]⟩
abbrev S4x8x8x128 : Shape := ⟨4, ![4, 8, 8, 128]⟩
abbrev S4x8x8x1152 : Shape := ⟨4, ![4, 8, 8, 1152]⟩
abbrev S256x1152 : Shape := ⟨2, ![256, 1152]⟩
abbrev S256x128 : Shape := ⟨2, ![256, 128]⟩
abbrev S4x1x8x128 : Shape := ⟨4, ![4, 1, 8, 128]⟩
abbrev S4x9x8x128 : Shape := ⟨4, ![4, 9, 8, 128]⟩
abbrev S4x10x8x128 : Shape := ⟨4, ![4, 10, 8, 128]⟩
abbrev S4x10x1x128 : Shape := ⟨4, ![4, 10, 1, 128]⟩
abbrev S4x10x9x128 : Shape := ⟨4, ![4, 10, 9, 128]⟩
abbrev S4x10x10x128 : Shape := ⟨4, ![4, 10, 10, 128]⟩
abbrev S4x5x2x10x128 : Shape := ⟨5, ![4, 5, 2, 10, 128]⟩
abbrev S4x5x1x10x128 : Shape := ⟨5, ![4, 5, 1, 10, 128]⟩
abbrev S4x5x10x128 : Shape := ⟨4, ![4, 5, 10, 128]⟩
abbrev S4x5x5x2x128 : Shape := ⟨5, ![4, 5, 5, 2, 128]⟩
abbrev S4x5x5x1x128 : Shape := ⟨5, ![4, 5, 5, 1, 128]⟩
abbrev S4x5x5x128 : Shape := ⟨4, ![4, 5, 5, 128]⟩
abbrev S4x4x4x128 : Shape := ⟨4, ![4, 4, 4, 128]⟩
abbrev S4x4x4x1152 : Shape := ⟨4, ![4, 4, 4, 1152]⟩
abbrev S64x1152 : Shape := ⟨2, ![64, 1152]⟩
abbrev S64x128 : Shape := ⟨2, ![64, 128]⟩
abbrev S4x16x128 : Shape := ⟨3, ![4, 16, 128]⟩
abbrev S1x16x128 : Shape := ⟨3, ![1, 16, 128]⟩
abbrev S16x128 : Shape := ⟨2, ![16, 128]⟩
abbrev S128x16 : Shape := ⟨2, ![128, 16]⟩
abbrev S1x128x16 : Shape := ⟨3, ![1, 128, 16]⟩

abbrev nBuf : Space → Nat
  | .hbm => 127
  | .vmem => 36
  | .smem => 0
  | _ => 0

abbrev bufTy : (tb : Table) → Fin (tcTables nBuf tb) → BufTy
  | .hbm, ⟨0, _⟩ => ⟨S64x128x32x32, .f32⟩
  | .hbm, ⟨1, _⟩ => ⟨S64x2x32x32, .f32⟩
  | .hbm, ⟨2, _⟩ => ⟨S64x1x32x32, .f32⟩
  | .hbm, ⟨3, _⟩ => ⟨S64x8x64x64, .f32⟩
  | .hbm, ⟨4, _⟩ => ⟨S128x8x3x3, .f32⟩
  | .hbm, ⟨5, _⟩ => ⟨S128, .f32⟩
  | .hbm, ⟨6, _⟩ => ⟨S64x128x3x3, .f32⟩
  | .hbm, ⟨7, _⟩ => ⟨S64, .f32⟩
  | .hbm, ⟨8, _⟩ => ⟨S128x2x7x7, .f32⟩
  | .hbm, ⟨9, _⟩ => ⟨S128, .f32⟩
  | .hbm, ⟨10, _⟩ => ⟨S64x128x3x3, .f32⟩
  | .hbm, ⟨11, _⟩ => ⟨S64, .f32⟩
  | .hbm, ⟨12, _⟩ => ⟨S64x1x3x3, .f32⟩
  | .hbm, ⟨13, _⟩ => ⟨S64, .f32⟩
  | .hbm, ⟨14, _⟩ => ⟨S32x64x3x3, .f32⟩
  | .hbm, ⟨15, _⟩ => ⟨S32, .f32⟩
  | .hbm, ⟨16, _⟩ => ⟨S128x288x3x3, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128x128x3x3, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128x128x3x3, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S64x128x1024, .f32⟩
  | .hbm, ⟨29, _⟩ => ⟨S64x8x4096, .f32⟩
  | .hbm, ⟨30, _⟩ => ⟨S_, .i32⟩
  | .hbm, ⟨31, _⟩ => ⟨S_, .f32⟩
  | .hbm, ⟨32, _⟩ => ⟨S64x8x32x32, .f32⟩
  | .hbm, ⟨33, _⟩ => ⟨S64x8x1024, .f32⟩
  | .hbm, ⟨34, _⟩ => ⟨S_, .i32⟩
  | .hbm, ⟨35, _⟩ => ⟨S_, .f32⟩
  | .hbm, ⟨36, _⟩ => ⟨S64x8x32x32, .f32⟩
  | .hbm, ⟨37, _⟩ => ⟨S64x8x1024, .f32⟩
  | .hbm, ⟨38, _⟩ => ⟨S128x3x3x8, .f32⟩
  | .hbm, ⟨39, _⟩ => ⟨S128x72, .f32⟩
  | .hbm, ⟨40, _⟩ => ⟨S128x7x7x2, .f32⟩
  | .hbm, ⟨41, _⟩ => ⟨S_, .i32⟩
  | .hbm, ⟨42, _⟩ => ⟨S_, .f32⟩
  | .hbm, ⟨43, _⟩ => ⟨S128x7x7x8, .f32⟩
  | .hbm, ⟨44, _⟩ => ⟨S128x392, .f32⟩
  | .hbm, ⟨45, _⟩ => ⟨S64x3x3x1, .f32⟩
  | .hbm, ⟨46, _⟩ => ⟨S_, .i32⟩
  | .hbm, ⟨47, _⟩ => ⟨S_, .f32⟩
  | .hbm, ⟨48, _⟩ => ⟨S64x3x3x8, .f32⟩
  | .hbm, ⟨49, _⟩ => ⟨S64x72, .f32⟩
  | .hbm, ⟨50, _⟩ => ⟨S3x3x128x64, .f32⟩
  | .hbm, ⟨51, _⟩ => ⟨S1152x64, .f32⟩
  | .hbm, ⟨52, _⟩ => ⟨S3x3x128x64, .f32⟩
  | .hbm, ⟨53, _⟩ => ⟨S1152x64, .f32⟩
  | .hbm, ⟨54, _⟩ => ⟨S3x3x64x32, .f32⟩
  | .hbm, ⟨55, _⟩ => ⟨S576x32, .f32⟩
  | .hbm, ⟨56, _⟩ => ⟨S3x3x288x128, .f32⟩
  | .hbm, ⟨57, _⟩ => ⟨S3x3x128x128, .f32⟩
  | .hbm, ⟨58, _⟩ => ⟨S3x3x64x128, .f32⟩
  | .hbm, ⟨59, _⟩ => ⟨S3x3x64x128, .f32⟩
  | .hbm, ⟨60, _⟩ => ⟨S3x3x256x128, .f32⟩
  | .hbm, ⟨61, _⟩ => ⟨S2304x128, .f32⟩
  | .hbm, ⟨62, _⟩ => ⟨S3x3x32x128, .f32⟩
  | .hbm, ⟨63, _⟩ => ⟨S288x128, .f32⟩
  | .hbm, ⟨64, _⟩ => ⟨S3x3x128x128, .f32⟩
  | .hbm, ⟨65, _⟩ => ⟨S1152x128, .f32⟩
  | .hbm, ⟨66, _⟩ => ⟨S3x3x128x128, .f32⟩
  | .hbm, ⟨67, _⟩ => ⟨S1152x128, .f32⟩
  | .hbm, ⟨68, _⟩ => ⟨S128, .i32⟩
  | .hbm, ⟨69, _⟩ => ⟨S128x1, .i32⟩
  | .hbm, ⟨70, _⟩ => ⟨S_, .i32⟩
  | .hbm, ⟨71, _⟩ => ⟨S_, .i32⟩
  | .hbm, ⟨72, _⟩ => ⟨S128x1, .i32⟩
  | .hbm, ⟨73, _⟩ => ⟨S128x1, .i32⟩
  | .hbm, ⟨74, _⟩ => ⟨S128x1, .i32⟩
  | .hbm, ⟨75, _⟩ => ⟨S_, .i32⟩
  | .hbm, ⟨76, _⟩ => ⟨S128x1, .i32⟩
  | .hbm, ⟨77, _⟩ => ⟨S128x1, .i1⟩
  | .hbm, ⟨78, _⟩ => ⟨S128x1, .i32⟩
  | .hbm, ⟨79, _⟩ => ⟨S128x1, .i32⟩
  | .hbm, ⟨80, _⟩ => ⟨S_, .i32⟩
  | .hbm, ⟨81, _⟩ => ⟨S128x1, .i32⟩
  | .hbm, ⟨82, _⟩ => ⟨S128x1, .i1⟩
  | .hbm, ⟨83, _⟩ => ⟨S128x1, .i1⟩
  | .hbm, ⟨84, _⟩ => ⟨S_, .i32⟩
  | .hbm, ⟨85, _⟩ => ⟨S128x1, .i32⟩
  | .hbm, ⟨86, _⟩ => ⟨S128x1, .i32⟩
  | .hbm, ⟨87, _⟩ => ⟨S128x1, .i32⟩
  | .hbm, ⟨88, _⟩ => ⟨S1x128, .i32⟩
  | .hbm, ⟨89, _⟩ => ⟨S_, .i32⟩
  | .hbm, ⟨90, _⟩ => ⟨S_, .i32⟩
  | .hbm, ⟨91, _⟩ => ⟨S1x128, .i32⟩
  | .hbm, ⟨92, _⟩ => ⟨S1x128, .i32⟩
  | .hbm, ⟨93, _⟩ => ⟨S1x128, .i32⟩
  | .hbm, ⟨94, _⟩ => ⟨S_, .i32⟩
  | .hbm, ⟨95, _⟩ => ⟨S1x128, .i32⟩
  | .hbm, ⟨96, _⟩ => ⟨S1x128, .i1⟩
  | .hbm, ⟨97, _⟩ => ⟨S1x128, .i32⟩
  | .hbm, ⟨98, _⟩ => ⟨S1x128, .i32⟩
  | .hbm, ⟨99, _⟩ => ⟨S_, .i32⟩
  | .hbm, ⟨100, _⟩ => ⟨S1x128, .i32⟩
  | .hbm, ⟨101, _⟩ => ⟨S1x128, .i1⟩
  | .hbm, ⟨102, _⟩ => ⟨S1x128, .i1⟩
  | .hbm, ⟨103, _⟩ => ⟨S_, .i32⟩
  | .hbm, ⟨104, _⟩ => ⟨S1x128, .i32⟩
  | .hbm, ⟨105, _⟩ => ⟨S1x128, .i32⟩
  | .hbm, ⟨106, _⟩ => ⟨S1x128, .i32⟩
  | .hbm, ⟨107, _⟩ => ⟨S128x128, .i32⟩
  | .hbm, ⟨108, _⟩ => ⟨S128x128, .i32⟩
  | .hbm, ⟨109, _⟩ => ⟨S128x128, .i1⟩
  | .hbm, ⟨110, _⟩ => ⟨S128x128, .f32⟩
  | .hbm, ⟨111, _⟩ => ⟨S1x128, .f32⟩
  | .hbm, ⟨112, _⟩ => ⟨S1x128, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S1x32, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x128, .f32⟩
  | .hbm, ⟨123, _⟩ => ⟨S1x128, .f32⟩
  | .hbm, ⟨124, _⟩ => ⟨S1x128, .f32⟩
  | .hbm, ⟨125, _⟩ => ⟨S1x128, .f32⟩
  | .hbm, ⟨126, _⟩ => ⟨S64x128x16, .f32⟩
  | .local _ .vmem, ⟨0, _⟩ => ⟨S4x128x1024, .f32⟩
  | .local _ .vmem, ⟨1, _⟩ => ⟨S4x128x1024, .f32⟩
  | .local _ .vmem, ⟨2, _⟩ => ⟨S4x8x4096, .f32⟩
  | .local _ .vmem, ⟨3, _⟩ => ⟨S4x8x4096, .f32⟩
  | .local _ .vmem, ⟨4, _⟩ => ⟨S4x8x1024, .f32⟩
  | .local _ .vmem, ⟨5, _⟩ => ⟨S4x8x1024, .f32⟩
  | .local _ .vmem, ⟨6, _⟩ => ⟨S4x8x1024, .f32⟩
  | .local _ .vmem, ⟨7, _⟩ => ⟨S4x8x1024, .f32⟩
  | .local _ .vmem, ⟨8, _⟩ => ⟨S128x72, .f32⟩
  | .local _ .vmem, ⟨9, _⟩ => ⟨S1x128, .f32⟩
  | .local _ .vmem, ⟨10, _⟩ => ⟨S128x392, .f32⟩
  | .local _ .vmem, ⟨11, _⟩ => ⟨S1x128, .f32⟩
  | .local _ .vmem, ⟨12, _⟩ => ⟨S64x72, .f32⟩
  | .local _ .vmem, ⟨13, _⟩ => ⟨S1x64, .f32⟩
  | .local _ .vmem, ⟨14, _⟩ => ⟨S1152x64, .f32⟩
  | .local _ .vmem, ⟨15, _⟩ => ⟨S1x64, .f32⟩
  | .local _ .vmem, ⟨16, _⟩ => ⟨S1152x64, .f32⟩
  | .local _ .vmem, ⟨17, _⟩ => ⟨S1x64, .f32⟩
  | .local _ .vmem, ⟨18, _⟩ => ⟨S576x32, .f32⟩
  | .local _ .vmem, ⟨19, _⟩ => ⟨S1x32, .f32⟩
  | .local _ .vmem, ⟨20, _⟩ => ⟨S2304x128, .f32⟩
  | .local _ .vmem, ⟨21, _⟩ => ⟨S288x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1152x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1152x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S128x128, .f32⟩
  | .local _ .vmem, ⟨34, _⟩ => ⟨S4x128x16, .f32⟩
  | .local _ .vmem, ⟨35, _⟩ => ⟨S4x128x16, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_c : Ref sig .tc := ⟨.hbm, 30, rfl⟩
abbrev main_call0_v0 : Ref sig .tc := ⟨.hbm, 31, rfl⟩
abbrev main_v2 : Ref sig .tc := ⟨.hbm, 32, rfl⟩
abbrev main_v3 : Ref sig .tc := ⟨.hbm, 33, rfl⟩
abbrev main_c_0 : Ref sig .tc := ⟨.hbm, 34, rfl⟩
abbrev main_call1_v0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_c_1 : Ref sig .tc := ⟨.hbm, 41, rfl⟩
abbrev main_call2_v0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_c_2 : Ref sig .tc := ⟨.hbm, 46, rfl⟩
abbrev main_call3_v0 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_3 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_c : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_0 : Ref sig .tc := ⟨.hbm, 84, rfl⟩
abbrev main_call4_v12 : Ref sig .tc := ⟨.hbm, 85, rfl⟩
abbrev main_call4_v13 : Ref sig .tc := ⟨.hbm, 86, rfl⟩
abbrev main_v34 : Ref sig .tc := ⟨.hbm, 87, rfl⟩
abbrev main_v35 : Ref sig .tc := ⟨.hbm, 88, rfl⟩
abbrev main_c_4 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_v5 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_c : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_0 : Ref sig .tc := ⟨.hbm, 103, rfl⟩
abbrev main_call5_v12 : Ref sig .tc := ⟨.hbm, 104, rfl⟩
abbrev main_call5_v13 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg30_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem30_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x392 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x72 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1152x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1152x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S576x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2304x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S288x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1152x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1152x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 2 → Memref sig .tc .vmem S4x128x16 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== ReferenceIdeal.lean ====
abbrev S64x128x32x32 : Shape := ⟨4, ![64, 128, 32, 32]⟩
abbrev S64x2x32x32 : Shape := ⟨4, ![64, 2, 32, 32]⟩
abbrev S64x1x32x32 : Shape := ⟨4, ![64, 1, 32, 32]⟩
abbrev S64x8x64x64 : Shape := ⟨4, ![64, 8, 64, 64]⟩
abbrev S128x8x3x3 : Shape := ⟨4, ![128, 8, 3, 3]⟩
abbrev S128 : Shape := ⟨1, ![128]⟩
abbrev S64x128x3x3 : Shape := ⟨4, ![64, 128, 3, 3]⟩
abbrev S64 : Shape := ⟨1, ![64]⟩
abbrev S128x2x7x7 : Shape := ⟨4, ![128, 2, 7, 7]⟩
abbrev S64x1x3x3 : Shape := ⟨4, ![64, 1, 3, 3]⟩
abbrev S32x64x3x3 : Shape := ⟨4, ![32, 64, 3, 3]⟩
abbrev S32 : Shape := ⟨1, ![32]⟩
abbrev S128x288x3x3 : Shape := ⟨4, ![128, 288, 3, 3]⟩
abbrev S128x128x3x3 : Shape := ⟨4, ![128, 128, 3, 3]⟩
abbrev S_ : Shape := ⟨0, ![]⟩
abbrev S64x8x66x66 : Shape := ⟨4, ![64, 8, 66, 66]⟩
abbrev S64x8x64x66 : Shape := ⟨4, ![64, 8, 64, 66]⟩
abbrev S64x8x64x66x1 : Shape := ⟨5, ![64, 8, 64, 66, 1]⟩
abbrev S64x8x64x66x3 : Shape := ⟨5, ![64, 8, 64, 66, 3]⟩
abbrev S64x8x64x64x3 : Shape := ⟨5, ![64, 8, 64, 64, 3]⟩
abbrev S64x8x64x64x3x1 : Shape := ⟨6, ![64, 8, 64, 64, 3, 1]⟩
abbrev S64x8x64x64x3x3 : Shape := ⟨6, ![64, 8, 64, 64, 3, 3]⟩
abbrev S128x64x64x64 : Shape := ⟨4, ![128, 64, 64, 64]⟩
abbrev S64x128x64x64 : Shape := ⟨4, ![64, 128, 64, 64]⟩
abbrev S1x128x1x1 : Shape := ⟨4, ![1, 128, 1, 1]⟩
abbrev S64x128x66x66 : Shape := ⟨4, ![64, 128, 66, 66]⟩
abbrev S64x128x32x66 : Shape := ⟨4, ![64, 128, 32, 66]⟩
abbrev S64x128x32x66x1 : Shape := ⟨5, ![64, 128, 32, 66, 1]⟩
abbrev S64x128x32x66x3 : Shape := ⟨5, ![64, 128, 32, 66, 3]⟩
abbrev S64x128x32x32x3 : Shape := ⟨5, ![64, 128, 32, 32, 3]⟩
abbrev S64x128x32x32x3x1 : Shape := ⟨6, ![64, 128, 32, 32, 3, 1]⟩
abbrev S64x128x32x32x3x3 : Shape := ⟨6, ![64, 128, 32, 32, 3, 3]⟩
abbrev S64x64x32x32 : Shape := ⟨4, ![64, 64, 32, 32]⟩
abbrev S1x64x1x1 : Shape := ⟨4, ![1, 64, 1, 1]⟩
abbrev S64x2x38x38 : Shape := ⟨4, ![64, 2, 38, 38]⟩
abbrev S64x2x32x38 : Shape := ⟨4, ![64, 2, 32, 38]⟩
abbrev S64x2x32x38x1 : Shape := ⟨5, ![64, 2, 32, 38, 1]⟩
abbrev S64x2x32x38x7 : Shape := ⟨5, ![64, 2, 32, 38, 7]⟩
abbrev S64x2x32x32x7 : Shape := ⟨5, ![64, 2, 32, 32, 7]⟩
abbrev S64x2x32x32x7x1 : Shape := ⟨6, ![64, 2, 32, 32, 7, 1]⟩
abbrev S64x2x32x32x7x7 : Shape := ⟨6, ![64, 2, 32, 32, 7, 7]⟩
abbrev S128x64x32x32 : Shape := ⟨4, ![128, 64, 32, 32]⟩
abbrev S64x128x34x34 : Shape := ⟨4, ![64, 128, 34, 34]⟩
abbrev S64x128x32x34 : Shape := ⟨4, ![64, 128, 32, 34]⟩
abbrev S64x128x32x34x1 : Shape := ⟨5, ![64, 128, 32, 34, 1]⟩
abbrev S64x128x32x34x3 : Shape := ⟨5, ![64, 128, 32, 34, 3]⟩
abbrev S64x1x34x34 : Shape := ⟨4, ![64, 1, 34, 34]⟩
abbrev S64x1x32x34 : Shape := ⟨4, ![64, 1, 32, 34]⟩
abbrev S64x1x32x34x1 : Shape := ⟨5, ![64, 1, 32, 34, 1]⟩
abbrev S64x1x32x34x3 : Shape := ⟨5, ![64, 1, 32, 34, 3]⟩
abbrev S64x1x32x32x3 : Shape := ⟨5, ![64, 1, 32, 32, 3]⟩
abbrev S64x1x32x32x3x1 : Shape := ⟨6, ![64, 1, 32, 32, 3, 1]⟩
abbrev S64x1x32x32x3x3 : Shape := ⟨6, ![64, 1, 32, 32, 3, 3]⟩
abbrev S64x64x34x34 : Shape := ⟨4, ![64, 64, 34, 34]⟩
abbrev S64x64x32x34 : Shape := ⟨4, ![64, 64, 32, 34]⟩
abbrev S64x64x32x34x1 : Shape := ⟨5, ![64, 64, 32, 34, 1]⟩
abbrev S64x64x32x34x3 : Shape := ⟨5, ![64, 64, 32, 34, 3]⟩
abbrev S64x64x32x32x3 : Shape := ⟨5, ![64, 64, 32, 32, 3]⟩
abbrev S64x64x32x32x3x1 : Shape := ⟨6, ![64, 64, 32, 32, 3, 1]⟩
abbrev S64x64x32x32x3x3 : Shape := ⟨6, ![64, 64, 32, 32, 3, 3]⟩
abbrev S32x64x32x32 : Shape := ⟨4, ![32, 64, 32, 32]⟩
abbrev S64x32x32x32 : Shape := ⟨4, ![64, 32, 32, 32]⟩
abbrev S1x32x1x1 : Shape := ⟨4, ![1, 32, 1, 1]⟩
abbrev S64x288x32x32 : Shape := ⟨4, ![64, 288, 32, 32]⟩
abbrev S64x288x34x34 : Shape := ⟨4, ![64, 288, 34, 34]⟩
abbrev S64x288x16x34 : Shape := ⟨4, ![64, 288, 16, 34]⟩
abbrev S64x288x16x34x1 : Shape := ⟨5, ![64, 288, 16, 34, 1]⟩
abbrev S64x288x16x34x3 : Shape := ⟨5, ![64, 288, 16, 34, 3]⟩
abbrev S64x288x16x16x3 : Shape := ⟨5, ![64, 288, 16, 16, 3]⟩
abbrev S64x288x16x16x3x1 : Shape := ⟨6, ![64, 288, 16, 16, 3, 1]⟩
abbrev S64x288x16x16x3x3 : Shape := ⟨6, ![64, 288, 16, 16, 3, 3]⟩
abbrev S128x64x16x16 : Shape := ⟨4, ![128, 64, 16, 16]⟩
abbrev S64x128x16x16 : Shape := ⟨4, ![64, 128, 16, 16]⟩
abbrev S64x32x4x16x16 : Shape := ⟨5, ![64, 32, 4, 16, 16]⟩
abbrev S64x32 : Shape := ⟨2, ![64, 32]⟩
abbrev S64x32x1x1x1 : Shape := ⟨5, ![64, 32, 1, 1, 1]⟩
abbrev S64x128x18x18 : Shape := ⟨4, ![64, 128, 18, 18]⟩
abbrev S64x128x8x18 : Shape := ⟨4, ![64, 128, 8, 18]⟩
abbrev S64x128x8x18x1 : Shape := ⟨5, ![64, 128, 8, 18, 1]⟩
abbrev S64x128x8x18x3 : Shape := ⟨5, ![64, 128, 8, 18, 3]⟩
abbrev S64x128x8x8x3 : Shape := ⟨5, ![64, 128, 8, 8, 3]⟩
abbrev S64x128x8x8x3x1 : Shape := ⟨6, ![64, 128, 8, 8, 3, 1]⟩
abbrev S64x128x8x8x3x3 : Shape := ⟨6, ![64, 128, 8, 8, 3, 3]⟩
abbrev S128x64x8x8 : Shape := ⟨4, ![128, 64, 8, 8]⟩
abbrev S64x128x8x8 : Shape := ⟨4, ![64, 128, 8, 8]⟩
abbrev S64x32x4x8x8 : Shape := ⟨5, ![64, 32, 4, 8, 8]⟩
abbrev S64x128x10x10 : Shape := ⟨4, ![64, 128, 10, 10]⟩
abbrev S64x128x4x10 : Shape := ⟨4, ![64, 128, 4, 10]⟩
abbrev S64x128x4x10x1 : Shape := ⟨5, ![64, 128, 4, 10, 1]⟩
abbrev S64x128x4x10x3 : Shape := ⟨5, ![64, 128, 4, 10, 3]⟩
abbrev S64x128x4x4x3 : Shape := ⟨5, ![64, 128, 4, 4, 3]⟩
abbrev S64x128x4x4x3x1 : Shape := ⟨6, ![64, 128, 4, 4, 3, 1]⟩
abbrev S64x128x4x4x3x3 : Shape := ⟨6, ![64, 128, 4, 4, 3, 3]⟩
abbrev S128x64x4x4 : Shape := ⟨4, ![128, 64, 4, 4]⟩
abbrev S64x128x4x4 : Shape := ⟨4, ![64, 128, 4, 4]⟩
abbrev S64x32x4x4x4 : Shape := ⟨5, ![64, 32, 4, 4, 4]⟩
abbrev S64x128x16 : Shape := ⟨3, ![64, 128, 16]⟩

abbrev nBuf : Space → Nat
  | .hbm => 409
  | .vmem => 0
  | .smem => 0
  | _ => 0

abbrev hbmTy0_0 (i : Nat) : BufTy := match i % 128 with
  | 0 => ⟨S64x128x32x32, .f32⟩
  | 1 => ⟨S64x2x32x32, .f32⟩
  | 2 => ⟨S64x1x32x32, .f32⟩
  | 3 => ⟨S64x8x64x64, .f32⟩
  | 4 => ⟨S128x8x3x3, .f32⟩
  | 5 => ⟨S128, .f32⟩
  | 6 => ⟨S64x128x3x3, .f32⟩
  | 7 => ⟨S64, .f32⟩
  | 8 => ⟨S128x2x7x7, .f32⟩
  | 9 => ⟨S128, .f32⟩
  | 10 => ⟨S64x128x3x3, .f32⟩
  | 11 => ⟨S64, .f32⟩
  | 12 => ⟨S64x1x3x3, .f32⟩
  | 13 => ⟨S64, .f32⟩
  | 14 => ⟨S32x64x3x3, .f32⟩
  | 15 => ⟨S32, .f32⟩
  | 16 => ⟨S128x288x3x3, .f32⟩
  | 17 => ⟨S128, .f32⟩
  | 18 => ⟨S128, .f32⟩
  | 19 => ⟨S128, .f32⟩
  | 20 => ⟨S128x128x3x3, .f32⟩
  | 21 => ⟨S128, .f32⟩
  | 22 => ⟨S128, .f32⟩
  | 23 => ⟨S128, .f32⟩
  | 24 => ⟨S128x128x3x3, .f32⟩
  | 25 => ⟨S128, .f32⟩
  | 26 => ⟨S128, .f32⟩
  | 27 => ⟨S128, .f32⟩
  | 28 => ⟨S_, .i32⟩
  | 29 => ⟨S_, .f32⟩
  | 30 => ⟨S64x8x66x66, .f32⟩
  | 31 => ⟨S64x8x64x66, .f32⟩
  | 32 => ⟨S64x8x64x66, .f32⟩
  | 33 => ⟨S64x8x64x66, .f32⟩
  | 34 => ⟨S64x8x64x66x1, .f32⟩
  | 35 => ⟨S64x8x64x66x1, .f32⟩
  | 36 => ⟨S64x8x64x66x1, .f32⟩
  | 37 => ⟨S64x8x64x66x3, .f32⟩
  | 38 => ⟨S64x8x64x64x3, .f32⟩
  | 39 => ⟨S64x8x64x64x3, .f32⟩
  | 40 => ⟨S64x8x64x64x3, .f32⟩
  | 41 => ⟨S64x8x64x64x3x1, .f32⟩
  | 42 => ⟨S64x8x64x64x3x1, .f32⟩
  | 43 => ⟨S64x8x64x64x3x1, .f32⟩
  | 44 => ⟨S64x8x64x64x3x3, .f32⟩
  | 45 => ⟨S128x64x64x64, .f32⟩
  | 46 => ⟨S64x128x64x64, .f32⟩
  | 47 => ⟨S1x128x1x1, .f32⟩
  | 48 => ⟨S64x128x64x64, .f32⟩
  | 49 => ⟨S64x128x64x64, .f32⟩
  | 50 => ⟨S_, .f32⟩
  | 51 => ⟨S64x128x64x64, .f32⟩
  | 52 => ⟨S64x128x64x64, .f32⟩
  | 53 => ⟨S_, .i32⟩
  | 54 => ⟨S_, .f32⟩
  | 55 => ⟨S64x128x66x66, .f32⟩
  | 56 => ⟨S64x128x32x66, .f32⟩
  | 57 => ⟨S64x128x32x66, .f32⟩
  | 58 => ⟨S64x128x32x66, .f32⟩
  | 59 => ⟨S64x128x32x66x1, .f32⟩
  | 60 => ⟨S64x128x32x66x1, .f32⟩
  | 61 => ⟨S64x128x32x66x1, .f32⟩
  | 62 => ⟨S64x128x32x66x3, .f32⟩
  | 63 => ⟨S64x128x32x32x3, .f32⟩
  | 64 => ⟨S64x128x32x32x3, .f32⟩
  | 65 => ⟨S64x128x32x32x3, .f32⟩
  | 66 => ⟨S64x128x32x32x3x1, .f32⟩
  | 67 => ⟨S64x128x32x32x3x1, .f32⟩
  | 68 => ⟨S64x128x32x32x3x1, .f32⟩
  | 69 => ⟨S64x128x32x32x3x3, .f32⟩
  | 70 => ⟨S64x64x32x32, .f32⟩
  | 71 => ⟨S64x64x32x32, .f32⟩
  | 72 => ⟨S1x64x1x1, .f32⟩
  | 73 => ⟨S64x64x32x32, .f32⟩
  | 74 => ⟨S64x64x32x32, .f32⟩
  | 75 => ⟨S_, .f32⟩
  | 76 => ⟨S64x64x32x32, .f32⟩
  | 77 => ⟨S64x64x32x32, .f32⟩
  | 78 => ⟨S_, .i32⟩
  | 79 => ⟨S_, .f32⟩
  | 80 => ⟨S64x2x38x38, .f32⟩
  | 81 => ⟨S64x2x32x38, .f32⟩
  | 82 => ⟨S64x2x32x38, .f32⟩
  | 83 => ⟨S64x2x32x38, .f32⟩
  | 84 => ⟨S64x2x32x38, .f32⟩
  | 85 => ⟨S64x2x32x38, .f32⟩
  | 86 => ⟨S64x2x32x38, .f32⟩
  | 87 => ⟨S64x2x32x38, .f32⟩
  | 88 => ⟨S64x2x32x38x1, .f32⟩
  | 89 => ⟨S64x2x32x38x1, .f32⟩
  | 90 => ⟨S64x2x32x38x1, .f32⟩
  | 91 => ⟨S64x2x32x38x1, .f32⟩
  | 92 => ⟨S64x2x32x38x1, .f32⟩
  | 93 => ⟨S64x2x32x38x1, .f32⟩
  | 94 => ⟨S64x2x32x38x1, .f32⟩
  | 95 => ⟨S64x2x32x38x7, .f32⟩
  | 96 => ⟨S64x2x32x32x7, .f32⟩
  | 97 => ⟨S64x2x32x32x7, .f32⟩
  | 98 => ⟨S64x2x32x32x7, .f32⟩
  | 99 => ⟨S64x2x32x32x7, .f32⟩
  | 100 => ⟨S64x2x32x32x7, .f32⟩
  | 101 => ⟨S64x2x32x32x7, .f32⟩
  | 102 => ⟨S64x2x32x32x7, .f32⟩
  | 103 => ⟨S64x2x32x32x7x1, .f32⟩
  | 104 => ⟨S64x2x32x32x7x1, .f32⟩
  | 105 => ⟨S64x2x32x32x7x1, .f32⟩
  | 106 => ⟨S64x2x32x32x7x1, .f32⟩
  | 107 => ⟨S64x2x32x32x7x1, .f32⟩
  | 108 => ⟨S64x2x32x32x7x1, .f32⟩
  | 109 => ⟨S64x2x32x32x7x1, .f32⟩
  | 110 => ⟨S64x2x32x32x7x7, .f32⟩
  | 111 => ⟨S128x64x32x32, .f32⟩
  | 112 => ⟨S64x128x32x32, .f32⟩
  | 113 => ⟨S1x128x1x1, .f32⟩
  | 114 => ⟨S64x128x32x32, .f32⟩
  | 115 => ⟨S64x128x32x32, .f32⟩
  | 116 => ⟨S_, .f32⟩
  | 117 => ⟨S64x128x32x32, .f32⟩
  | 118 => ⟨S64x128x32x32, .f32⟩
  | 119 => ⟨S_, .i32⟩
  | 120 => ⟨S_, .f32⟩
  | 121 => ⟨S64x128x34x34, .f32⟩
  | 122 => ⟨S64x128x32x34, .f32⟩
  | 123 => ⟨S64x128x32x34, .f32⟩
  | 124 => ⟨S64x128x32x34, .f32⟩
  | 125 => ⟨S64x128x32x34x1, .f32⟩
  | 126 => ⟨S64x128x32x34x1, .f32⟩
  | 127 => ⟨S64x128x32x34x1, .f32⟩
  | _ => ⟨S64x128x32x32, .f32⟩

abbrev hbmTy0_1 (i : Nat) : BufTy := match i % 128 with
  | 0 => ⟨S64x128x32x34x3, .f32⟩
  | 1 => ⟨S64x128x32x32x3, .f32⟩
  | 2 => ⟨S64x128x32x32x3, .f32⟩
  | 3 => ⟨S64x128x32x32x3, .f32⟩
  | 4 => ⟨S64x128x32x32x3x1, .f32⟩
  | 5 => ⟨S64x128x32x32x3x1, .f32⟩
  | 6 => ⟨S64x128x32x32x3x1, .f32⟩
  | 7 => ⟨S64x128x32x32x3x3, .f32⟩
  | 8 => ⟨S64x64x32x32, .f32⟩
  | 9 => ⟨S64x64x32x32, .f32⟩
  | 10 => ⟨S1x64x1x1, .f32⟩
  | 11 => ⟨S64x64x32x32, .f32⟩
  | 12 => ⟨S64x64x32x32, .f32⟩
  | 13 => ⟨S_, .f32⟩
  | 14 => ⟨S64x64x32x32, .f32⟩
  | 15 => ⟨S64x64x32x32, .f32⟩
  | 16 => ⟨S_, .i32⟩
  | 17 => ⟨S_, .f32⟩
  | 18 => ⟨S64x1x34x34, .f32⟩
  | 19 => ⟨S64x1x32x34, .f32⟩
  | 20 => ⟨S64x1x32x34, .f32⟩
  | 21 => ⟨S64x1x32x34, .f32⟩
  | 22 => ⟨S64x1x32x34x1, .f32⟩
  | 23 => ⟨S64x1x32x34x1, .f32⟩
  | 24 => ⟨S64x1x32x34x1, .f32⟩
  | 25 => ⟨S64x1x32x34x3, .f32⟩
  | 26 => ⟨S64x1x32x32x3, .f32⟩
  | 27 => ⟨S64x1x32x32x3, .f32⟩
  | 28 => ⟨S64x1x32x32x3, .f32⟩
  | 29 => ⟨S64x1x32x32x3x1, .f32⟩
  | 30 => ⟨S64x1x32x32x3x1, .f32⟩
  | 31 => ⟨S64x1x32x32x3x1, .f32⟩
  | 32 => ⟨S64x1x32x32x3x3, .f32⟩
  | 33 => ⟨S64x64x32x32, .f32⟩
  | 34 => ⟨S64x64x32x32, .f32⟩
  | 35 => ⟨S1x64x1x1, .f32⟩
  | 36 => ⟨S64x64x32x32, .f32⟩
  | 37 => ⟨S64x64x32x32, .f32⟩
  | 38 => ⟨S_, .f32⟩
  | 39 => ⟨S64x64x32x32, .f32⟩
  | 40 => ⟨S64x64x32x32, .f32⟩
  | 41 => ⟨S_, .i32⟩
  | 42 => ⟨S_, .f32⟩
  | 43 => ⟨S64x64x34x34, .f32⟩
  | 44 => ⟨S64x64x32x34, .f32⟩
  | 45 => ⟨S64x64x32x34, .f32⟩
  | 46 => ⟨S64x64x32x34, .f32⟩
  | 47 => ⟨S64x64x32x34x1, .f32⟩
  | 48 => ⟨S64x64x32x34x1, .f32⟩
  | 49 => ⟨S64x64x32x34x1, .f32⟩
  | 50 => ⟨S64x64x32x34x3, .f32⟩
  | 51 => ⟨S64x64x32x32x3, .f32⟩
  | 52 => ⟨S64x64x32x32x3, .f32⟩
  | 53 => ⟨S64x64x32x32x3, .f32⟩
  | 54 => ⟨S64x64x32x32x3x1, .f32⟩
  | 55 => ⟨S64x64x32x32x3x1, .f32⟩
  | 56 => ⟨S64x64x32x32x3x1, .f32⟩
  | 57 => ⟨S64x64x32x32x3x3, .f32⟩
  | 58 => ⟨S32x64x32x32, .f32⟩
  | 59 => ⟨S64x32x32x32, .f32⟩
  | 60 => ⟨S1x32x1x1, .f32⟩
  | 61 => ⟨S64x32x32x32, .f32⟩
  | 62 => ⟨S64x32x32x32, .f32⟩
  | 63 => ⟨S_, .f32⟩
  | 64 => ⟨S64x32x32x32, .f32⟩
  | 65 => ⟨S64x32x32x32, .f32⟩
  | 66 => ⟨S64x288x32x32, .f32⟩
  | 67 => ⟨S_, .i32⟩
  | 68 => ⟨S_, .f32⟩
  | 69 => ⟨S64x288x34x34, .f32⟩
  | 70 => ⟨S64x288x16x34, .f32⟩
  | 71 => ⟨S64x288x16x34, .f32⟩
  | 72 => ⟨S64x288x16x34, .f32⟩
  | 73 => ⟨S64x288x16x34x1, .f32⟩
  | 74 => ⟨S64x288x16x34x1, .f32⟩
  | 75 => ⟨S64x288x16x34x1, .f32⟩
  | 76 => ⟨S64x288x16x34x3, .f32⟩
  | 77 => ⟨S64x288x16x16x3, .f32⟩
  | 78 => ⟨S64x288x16x16x3, .f32⟩
  | 79 => ⟨S64x288x16x16x3, .f32⟩
  | 80 => ⟨S64x288x16x16x3x1, .f32⟩
  | 81 => ⟨S64x288x16x16x3x1, .f32⟩
  | 82 => ⟨S64x288x16x16x3x1, .f32⟩
  | 83 => ⟨S64x288x16x16x3x3, .f32⟩
  | 84 => ⟨S128x64x16x16, .f32⟩
  | 85 => ⟨S64x128x16x16, .f32⟩
  | 86 => ⟨S1x128x1x1, .f32⟩
  | 87 => ⟨S64x128x16x16, .f32⟩
  | 88 => ⟨S64x128x16x16, .f32⟩
  | 89 => ⟨S64x32x4x16x16, .f32⟩
  | 90 => ⟨S_, .f32⟩
  | 91 => ⟨S64x32, .f32⟩
  | 92 => ⟨S64x32x1x1x1, .f32⟩
  | 93 => ⟨S_, .f32⟩
  | 94 => ⟨S64x32x1x1x1, .f32⟩
  | 95 => ⟨S64x32x1x1x1, .f32⟩
  | 96 => ⟨S_, .i32⟩
  | 97 => ⟨S_, .f32⟩
  | 98 => ⟨S64x32, .f32⟩
  | 99 => ⟨S64x32x1x1x1, .f32⟩
  | 100 => ⟨S_, .f32⟩
  | 101 => ⟨S64x32x1x1x1, .f32⟩
  | 102 => ⟨S64x32x1x1x1, .f32⟩
  | 103 => ⟨S64x32x4x16x16, .f32⟩
  | 104 => ⟨S64x32x4x16x16, .f32⟩
  | 105 => ⟨S64x32x4x16x16, .f32⟩
  | 106 => ⟨S_, .f32⟩
  | 107 => ⟨S_, .f32⟩
  | 108 => ⟨S_, .f32⟩
  | 109 => ⟨S_, .f32⟩
  | 110 => ⟨S64x32, .f32⟩
  | 111 => ⟨S64x32x1x1x1, .f32⟩
  | 112 => ⟨S64x32x1x1x1, .f32⟩
  | 113 => ⟨S64x32x1x1x1, .f32⟩
  | 114 => ⟨S_, .f32⟩
  | 115 => ⟨S_, .i1⟩
  | 116 => ⟨S_, .f32⟩
  | 117 => ⟨S_, .f32⟩
  | 118 => ⟨S64x32x1x1x1, .f32⟩
  | 119 => ⟨S64x32x1x1x1, .f32⟩
  | 120 => ⟨S64x32x4x16x16, .f32⟩
  | 121 => ⟨S64x32x4x16x16, .f32⟩
  | 122 => ⟨S_, .f32⟩
  | 123 => ⟨S64x32x1x1x1, .f32⟩
  | 124 => ⟨S64x32x1x1x1, .f32⟩
  | 125 => ⟨S64x32x1x1x1, .f32⟩
  | 126 => ⟨S64x32x4x16x16, .f32⟩
  | 127 => ⟨S64x32x4x16x16, .f32⟩
  | _ => ⟨S64x128x32x32, .f32⟩

abbrev hbmTy0_2 (i : Nat) : BufTy := match i % 128 with
  | 0 => ⟨S64x128x16x16, .f32⟩
  | 1 => ⟨S1x128x1x1, .f32⟩
  | 2 => ⟨S64x128x16x16, .f32⟩
  | 3 => ⟨S64x128x16x16, .f32⟩
  | 4 => ⟨S1x128x1x1, .f32⟩
  | 5 => ⟨S64x128x16x16, .f32⟩
  | 6 => ⟨S64x128x16x16, .f32⟩
  | 7 => ⟨S_, .f32⟩
  | 8 => ⟨S64x128x16x16, .f32⟩
  | 9 => ⟨S64x128x16x16, .f32⟩
  | 10 => ⟨S_, .i32⟩
  | 11 => ⟨S_, .f32⟩
  | 12 => ⟨S64x128x18x18, .f32⟩
  | 13 => ⟨S64x128x8x18, .f32⟩
  | 14 => ⟨S64x128x8x18, .f32⟩
  | 15 => ⟨S64x128x8x18, .f32⟩
  | 16 => ⟨S64x128x8x18x1, .f32⟩
  | 17 => ⟨S64x128x8x18x1, .f32⟩
  | 18 => ⟨S64x128x8x18x1, .f32⟩
  | 19 => ⟨S64x128x8x18x3, .f32⟩
  | 20 => ⟨S64x128x8x8x3, .f32⟩
  | 21 => ⟨S64x128x8x8x3, .f32⟩
  | 22 => ⟨S64x128x8x8x3, .f32⟩
  | 23 => ⟨S64x128x8x8x3x1, .f32⟩
  | 24 => ⟨S64x128x8x8x3x1, .f32⟩
  | 25 => ⟨S64x128x8x8x3x1, .f32⟩
  | 26 => ⟨S64x128x8x8x3x3, .f32⟩
  | 27 => ⟨S128x64x8x8, .f32⟩
  | 28 => ⟨S64x128x8x8, .f32⟩
  | 29 => ⟨S1x128x1x1, .f32⟩
  | 30 => ⟨S64x128x8x8, .f32⟩
  | 31 => ⟨S64x128x8x8, .f32⟩
  | 32 => ⟨S64x32x4x8x8, .f32⟩
  | 33 => ⟨S_, .f32⟩
  | 34 => ⟨S64x32, .f32⟩
  | 35 => ⟨S64x32x1x1x1, .f32⟩
  | 36 => ⟨S_, .f32⟩
  | 37 => ⟨S64x32x1x1x1, .f32⟩
  | 38 => ⟨S64x32x1x1x1, .f32⟩
  | 39 => ⟨S_, .i32⟩
  | 40 => ⟨S_, .f32⟩
  | 41 => ⟨S64x32, .f32⟩
  | 42 => ⟨S64x32x1x1x1, .f32⟩
  | 43 => ⟨S_, .f32⟩
  | 44 => ⟨S64x32x1x1x1, .f32⟩
  | 45 => ⟨S64x32x1x1x1, .f32⟩
  | 46 => ⟨S64x32x4x8x8, .f32⟩
  | 47 => ⟨S64x32x4x8x8, .f32⟩
  | 48 => ⟨S64x32x4x8x8, .f32⟩
  | 49 => ⟨S_, .f32⟩
  | 50 => ⟨S_, .f32⟩
  | 51 => ⟨S_, .f32⟩
  | 52 => ⟨S_, .f32⟩
  | 53 => ⟨S64x32, .f32⟩
  | 54 => ⟨S64x32x1x1x1, .f32⟩
  | 55 => ⟨S64x32x1x1x1, .f32⟩
  | 56 => ⟨S64x32x1x1x1, .f32⟩
  | 57 => ⟨S_, .f32⟩
  | 58 => ⟨S_, .i1⟩
  | 59 => ⟨S_, .f32⟩
  | 60 => ⟨S_, .f32⟩
  | 61 => ⟨S64x32x1x1x1, .f32⟩
  | 62 => ⟨S64x32x1x1x1, .f32⟩
  | 63 => ⟨S64x32x4x8x8, .f32⟩
  | 64 => ⟨S64x32x4x8x8, .f32⟩
  | 65 => ⟨S_, .f32⟩
  | 66 => ⟨S64x32x1x1x1, .f32⟩
  | 67 => ⟨S64x32x1x1x1, .f32⟩
  | 68 => ⟨S64x32x1x1x1, .f32⟩
  | 69 => ⟨S64x32x4x8x8, .f32⟩
  | 70 => ⟨S64x32x4x8x8, .f32⟩
  | 71 => ⟨S64x128x8x8, .f32⟩
  | 72 => ⟨S1x128x1x1, .f32⟩
  | 73 => ⟨S64x128x8x8, .f32⟩
  | 74 => ⟨S64x128x8x8, .f32⟩
  | 75 => ⟨S1x128x1x1, .f32⟩
  | 76 => ⟨S64x128x8x8, .f32⟩
  | 77 => ⟨S64x128x8x8, .f32⟩
  | 78 => ⟨S_, .f32⟩
  | 79 => ⟨S64x128x8x8, .f32⟩
  | 80 => ⟨S64x128x8x8, .f32⟩
  | 81 => ⟨S_, .i32⟩
  | 82 => ⟨S_, .f32⟩
  | 83 => ⟨S64x128x10x10, .f32⟩
  | 84 => ⟨S64x128x4x10, .f32⟩
  | 85 => ⟨S64x128x4x10, .f32⟩
  | 86 => ⟨S64x128x4x10, .f32⟩
  | 87 => ⟨S64x128x4x10x1, .f32⟩
  | 88 => ⟨S64x128x4x10x1, .f32⟩
  | 89 => ⟨S64x128x4x10x1, .f32⟩
  | 90 => ⟨S64x128x4x10x3, .f32⟩
  | 91 => ⟨S64x128x4x4x3, .f32⟩
  | 92 => ⟨S64x128x4x4x3, .f32⟩
  | 93 => ⟨S64x128x4x4x3, .f32⟩
  | 94 => ⟨S64x128x4x4x3x1, .f32⟩
  | 95 => ⟨S64x128x4x4x3x1, .f32⟩
  | 96 => ⟨S64x128x4x4x3x1, .f32⟩
  | 97 => ⟨S64x128x4x4x3x3, .f32⟩
  | 98 => ⟨S128x64x4x4, .f32⟩
  | 99 => ⟨S64x128x4x4, .f32⟩
  | 100 => ⟨S1x128x1x1, .f32⟩
  | 101 => ⟨S64x128x4x4, .f32⟩
  | 102 => ⟨S64x128x4x4, .f32⟩
  | 103 => ⟨S64x32x4x4x4, .f32⟩
  | 104 => ⟨S_, .f32⟩
  | 105 => ⟨S64x32, .f32⟩
  | 106 => ⟨S64x32x1x1x1, .f32⟩
  | 107 => ⟨S_, .f32⟩
  | 108 => ⟨S64x32x1x1x1, .f32⟩
  | 109 => ⟨S64x32x1x1x1, .f32⟩
  | 110 => ⟨S_, .i32⟩
  | 111 => ⟨S_, .f32⟩
  | 112 => ⟨S64x32, .f32⟩
  | 113 => ⟨S64x32x1x1x1, .f32⟩
  | 114 => ⟨S_, .f32⟩
  | 115 => ⟨S64x32x1x1x1, .f32⟩
  | 116 => ⟨S64x32x1x1x1, .f32⟩
  | 117 => ⟨S64x32x4x4x4, .f32⟩
  | 118 => ⟨S64x32x4x4x4, .f32⟩
  | 119 => ⟨S64x32x4x4x4, .f32⟩
  | 120 => ⟨S_, .f32⟩
  | 121 => ⟨S_, .f32⟩
  | 122 => ⟨S_, .f32⟩
  | 123 => ⟨S_, .f32⟩
  | 124 => ⟨S64x32, .f32⟩
  | 125 => ⟨S64x32x1x1x1, .f32⟩
  | 126 => ⟨S64x32x1x1x1, .f32⟩
  | 127 => ⟨S64x32x1x1x1, .f32⟩
  | _ => ⟨S64x128x32x32, .f32⟩

abbrev hbmTy0_3 (i : Nat) : BufTy := match i % 128 with
  | 0 => ⟨S_, .f32⟩
  | 1 => ⟨S_, .i1⟩
  | 2 => ⟨S_, .f32⟩
  | 3 => ⟨S_, .f32⟩
  | 4 => ⟨S64x32x1x1x1, .f32⟩
  | 5 => ⟨S64x32x1x1x1, .f32⟩
  | 6 => ⟨S64x32x4x4x4, .f32⟩
  | 7 => ⟨S64x32x4x4x4, .f32⟩
  | 8 => ⟨S_, .f32⟩
  | 9 => ⟨S64x32x1x1x1, .f32⟩
  | 10 => ⟨S64x32x1x1x1, .f32⟩
  | 11 => ⟨S64x32x1x1x1, .f32⟩
  | 12 => ⟨S64x32x4x4x4, .f32⟩
  | 13 => ⟨S64x32x4x4x4, .f32⟩
  | 14 => ⟨S64x128x4x4, .f32⟩
  | 15 => ⟨S1x128x1x1, .f32⟩
  | 16 => ⟨S64x128x4x4, .f32⟩
  | 17 => ⟨S64x128x4x4, .f32⟩
  | 18 => ⟨S1x128x1x1, .f32⟩
  | 19 => ⟨S64x128x4x4, .f32⟩
  | 20 => ⟨S64x128x4x4, .f32⟩
  | 21 => ⟨S_, .f32⟩
  | 22 => ⟨S64x128x4x4, .f32⟩
  | 23 => ⟨S64x128x4x4, .f32⟩
  | 24 => ⟨S64x128x16, .f32⟩
  | _ => ⟨S64x128x32x32, .f32⟩

abbrev hbmTy (i : Nat) : BufTy := match i / 128 with
  | 0 => hbmTy0_0 i
  | 1 => hbmTy0_1 i
  | 2 => hbmTy0_2 i
  | 3 => hbmTy0_3 i
  | _ => ⟨S64x128x32x32, .f32⟩

abbrev bufTy : (tb : Table) → Fin (tcTables nBuf tb) → BufTy
  | .hbm, ⟨i, _⟩ => hbmTy i
  | _, _ => ⟨S64x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_call0_v0 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst : Ref sig .tc := ⟨.hbm, 50, rfl⟩
abbrev main_v20 : Ref sig .tc := ⟨.hbm, 51, rfl⟩
abbrev main_v21 : Ref sig .tc := ⟨.hbm, 52, rfl⟩
abbrev main_c_0 : Ref sig .tc := ⟨.hbm, 53, rfl⟩
abbrev main_call1_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_1 : Ref sig .tc := ⟨.hbm, 75, rfl⟩
abbrev main_v42 : Ref sig .tc := ⟨.hbm, 76, rfl⟩
abbrev main_v43 : Ref sig .tc := ⟨.hbm, 77, rfl⟩
abbrev main_c_2 : Ref sig .tc := ⟨.hbm, 78, rfl⟩
abbrev main_call2_v0 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_3 : Ref sig .tc := ⟨.hbm, 116, rfl⟩
abbrev main_v80 : Ref sig .tc := ⟨.hbm, 117, rfl⟩
abbrev main_v81 : Ref sig .tc := ⟨.hbm, 118, rfl⟩
abbrev main_c_4 : Ref sig .tc := ⟨.hbm, 119, rfl⟩
abbrev main_call3_v0 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_5 : Ref sig .tc := ⟨.hbm, 141, rfl⟩
abbrev main_v102 : Ref sig .tc := ⟨.hbm, 142, rfl⟩
abbrev main_v103 : Ref sig .tc := ⟨.hbm, 143, rfl⟩
abbrev main_c_6 : Ref sig .tc := ⟨.hbm, 144, rfl⟩
abbrev main_call4_v0 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_7 : Ref sig .tc := ⟨.hbm, 166, rfl⟩
abbrev main_v124 : Ref sig .tc := ⟨.hbm, 167, rfl⟩
abbrev main_v125 : Ref sig .tc := ⟨.hbm, 168, rfl⟩
abbrev main_c_8 : Ref sig .tc := ⟨.hbm, 169, rfl⟩
abbrev main_call5_v0 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_9 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_c_10 : Ref sig .tc := ⟨.hbm, 195, rfl⟩
abbrev main_call6_v0 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_11 : Ref sig .tc := ⟨.hbm, 218, rfl⟩
abbrev main_v170 : Ref sig .tc := ⟨.hbm, 219, rfl⟩
abbrev main_v171 : Ref sig .tc := ⟨.hbm, 220, rfl⟩
abbrev main_cst_12 : Ref sig .tc := ⟨.hbm, 221, rfl⟩
abbrev main_v172 : Ref sig .tc := ⟨.hbm, 222, rfl⟩
abbrev main_v173 : Ref sig .tc := ⟨.hbm, 223, rfl⟩
abbrev main_c_13 : Ref sig .tc := ⟨.hbm, 224, rfl⟩
abbrev main_call7_cst : Ref sig .tc := ⟨.hbm, 225, rfl⟩
abbrev main_call7_v0 : Ref sig .tc := ⟨.hbm, 226, rfl⟩
abbrev main_call7_v1 : Ref sig .tc := ⟨.hbm, 227, rfl⟩
abbrev main_call7_cst_0 : Ref sig .tc := ⟨.hbm, 228, rfl⟩
abbrev main_call7_v2 : Ref sig .tc := ⟨.hbm, 229, rfl⟩
abbrev main_call7_v3 : Ref sig .tc := ⟨.hbm, 230, rfl⟩
abbrev main_call7_v4 : Ref sig .tc := ⟨.hbm, 231, rfl⟩
abbrev main_call7_v5 : Ref sig .tc := ⟨.hbm, 232, rfl⟩
abbrev main_call7_v6 : Ref sig .tc := ⟨.hbm, 233, rfl⟩
abbrev main_call7_v7 : Ref sig .tc := ⟨.hbm, 234, rfl⟩
abbrev main_call7_cst_1 : Ref sig .tc := ⟨.hbm, 235, rfl⟩
abbrev main_call7_v8 : Ref sig .tc := ⟨.hbm, 236, rfl⟩
abbrev main_call7_cst_2 : Ref sig .tc := ⟨.hbm, 237, rfl⟩
abbrev main_call7_v9 : Ref sig .tc := ⟨.hbm, 238, rfl⟩
abbrev main_call7_v10 : Ref sig .tc := ⟨.hbm, 239, rfl⟩
abbrev main_call7_v11 : Ref sig .tc := ⟨.hbm, 240, rfl⟩
abbrev main_call7_v12 : Ref sig .tc := ⟨.hbm, 241, rfl⟩
abbrev main_call7_cst_3 : Ref sig .tc := ⟨.hbm, 242, rfl⟩
abbrev main_call7_v13 : Ref sig .tc := ⟨.hbm, 243, rfl⟩
abbrev main_call7_cst_4 : Ref sig .tc := ⟨.hbm, 244, rfl⟩
abbrev main_call7_call0_v0 : Ref sig .tc := ⟨.hbm, 245, rfl⟩
abbrev main_call7_call0_v1 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_cst_14 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_cst_15 : Ref sig .tc := ⟨.hbm, 263, rfl⟩
abbrev main_v189 : Ref sig .tc := ⟨.hbm, 264, rfl⟩
abbrev main_v190 : Ref sig .tc := ⟨.hbm, 265, rfl⟩
abbrev main_c_16 : Ref sig .tc := ⟨.hbm, 266, rfl⟩
abbrev main_call8_v0 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_cst_17 : Ref sig .tc := ⟨.hbm, 289, rfl⟩
abbrev main_v212 : Ref sig .tc := ⟨.hbm, 290, rfl⟩
abbrev main_v213 : Ref sig .tc := ⟨.hbm, 291, rfl⟩
abbrev main_cst_18 : Ref sig .tc := ⟨.hbm, 292, rfl⟩
abbrev main_v214 : Ref sig .tc := ⟨.hbm, 293, rfl⟩
abbrev main_v215 : Ref sig .tc := ⟨.hbm, 294, rfl⟩
abbrev main_c_19 : Ref sig .tc := ⟨.hbm, 295, rfl⟩
abbrev main_call9_cst : Ref sig .tc := ⟨.hbm, 296, rfl⟩
abbrev main_call9_v0 : Ref sig .tc := ⟨.hbm, 297, rfl⟩
abbrev main_call9_v1 : Ref sig .tc := ⟨.hbm, 298, rfl⟩
abbrev main_call9_cst_0 : Ref sig .tc := ⟨.hbm, 299, rfl⟩
abbrev main_call9_v2 : Ref sig .tc := ⟨.hbm, 300, rfl⟩
abbrev main_call9_v3 : Ref sig .tc := ⟨.hbm, 301, rfl⟩
abbrev main_call9_v4 : Ref sig .tc := ⟨.hbm, 302, rfl⟩
abbrev main_call9_v5 : Ref sig .tc := ⟨.hbm, 303, rfl⟩
abbrev main_call9_v6 : Ref sig .tc := ⟨.hbm, 304, rfl⟩
abbrev main_call9_v7 : Ref sig .tc := ⟨.hbm, 305, rfl⟩
abbrev main_call9_cst_1 : Ref sig .tc := ⟨.hbm, 306, rfl⟩
abbrev main_call9_v8 : Ref sig .tc := ⟨.hbm, 307, rfl⟩
abbrev main_call9_cst_2 : Ref sig .tc := ⟨.hbm, 308, rfl⟩
abbrev main_call9_v9 : Ref sig .tc := ⟨.hbm, 309, rfl⟩
abbrev main_call9_v10 : Ref sig .tc := ⟨.hbm, 310, rfl⟩
abbrev main_call9_v11 : Ref sig .tc := ⟨.hbm, 311, rfl⟩
abbrev main_call9_v12 : Ref sig .tc := ⟨.hbm, 312, rfl⟩
abbrev main_call9_cst_3 : Ref sig .tc := ⟨.hbm, 313, rfl⟩
abbrev main_call9_v13 : Ref sig .tc := ⟨.hbm, 314, rfl⟩
abbrev main_call9_cst_4 : Ref sig .tc := ⟨.hbm, 315, rfl⟩
abbrev main_call9_call0_v0 : Ref sig .tc := ⟨.hbm, 316, rfl⟩
abbrev main_call9_call0_v1 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_cst_20 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_cst_21 : Ref sig .tc := ⟨.hbm, 334, rfl⟩
abbrev main_v231 : Ref sig .tc := ⟨.hbm, 335, rfl⟩
abbrev main_v232 : Ref sig .tc := ⟨.hbm, 336, rfl⟩
abbrev main_c_22 : Ref sig .tc := ⟨.hbm, 337, rfl⟩
abbrev main_call10_v0 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_cst_23 : Ref sig .tc := ⟨.hbm, 360, rfl⟩
abbrev main_v254 : Ref sig .tc := ⟨.hbm, 361, rfl⟩
abbrev main_v255 : Ref sig .tc := ⟨.hbm, 362, rfl⟩
abbrev main_cst_24 : Ref sig .tc := ⟨.hbm, 363, rfl⟩
abbrev main_v256 : Ref sig .tc := ⟨.hbm, 364, rfl⟩
abbrev main_v257 : Ref sig .tc := ⟨.hbm, 365, rfl⟩
abbrev main_c_25 : Ref sig .tc := ⟨.hbm, 366, rfl⟩
abbrev main_call11_cst : Ref sig .tc := ⟨.hbm, 367, rfl⟩
abbrev main_call11_v0 : Ref sig .tc := ⟨.hbm, 368, rfl⟩
abbrev main_call11_v1 : Ref sig .tc := ⟨.hbm, 369, rfl⟩
abbrev main_call11_cst_0 : Ref sig .tc := ⟨.hbm, 370, rfl⟩
abbrev main_call11_v2 : Ref sig .tc := ⟨.hbm, 371, rfl⟩
abbrev main_call11_v3 : Ref sig .tc := ⟨.hbm, 372, rfl⟩
abbrev main_call11_v4 : Ref sig .tc := ⟨.hbm, 373, rfl⟩
abbrev main_call11_v5 : Ref sig .tc := ⟨.hbm, 374, rfl⟩
abbrev main_call11_v6 : Ref sig .tc := ⟨.hbm, 375, rfl⟩
abbrev main_call11_v7 : Ref sig .tc := ⟨.hbm, 376, rfl⟩
abbrev main_call11_cst_1 : Ref sig .tc := ⟨.hbm, 377, rfl⟩
abbrev main_call11_v8 : Ref sig .tc := ⟨.hbm, 378, rfl⟩
abbrev main_call11_cst_2 : Ref sig .tc := ⟨.hbm, 379, rfl⟩
abbrev main_call11_v9 : Ref sig .tc := ⟨.hbm, 380, rfl⟩
abbrev main_call11_v10 : Ref sig .tc := ⟨.hbm, 381, rfl⟩
abbrev main_call11_v11 : Ref sig .tc := ⟨.hbm, 382, rfl⟩
abbrev main_call11_v12 : Ref sig .tc := ⟨.hbm, 383, rfl⟩
abbrev main_call11_cst_3 : Ref sig .tc := ⟨.hbm, 384, rfl⟩
abbrev main_call11_v13 : Ref sig .tc := ⟨.hbm, 385, rfl⟩
abbrev main_call11_cst_4 : Ref sig .tc := ⟨.hbm, 386, rfl⟩
abbrev main_call11_call0_v0 : Ref sig .tc := ⟨.hbm, 387, rfl⟩
abbrev main_call11_call0_v1 : Ref sig .tc := ⟨.hbm, 388, rfl⟩
abbrev main_v258 : Ref sig .tc := ⟨.hbm, 389, rfl⟩
abbrev main_v259 : Ref sig .tc := ⟨.hbm, 390, rfl⟩
abbrev main_v260 : Ref sig .tc := ⟨.hbm, 391, rfl⟩
abbrev main_cst_26 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_cst_27 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩

abbrev nD : Nat := 1
abbrev τ : Topo := Topo.v7x

variable {F : FTy → Type} [FloatOps F]
-- ==== Kernel2.lean ====
abbrev S64x128x16 : Shape := ⟨3, ![64, 128, 16]⟩
abbrev S64 : Shape := ⟨1, ![64]⟩
abbrev S1024x2048 : Shape := ⟨2, ![1024, 2048]⟩
abbrev S1024 : Shape := ⟨1, ![1024]⟩
abbrev S256x1024 : Shape := ⟨2, ![256, 1024]⟩
abbrev S256 : Shape := ⟨1, ![256]⟩
abbrev S126x256 : Shape := ⟨2, ![126, 256]⟩
abbrev S126 : Shape := ⟨1, ![126]⟩
abbrev S63x256 : Shape := ⟨2, ![63, 256]⟩
abbrev S63 : Shape := ⟨1, ![63]⟩
abbrev S64x2048 : Shape := ⟨2, ![64, 2048]⟩
abbrev S1 : Shape := ⟨1, ![1]⟩
abbrev S_ : Shape := ⟨0, ![]⟩
abbrev S21 : Shape := ⟨1, ![21]⟩
abbrev S21x1 : Shape := ⟨2, ![21, 1]⟩
abbrev S6x6 : Shape := ⟨2, ![6, 6]⟩
abbrev S21x1x1x1 : Shape := ⟨4, ![21, 1, 1, 1]⟩
abbrev S1x6x1x6 : Shape := ⟨4, ![1, 6, 1, 6]⟩
abbrev S21x6x1x6 : Shape := ⟨4, ![21, 6, 1, 6]⟩
abbrev S126x6 : Shape := ⟨2, ![126, 6]⟩
abbrev S3x3 : Shape := ⟨2, ![3, 3]⟩
abbrev S1x3x1x3 : Shape := ⟨4, ![1, 3, 1, 3]⟩
abbrev S21x3x1x3 : Shape := ⟨4, ![21, 3, 1, 3]⟩
abbrev S63x3 : Shape := ⟨2, ![63, 3]⟩
abbrev S1x1024 : Shape := ⟨2, ![1, 1024]⟩
abbrev S1x256 : Shape := ⟨2, ![1, 256]⟩
abbrev S1x126 : Shape := ⟨2, ![1, 126]⟩
abbrev S1x63 : Shape := ⟨2, ![1, 63]⟩
abbrev S64x6 : Shape := ⟨2, ![64, 6]⟩
abbrev S64x3 : Shape := ⟨2, ![64, 3]⟩
abbrev S32x2048 : Shape := ⟨2, ![32, 2048]⟩
abbrev S32x6 : Shape := ⟨2, ![32, 6]⟩
abbrev S32x3 : Shape := ⟨2, ![32, 3]⟩
abbrev S32x1024 : Shape := ⟨2, ![32, 1024]⟩
abbrev S32x256 : Shape := ⟨2, ![32, 256]⟩
abbrev S32x126 : Shape := ⟨2, ![32, 126]⟩
abbrev S32x63 : Shape := ⟨2, ![32, 63]⟩

abbrev nBuf : Space → Nat
  | .hbm => 53
  | .vmem => 16
  | .smem => 0
  | _ => 0

abbrev bufTy : (tb : Table) → Fin (tcTables nBuf tb) → BufTy
  | .hbm, ⟨0, _⟩ => ⟨S64x128x16, .f32⟩
  | .hbm, ⟨1, _⟩ => ⟨S64, .i32⟩
  | .hbm, ⟨2, _⟩ => ⟨S1024x2048, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S126x256, .f32⟩
  | .hbm, ⟨7, _⟩ => ⟨S126, .f32⟩
  | .hbm, ⟨8, _⟩ => ⟨S63x256, .f32⟩
  | .hbm, ⟨9, _⟩ => ⟨S63, .f32⟩
  | .hbm, ⟨10, _⟩ => ⟨S64x2048, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S21, .i32⟩
  | .hbm, ⟨17, _⟩ => ⟨S21, .i32⟩
  | .hbm, ⟨18, _⟩ => ⟨S21, .i1⟩
  | .hbm, ⟨19, _⟩ => ⟨S21, .f32⟩
  | .hbm, ⟨20, _⟩ => ⟨S21x1, .f32⟩
  | .hbm, ⟨21, _⟩ => ⟨S6x6, .i32⟩
  | .hbm, ⟨22, _⟩ => ⟨S6x6, .i32⟩
  | .hbm, ⟨23, _⟩ => ⟨S_, .i32⟩
  | .hbm, ⟨24, _⟩ => ⟨S6x6, .i32⟩
  | .hbm, ⟨25, _⟩ => ⟨S6x6, .i32⟩
  | .hbm, ⟨26, _⟩ => ⟨S6x6, .i1⟩
  | .hbm, ⟨27, _⟩ => ⟨S6x6, .f32⟩
  | .hbm, ⟨28, _⟩ => ⟨S21x1x1x1, .f32⟩
  | .hbm, ⟨29, _⟩ => ⟨S1x6x1x6, .f32⟩
  | .hbm, ⟨30, _⟩ => ⟨S21x6x1x6, .f32⟩
  | .hbm, ⟨31, _⟩ => ⟨S21x6x1x6, .f32⟩
  | .hbm, ⟨32, _⟩ => ⟨S21x6x1x6, .f32⟩
  | .hbm, ⟨33, _⟩ => ⟨S126x6, .f32⟩
  | .hbm, ⟨34, _⟩ => ⟨S3x3, .i32⟩
  | .hbm, ⟨35, _⟩ => ⟨S3x3, .i32⟩
  | .hbm, ⟨36, _⟩ => ⟨S_, .i32⟩
  | .hbm, ⟨37, _⟩ => ⟨S3x3, .i32⟩
  | .hbm, ⟨38, _⟩ => ⟨S3x3, .i32⟩
  | .hbm, ⟨39, _⟩ => ⟨S3x3, .i1⟩
  | .hbm, ⟨40, _⟩ => ⟨S3x3, .f32⟩
  | .hbm, ⟨41, _⟩ => ⟨S21x1x1x1, .f32⟩
  | .hbm, ⟨42, _⟩ => ⟨S1x3x1x3, .f32⟩
  | .hbm, ⟨43, _⟩ => ⟨S21x3x1x3, .f32⟩
  | .hbm, ⟨44, _⟩ => ⟨S21x3x1x3, .f32⟩
  | .hbm, ⟨45, _⟩ => ⟨S21x3x1x3, .f32⟩
  | .hbm, ⟨46, _⟩ => ⟨S63x3, .f32⟩
  | .hbm, ⟨47, _⟩ => ⟨S1x1024, .f32⟩
  | .hbm, ⟨48, _⟩ => ⟨S1x256, .f32⟩
  | .hbm, ⟨49, _⟩ => ⟨S1x126, .f32⟩
  | .hbm, ⟨50, _⟩ => ⟨S1x63, .f32⟩
  | .hbm, ⟨51, _⟩ => ⟨S64x6, .f32⟩
  | .hbm, ⟨52, _⟩ => ⟨S64x3, .f32⟩
  | .local _ .vmem, ⟨0, _⟩ => ⟨S32x2048, .f32⟩
  | .local _ .vmem, ⟨1, _⟩ => ⟨S32x2048, .f32⟩
  | .local _ .vmem, ⟨2, _⟩ => ⟨S1024x2048, .f32⟩
  | .local _ .vmem, ⟨3, _⟩ => ⟨S1x1024, .f32⟩
  | .local _ .vmem, ⟨4, _⟩ => ⟨S256x1024, .f32⟩
  | .local _ .vmem, ⟨5, _⟩ => ⟨S1x256, .f32⟩
  | .local _ .vmem, ⟨6, _⟩ => ⟨S126x256, .f32⟩
  | .local _ .vmem, ⟨7, _⟩ => ⟨S1x126, .f32⟩
  | .local _ .vmem, ⟨8, _⟩ => ⟨S63x256, .f32⟩
  | .local _ .vmem, ⟨9, _⟩ => ⟨S1x63, .f32⟩
  | .local _ .vmem, ⟨10, _⟩ => ⟨S126x6, .f32⟩
  | .local _ .vmem, ⟨11, _⟩ => ⟨S63x3, .f32⟩
  | .local _ .vmem, ⟨12, _⟩ => ⟨S32x6, .f32⟩
  | .local _ .vmem, ⟨13, _⟩ => ⟨S32x6, .f32⟩
  | .local _ .vmem, ⟨14, _⟩ => ⟨S32x3, .f32⟩
  | .local _ .vmem, ⟨15, _⟩ => ⟨S32x3, .f32⟩
  | _, _ => ⟨S64x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24_0 : Ref sig .tc := ⟨.hbm, 51, rfl⟩
abbrev main_v24_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S126x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x126 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S63x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x63 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S126x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S63x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x6 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S64x128x16 : Shape := ⟨3, ![64, 128, 16]⟩
abbrev S64 : Shape := ⟨1, ![64]⟩
abbrev S1024x2048 : Shape := ⟨2, ![1024, 2048]⟩
abbrev S1024 : Shape := ⟨1, ![1024]⟩
abbrev S256x1024 : Shape := ⟨2, ![256, 1024]⟩
abbrev S256 : Shape := ⟨1, ![256]⟩
abbrev S126x256 : Shape := ⟨2, ![126, 256]⟩
abbrev S126 : Shape := ⟨1, ![126]⟩
abbrev S63x256 : Shape := ⟨2, ![63, 256]⟩
abbrev S63 : Shape := ⟨1, ![63]⟩
abbrev S64x2048 : Shape := ⟨2, ![64, 2048]⟩
abbrev S2048x1024 : Shape := ⟨2, ![2048, 1024]⟩
abbrev S64x1024 : Shape := ⟨2, ![64, 1024]⟩
abbrev S1x1024 : Shape := ⟨2, ![1, 1024]⟩
abbrev S_ : Shape := ⟨0, ![]⟩
abbrev S1024x256 : Shape := ⟨2, ![1024, 256]⟩
abbrev S64x256 : Shape := ⟨2, ![64, 256]⟩
abbrev S1x256 : Shape := ⟨2, ![1, 256]⟩
abbrev S256x63 : Shape := ⟨2, ![256, 63]⟩
abbrev S64x63 : Shape := ⟨2, ![64, 63]⟩
abbrev S1x63 : Shape := ⟨2, ![1, 63]⟩
abbrev S64x21x3 : Shape := ⟨3, ![64, 21, 3]⟩
abbrev S256x126 : Shape := ⟨2, ![256, 126]⟩
abbrev S64x126 : Shape := ⟨2, ![64, 126]⟩
abbrev S1x126 : Shape := ⟨2, ![1, 126]⟩
abbrev S64x21x6 : Shape := ⟨3, ![64, 21, 6]⟩
abbrev S64x1 : Shape := ⟨2, ![64, 1]⟩
abbrev S1 : Shape := ⟨1, ![1]⟩
abbrev S1x1 : Shape := ⟨2, ![1, 1]⟩
abbrev S64x64x3 : Shape := ⟨3, ![64, 64, 3]⟩
abbrev S64x1x3 : Shape := ⟨3, ![64, 1, 3]⟩
abbrev S64x3 : Shape := ⟨2, ![64, 3]⟩
abbrev S64x64x6 : Shape := ⟨3, ![64, 64, 6]⟩
abbrev S64x1x6 : Shape := ⟨3, ![64, 1, 6]⟩
abbrev S64x6 : Shape := ⟨2, ![64, 6]⟩

abbrev nBuf : Space → Nat
  | .hbm => 95
  | .vmem => 0
  | .smem => 0
  | _ => 0

abbrev bufTy : (tb : Table) → Fin (tcTables nBuf tb) → BufTy
  | .hbm, ⟨0, _⟩ => ⟨S64x128x16, .f32⟩
  | .hbm, ⟨1, _⟩ => ⟨S64, .i32⟩
  | .hbm, ⟨2, _⟩ => ⟨S1024x2048, .f32⟩
  | .hbm, ⟨3, _⟩ => ⟨S1024, .f32⟩
  | .hbm, ⟨4, _⟩ => ⟨S256x1024, .f32⟩
  | .hbm, ⟨5, _⟩ => ⟨S256, .f32⟩
  | .hbm, ⟨6, _⟩ => ⟨S126x256, .f32⟩
  | .hbm, ⟨7, _⟩ => ⟨S126, .f32⟩
  | .hbm, ⟨8, _⟩ => ⟨S63x256, .f32⟩
  | .hbm, ⟨9, _⟩ => ⟨S63, .f32⟩
  | .hbm, ⟨10, _⟩ => ⟨S64x2048, .f32⟩
  | .hbm, ⟨11, _⟩ => ⟨S2048x1024, .f32⟩
  | .hbm, ⟨12, _⟩ => ⟨S64x1024, .f32⟩
  | .hbm, ⟨13, _⟩ => ⟨S1x1024, .f32⟩
  | .hbm, ⟨14, _⟩ => ⟨S64x1024, .f32⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S64x1024, .f32⟩
  | .hbm, ⟨19, _⟩ => ⟨S1024x256, .f32⟩
  | .hbm, ⟨20, _⟩ => ⟨S64x256, .f32⟩
  | .hbm, ⟨21, _⟩ => ⟨S1x256, .f32⟩
  | .hbm, ⟨22, _⟩ => ⟨S64x256, .f32⟩
  | .hbm, ⟨23, _⟩ => ⟨S64x256, .f32⟩
  | .hbm, ⟨24, _⟩ => ⟨S_, .f32⟩
  | .hbm, ⟨25, _⟩ => ⟨S64x256, .f32⟩
  | .hbm, ⟨26, _⟩ => ⟨S64x256, .f32⟩
  | .hbm, ⟨27, _⟩ => ⟨S256x63, .f32⟩
  | .hbm, ⟨28, _⟩ => ⟨S64x63, .f32⟩
  | .hbm, ⟨29, _⟩ => ⟨S1x63, .f32⟩
  | .hbm, ⟨30, _⟩ => ⟨S64x63, .f32⟩
  | .hbm, ⟨31, _⟩ => ⟨S64x63, .f32⟩
  | .hbm, ⟨32, _⟩ => ⟨S64x21x3, .f32⟩
  | .hbm, ⟨33, _⟩ => ⟨S256x126, .f32⟩
  | .hbm, ⟨34, _⟩ => ⟨S64x126, .f32⟩
  | .hbm, ⟨35, _⟩ => ⟨S1x126, .f32⟩
  | .hbm, ⟨36, _⟩ => ⟨S64x126, .f32⟩
  | .hbm, ⟨37, _⟩ => ⟨S64x126, .f32⟩
  | .hbm, ⟨38, _⟩ => ⟨S64x21x6, .f32⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S64x1, .i32⟩
  | .hbm, ⟨50, _⟩ => ⟨S1, .i32⟩
  | .hbm, ⟨51, _⟩ => ⟨S_, .i32⟩
  | .hbm, ⟨52, _⟩ => ⟨S64x1, .i32⟩
  | .hbm, ⟨53, _⟩ => ⟨S64x1, .i1⟩
  | .hbm, ⟨54, _⟩ => ⟨S1x1, .i32⟩
  | .hbm, ⟨55, _⟩ => ⟨S64x1, .i32⟩
  | .hbm, ⟨56, _⟩ => ⟨S64x1, .i1⟩
  | .hbm, ⟨57, _⟩ => ⟨S64x1, .i1⟩
  | .hbm, ⟨58, _⟩ => ⟨S_, .i1⟩
  | .hbm, ⟨59, _⟩ => ⟨S64, .i1⟩
  | .hbm, ⟨60, _⟩ => ⟨S64x64x3, .f32⟩
  | .hbm, ⟨61, _⟩ => ⟨S64x64x3, .i1⟩
  | .hbm, ⟨62, _⟩ => ⟨S_, .f32⟩
  | .hbm, ⟨63, _⟩ => ⟨S64x64x3, .f32⟩
  | .hbm, ⟨64, _⟩ => ⟨S64x64x3, .f32⟩
  | .hbm, ⟨65, _⟩ => ⟨S64x1x3, .f32⟩
  | .hbm, ⟨66, _⟩ => ⟨S64x3, .f32⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S_, .i32⟩
  | .hbm, ⟨71, _⟩ => ⟨S64, .i32⟩
  | .hbm, ⟨72, _⟩ => ⟨S64, .i1⟩
  | .hbm, ⟨73, _⟩ => ⟨S_, .i32⟩
  | .hbm, ⟨74, _⟩ => ⟨S64, .i32⟩
  | .hbm, ⟨75, _⟩ => ⟨S64, .i32⟩
  | .hbm, ⟨76, _⟩ => ⟨S64, .i32⟩
  | .hbm, ⟨77, _⟩ => ⟨S64x1, .i32⟩
  | .hbm, ⟨78, _⟩ => ⟨S1, .i32⟩
  | .hbm, ⟨79, _⟩ => ⟨S_, .i32⟩
  | .hbm, ⟨80, _⟩ => ⟨S64x1, .i32⟩
  | .hbm, ⟨81, _⟩ => ⟨S64x1, .i1⟩
  | .hbm, ⟨82, _⟩ => ⟨S1x1, .i32⟩
  | .hbm, ⟨83, _⟩ => ⟨S64x1, .i32⟩
  | .hbm, ⟨84, _⟩ => ⟨S64x1, .i1⟩
  | .hbm, ⟨85, _⟩ => ⟨S64x1, .i1⟩
  | .hbm, ⟨86, _⟩ => ⟨S_, .i1⟩
  | .hbm, ⟨87, _⟩ => ⟨S64, .i1⟩
  | .hbm, ⟨88, _⟩ => ⟨S64x64x6, .f32⟩
  | .hbm, ⟨89, _⟩ => ⟨S64x64x6, .i1⟩
  | .hbm, ⟨90, _⟩ => ⟨S_, .f32⟩
  | .hbm, ⟨91, _⟩ => ⟨S64x64x6, .f32⟩
  | .hbm, ⟨92, _⟩ => ⟨S64x64x6, .f32⟩
  | .hbm, ⟨93, _⟩ => ⟨S64x1x6, .f32⟩
  | .hbm, ⟨94, _⟩ => ⟨S64x6, .f32⟩
  | _, _ => ⟨S64x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_v27 : Ref sig .tc := ⟨.hbm, 40, rfl⟩
abbrev main_v28 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_1 : Ref sig .tc := ⟨.hbm, 67, rfl⟩
abbrev main_v32 : Ref sig .tc := ⟨.hbm, 68, rfl⟩
abbrev main_v33 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩

abbrev nD : Nat := 1
abbrev τ : Topo := Topo.v7x

variable {F : FTy → Type} [FloatOps F]
-- ==== Proof.KernelIdealFrame.Entry.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg25`: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg26`: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg27`: the region finds it as launched. -/
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Input window 29's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1860000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c)⟩) h

end Cert.KernelIdeal.Gen

end
-- ==== Proof.KernelIdealFrame.Values.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev r0_0 : Rect S128x128 := Rect.unit (s := S128x128) ![0, 0] S128x128.size inb_S128x128_S128x128_0_0
abbrev r0_1 : Rect S4x8x4096 := Rect.unit (s := S4x8x4096) ![0, 0, 0] S4x8x4096.size inb_S4x8x4096_S4x8x4096_0_0_0
abbrev r0_2 : Rect S128x72 := Rect.unit (s := S128x72) ![0, 0] S128x72.size inb_S128x72_S128x72_0_0
abbrev r0_3 : Rect S1x128 := Rect.unit (s := S1x128) ![0, 0] S1x128.size inb_S1x128_S1x128_0_0
abbrev r0_4 : Rect S4x8x1024 := Rect.unit (s := S4x8x1024) ![0, 0, 0] S4x8x1024.size inb_S4x8x1024_S4x8x1024_0_0_0
abbrev r0_5 : Rect S128x392 := Rect.unit (s := S128x392) ![0, 0] S128x392.size inb_S128x392_S128x392_0_0
abbrev r0_6 : Rect S64x72 := Rect.unit (s := S64x72) ![0, 0] S64x72.size inb_S64x72_S64x72_0_0
abbrev r0_7 : Rect S1x64 := Rect.unit (s := S1x64) ![0, 0] S1x64.size inb_S1x64_S1x64_0_0
abbrev r0_8 : Rect S4x128x1024 := Rect.unit (s := S4x128x1024) ![0, 0, 0] S1x128x1024.size inb_S4x128x1024_S1x128x1024_0_0_0
abbrev r0_9 : Rect S4x128x1024 := Rect.unit (s := S4x128x1024) ![1, 0, 0] S1x128x1024.size inb_S4x128x1024_S1x128x1024_1_0_0
abbrev r0_10 : Rect S4x128x1024 := Rect.unit (s := S4x128x1024) ![2, 0, 0] S1x128x1024.size inb_S4x128x1024_S1x128x1024_2_0_0
abbrev r0_11 : Rect S4x128x1024 := Rect.unit (s := S4x128x1024) ![3, 0, 0] S1x128x1024.size inb_S4x128x1024_S1x128x1024_3_0_0
abbrev r0_12 : Rect S1152x64 := Rect.unit (s := S1152x64) ![0, 0] S1152x64.size inb_S1152x64_S1152x64_0_0
abbrev r0_13 : Rect S576x32 := Rect.unit (s := S576x32) ![0, 0] S576x32.size inb_S576x32_S576x32_0_0
abbrev r0_14 : Rect S1x32 := Rect.unit (s := S1x32) ![0, 0] S1x32.size inb_S1x32_S1x32_0_0
abbrev r0_15 : Rect S2304x128 := Rect.unit (s := S2304x128) ![0, 0] S2304x128.size inb_S2304x128_S2304x128_0_0
abbrev r0_16 : Rect S288x128 := Rect.unit (s := S288x128) ![0, 0] S288x128.size inb_S288x128_S288x128_0_0
abbrev r0_17 : Rect S1152x128 := Rect.unit (s := S1152x128) ![0, 0] S1152x128.size inb_S1152x128_S1152x128_0_0
abbrev r0_18 : Rect S4x128x16 := Rect.unit (s := S4x128x16) ![0, 0, 0] S4x128x16.size inb_S4x128x16_S4x128x16_0_0_0

/-! ## What the body leaves in each output window's buffer -/

/-! ### Values of the body that the stores' payloads, spelt out, would write more than once

    Each is a vector the body binds (often a part call's result), stated over the input windows' blocks and
    numbered on from the skeleton's payload functions (`k0_pay196` …, after `k0_pay195`), so that
    `out0_W` and the values after it name it instead of spelling it out (`unfold_out out0_W` opens a canon
    with them, `unfold_payloads` opens them with the payloads); the comment after each is the printed function's
    name for the value (a count appended where that name is bound again). -/

def k0_pay196 (x29 : Vec F S128x128 .f32) : FVec F S128x128 .f32 :=
  k0_pay2 (View.ld x29 r0_0) -- `v1`
def k0_pay197 (x1 : Vec F S4x8x4096 .f32) : FVec F S4x8x4096 .f32 :=
  k0_pay3 (View.ld x1 r0_1) -- `v3`
def k0_pay198 (x4 : Vec F S128x72 .f32) : FVec F S128x72 .f32 :=
  k0_pay4 (View.ld x4 r0_2) -- `v5`
def k0_pay199 (x5 : Vec F S1x128 .f32) : FVec F S1x128 .f32 :=
  k0_pay5 (View.ld x5 r0_3) -- `v7`
def k0_pay200 : IVec S1x1x4096 32 :=
  k0_pay6 -- `v32`
def k0_pay201 : IVec S1x1x4096 32 :=
  k0_pay7 -- `v35`
def k0_pay202 (x1 : Vec F S4x8x4096 .f32) : FVec F S4x8x4096 .f32 :=
  k0_pay10 k0_pay200 k0_pay201 (k0_pay8 (View.ld x1 r0_1)) k0_pay9 -- `v54`
def k0_pay203 (x1 : Vec F S4x8x4096 .f32) : FVec F S4x8x4096 .f32 :=
  k0_pay11 (k0_pay197 x1) k0_pay200 k0_pay201 -- `v73`
def k0_pay204 (x1 : Vec F S4x8x4096 .f32) : FVec F S4x8x4096 .f32 :=
  k0_pay15 k0_pay201 (k0_pay12 (k0_pay197 x1)) (k0_pay13 k0_pay200 k0_pay201) k0_pay14 -- `v92`
def k0_pay205 (x1 : Vec F S4x8x4096 .f32) : FVec F S4x8x4096 .f32 :=
  k0_pay16 (k0_pay197 x1) k0_pay200 k0_pay201 -- `v111`
def k0_pay206 (x1 : Vec F S4x8x4096 .f32) : FVec F S4x8x4096 .f32 :=
  k0_pay17 (k0_pay197 x1) k0_pay200 k0_pay201 -- `v127`
def k0_pay207 (x1 : Vec F S4x8x4096 .f32) : FVec F S4x8x4096 .f32 :=
  k0_pay19 k0_pay200 k0_pay201 (k0_pay18 (k0_pay197 x1)) 0#32 -- `v146`
def k0_pay208 (x1 : Vec F S4x8x4096 .f32) : FVec F S4x8x4096 .f32 :=
  k0_pay20 (k0_pay197 x1) k0_pay200 k0_pay201 -- `v165`
def k0_pay209 (x1 : Vec F S4x8x4096 .f32) : FVec F S4x8x4096 .f32 :=
  k0_pay21 (k0_pay197 x1) -- `v168`
def k0_pay210 : IVec S1x1x4096 1 :=
  k0_pay22 k0_pay200 k0_pay201 -- `v176`
def k0_pay211 : IVec S1x1x1024 32 :=
  iota .tc S1x1x1024 32 [2] iota_S1x1x1024_d2_w32 -- `v248`
def k0_pay212 (x2 : Vec F S4x8x1024 .f32) : FVec F S4x8x1024 .f32 :=
  k0_pay28 (View.ld x2 r0_4) -- `v243`
def k0_pay213 (x6 : Vec F S128x392 .f32) : FVec F S128x392 .f32 :=
  k0_pay29 (View.ld x6 r0_5) -- `v245`
def k0_pay214 (x7 : Vec F S1x128 .f32) : FVec F S1x128 .f32 :=
  k0_pay30 (View.ld x7 r0_3) -- `v247`
def k0_pay215 : IVec S1x1x1024 32 :=
  k0_pay31 -- `v250`
def k0_pay216 : IVec S1x1x1024 1 :=
  k0_pay32 -- `v264`
def k0_pay217 : IVec S1x1x1024 32 :=
  k0_pay33 -- `v266`
def k0_pay218 : IVec S1x1x1024 32 :=
  k0_pay34 k0_pay215 k0_pay216 k0_pay217 0#32 -- `v272`
def k0_pay219 : IVec S1x1x1024 32 :=
  k0_pay35 k0_pay211 k0_pay215 k0_pay216 k0_pay217 0#32 -- `v275`
def k0_pay220 (x2 : Vec F S4x8x1024 .f32) : FVec F S4x8x1024 .f32 :=
  k0_pay36 (k0_pay212 x2) k0_pay211 k0_pay215 k0_pay216 k0_pay217 0#32 -- `v294`
def k0_pay221 (x2 : Vec F S4x8x1024 .f32) : FVec F S4x8x1024 .f32 :=
  k0_pay39 (k0_pay37 (k0_pay212 x2)) (k0_pay38 (F := F) k0_pay211 k0_pay215 k0_pay216 k0_pay217 0#32) -- `v313`
def k0_pay222 (x2 : Vec F S4x8x1024 .f32) : FVec F S4x8x1024 .f32 :=
  k0_pay40 (k0_pay212 x2) k0_pay218 k0_pay219 -- `v332`
def k0_pay223 (x2 : Vec F S4x8x1024 .f32) : FVec F S4x8x1024 .f32 :=
  k0_pay41 (k0_pay212 x2) k0_pay218 k0_pay219 -- `v351`
def k0_pay224 (x2 : Vec F S4x8x1024 .f32) : FVec F S4x8x1024 .f32 :=
  k0_pay45 k0_pay219 (k0_pay42 (k0_pay212 x2)) (k0_pay43 k0_pay218) (k0_pay44 k0_pay218) -- `v370`
def k0_pay225 (x2 : Vec F S4x8x1024 .f32) : FVec F S4x8x1024 .f32 :=
  k0_pay46 (k0_pay212 x2) k0_pay218 k0_pay219 -- `v389`
def k0_pay226 (x2 : Vec F S4x8x1024 .f32) : FVec F S4x8x1024 .f32 :=
  k0_pay49 (k0_pay47 (k0_pay212 x2)) (k0_pay48 k0_pay218 k0_pay219) (Scalar.ofBits .f32 0x3F800000#32) -- `v408`
def k0_pay227 (x2 : Vec F S4x8x1024 .f32) : FVec F S4x8x1024 .f32 :=
  k0_pay50 (k0_pay212 x2) k0_pay218 k0_pay219 -- `v427`
def k0_pay228 (x2 : Vec F S4x8x1024 .f32) : FVec F S4x8x1024 .f32 :=
  k0_pay51 (k0_pay212 x2) k0_pay218 k0_pay219 -- `v446`
def k0_pay229 (x2 : Vec F S4x8x1024 .f32) : FVec F S4x8x1024 .f32 :=
  k0_pay53 k0_pay218 k0_pay219 (k0_pay52 (k0_pay212 x2)) 2#32 -- `v465`
def k0_pay230 (x2 : Vec F S4x8x1024 .f32) : FVec F S4x8x1024 .f32 :=
  k0_pay54 (k0_pay212 x2) k0_pay218 k0_pay219 -- `v484`
def k0_pay231 (x2 : Vec F S4x8x1024 .f32) : FVec F S4x8x1024 .f32 :=
  k0_pay57 k0_pay219 (k0_pay55 (k0_pay212 x2)) (k0_pay56 k0_pay218 k0_pay219) -- `v503`
def k0_pay232 (x2 : Vec F S4x8x1024 .f32) : FVec F S4x8x1024 .f32 :=
  k0_pay58 (k0_pay212 x2) k0_pay218 k0_pay219 -- `v522`
def k0_pay233 (x2 : Vec F S4x8x1024 .f32) : FVec F S4x8x1024 .f32 :=
  k0_pay61 (k0_pay59 (k0_pay212 x2)) (k0_pay60 (F := F) k0_pay218 k0_pay219) -- `v541`
def k0_pay234 (x2 : Vec F S4x8x1024 .f32) : FVec F S4x8x1024 .f32 :=
  k0_pay62 (k0_pay212 x2) k0_pay218 k0_pay219 -- `v560`
def k0_pay235 (x2 : Vec F S4x8x1024 .f32) : FVec F S4x8x1024 .f32 :=
  k0_pay63 (k0_pay212 x2) k0_pay218 k0_pay219 -- `v579`
def k0_pay236 (x2 : Vec F S4x8x1024 .f32) : FVec F S4x8x1024 .f32 :=
  k0_pay67 k0_pay219 (k0_pay64 (k0_pay212 x2)) (k0_pay65 k0_pay218) (k0_pay66 k0_pay218) -- `v598`
def k0_pay237 (x2 : Vec F S4x8x1024 .f32) : FVec F S4x8x1024 .f32 :=
  k0_pay68 (k0_pay212 x2) k0_pay218 k0_pay219 -- `v617`
def k0_pay238 (x2 : Vec F S4x8x1024 .f32) : FVec F S4x8x1024 .f32 :=
  k0_pay71 (k0_pay69 (k0_pay212 x2)) (k0_pay70 k0_pay218 k0_pay219) (Scalar.ofBits .f32 0x3F800000#32) -- `v636`
def k0_pay239 (x2 : Vec F S4x8x1024 .f32) : FVec F S4x8x1024 .f32 :=
  k0_pay72 (k0_pay212 x2) k0_pay218 k0_pay219 -- `v655`
def k0_pay240 (x2 : Vec F S4x8x1024 .f32) : FVec F S4x8x1024 .f32 :=
  k0_pay73 (k0_pay212 x2) k0_pay218 k0_pay219 -- `v674`
def k0_pay241 (x2 : Vec F S4x8x1024 .f32) : FVec F S4x8x1024 .f32 :=
  k0_pay75 k0_pay218 k0_pay219 (k0_pay74 (k0_pay212 x2)) 0#32 -- `v693`
def k0_pay242 (x2 : Vec F S4x8x1024 .f32) : FVec F S4x8x1024 .f32 :=
  k0_pay76 (k0_pay212 x2) k0_pay218 k0_pay219 -- `v712`
def k0_pay243 (x2 : Vec F S4x8x1024 .f32) : FVec F S4x8x1024 .f32 :=
  k0_pay79 k0_pay219 (k0_pay77 (k0_pay212 x2)) (k0_pay78 k0_pay218 k0_pay219) -- `v731`
def k0_pay244 (x2 : Vec F S4x8x1024 .f32) : FVec F S4x8x1024 .f32 :=
  k0_pay80 (k0_pay212 x2) k0_pay218 k0_pay219 -- `v747`
def k0_pay245 (x2 : Vec F S4x8x1024 .f32) : FVec F S4x8x1024 .f32 :=
  k0_pay81 (k0_pay212 x2) k0_pay218 k0_pay219 -- `v766`
def k0_pay246 (x2 : Vec F S4x8x1024 .f32) : FVec F S4x8x1024 .f32 :=
  k0_pay84 k0_pay218 k0_pay219 (k0_pay82 (k0_pay212 x2)) (k0_pay83 (k0_pay212 x2)) -- `v785`
def k0_pay247 (x2 : Vec F S4x8x1024 .f32) : FVec F S4x8x1024 .f32 :=
  k0_pay85 (k0_pay212 x2) k0_pay218 k0_pay219 -- `v804`
def k0_pay248 (x2 : Vec F S4x8x1024 .f32) : FVec F S4x8x1024 .f32 :=
  k0_pay89 k0_pay219 (k0_pay86 (k0_pay212 x2)) (k0_pay87 k0_pay218) k0_pay88 -- `v823`
def k0_pay249 (x2 : Vec F S4x8x1024 .f32) : FVec F S4x8x1024 .f32 :=
  k0_pay90 (k0_pay212 x2) k0_pay218 k0_pay219 -- `v842`
def k0_pay250 (x2 : Vec F S4x8x1024 .f32) : FVec F S4x8x1024 .f32 :=
  k0_pay95 (k0_pay91 (k0_pay212 x2)) (k0_pay92 k0_pay218 k0_pay219) (k0_pay93 (F := F)) (k0_pay94 (F := F)) -- `v861`
def k0_pay251 (x2 : Vec F S4x8x1024 .f32) : FVec F S4x8x1024 .f32 :=
  k0_pay96 (k0_pay212 x2) k0_pay218 k0_pay219 -- `v880`
def k0_pay252 (x2 : Vec F S4x8x1024 .f32) : FVec F S4x8x1024 .f32 :=
  k0_pay97 (k0_pay212 x2) k0_pay218 k0_pay219 -- `v899`
def k0_pay253 (x2 : Vec F S4x8x1024 .f32) : FVec F S4x8x1024 .f32 :=
  k0_pay100 k0_pay218 k0_pay219 (k0_pay98 (k0_pay212 x2)) (k0_pay99 k0_pay218) 30#32 -- `v918`
def k0_pay254 (x2 : Vec F S4x8x1024 .f32) : FVec F S4x8x1024 .f32 :=
  k0_pay101 (k0_pay212 x2) k0_pay218 k0_pay219 -- `v937`
def k0_pay255 (x2 : Vec F S4x8x1024 .f32) : FVec F S4x8x1024 .f32 :=
  k0_pay105 (k0_pay102 (k0_pay212 x2)) (k0_pay103 k0_pay218 k0_pay219) (k0_pay104 k0_pay219) -- `v956`
def k0_pay256 (x2 : Vec F S4x8x1024 .f32) : FVec F S4x8x1024 .f32 :=
  k0_pay106 (k0_pay212 x2) k0_pay218 k0_pay219 -- `v975`
def k0_pay257 (x2 : Vec F S4x8x1024 .f32) : FVec F S4x8x1024 .f32 :=
  k0_pay107 (k0_pay212 x2) k0_pay218 k0_pay219 -- `v994`
def k0_pay258 (x2 : Vec F S4x8x1024 .f32) : FVec F S4x8x1024 .f32 :=
  k0_pay110 k0_pay218 k0_pay219 (k0_pay108 (k0_pay212 x2)) (k0_pay109 (k0_pay212 x2)) -- `v1013`
def k0_pay259 (x2 : Vec F S4x8x1024 .f32) : FVec F S4x8x1024 .f32 :=
  k0_pay111 (k0_pay212 x2) k0_pay218 k0_pay219 -- `v1032`
def k0_pay260 (x2 : Vec F S4x8x1024 .f32) : FVec F S4x8x1024 .f32 :=
  k0_pay115 k0_pay219 (k0_pay112 (k0_pay212 x2)) (k0_pay113 k0_pay218) k0_pay114 -- `v1051`
def k0_pay261 (x2 : Vec F S4x8x1024 .f32) : FVec F S4x8x1024 .f32 :=
  k0_pay116 (k0_pay212 x2) k0_pay218 k0_pay219 -- `v1070`
def k0_pay262 (x2 : Vec F S4x8x1024 .f32) : FVec F S4x8x1024 .f32 :=
  k0_pay121 (k0_pay117 (k0_pay212 x2)) (k0_pay118 k0_pay218 k0_pay219) (k0_pay119 (F := F)) (k0_pay120 (F := F)) -- `v1089`
def k0_pay263 (x2 : Vec F S4x8x1024 .f32) : FVec F S4x8x1024 .f32 :=
  k0_pay122 (k0_pay212 x2) k0_pay218 k0_pay219 -- `v1108`
def k0_pay264 (x2 : Vec F S4x8x1024 .f32) : FVec F S4x8x1024 .f32 :=
  k0_pay123 (k0_pay212 x2) k0_pay218 k0_pay219 -- `v1127`
def k0_pay265 (x2 : Vec F S4x8x1024 .f32) : FVec F S4x8x1024 .f32 :=
  k0_pay126 k0_pay218 k0_pay219 (k0_pay124 (k0_pay212 x2)) (k0_pay125 k0_pay218) 28#32 -- `v1146`
def k0_pay266 (x2 : Vec F S4x8x1024 .f32) : FVec F S4x8x1024 .f32 :=
  k0_pay127 (k0_pay212 x2) k0_pay218 k0_pay219 -- `v1165`
def k0_pay267 (x2 : Vec F S4x8x1024 .f32) : FVec F S4x8x1024 .f32 :=
  k0_pay128 (k0_pay212 x2) -- `v1168`
def k0_pay268 : IVec S1x1x1024 1 :=
  k0_pay129 k0_pay218 k0_pay219 -- `v1176`
def k0_pay269 : IVec S1x1x1024 1 :=
  k0_pay130 k0_pay219 -- `v1178`
def k0_pay270 : IVec S1x1x1024 32 :=
  iota .tc S1x1x1024 32 [2] iota_S1x1x1024_d2_w32 -- `v1248`
def k0_pay271 (x3 : Vec F S4x8x1024 .f32) : FVec F S4x8x1024 .f32 :=
  k0_pay136 (View.ld x3 r0_4) -- `v1243`
def k0_pay272 (x8 : Vec F S64x72 .f32) : FVec F S64x72 .f32 :=
  k0_pay137 (View.ld x8 r0_6) -- `v1245`
def k0_pay273 (x9 : Vec F S1x64 .f32) : FVec F S1x64 .f32 :=
  k0_pay138 (View.ld x9 r0_7) -- `v1247`
def k0_pay274 : IVec S1x1x1024 32 :=
  k0_pay139 -- `v1250`
def k0_pay275 : IVec S1x1x1024 1 :=
  k0_pay140 -- `v1269`
def k0_pay276 : IVec S1x1x1024 32 :=
  k0_pay141 k0_pay274 k0_pay275 -- `v1272`
def k0_pay277 : IVec S1x1x1024 32 :=
  k0_pay142 k0_pay270 k0_pay274 k0_pay275 -- `v1275`
def k0_pay278 (x3 : Vec F S4x8x1024 .f32) : FVec F S4x8x1024 .f32 :=
  k0_pay143 (k0_pay271 x3) k0_pay270 k0_pay274 k0_pay275 -- `v1294`
def k0_pay279 (x3 : Vec F S4x8x1024 .f32) : FVec F S4x8x1024 .f32 :=
  k0_pay144 (k0_pay271 x3) k0_pay270 k0_pay274 k0_pay275 -- `v1313`
def k0_pay280 (x3 : Vec F S4x8x1024 .f32) : FVec F S4x8x1024 .f32 :=
  k0_pay147 k0_pay276 k0_pay277 (k0_pay145 (k0_pay271 x3)) (k0_pay146 (k0_pay271 x3)) -- `v1332`
def k0_pay281 (x3 : Vec F S4x8x1024 .f32) : FVec F S4x8x1024 .f32 :=
  k0_pay148 (k0_pay271 x3) k0_pay276 k0_pay277 -- `v1351`
def k0_pay282 (x3 : Vec F S4x8x1024 .f32) : FVec F S4x8x1024 .f32 :=
  k0_pay150 (k0_pay271 x3) k0_pay277 (k0_pay149 k0_pay276 k0_pay277) 31#32 -- `v1367`
def k0_pay283 (x3 : Vec F S4x8x1024 .f32) : FVec F S4x8x1024 .f32 :=
  k0_pay151 (k0_pay271 x3) k0_pay276 k0_pay277 -- `v1386`
def k0_pay284 (x3 : Vec F S4x8x1024 .f32) : FVec F S4x8x1024 .f32 :=
  k0_pay152 (k0_pay271 x3) k0_pay276 k0_pay277 -- `v1405`
def k0_pay285 (x3 : Vec F S4x8x1024 .f32) (x8 : Vec F S64x72 .f32) (x9 : Vec F S1x64 .f32) : FVec F S4x32x32x64 .f32 :=
  k0_pay155 (k0_pay272 x8) (k0_pay273 x9) (k0_pay153 (k0_pay271 x3) k0_pay276 k0_pay277 (k0_pay278 x3) (k0_pay279 x3) (k0_pay280 x3) (k0_pay281 x3) (k0_pay282 x3) (k0_pay283 x3) (k0_pay284 x3)) (k0_pay154 (k0_pay271 x3) (k0_pay272 x8) (k0_pay273 x9) k0_pay276 k0_pay277 (k0_pay278 x3) (k0_pay279 x3) (k0_pay280 x3) (k0_pay281 x3) (k0_pay282 x3) (k0_pay283 x3) (k0_pay284 x3)) -- `v1481`
def k0_pay286 (x0 : Vec F S4x128x1024 .f32) : FVec F S4x32x32x128 .f32 :=
  k0_pay159 (k0_pay156 (View.ld x0 r0_8)) (k0_pay157 (View.ld x0 r0_9)) (k0_pay158 (View.ld x0 r0_10)) (View.ld x0 r0_11) -- `v1502`
def k0_pay287 (x1 : Vec F S4x8x4096 .f32) (x4 : Vec F S128x72 .f32) (x5 : Vec F S1x128 .f32) (x10 : Vec F S1152x64 .f32) (x11 : Vec F S1x64 .f32) : FVec F S4x32x32x64 .f32 :=
  k0_pay162 (k0_pay160 (k0_pay27 (k0_pay198 x4) (k0_pay199 x5) (k0_pay23 (k0_pay197 x1) k0_pay200 k0_pay201 (k0_pay202 x1) (k0_pay203 x1) (k0_pay204 x1) (k0_pay205 x1) (k0_pay206 x1) (k0_pay207 x1) (k0_pay208 x1) (k0_pay209 x1) k0_pay210) (k0_pay24 (k0_pay197 x1) (k0_pay198 x4) (k0_pay199 x5) k0_pay200 k0_pay201 (k0_pay202 x1) (k0_pay203 x1) (k0_pay204 x1) (k0_pay205 x1) (k0_pay206 x1) (k0_pay207 x1) (k0_pay208 x1) (k0_pay209 x1) k0_pay210) (k0_pay25 (k0_pay197 x1) (k0_pay198 x4) (k0_pay199 x5) k0_pay200 k0_pay201 (k0_pay202 x1) (k0_pay203 x1) (k0_pay204 x1) (k0_pay205 x1) (k0_pay206 x1) (k0_pay207 x1) (k0_pay208 x1) (k0_pay209 x1) k0_pay210) (k0_pay26 (k0_pay197 x1) k0_pay200 k0_pay201 (k0_pay202 x1) (k0_pay203 x1) (k0_pay204 x1) (k0_pay205 x1) (k0_pay206 x1) (k0_pay207 x1) (k0_pay208 x1) (k0_pay209 x1) k0_pay210) (constant S4096x128 .f32 0x00000000#32)) (View.ld x10 r0_12) (View.ld x11 r0_7)) (k0_pay161 (F := F)) -- `v1547`
def k0_pay288 (x2 : Vec F S4x8x1024 .f32) (x6 : Vec F S128x392 .f32) (x7 : Vec F S1x128 .f32) (x12 : Vec F S1152x64 .f32) (x13 : Vec F S1x64 .f32) : FVec F S4x32x32x64 .f32 :=
  k0_pay163 (k0_pay135 (k0_pay213 x6) (k0_pay214 x7) (k0_pay131 (k0_pay212 x2) k0_pay218 k0_pay219 (k0_pay220 x2) (k0_pay221 x2) (k0_pay222 x2) (k0_pay223 x2) (k0_pay224 x2) (k0_pay225 x2) (k0_pay226 x2) (k0_pay227 x2) (k0_pay228 x2) (k0_pay229 x2) (k0_pay230 x2) (k0_pay231 x2) (k0_pay232 x2) (k0_pay233 x2) (k0_pay234 x2) (k0_pay235 x2) (k0_pay236 x2) (k0_pay237 x2) (k0_pay238 x2) (k0_pay239 x2) (k0_pay240 x2) (k0_pay241 x2) (k0_pay242 x2) (k0_pay243 x2) (k0_pay244 x2) (k0_pay245 x2) (k0_pay246 x2) (k0_pay247 x2) (k0_pay248 x2) (k0_pay249 x2) (k0_pay250 x2) (k0_pay251 x2) (k0_pay252 x2) (k0_pay253 x2) (k0_pay254 x2) (k0_pay255 x2) (k0_pay256 x2) (k0_pay257 x2) (k0_pay258 x2) (k0_pay259 x2) (k0_pay260 x2) (k0_pay261 x2) (k0_pay262 x2) (k0_pay263 x2) (k0_pay264 x2) (k0_pay265 x2) (k0_pay266 x2) (k0_pay267 x2) k0_pay268 k0_pay269) (k0_pay132 (k0_pay212 x2) (k0_pay213 x6) (k0_pay214 x7) k0_pay218 k0_pay219 (k0_pay220 x2) (k0_pay221 x2) (k0_pay222 x2) (k0_pay223 x2) (k0_pay224 x2) (k0_pay225 x2) (k0_pay226 x2) (k0_pay227 x2) (k0_pay228 x2) (k0_pay229 x2) (k0_pay230 x2) (k0_pay231 x2) (k0_pay232 x2) (k0_pay233 x2) (k0_pay234 x2) (k0_pay235 x2) (k0_pay236 x2) (k0_pay237 x2) (k0_pay238 x2) (k0_pay239 x2) (k0_pay240 x2) (k0_pay241 x2) (k0_pay242 x2) (k0_pay243 x2) (k0_pay244 x2) (k0_pay245 x2) (k0_pay246 x2) (k0_pay247 x2) (k0_pay248 x2) (k0_pay249 x2) (k0_pay250 x2) (k0_pay251 x2) (k0_pay252 x2) (k0_pay253 x2) (k0_pay254 x2) (k0_pay255 x2) (k0_pay256 x2) (k0_pay257 x2) (k0_pay258 x2) (k0_pay259 x2) (k0_pay260 x2) (k0_pay261 x2) (k0_pay262 x2) (k0_pay263 x2) (k0_pay264 x2) (k0_pay265 x2) (k0_pay266 x2) (k0_pay267 x2) k0_pay268 k0_pay269) (k0_pay133 (k0_pay212 x2) (k0_pay213 x6) (k0_pay214 x7) k0_pay218 k0_pay219 (k0_pay220 x2) (k0_pay221 x2) (k0_pay222 x2) (k0_pay223 x2) (k0_pay224 x2) (k0_pay225 x2) (k0_pay226 x2) (k0_pay227 x2) (k0_pay228 x2) (k0_pay229 x2) (k0_pay230 x2) (k0_pay231 x2) (k0_pay232 x2) (k0_pay233 x2) (k0_pay234 x2) (k0_pay235 x2) (k0_pay236 x2) (k0_pay237 x2) (k0_pay238 x2) (k0_pay239 x2) (k0_pay240 x2) (k0_pay241 x2) (k0_pay242 x2) (k0_pay243 x2) (k0_pay244 x2) (k0_pay245 x2) (k0_pay246 x2) (k0_pay247 x2) (k0_pay248 x2) (k0_pay249 x2) (k0_pay250 x2) (k0_pay251 x2) (k0_pay252 x2) (k0_pay253 x2) (k0_pay254 x2) (k0_pay255 x2) (k0_pay256 x2) (k0_pay257 x2) (k0_pay258 x2) (k0_pay259 x2) (k0_pay260 x2) (k0_pay261 x2) (k0_pay262 x2) (k0_pay263 x2) (k0_pay264 x2) (k0_pay265 x2) (k0_pay266 x2) (k0_pay267 x2) k0_pay268 k0_pay269) (k0_pay134 (k0_pay212 x2) (k0_pay213 x6) (k0_pay214 x7) k0_pay218 k0_pay219 (k0_pay220 x2) (k0_pay221 x2) (k0_pay222 x2) (k0_pay223 x2) (k0_pay224 x2) (k0_pay225 x2) (k0_pay226 x2) (k0_pay227 x2) (k0_pay228 x2) (k0_pay229 x2) (k0_pay230 x2) (k0_pay231 x2) (k0_pay232 x2) (k0_pay233 x2) (k0_pay234 x2) (k0_pay235 x2) (k0_pay236 x2) (k0_pay237 x2) (k0_pay238 x2) (k0_pay239 x2) (k0_pay240 x2) (k0_pay241 x2) (k0_pay242 x2) (k0_pay243 x2) (k0_pay244 x2) (k0_pay245 x2) (k0_pay246 x2) (k0_pay247 x2) (k0_pay248 x2) (k0_pay249 x2) (k0_pay250 x2) (k0_pay251 x2) (k0_pay252 x2) (k0_pay253 x2) (k0_pay254 x2) (k0_pay255 x2) (k0_pay256 x2) (k0_pay257 x2) (k0_pay258 x2) (k0_pay259 x2) (k0_pay260 x2) (k0_pay261 x2) (k0_pay262 x2) (k0_pay263 x2) (k0_pay264 x2) (k0_pay265 x2) (k0_pay266 x2) (k0_pay267 x2) k0_pay268 k0_pay269)) (View.ld x12 r0_12) (View.ld x13 r0_7) -- `v1580`
def k0_pay289 (x3 : Vec F S4x8x1024 .f32) (x8 : Vec F S64x72 .f32) (x9 : Vec F S1x64 .f32) : FVec F S4x34x34x64 .f32 :=
  k0_pay164 (k0_pay285 x3 x8 x9) -- `v1589`
def k0_pay290 (x14 : Vec F S576x32 .f32) : FVec F S576x32 .f32 :=
  k0_pay165 (View.ld x14 r0_13) -- `v1591`
def k0_pay291 (x15 : Vec F S1x32 .f32) : FVec F S1x32 .f32 :=
  k0_pay166 (View.ld x15 r0_14) -- `v1593`
def k0_pay292 (x3 : Vec F S4x8x1024 .f32) (x8 : Vec F S64x72 .f32) (x9 : Vec F S1x64 .f32) : FVec F S4x34x32x64 .f32 :=
  k0_pay167 (k0_pay285 x3 x8 x9) -- `v1594`
def k0_pay293 (x0 : Vec F S4x128x1024 .f32) (x1 : Vec F S4x8x4096 .f32) (x2 : Vec F S4x8x1024 .f32) (x3 : Vec F S4x8x1024 .f32) (x4 : Vec F S128x72 .f32) (x5 : Vec F S1x128 .f32) (x6 : Vec F S128x392 .f32) (x7 : Vec F S1x128 .f32) (x8 : Vec F S64x72 .f32) (x9 : Vec F S1x64 .f32) (x10 : Vec F S1152x64 .f32) (x11 : Vec F S1x64 .f32) (x12 : Vec F S1152x64 .f32) (x13 : Vec F S1x64 .f32) (x14 : Vec F S576x32 .f32) (x15 : Vec F S1x32 .f32) (x16 : Vec F S2304x128 .f32) (x17 : Vec F S288x128 .f32) (x18 : Vec F S1x128 .f32) : FVec F S4x16x16x128 .f32 :=
  k0_pay177 (k0_pay170 (k0_pay286 x0) (k0_pay287 x1 x4 x5 x10 x11) (k0_pay288 x2 x6 x7 x12 x13)) (k0_pay171 (k0_pay286 x0) (k0_pay287 x1 x4 x5 x10 x11) (k0_pay288 x2 x6 x7 x12 x13)) (k0_pay173 (k0_pay286 x0) (k0_pay287 x1 x4 x5 x10 x11) (k0_pay288 x2 x6 x7 x12 x13)) (k0_pay174 (k0_pay286 x0) (k0_pay287 x1 x4 x5 x10 x11) (k0_pay288 x2 x6 x7 x12 x13)) (k0_pay175 (k0_pay289 x3 x8 x9) (k0_pay290 x14) (k0_pay291 x15) (k0_pay292 x3 x8 x9)) (k0_pay176 (k0_pay289 x3 x8 x9) (k0_pay290 x14) (k0_pay291 x15) (k0_pay292 x3 x8 x9)) (View.ld x16 r0_15) (View.ld x17 r0_16) (View.ld x18 r0_3) -- `v1696`
def k0_pay294 (x19 : Vec F S1x128 .f32) : FVec F S1x128 .f32 :=
  k0_pay178 (View.ld x19 r0_3) -- `v1698`
def k0_pay295 (x21 : Vec F S1152x128 .f32) : FVec F S1152x128 .f32 :=
  k0_pay179 (View.ld x21 r0_17) -- `v1739`
def k0_pay296 (x22 : Vec F S1x128 .f32) : FVec F S1x128 .f32 :=
  k0_pay180 (View.ld x22 r0_3) -- `v1741`
def k0_pay297 (x0 : Vec F S4x128x1024 .f32) (x1 : Vec F S4x8x4096 .f32) (x2 : Vec F S4x8x1024 .f32) (x3 : Vec F S4x8x1024 .f32) (x4 : Vec F S128x72 .f32) (x5 : Vec F S1x128 .f32) (x6 : Vec F S128x392 .f32) (x7 : Vec F S1x128 .f32) (x8 : Vec F S64x72 .f32) (x9 : Vec F S1x64 .f32) (x10 : Vec F S1152x64 .f32) (x11 : Vec F S1x64 .f32) (x12 : Vec F S1152x64 .f32) (x13 : Vec F S1x64 .f32) (x14 : Vec F S576x32 .f32) (x15 : Vec F S1x32 .f32) (x16 : Vec F S2304x128 .f32) (x17 : Vec F S288x128 .f32) (x18 : Vec F S1x128 .f32) (x19 : Vec F S1x128 .f32) (x20 : Vec F S1x128 .f32) (x29 : Vec F S128x128 .f32) : FVec F S4x9x18x128 .f32 :=
  k0_pay182 (k0_pay196 x29) (k0_pay293 x0 x1 x2 x3 x4 x5 x6 x7 x8 x9 x10 x11 x12 x13 x14 x15 x16 x17 x18) (k0_pay294 x19) (View.ld x20 r0_3) -- `v1744`
def k0_pay298 (x0 : Vec F S4x128x1024 .f32) (x1 : Vec F S4x8x4096 .f32) (x2 : Vec F S4x8x1024 .f32) (x3 : Vec F S4x8x1024 .f32) (x4 : Vec F S128x72 .f32) (x5 : Vec F S1x128 .f32) (x6 : Vec F S128x392 .f32) (x7 : Vec F S1x128 .f32) (x8 : Vec F S64x72 .f32) (x9 : Vec F S1x64 .f32) (x10 : Vec F S1152x64 .f32) (x11 : Vec F S1x64 .f32) (x12 : Vec F S1152x64 .f32) (x13 : Vec F S1x64 .f32) (x14 : Vec F S576x32 .f32) (x15 : Vec F S1x32 .f32) (x16 : Vec F S2304x128 .f32) (x17 : Vec F S288x128 .f32) (x18 : Vec F S1x128 .f32) (x19 : Vec F S1x128 .f32) (x20 : Vec F S1x128 .f32) (x29 : Vec F S128x128 .f32) : FVec F S4x9x1x18x128 .f32 :=
  k0_pay183 (k0_pay196 x29) (k0_pay293 x0 x1 x2 x3 x4 x5 x6 x7 x8 x9 x10 x11 x12 x13 x14 x15 x16 x17 x18) (k0_pay294 x19) (View.ld x20 r0_3) -- `v1745`
def k0_pay299 (x0 : Vec F S4x128x1024 .f32) (x1 : Vec F S4x8x4096 .f32) (x2 : Vec F S4x8x1024 .f32) (x3 : Vec F S4x8x1024 .f32) (x4 : Vec F S128x72 .f32) (x5 : Vec F S1x128 .f32) (x6 : Vec F S128x392 .f32) (x7 : Vec F S1x128 .f32) (x8 : Vec F S64x72 .f32) (x9 : Vec F S1x64 .f32) (x10 : Vec F S1152x64 .f32) (x11 : Vec F S1x64 .f32) (x12 : Vec F S1152x64 .f32) (x13 : Vec F S1x64 .f32) (x14 : Vec F S576x32 .f32) (x15 : Vec F S1x32 .f32) (x16 : Vec F S2304x128 .f32) (x17 : Vec F S288x128 .f32) (x18 : Vec F S1x128 .f32) (x19 : Vec F S1x128 .f32) (x20 : Vec F S1x128 .f32) (x21 : Vec F S1152x128 .f32) (x22 : Vec F S1x128 .f32) (x23 : Vec F S1x128 .f32) (x24 : Vec F S1x128 .f32) (x25 : Vec F S1152x128 .f32) (x26 : Vec F S1x128 .f32) (x29 : Vec F S128x128 .f32) : FVec F S4x4x4x128 .f32 :=
  k0_pay190 (k0_pay185 (View.ld x23 r0_3)) (k0_pay186 (View.ld x24 r0_3)) (k0_pay188 (k0_pay196 x29) (k0_pay295 x21) (k0_pay296 x22) (k0_pay297 x0 x1 x2 x3 x4 x5 x6 x7 x8 x9 x10 x11 x12 x13 x14 x15 x16 x17 x18 x19 x20 x29) (k0_pay298 x0 x1 x2 x3 x4 x5 x6 x7 x8 x9 x10 x11 x12 x13 x14 x15 x16 x17 x18 x19 x20 x29)) (k0_pay189 (k0_pay196 x29) (k0_pay295 x21) (k0_pay296 x22) (k0_pay297 x0 x1 x2 x3 x4 x5 x6 x7 x8 x9 x10 x11 x12 x13 x14 x15 x16 x17 x18 x19 x20 x29) (k0_pay298 x0 x1 x2 x3 x4 x5 x6 x7 x8 x9 x10 x11 x12 x13 x14 x15 x16 x17 x18 x19 x20 x29)) (View.ld x25 r0_17) (View.ld x26 r0_3) -- `v1846`

/-- Window 30's staging buffer after the body, from the input windows' blocks: its 1 store as pieces, LAST
    FIRST (Lib/Pipeline/FrameBody.lean `View.canon`; the payloads are the skeleton's and the values stated above). -/
def out0_30 (x0 : Vec F S4x128x1024 .f32) (x1 : Vec F S4x8x4096 .f32) (x2 : Vec F S4x8x1024 .f32) (x3 : Vec F S4x8x1024 .f32) (x4 : Vec F S128x72 .f32) (x5 : Vec F S1x128 .f32) (x6 : Vec F S128x392 .f32) (x7 : Vec F S1x128 .f32) (x8 : Vec F S64x72 .f32) (x9 : Vec F S1x64 .f32) (x10 : Vec F S1152x64 .f32) (x11 : Vec F S1x64 .f32) (x12 : Vec F S1152x64 .f32) (x13 : Vec F S1x64 .f32) (x14 : Vec F S576x32 .f32) (x15 : Vec F S1x32 .f32) (x16 : Vec F S2304x128 .f32) (x17 : Vec F S288x128 .f32) (x18 : Vec F S1x128 .f32) (x19 : Vec F S1x128 .f32) (x20 : Vec F S1x128 .f32) (x21 : Vec F S1152x128 .f32) (x22 : Vec F S1x128 .f32) (x23 : Vec F S1x128 .f32) (x24 : Vec F S1x128 .f32) (x25 : Vec F S1152x128 .f32) (x26 : Vec F S1x128 .f32) (x27 : Vec F S1x128 .f32) (x28 : Vec F S1x128 .f32) (x29 : Vec F S128x128 .f32) : Vec F S4x128x16 .f32 :=
  View.canon [⟨r0_18, k0_pay1 (k0_pay192 (k0_pay196 x29) (k0_pay299 x0 x1 x2 x3 x4 x5 x6 x7 x8 x9 x10 x11 x12 x13 x14 x15 x16 x17 x18 x19 x20 x21 x22 x23 x24 x25 x26 x29) (View.ld x27 r0_3) (View.ld x28 r0_3)) (k0_pay193 (k0_pay196 x29) (k0_pay299 x0 x1 x2 x3 x4 x5 x6 x7 x8 x9 x10 x11 x12 x13 x14 x15 x16 x17 x18 x19 x20 x21 x22 x23 x24 x25 x26 x29) (View.ld x27 r0_3) (View.ld x28 r0_3)) (k0_pay194 (k0_pay196 x29) (k0_pay299 x0 x1 x2 x3 x4 x5 x6 x7 x8 x9 x10 x11 x12 x13 x14 x15 x16 x17 x18 x19 x20 x21 x22 x23 x24 x25 x26 x29) (View.ld x27 r0_3) (View.ld x28 r0_3)) (k0_pay195 (k0_pay196 x29) (k0_pay299 x0 x1 x2 x3 x4 x5 x6 x7 x8 x9 x10 x11 x12 x13 x14 x15 x16 x17 x18 x19 x20 x21 x22 x23 x24 x25 x26 x29) (View.ld x27 r0_3) (View.ld x28 r0_3))⟩]

/-- Its stores tile the buffer (checked by evaluation), so they cover it. -/
theorem cover0_30 (p0 : Vec F S4x128x16 .f32) (y : S4x128x16.Idx) :
    ∃ pc ∈ ([⟨r0_18, p0⟩] : List (View.Piece (Elt F) S4x128x16 .f32)), y ∈ pc.1.set :=
  View.cover_of_tiled [⟨r0_18, p0⟩] S4x128x16.size (by rfl) y

end Cert.KernelIdeal.Gen

end
-- ==== Proof.KernelIdealFrame.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.KernelIdealFrame.Values

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

set_option maxHeartbeats 144382850 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S4x128x1024 .f32) (harg1 : arg1.IsWhole) (arg2 : Memref sig .tc .vmem S4x8x4096 .f32) (harg2 : arg2.IsWhole) (arg3 : Memref sig .tc .vmem S4x8x1024 .f32) (harg3 : arg3.IsWhole) (arg4 : Memref sig .tc .vmem S4x8x1024 .f32) (harg4 : arg4.IsWhole) (arg5 : Memref sig .tc .vmem S128x72 .f32) (harg5 : arg5.IsWhole) (arg6 : Memref sig .tc .vmem S1x128 .f32) (harg6 : arg6.IsWhole) (arg7 : Memref sig .tc .vmem S128x392 .f32) (harg7 : arg7.IsWhole) (arg8 : Memref sig .tc .vmem S1x128 .f32) (harg8 : arg8.IsWhole) (arg9 : Memref sig .tc .vmem S64x72 .f32) (harg9 : arg9.IsWhole) (arg10 : Memref sig .tc .vmem S1x64 .f32) (harg10 : arg10.IsWhole) (arg11 : Memref sig .tc .vmem S1152x64 .f32) (harg11 : arg11.IsWhole) (arg12 : Memref sig .tc .vmem S1x64 .f32) (harg12 : arg12.IsWhole) (arg13 : Memref sig .tc .vmem S1152x64 .f32) (harg13 : arg13.IsWhole) (arg14 : Memref sig .tc .vmem S1x64 .f32) (harg14 : arg14.IsWhole) (arg15 : Memref sig .tc .vmem S576x32 .f32) (harg15 : arg15.IsWhole) (arg16 : Memref sig .tc .vmem S1x32 .f32) (harg16 : arg16.IsWhole) (arg17 : Memref sig .tc .vmem S2304x128 .f32) (harg17 : arg17.IsWhole) (arg18 : Memref sig .tc .vmem S288x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1152x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128 .f32) (harg25 : arg25.IsWhole) (arg26 : Memref sig .tc .vmem S1152x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S1x128 .f32) (harg29 : arg29.IsWhole) (arg30 : Memref sig .tc .vmem S128x128 .f32) (harg30 : arg30.IsWhole) (arg31 : Memref sig .tc .vmem S4x128x16 .f32) (harg31 : arg31.IsWhole)
    (x0 : Vec F S4x128x1024 .f32) (x1 : Vec F S4x8x4096 .f32) (x2 : Vec F S4x8x1024 .f32) (x3 : Vec F S4x8x1024 .f32) (x4 : Vec F S128x72 .f32) (x5 : Vec F S1x128 .f32) (x6 : Vec F S128x392 .f32) (x7 : Vec F S1x128 .f32) (x8 : Vec F S64x72 .f32) (x9 : Vec F S1x64 .f32) (x10 : Vec F S1152x64 .f32) (x11 : Vec F S1x64 .f32) (x12 : Vec F S1152x64 .f32) (x13 : Vec F S1x64 .f32) (x14 : Vec F S576x32 .f32) (x15 : Vec F S1x32 .f32) (x16 : Vec F S2304x128 .f32) (x17 : Vec F S288x128 .f32) (x18 : Vec F S1x128 .f32) (x19 : Vec F S1x128 .f32) (x20 : Vec F S1x128 .f32) (x21 : Vec F S1152x128 .f32) (x22 : Vec F S1x128 .f32) (x23 : Vec F S1x128 .f32) (x24 : Vec F S1x128 .f32) (x25 : Vec F S1152x128 .f32) (x26 : Vec F S1x128 .f32) (x27 : Vec F S1x128 .f32) (x28 : Vec F S1x128 .f32) (x29 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare (out0_30 x0 x1 x2 x3 x4 x5 x6 x7 x8 x9 x10 x11 x12 x13 x14 x15 x16 x17 x18 x19 x20 x21 x22 x23 x24 x25 x26 x27 x28 x29)) -∗ K ⟨⟩))
      ⊢ wp frame (wpE (defs₀ (F := F)) Variants.none c none) E (cc0_scflow_convs i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_scflow_convs_eq_skeleton]; unfold cc0_scflow_convs_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  iexists _; isplitr
  swap; · iexact H30
  ipureintro
  refine (View.read_writes_eq_canon _ _ _ (cover0_30 _)).trans ?_
  rfl

end Cert.KernelIdeal.Gen

end
-- ==== Proof.KernelIdealFrame.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import proofs.«01_k».proof.Proof.KernelIdealFrame.Entry
public import proofs.«01_k».proof.Proof.KernelIdealFrame.Body

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t)
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) :=
  θ_run_and (unchanged m ρ) ((θ_run defs _ _).mono (fun _ h => h.2) (run_main_quiescent m ρ))

end Cert.KernelIdeal.Gen

end
-- ==== Proof.KernelIdealFrame.Blocks.lean ====
module

public import proofs.«01_k».proof.Proof.KernelIdealFrame.Run
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 30's array: the body's result for that window (`Gen.out0_30`: its stores
    as pieces over the input windows' blocks), read through the window's block. -/
theorem flushed30 (c : Dev nD) (t : Fin cfg0.N) :
    (dats m 0 c).flushed 30 t = (cfg0.win 30).cut (grid0.coords t) (out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t)) := by
  show (cfg0.win 30).cut (grid0.coords t) ((dats m 0 c).after 30 t) = _
  rw [after0_30]

/-- The index map sends distinct grid points to distinct block indices (decided over the 16 points). -/
theorem idx_inj30 : ∀ t t' : Fin cfg0.N, win0_30.index t = win0_30.index t' → t = t' :=
  (by decide +kernel : ∀ t t' : Fin grid0.N, win0_30.index t = win0_30.index t' → t = t')

/-- So two flushing points' blocks share no array index (Lib/Pipeline/Cells.lean `Window.disjoint_blk`). -/
theorem disjoint30 : ∀ t t' : Fin cfg0.N, (cfg0.win 30).flush t = true → (cfg0.win 30).flush t' = true → t ≠ t' →
    Disjoint ((cfg0.win 30).blk t).view.set ((cfg0.win 30).blk t').view.set :=
  fun t t' _ _ hne => (cfg0.win 30).disjoint_blk fun h => hne (idx_inj30 t t' h)

/-- BLOCK `t` OF THE FINAL ARRAY, read back through the window, is what point `t` wrote back (`flushed30`), for every
    point that writes back: no other point's block meets it. -/
theorem blocks30 (c : Dev nD) (t : Fin cfg0.N) (hf : (cfg0.win 30).flush t = true) :
    ((cfg0.win 30).blk t).view.read (Elt F) ((dats m 0 c).arrAt 30 cfg0.N) = (dats m 0 c).flushed 30 t :=
  (dats m 0 c).read_blk_arrAt_eq_flushed 30 disjoint30 cfg0.N t t.isLt hf

/-- An index that no flushing point's block covers keeps output window 30's array contents at region entry. -/
theorem entry30 (c : Dev nD) (i : S64x128x16.Idx) (h : ∀ t : Fin cfg0.N, (cfg0.win 30).flush t = true → i ∉ ((cfg0.win 30).blk t).view.set) :
    (dats m 0 c).arrAt 30 cfg0.N i = V m c (Pipeline.arrRef spec0 30) i := by
  rw [(dats m 0 c).arrAt_apply_of_forall_not_mem 30 cfg0.N i (fun t _ hf => h t hf), A_eq]

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v56) = (dats m 0 c).arrAt 30 cfg0.N :=
  (h c).1 30

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: no window stages it, and the run leaves the region's other buffers as they were. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- After the frame run, argument `main_arg23` is as launched: no window stages it, and the run leaves the region's other buffers as they were. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).2 main_arg23 (Pipeline.mem_restRefs_of main_arg23 (by decide) (by decide))).trans (V_main_arg23 m c)

/-- After the frame run, argument `main_arg24` is as launched: no window stages it, and the run leaves the region's other buffers as they were. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).2 main_arg24 (Pipeline.mem_restRefs_of main_arg24 (by decide) (by decide))).trans (V_main_arg24 m c)

/-- After the frame run, argument `main_arg25` is as launched: no window stages it, and the run leaves the region's other buffers as they were. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- After the frame run, argument `main_arg26` is as launched: no window stages it, and the run leaves the region's other buffers as they were. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).2 main_arg26 (Pipeline.mem_restRefs_of main_arg26 (by decide) (by decide))).trans (V_main_arg26 m c)

/-- After the frame run, argument `main_arg27` is as launched: no window stages it, and the run leaves the region's other buffers as they were. -/
theorem kept_main_arg27 (r : PUnit × MemSt nD τ sig (Elt F)) (h : Pipeline.FramePost cfgs (dats m) 0 (V m) r) (c : Dev nD) :
    r.2.mem ((c : Thread nD τ).loc main_arg27) = m ((c : Thread nD τ).loc main_arg27) :=
  ((h c).2 main_arg27 (Pipeline.mem_restRefs_of main_arg27 (by decide) (by decide))).trans (V_main_arg27 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v56) = (dats m 0 c).arrAt 30 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27) :=
  (θ_run defs _ _).mono (fun r h c => ⟨post30 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c⟩)
    (run_main m ρ)

/-! ## No closed form for the canon of this window's pieces: output window 30's piece 0: the value generator stops at `k0_pay19` in its payload (not a pointwise or layout operation, a load, or a call of a payload over vectors). Prove the window's value by hand over `Value.run_blocks`. -/

end Cert.KernelIdeal.Value

end
-- ==== Proof.Heads.lean ====
/- The second program: the two fully connected layers and the two heads, of which the kernel selects one object's columns
   by a product with a 0/1 matrix and the reference by indexing. -/
module

public import proofs.«01_k».proof.Proof.Gen.Kernel2Ideal.Frame
public import proofs.«01_k».proof.Proof.Gen.Reference2Ideal
public import proofs.«01_k».proof.Proof.Gen.Pre_object_named
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Heads

/-- One output feature of a fully connected layer on one row. -/
def layer {I O : Nat} (x : Fin I → EReal) (w : FVec Ideal ⟨2, ![O, I]⟩ .f32) (β : FVec Ideal ⟨1, ![O]⟩ .f32) (o : Fin O) : EReal :=
  (∑ k : Fin I, x k * w (ix2 o k)) + β (ix1 o)

/-- The row after the two rectified layers. -/
def hidden (x : Fin 2048 → EReal) (w1 : FVec Ideal ⟨2, ![1024, 2048]⟩ .f32) (b1 : FVec Ideal ⟨1, ![1024]⟩ .f32)
    (w2 : FVec Ideal ⟨2, ![256, 1024]⟩ .f32) (b2 : FVec Ideal ⟨1, ![256]⟩ .f32) (k : Fin 256) : EReal :=
  max (layer (fun j => max (layer x w1 b1 j) 0) w2 b2 k) 0

section
open Cert.Kernel2Ideal Cert.Kernel2Ideal.Gen

theorem hidden_kernel (v0 : FVec Ideal S32x2048 .f32) (w1 : FVec Ideal S1024x2048 .f32) (v4 : FVec Ideal S1x1024 .f32)
    (w2 : FVec Ideal S256x1024 .f32) (v12 : FVec Ideal S1x256 .f32) (b1 : FVec Ideal ⟨1, ![1024]⟩ .f32) (b2 : FVec Ideal ⟨1, ![256]⟩ .f32)
    (h1 : ∀ k : Fin 1024, v4 (ix2 0 k) = b1 (ix1 k)) (h2 : ∀ k : Fin 256, v12 (ix2 0 k) = b2 (ix1 k)) (b : Fin 32) (k : Fin 256) :
    (k0_pay3 (F := Ideal) v0 w1 v4 w2 v12 : FVec Ideal S32x256 .f32) (ix2 b k) = hidden (fun j => v0 (ix2 b j)) w1 b1 w2 b2 k := by
  pointwise [k0_pay3]
  simp only [hidden, layer, h1, h2]

/-- The rotation head: all 126 features of one row, times the 0/1 matrix. -/
theorem rot_kernel (v0 : FVec Ideal S32x2048 .f32) (w1 : FVec Ideal S1024x2048 .f32) (v4 : FVec Ideal S1x1024 .f32)
    (w2 : FVec Ideal S256x1024 .f32) (v12 : FVec Ideal S1x256 .f32) (w : FVec Ideal S126x256 .f32) (v20 : FVec Ideal S1x126 .f32)
    (M : FVec Ideal S126x6 .f32)
    (b1 : FVec Ideal ⟨1, ![1024]⟩ .f32) (b2 : FVec Ideal ⟨1, ![256]⟩ .f32) (β : FVec Ideal ⟨1, ![126]⟩ .f32)
    (h1 : ∀ k : Fin 1024, v4 (ix2 0 k) = b1 (ix1 k)) (h2 : ∀ k : Fin 256, v12 (ix2 0 k) = b2 (ix1 k))
    (h3 : ∀ k : Fin 126, v20 (ix2 0 k) = β (ix1 k)) (b : Fin 32) (i : Fin 6) :
    (k0_pay1 (F := Ideal) (k0_pay4 v0 w1 v4 w2 v12 w v20) (k0_pay6 M) (constant S32x6 .f32 0x00000000#32) : FVec Ideal S32x6 .f32) (ix2 b i)
      = ∑ k : Fin 126, layer (hidden (fun j => v0 (ix2 b j)) w1 b1 w2 b2) w β k * M (ix2 k i) := by
  have hk := fun k => hidden_kernel v0 w1 v4 w2 v12 b1 b2 h1 h2 b k
  unfold k0_pay4
  generalize (k0_pay3 (F := Ideal) v0 w1 v4 w2 v12 : FVec Ideal S32x256 .f32) = H at hk ⊢
  pointwise [k0_pay1, k0_pay6]
  simp only [layer, hk, h3]

/-- The translation head likewise, over 63 features. -/
theorem tr_kernel (v0 : FVec Ideal S32x2048 .f32) (w1 : FVec Ideal S1024x2048 .f32) (v4 : FVec Ideal S1x1024 .f32)
    (w2 : FVec Ideal S256x1024 .f32) (v12 : FVec Ideal S1x256 .f32) (w : FVec Ideal S63x256 .f32) (v26 : FVec Ideal S1x63 .f32)
    (M : FVec Ideal S63x3 .f32)
    (b1 : FVec Ideal ⟨1, ![1024]⟩ .f32) (b2 : FVec Ideal ⟨1, ![256]⟩ .f32) (β : FVec Ideal ⟨1, ![63]⟩ .f32)
    (h1 : ∀ k : Fin 1024, v4 (ix2 0 k) = b1 (ix1 k)) (h2 : ∀ k : Fin 256, v12 (ix2 0 k) = b2 (ix1 k))
    (h3 : ∀ k : Fin 63, v26 (ix2 0 k) = β (ix1 k)) (b : Fin 32) (i : Fin 3) :
    (k0_pay2 (F := Ideal) (k0_pay5 v0 w1 v4 w2 v12 w v26) M : FVec Ideal S32x3 .f32) (ix2 b i)
      = ∑ k : Fin 63, layer (hidden (fun j => v0 (ix2 b j)) w1 b1 w2 b2) w β k * M (ix2 k i) := by
  have hk := fun k => hidden_kernel v0 w1 v4 w2 v12 b1 b2 h1 h2 b k
  unfold k0_pay5
  generalize (k0_pay3 (F := Ideal) v0 w1 v4 w2 v12 : FVec Ideal S32x256 .f32) = H at hk ⊢
  pointwise [k0_pay2]
  simp only [layer, hk, h3]

/-- A comparison for equality, converted to a number. -/
theorem flag_eq (a b : BitVec 32) : (FloatOps.uitofp (F := Ideal) .f32 (IntOp.cmpi .eq a b) : EReal) = if a = b then 1 else 0 := by
  show ((((IntOp.cmpi .eq a b).toNat : ℝ)) : EReal) = _
  by_cases h : a = b
  · subst h
    simp [IntOp.cmpi]
  · simp [IntOp.cmpi, h]

/-- The 0/1 matrix of object `n` with `d` columns: row `k` is 1 in column `k % d` if it belongs to object `k / d`. -/
theorem kron_word (n : Fin 21) (k d i : ℕ) (hd : 0 < d) (hd' : d ≤ 6) (hk : k < 21 * d) (hi : i < d) :
    (FloatOps.uitofp (F := Ideal) .f32 (IntOp.cmpi .eq (IntOp.subi (BitVec.ofNat 32 (n.val + 1)) 1#32) (BitVec.ofNat 32 (k / d))) : EReal)
      * (FloatOps.uitofp (F := Ideal) .f32 (IntOp.cmpi .eq (IntOp.addi (BitVec.ofNat 32 (k % d)) 0#32) (BitVec.ofNat 32 i)) : EReal)
      = if k = n.val * d + i then 1 else 0 := by
  have hn := n.isLt
  have hdm := Nat.div_add_mod k d
  have hml := Nat.mod_lt k hd
  have hdiv : k / d < 21 := Nat.div_lt_of_lt_mul (by rw [Nat.mul_comm]; exact hk)
  have e1 : IntOp.subi (BitVec.ofNat 32 (n.val + 1)) 1#32 = BitVec.ofNat 32 n.val := by
    apply BitVec.eq_of_toNat_eq
    simp only [IntOp.subi, BitVec.toNat_sub, BitVec.toNat_ofNat]
    omega
  have e2 : IntOp.addi (BitVec.ofNat 32 (k % d)) 0#32 = BitVec.ofNat 32 (k % d) := by simp [IntOp.addi]
  have inj : ∀ a b : ℕ, a < 21 → b < 21 → (BitVec.ofNat 32 a = BitVec.ofNat 32 b ↔ a = b) := fun a b ha hb =>
    ⟨fun h => by have := congrArg BitVec.toNat h; simp only [BitVec.toNat_ofNat] at this; omega, fun h => by rw [h]⟩
  rw [flag_eq, flag_eq, e1, e2]
  simp only [inj _ _ hn hdiv, inj _ _ (show k % d < 21 by omega) (show i < 21 by omega)]
  by_cases h1 : n.val = k / d
  · by_cases h2 : k % d = i
    · rw [if_pos h1, if_pos h2, if_pos, one_mul]
      rw [h1, ← h2, Nat.mul_comm]; exact hdm.symm
    · rw [if_neg h2, mul_zero, if_neg]
      rintro rfl
      exact h2 (by rw [Nat.mul_comm, Nat.mul_add_mod, Nat.mod_eq_of_lt hi])
  · rw [if_neg h1, zero_mul, if_neg]
    rintro rfl
    exact h1 (by rw [Nat.mul_comm, Nat.mul_add_div hd, Nat.div_eq_of_lt hi, Nat.add_zero])

variable (m : (ℓ : Loc nD τ sig) → Buf (Elt Ideal) ℓ)

theorem mrot_read (c : Dev nD) (n : Fin 21) (hn : (m ((c : Thread nD τ).loc main_arg1) : IVec ⟨1, ![64]⟩ 32) (ix1 0) = BitVec.ofNat 32 (n.val + 1))
    (k : Fin 126) (i : Fin 6) :
    (V m c main_v12 : FVec Ideal S126x6 .f32) (ix2 k i) = if k.val = n.val * 6 + i.val then (1 : EReal) else 0 := by
  simp only [V, hostOps0, hostOps0_1, hostOps0_2, hostOps0_3, hostOps0_4, hostOps0_5, hostOps0_6, List.flatten_cons, List.flatten_nil, List.append_nil,
    List.cons_append, List.nil_append, StableHlo.TRef.nullary, StableHlo.TRef.unary, StableHlo.TRef.binary, StableHlo.TRef.reshape, StableHlo.TRef.toBuf, StableHlo.TRef.ofBuf, cast_eq]
  after_results_simp
  pointwise
  refine Eq.trans ?_ (kron_word n k.val 6 i.val (by omega) (by omega) k.isLt i.isLt)
  rw [← hn]

theorem mtr_read (c : Dev nD) (n : Fin 21) (hn : (m ((c : Thread nD τ).loc main_arg1) : IVec ⟨1, ![64]⟩ 32) (ix1 0) = BitVec.ofNat 32 (n.val + 1))
    (k : Fin 63) (i : Fin 3) :
    (V m c main_v19 : FVec Ideal S63x3 .f32) (ix2 k i) = if k.val = n.val * 3 + i.val then (1 : EReal) else 0 := by
  simp only [V, hostOps0, hostOps0_1, hostOps0_2, hostOps0_3, hostOps0_4, hostOps0_5, hostOps0_6, List.flatten_cons, List.flatten_nil, List.append_nil,
    List.cons_append, List.nil_append, StableHlo.TRef.nullary, StableHlo.TRef.unary, StableHlo.TRef.binary, StableHlo.TRef.reshape, StableHlo.TRef.toBuf, StableHlo.TRef.ofBuf, cast_eq]
  after_results_simp
  pointwise
  refine Eq.trans ?_ (kron_word n k.val 3 i.val (by omega) (by omega) k.isLt i.isLt)
  rw [← hn]

theorem bias1_read (c : Dev nD) (k : Fin 1024) :
    (V m c main_v20 : FVec Ideal S1x1024 .f32) (ix2 0 k) = (m ((c : Thread nD τ).loc main_arg3) : FVec Ideal ⟨1, ![1024]⟩ .f32) (ix1 k) := by
  simp only [V, hostOps0, hostOps0_1, hostOps0_2, hostOps0_3, hostOps0_4, hostOps0_5, hostOps0_6, List.flatten_cons, List.flatten_nil, List.append_nil,
    List.cons_append, List.nil_append, StableHlo.TRef.nullary, StableHlo.TRef.unary, StableHlo.TRef.binary, StableHlo.TRef.reshape, StableHlo.TRef.toBuf, StableHlo.TRef.ofBuf, cast_eq]
  after_results_simp
  pointwise

theorem bias2_read (c : Dev nD) (k : Fin 256) :
    (V m c main_v21 : FVec Ideal S1x256 .f32) (ix2 0 k) = (m ((c : Thread nD τ).loc main_arg5) : FVec Ideal ⟨1, ![256]⟩ .f32) (ix1 k) := by
  simp only [V, hostOps0, hostOps0_1, hostOps0_2, hostOps0_3, hostOps0_4, hostOps0_5, hostOps0_6, List.flatten_cons, List.flatten_nil, List.append_nil,
    List.cons_append, List.nil_append, StableHlo.TRef.nullary, StableHlo.TRef.unary, StableHlo.TRef.binary, StableHlo.TRef.reshape, StableHlo.TRef.toBuf, StableHlo.TRef.ofBuf, cast_eq]
  after_results_simp
  pointwise

theorem bias3_read (c : Dev nD) (k : Fin 126) :
    (V m c main_v22 : FVec Ideal S1x126 .f32) (ix2 0 k) = (m ((c : Thread nD τ).loc main_arg7) : FVec Ideal ⟨1, ![126]⟩ .f32) (ix1 k) := by
  simp only [V, hostOps0, hostOps0_1, hostOps0_2, hostOps0_3, hostOps0_4, hostOps0_5, hostOps0_6, List.flatten_cons, List.flatten_nil, List.append_nil,
    List.cons_append, List.nil_append, StableHlo.TRef.nullary, StableHlo.TRef.unary, StableHlo.TRef.binary, StableHlo.TRef.reshape, StableHlo.TRef.toBuf, StableHlo.TRef.ofBuf, cast_eq]
  after_results_simp
  pointwise

theorem bias4_read (c : Dev nD) (k : Fin 63) :
    (V m c main_v23 : FVec Ideal S1x63 .f32) (ix2 0 k) = (m ((c : Thread nD τ).loc main_arg9) : FVec Ideal ⟨1, ![63]⟩ .f32) (ix1 k) := by
  simp only [V, hostOps0, hostOps0_1, hostOps0_2, hostOps0_3, hostOps0_4, hostOps0_5, hostOps0_6, List.flatten_cons, List.flatten_nil, List.append_nil,
    List.cons_append, List.nil_append, StableHlo.TRef.nullary, StableHlo.TRef.unary, StableHlo.TRef.binary, StableHlo.TRef.reshape, StableHlo.TRef.toBuf, StableHlo.TRef.ofBuf, cast_eq]
  after_results_simp
  pointwise

theorem rows_read (c : Dev nD) (b : Fin 64) (k : Fin 2048) :
    (V m c main_v0 : FVec Ideal S64x2048 .f32) (ix2 b k) = shapeCast S64x2048 (m ((c : Thread nD τ).loc main_arg0) : FVec Ideal S64x128x16 .f32) shapeCasts_S64x128x16_S64x2048 (ix2 b k) := by
  simp only [V, hostOps0, hostOps0_1, hostOps0_2, hostOps0_3, hostOps0_4, hostOps0_5, hostOps0_6, List.flatten_cons, List.flatten_nil, List.append_nil,
    List.cons_append, List.nil_append, StableHlo.TRef.nullary, StableHlo.TRef.unary, StableHlo.TRef.binary, StableHlo.TRef.reshape, StableHlo.TRef.toBuf, StableHlo.TRef.ofBuf, cast_eq]
  after_results_simp
  rfl

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ t.val < 2 :=
  (by decide +kernel : ∀ t : Fin grid0.N, _)

end

end Cert.Heads

end
-- ==== Proof.HeadsBlocks.lean ====
/- The second program's two result arrays: the blocks read, and each array as one function of the arguments. -/
module

public import proofs.«01_k».proof.Proof.Heads
public import proofs.«01_k».proof.Proof.Gen.Kernel2Ideal.Frame
public import proofs.«01_k».proof.Proof.Gen.Reference2Ideal
public import proofs.«01_k».proof.Proof.Gen.Pre_object_named
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Heads

open Cert.Kernel2Ideal Cert.Kernel2Ideal.Gen

variable (m : (ℓ : Loc nD τ sig) → Buf (Elt Ideal) ℓ)

theorem blk2 (c : Dev nD) (t : Fin cfg0.N) (k : Fin 1024) : (iblk m c 2 t : FVec Ideal S1x1024 .f32) (ix2 0 k)
    = (m ((c : Thread nD τ).loc main_arg3) : FVec Ideal ⟨1, ![1024]⟩ .f32) (ix1 k) := by
  refine Eq.trans ?_ (bias1_read m c k)
  blk_ext [iblk, idx t]

theorem blk4 (c : Dev nD) (t : Fin cfg0.N) (k : Fin 256) : (iblk m c 4 t : FVec Ideal S1x256 .f32) (ix2 0 k)
    = (m ((c : Thread nD τ).loc main_arg5) : FVec Ideal ⟨1, ![256]⟩ .f32) (ix1 k) := by
  refine Eq.trans ?_ (bias2_read m c k)
  blk_ext [iblk, idx t]

theorem blk6 (c : Dev nD) (t : Fin cfg0.N) (k : Fin 126) : (iblk m c 6 t : FVec Ideal S1x126 .f32) (ix2 0 k)
    = (m ((c : Thread nD τ).loc main_arg7) : FVec Ideal ⟨1, ![126]⟩ .f32) (ix1 k) := by
  refine Eq.trans ?_ (bias3_read m c k)
  blk_ext [iblk, idx t]

theorem blk8 (c : Dev nD) (t : Fin cfg0.N) (k : Fin 63) : (iblk m c 8 t : FVec Ideal S1x63 .f32) (ix2 0 k)
    = (m ((c : Thread nD τ).loc main_arg9) : FVec Ideal ⟨1, ![63]⟩ .f32) (ix1 k) := by
  refine Eq.trans ?_ (bias4_read m c k)
  blk_ext [iblk, idx t]

theorem blk1 (c : Dev nD) (t : Fin cfg0.N) : (iblk m c 1 t : FVec Ideal S1024x2048 .f32) = m ((c : Thread nD τ).loc main_arg2) := by
  refine Eq.trans ?_ (V_main_arg2 m c)
  blk_ext! [iblk, idx t]

theorem blk3 (c : Dev nD) (t : Fin cfg0.N) : (iblk m c 3 t : FVec Ideal S256x1024 .f32) = m ((c : Thread nD τ).loc main_arg4) := by
  refine Eq.trans ?_ (V_main_arg4 m c)
  blk_ext! [iblk, idx t]

theorem blk5 (c : Dev nD) (t : Fin cfg0.N) : (iblk m c 5 t : FVec Ideal S126x256 .f32) = m ((c : Thread nD τ).loc main_arg6) := by
  refine Eq.trans ?_ (V_main_arg6 m c)
  blk_ext! [iblk, idx t]

theorem blk7 (c : Dev nD) (t : Fin cfg0.N) : (iblk m c 7 t : FVec Ideal S63x256 .f32) = m ((c : Thread nD τ).loc main_arg8) := by
  refine Eq.trans ?_ (V_main_arg8 m c)
  blk_ext! [iblk, idx t]

theorem blk9 (c : Dev nD) (t : Fin cfg0.N) (n : Fin 21) (hn : (m ((c : Thread nD τ).loc main_arg1) : IVec ⟨1, ![64]⟩ 32) (ix1 0) = BitVec.ofNat 32 (n.val + 1))
    (k : Fin 126) (i : Fin 6) : (iblk m c 9 t : FVec Ideal S126x6 .f32) (ix2 k i) = if k.val = n.val * 6 + i.val then (1 : EReal) else 0 := by
  refine Eq.trans ?_ (mrot_read m c n hn k i)
  blk_ext [iblk, idx t]

theorem blk10 (c : Dev nD) (t : Fin cfg0.N) (n : Fin 21) (hn : (m ((c : Thread nD τ).loc main_arg1) : IVec ⟨1, ![64]⟩ 32) (ix1 0) = BitVec.ofNat 32 (n.val + 1))
    (k : Fin 63) (i : Fin 3) : (iblk m c 10 t : FVec Ideal S63x3 .f32) (ix2 k i) = if k.val = n.val * 3 + i.val then (1 : EReal) else 0 := by
  refine Eq.trans ?_ (mtr_read m c n hn k i)
  blk_ext [iblk, idx t]

theorem blk0 (c : Dev nD) (t : Fin cfg0.N) (b : Fin 32) (b' : Fin 64) (hb : b'.val = t.val * 32 + b.val) (j : Fin 2048) :
    (iblk m c 0 t : FVec Ideal S32x2048 .f32) (ix2 b j) = (V m c main_v0 : FVec Ideal S64x2048 .f32) (ix2 b' j) := by
  blk_ext [iblk, idx t]

end Cert.Heads

end
-- ==== Proof.HeadsRead.lean ====
/- The second program's two result arrays: the blocks read, and each array as one function of the arguments. -/
module

public import proofs.«01_k».proof.Proof.HeadsBlocks
public import proofs.«01_k».proof.Proof.Gen.Kernel2Ideal.Frame
public import proofs.«01_k».proof.Proof.Gen.Reference2Ideal
public import proofs.«01_k».proof.Proof.Gen.Pre_object_named
public import Idealize.ShloMosaic.Lib.ReduceAll
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Heads

open Cert.Kernel2Ideal Cert.Kernel2Ideal.Gen

variable (m : (ℓ : Loc nD τ sig) → Buf (Elt Ideal) ℓ)

/-- The rot result: the object's columns of the head. -/
def rotOut (X : FVec Ideal ⟨3, ![64, 128, 16]⟩ .f32) (n : Fin 21) (w1 : FVec Ideal ⟨2, ![1024, 2048]⟩ .f32) (b1 : FVec Ideal ⟨1, ![1024]⟩ .f32)
    (w2 : FVec Ideal ⟨2, ![256, 1024]⟩ .f32) (b2 : FVec Ideal ⟨1, ![256]⟩ .f32) (w : FVec Ideal ⟨2, ![126, 256]⟩ .f32) (β : FVec Ideal ⟨1, ![126]⟩ .f32)
    (b : Fin 64) (i : Fin 6) : EReal :=
  layer (hidden (fun j => shapeCast S64x2048 X shapeCasts_S64x128x16_S64x2048 (ix2 b j)) w1 b1 w2 b2) w β
    ⟨n.val * 6 + i.val, by have := n.isLt; omega⟩

/-- One stored element of the rot block. -/
theorem point_rot (c : Dev nD) (n : Fin 21) (hn : (m ((c : Thread nD τ).loc main_arg1) : IVec ⟨1, ![64]⟩ 32) (ix1 0) = BitVec.ofNat 32 (n.val + 1))
    (t : Fin cfg0.N) (b : Fin 32) (b' : Fin 64) (hb : b'.val = t.val * 32 + b.val) (i i' : Fin 6) (hi : i'.val = i.val) :
    (k0_pay1 (F := Ideal) (k0_pay4 (iblk m c 0 t) (iblk m c 1 t) (iblk m c 2 t) (iblk m c 3 t) (iblk m c 4 t) (iblk m c 5 t) (iblk m c 6 t)) (k0_pay6 (iblk m c 9 t)) (constant S32x6 .f32 0x00000000#32) : FVec Ideal S32x6 .f32) (ix2 b i)
      = rotOut (m ((c : Thread nD τ).loc main_arg0)) n (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) b' i' := by
  obtain rfl : i' = i := Fin.ext hi
  refine (rot_kernel _ _ _ _ _ _ _ _ _ _ _ (blk2 m c t) (blk4 m c t) (blk6 m c t) b i').trans ?_
  rw [blk1 m c t, blk3 m c t, blk5 m c t]
  simp only [blk9 m c t n hn, blk0 m c t b b' hb, rows_read]
  rw [Finset.sum_eq_single ⟨n.val * 6 + i'.val, by have := n.isLt; omega⟩
    (fun k _ hk => by rw [if_neg (fun h => hk (Fin.ext h)), mul_zero]) (fun h => absurd (Finset.mem_univ _) h)]
  rw [if_pos rfl, mul_one]
  rfl

theorem final_rot (c : Dev nD) (n : Fin 21) (hn : (m ((c : Thread nD τ).loc main_arg1) : IVec ⟨1, ![64]⟩ 32) (ix1 0) = BitVec.ofNat 32 (n.val + 1)) :
    (dats m 0 c).arrAt 11 (cfgs 0).N = (fun y => rotOut (m ((c : Thread nD τ).loc main_arg0)) n (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (y 0) (y 1) : FVec Ideal S64x6 .f32) := by
  refine (dats m 0 c).arrAt_eq_of_covers 11 _ (by decide +kernel) fun t _ y => ?_
  blk_simp
  rw [after0_11]; frame_out
  idx_vars y
  refine point_rot m c n hn t y0 _ ?_ y1 _ ?_
  · blk_simp [idx t]
  · blk_simp [idx t]

/-- The tr result: the object's columns of the head. -/
def trOut (X : FVec Ideal ⟨3, ![64, 128, 16]⟩ .f32) (n : Fin 21) (w1 : FVec Ideal ⟨2, ![1024, 2048]⟩ .f32) (b1 : FVec Ideal ⟨1, ![1024]⟩ .f32)
    (w2 : FVec Ideal ⟨2, ![256, 1024]⟩ .f32) (b2 : FVec Ideal ⟨1, ![256]⟩ .f32) (w : FVec Ideal ⟨2, ![63, 256]⟩ .f32) (β : FVec Ideal ⟨1, ![63]⟩ .f32)
    (b : Fin 64) (i : Fin 3) : EReal :=
  layer (hidden (fun j => shapeCast S64x2048 X shapeCasts_S64x128x16_S64x2048 (ix2 b j)) w1 b1 w2 b2) w β
    ⟨n.val * 3 + i.val, by have := n.isLt; omega⟩

/-- One stored element of the tr block. -/
theorem point_tr (c : Dev nD) (n : Fin 21) (hn : (m ((c : Thread nD τ).loc main_arg1) : IVec ⟨1, ![64]⟩ 32) (ix1 0) = BitVec.ofNat 32 (n.val + 1))
    (t : Fin cfg0.N) (b : Fin 32) (b' : Fin 64) (hb : b'.val = t.val * 32 + b.val) (i i' : Fin 3) (hi : i'.val = i.val) :
    (k0_pay2 (F := Ideal) (k0_pay5 (iblk m c 0 t) (iblk m c 1 t) (iblk m c 2 t) (iblk m c 3 t) (iblk m c 4 t) (iblk m c 7 t) (iblk m c 8 t)) (iblk m c 10 t) : FVec Ideal S32x3 .f32) (ix2 b i)
      = trOut (m ((c : Thread nD τ).loc main_arg0)) n (m ((c : Thread nD τ).loc main_arg2))
      (m ((c : Thread nD τ).loc main_arg3)) (m ((c : Thread nD τ).loc main_arg4)) (m ((c : Thread nD τ).loc main_arg5))
      (m ((c : Thread nD τ).loc main_arg8)) (m ((c : Thread nD τ).loc main_arg9)) b' i' := by
  obtain rfl : i' = i := Fin.ext hi
  refine (tr_kernel _ _ _ _ _ _ _ _ _ _ _ (blk2 m c t) (blk4 m c t) (blk8 m c t) b i').trans ?_
  rw [blk1 m c t, blk3 m c t, blk7 m c t]
  simp only [blk10 m c t n hn, blk0 m c t b b' hb, rows_read]
  rw [Finset.sum_eq_single ⟨n.val * 3 + i'.val, by have := n.isLt; omega⟩
    (fun k _ hk => by rw [if_neg (fun h => hk (Fin.ext h)), mul_zero]) (fun h => absurd (Finset.mem_univ _) h)]
  rw [if_pos rfl, mul_one]
  rfl

theorem final_tr (c : Dev nD) (n : Fin 21) (hn : (m ((c : Thread nD τ).loc main_arg1) : IVec ⟨1, ![64]⟩ 32) (ix1 0) = BitVec.ofNat 32 (n.val + 1)) :
    (dats m 0 c).arrAt 12 (cfgs 0).N = (fun y => trOut (m ((c : Thread nD τ).loc main_arg0)) n (m ((c : Thread nD τ).loc main_arg2))
      (m ((c : Thread nD τ).loc main_arg3)) (m ((c : Thread nD τ).loc main_arg4)) (m ((c : Thread nD τ).loc main_arg5))
      (m ((c : Thread nD τ).loc main_arg8)) (m ((c : Thread nD τ).loc main_arg9)) (y 0) (y 1) : FVec Ideal S64x3 .f32) := by
  refine (dats m 0 c).arrAt_eq_of_covers 12 _ (by decide +kernel) fun t _ y => ?_
  blk_simp
  rw [after0_12]; frame_out
  idx_vars y
  refine point_tr m c n hn t y0 _ ?_ y1 _ ?_
  · blk_simp [idx t]
  · blk_simp [idx t]

end Cert.Heads

end
-- ==== Proof.HeadsRef.lean ====
/- The second program's reference: indexing one object of the head, read at an entry, and the claim. -/
module

public import proofs.«01_k».proof.Defs
public import proofs.«01_k».proof.Proof.HeadsRead
public import proofs.«01_k».proof.Proof.Gen.Reference2Ideal.Run
public import proofs.«01_k».proof.Proof.Gen.Kernel2Ideal.Value
public import Idealize.ShloMosaic.Lib.StableHlo.Predicate

@[expose] public section

set_option maxRecDepth 16384

noncomputable section

open Idealize.ShloMosaic Idealize.ShloMosaic.TcCoe Idealize.SL.Sem
open Idealize.ShloMosaic.Pipeline (Dat)

namespace Cert.Heads

/-- Indexing the middle axis of `[A, N, C]` by a column of positions: where position `p` holds `b < N`, entry
    `(a, p, j)` of the result is the operand's entry `(a, b, j)`. -/
theorem gather_mid {α : Type} {A N C n : Nat} (d : GatherDims ⟨3, ![A, N, C]⟩ ⟨2, ![n, 1]⟩ ⟨3, ![A, n, C]⟩)
    (hoff : d.offsetDims = [0, 2]) (hcoll : d.collapsedSliceDims = [1]) (hob : d.operandBatchingDims = [])
    (hsim : d.startIndexMap = [1]) (hivd : d.indexVectorDim = 1) (x : (⟨3, ![A, N, C]⟩ : Shape).Idx → α) (idx : IVec ⟨2, ![n, 1]⟩ 32)
    (a : Fin A) (p : Fin n) (j : Fin C) (b : Fin N) (hb : idx (ix2 p (0 : Fin 1)) = BitVec.ofNat 32 b.val) (hN : N < 2 ^ 31) :
    Host.gather d x idx (ix3 a p j) = x (ix3 a b j) := by
  unfold Host.gather
  refine congrArg x (funext fun q => Fin.ext ?_)
  have hbN : ∀ a', a' ∉ d.operandBatchingDims := fun a' => by rw [hob]; exact List.not_mem_nil
  have hsk : d.sKept = [(0 : Fin 3), 2] := by unfold GatherDims.sKept; rw [hcoll, hob]; rfl
  have hk0 : ∀ k ∈ d.batchDims, k = (1 : Fin 3) := fun k hk => by
    have hk' : k ∉ d.offsetDims := of_decide_eq_true (List.mem_filter.1 hk).2
    rw [hoff] at hk'
    exact (by decide : ∀ k : Fin 3, k ∉ [(0 : Fin 3), 2] → k = 1) k hk'
  have e1 : ∀ X : Fin 3, X = 1 → (ix3 a p j X).val = p.val := fun X h => by subst h; rfl
  have e0 : ∀ X : Fin 3, X = 0 → (ix3 a p j X).val = a.val := fun X h => by subst h; rfl
  have e2 : ∀ X : Fin 3, X = 2 → (ix3 a p j X).val = j.val := fun X h => by subst h; rfl
  match q with
  | ⟨0, _⟩ =>
    have hm : (0 : Fin 3) ∉ d.startIndexMap := by rw [hsim]; exact (by decide : (0 : Fin 3) ∉ [(1 : Fin 3)])
    have hk : (0 : Fin 3) ∈ d.sKept := by rw [hsk]; exact (by decide : (0 : Fin 3) ∈ [(0 : Fin 3), 2])
    show d.start (ix3 a p j) idx (0 : Fin 3) + d.batchCoord (ix3 a p j) (0 : Fin 3) + d.offCoord (ix3 a p j) (0 : Fin 3) = a.val
    rw [d.batchCoord_eq_zero _ _ (hbN _), Nat.add_zero]
    unfold GatherDims.start GatherDims.offCoord
    rw [dif_neg hm, dif_pos hk, Nat.zero_add]
    exact e0 _ (by simp only [hsk, hoff]; rfl)
  | ⟨1, _⟩ =>
    have hk : (1 : Fin 3) ∉ d.sKept := by rw [hsk]; exact (by decide : (1 : Fin 3) ∉ [(0 : Fin 3), 2])
    have hm : (1 : Fin 3) ∈ d.startIndexMap := by rw [hsim]; exact List.mem_singleton.2 rfl
    have hsl : d.sliceSizes (1 : Fin 3) = 1 := d.slice_collapsed 1 (by rw [hcoll]; exact List.mem_singleton.2 rfl)
    show d.start (ix3 a p j) idx (1 : Fin 3) + d.batchCoord (ix3 a p j) (1 : Fin 3) + d.offCoord (ix3 a p j) (1 : Fin 3) = b.val
    rw [d.batchCoord_eq_zero _ _ (hbN _), d.offCoord_eq_zero _ _ hk]
    simp only [Nat.add_zero]
    unfold GatherDims.start
    rw [dif_pos hm]
    have hsi : d.siIdx (ix3 a p j) ⟨d.startIndexMap.idxOf (1 : Fin 3), List.idxOf_lt_length_iff.2 hm⟩ = ix2 p (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk0 _ (List.getElem_mem _))
      | ⟨1, _⟩ =>
        unfold GatherDims.siIdx
        rw [dif_pos (by rw [hivd])]
        show List.idxOf (1 : Fin 3) d.startIndexMap = 0
        rw [hsim]; simp
    have hbl := b.isLt
    rw [hsi, hb, hsl, StableHlo.Predicate.toInt_ofNat_small _ (by omega)]
    show min ((b.val : Int)).toNat (N - 1) = b.val
    omega
  | ⟨2, _⟩ =>
    have hm : (2 : Fin 3) ∉ d.startIndexMap := by rw [hsim]; exact (by decide : (2 : Fin 3) ∉ [(1 : Fin 3)])
    have hk : (2 : Fin 3) ∈ d.sKept := by rw [hsk]; exact (by decide : (2 : Fin 3) ∈ [(0 : Fin 3), 2])
    show d.start (ix3 a p j) idx (2 : Fin 3) + d.batchCoord (ix3 a p j) (2 : Fin 3) + d.offCoord (ix3 a p j) (2 : Fin 3) = j.val
    rw [d.batchCoord_eq_zero _ _ (hbN _), Nat.add_zero]
    unfold GatherDims.start GatherDims.offCoord
    rw [dif_neg hm, dif_pos hk, Nat.zero_add]
    exact e2 _ (by simp only [hsk, hoff]; rfl)

/-- A row of the flattened features. -/
theorem flat_read (X : FVec Ideal Cert.Kernel2Ideal.S64x128x16 .f32) (h : Cert.Kernel2Ideal.S64x128x16.ShapeCasts Cert.Kernel2Ideal.S64x2048) (b : Fin 64) (j : Fin 2048) :
    (shapeCast Cert.Kernel2Ideal.S64x2048 X h : FVec Ideal Cert.Kernel2Ideal.S64x2048 .f32) (ix2 b j) = X (ix3 b ⟨j.val / 16, by omega⟩ ⟨j.val % 16, by omega⟩) := by
  pointwise

/-- A fold by `and` of ones is one. -/
theorem fold_ones {ι : Type} (s : Finset ι) : s.fold IntOp.andi 1#1 (fun _ => 1#1) = 1#1 := by
  classical
  induction s using Finset.induction_on with
  | empty => rfl
  | insert a s ha ih => rw [Finset.fold_insert ha, ih]; rfl

/-- The position of a named object, wrapped as the reference wraps a negative one: no wrap. -/
theorem wrapped : ∀ n : Fin 21, Scalar.select
      (IntOp.cmpi CmpIPredicate.slt (IntOp.subi (BitVec.ofNat 32 (n.val + 1)) 1#32) 0#32)
      (IntOp.addi (IntOp.subi (BitVec.ofNat 32 (n.val + 1)) 1#32) 21#32)
      (IntOp.subi (BitVec.ofNat 32 (n.val + 1)) 1#32) = BitVec.ofNat 32 n.val := by decide +kernel

/-- It is within the table. -/
theorem within : ∀ n : Fin 21, IntOp.andi (IntOp.cmpi CmpIPredicate.sge (BitVec.ofNat 32 n.val) 0#32)
    (IntOp.cmpi CmpIPredicate.sle (BitVec.ofNat 32 n.val) 20#32) = 1#1 := by decide +kernel

/-- The precondition read: every object id is one of 1 … 21. -/
theorem named (X : IVec ⟨1, ![64]⟩ 32) (h : Cert.Pre_object_named.Facts)
    (a0 : FVec Ideal Cert.Pre_object_named.S64x128x16 .f32) (a2 : FVec Ideal Cert.Pre_object_named.S1024x2048 .f32)
    (a3 : FVec Ideal Cert.Pre_object_named.S1024 .f32) (a4 : FVec Ideal Cert.Pre_object_named.S256x1024 .f32)
    (a5 : FVec Ideal Cert.Pre_object_named.S256 .f32) (a6 : FVec Ideal Cert.Pre_object_named.S126x256 .f32)
    (a7 : FVec Ideal Cert.Pre_object_named.S126 .f32) (a8 : FVec Ideal Cert.Pre_object_named.S63x256 .f32)
    (a9 : FVec Ideal Cert.Pre_object_named.S63 .f32)
    (hX : Cert.Pre_object_named.fn (F := Ideal) a0 X a2 a3 a4 a5 a6 a7 a8 a9 = fun _ => 1#1) (p : Fin 64) :
    ∃ n : Fin 21, X (ix1 p) = BitVec.ofNat 32 (n.val + 1) := by
  have h1 := congrFun hX (fun i => Fin.elim0 i)
  unfold Cert.Pre_object_named.fn at h1
  have h2 := Host.reduce_andi_eq_one _ _ _ _ _ h1 (ix1 p) (by funext i; exact Fin.elim0 i)
  have h3 : IntOp.andi (IntOp.cmpi .sge (X (ix1 p)) 1#32) (IntOp.cmpi .sle (X (ix1 p)) 21#32) = 1#1 := h2
  generalize X (ix1 p) = w at h3
  have h4 : (1#32).sle w = true ∧ w.sle 21#32 = true := by
    simp only [IntOp.andi, IntOp.cmpi] at h3
    generalize hu : (1#32).sle w = u at *
    generalize hv : w.sle 21#32 = v at *
    revert h3
    cases u <;> cases v <;> simp
  have h5 : 1 ≤ w.toInt := by
    have := h4.1
    rw [BitVec.sle, decide_eq_true_iff] at this
    simpa using this
  have h6 : w.toInt ≤ 21 := by
    have := h4.2
    rw [BitVec.sle, decide_eq_true_iff] at this
    simpa using this
  have h7 : w.toNat = w.toInt.toNat := by
    rw [BitVec.toInt_eq_toNat_cond] at h5 h6 ⊢
    split at h5 <;> simp_all <;> omega
  refine ⟨⟨w.toNat - 1, by omega⟩, ?_⟩
  apply BitVec.eq_of_toNat_eq
  simp only [BitVec.toNat_ofNat]
  omega

set_option maxHeartbeats 1600000 in
/-- The second program computes its reference's functions. -/
theorem algebraic2 : Cert.algebraic_Kernel2Ideal_Reference2Ideal_pre_object_named := by
  pair_intro
  · run_from Cert.Kernel2Ideal.Value.run_blocks m g
  · run_from Cert.Reference2Ideal.Value.run m' g'
    · obtain ⟨n, hn⟩ := named _ inferInstance _ _ _ _ _ _ _ _ _ (hpre c) 0
      rw [final_rot m c n hn]
      funext y
      idx_vars y
      pointwise
      rw [hn]
      simp only [wrapped, within]
      rw [fold_ones]
      refine (show Scalar.select 1#1 _ _ = _ from rfl).trans ?_
      rw [gather_mid _ rfl rfl rfl rfl rfl _ _ y0 0 y1 n (by pointwise; rw [hn]; exact wrapped n) (by norm_num)]
      pointwise
      simp only [rotOut, hidden, layer, flat_read]
    · obtain ⟨n, hn⟩ := named _ inferInstance _ _ _ _ _ _ _ _ _ (hpre c) 0
      rw [final_tr m c n hn]
      funext y
      idx_vars y
      pointwise
      rw [hn]
      simp only [wrapped, within]
      rw [fold_ones]
      refine (show Scalar.select 1#1 _ _ = _ from rfl).trans ?_
      rw [gather_mid _ rfl rfl rfl rfl rfl _ _ y0 0 y1 n (by pointwise; rw [hn]; exact wrapped n) (by norm_num)]
      pointwise
      simp only [trOut, hidden, layer, flat_read]

end Cert.Heads

end
-- ==== Proof.Net.lean ====
/- The network's stages in plain terms, one image at a time: a square image is a function of a channel and two integer
   coordinates, zero outside its square, so a convolution's zero padding needs no case of its own. -/
module

public import Idealize.ShloMosaic.Lib.Pointwise

@[expose] public section

set_option maxRecDepth 16384

noncomputable section

namespace Net

open Idealize.ShloMosaic

/-- An image: channel, row, column. -/
abbrev Img (C : ℕ) : Type := Fin C → ℤ → ℤ → EReal

/-- The coordinates lie in the `H × H` square. -/
abbrev Inside (H : ℕ) (u v : ℤ) : Prop := 0 ≤ u ∧ u < H ∧ 0 ≤ v ∧ v < H

/-- `f` inside the square, zero outside. -/
def onSquare {C : ℕ} (H : ℕ) (f : Img C) : Img C := fun c u v => if Inside H u v then f c u v else 0

/-- One tap's sum over the channels: the image at one place against the tap's weights. -/
def tap {C O : ℕ} (X : Img C) (W : Fin O → Fin C → ℕ → EReal) (o : Fin O) (t : ℕ) (u v : ℤ) : EReal :=
  ∑ c, X c u v * W o c t

/-- The `k × k` taps of a convolution of stride `s` and padding `p`, summed in row order up to tap `n`. -/
def taps {C O : ℕ} (n k s p : ℕ) (X : Img C) (W : Fin O → Fin C → ℕ → EReal) (o : Fin O) (u v : ℤ) : EReal :=
  ∑ t ∈ Finset.range n, tap X W o t (s * u + ((t / k : ℕ) : ℤ) - p) (s * v + ((t % k : ℕ) : ℤ) - p)

/-- A convolution with bias, on the `H × H` square of its results. -/
def conv {C O : ℕ} (H k s p : ℕ) (X : Img C) (W : Fin O → Fin C → ℕ → EReal) (β : Fin O → EReal) : Img O :=
  onSquare H fun o u v => taps (k * k) k s p X W o u v + β o

/-- The positive part. -/
def relu {C : ℕ} (X : Img C) : Img C := fun c u v => max (X c u v) 0

/-- Image `b` of a batch whose channels come last. -/
def lastImg {B H C : ℕ} (A : (⟨4, ![B, H, H, C]⟩ : Shape).Idx → EReal) (b : Fin B) : Img C := fun c u v =>
  if h : Inside H u v then A (ix4 b ⟨u.toNat, by have := h; omega⟩ ⟨v.toNat, by have := h; omega⟩ c) else 0

/-- Image `n` of a batch whose channels come second. -/
def midImg {B H C : ℕ} (A : (⟨4, ![B, C, H, H]⟩ : Shape).Idx → EReal) (n : Fin B) : Img C := fun c u v =>
  if h : Inside H u v then A (ix4 n c ⟨u.toNat, by have := h; omega⟩ ⟨v.toNat, by have := h; omega⟩) else 0

/-- Image `b` of a batch whose rows are laid one after the other. -/
def rowImg {B C L : ℕ} (H : ℕ) (hL : L = H * H) (A : (⟨3, ![B, C, L]⟩ : Shape).Idx → EReal) (b : Fin B) : Img C := fun c u v =>
  if h : Inside H u v then A (ix3 b c ⟨u.toNat * H + v.toNat, by
    obtain ⟨a, b, c, d⟩ := h
    have h1 : u.toNat + 1 ≤ H := by omega
    have h2 := Nat.mul_le_mul_right H h1
    rw [Nat.add_mul] at h2
    omega⟩) else 0

/-- Weights `w o c i j` with the tap numbered in row order. -/
def wt {O C k : ℕ} [NeZero k] (w : (⟨4, ![O, C, k, k]⟩ : Shape).Idx → EReal) : Fin O → Fin C → ℕ → EReal := fun o c t =>
  w (ix4 o c (Fin.ofNat k (t / k)) (Fin.ofNat k (t % k)))

theorem lastImg_in {B H C : ℕ} (A : (⟨4, ![B, H, H, C]⟩ : Shape).Idx → EReal) (b : Fin B) (c : Fin C) (y x : Fin H) :
    lastImg A b c y x = A (ix4 b y x c) := by
  have h : Inside H (y : ℤ) (x : ℤ) := ⟨by omega, by have := y.isLt; omega, by omega, by have := x.isLt; omega⟩
  unfold lastImg
  rw [dif_pos h]; rfl

theorem midImg_in {B H C : ℕ} (A : (⟨4, ![B, C, H, H]⟩ : Shape).Idx → EReal) (n : Fin B) (c : Fin C) (y x : Fin H) :
    midImg A n c y x = A (ix4 n c y x) := by
  have h : Inside H (y : ℤ) (x : ℤ) := ⟨by omega, by have := y.isLt; omega, by omega, by have := x.isLt; omega⟩
  unfold midImg
  rw [dif_pos h]; rfl

/-- An image of a batch is `f` on the square as soon as the batch's entries are `f`'s values. -/
theorem lastImg_eq {B H C : ℕ} (A : (⟨4, ![B, H, H, C]⟩ : Shape).Idx → EReal) (b : Fin B) (f : Img C)
    (h : ∀ (y x : Fin H) (c : Fin C), A (ix4 b y x c) = f c y x) : lastImg A b = onSquare H f := by
  funext c u v
  unfold lastImg onSquare
  by_cases hi : Inside H u v
  · rw [dif_pos hi, if_pos hi, h]
    have h1 : ((u.toNat : ℕ) : ℤ) = u := by omega
    have h2 : ((v.toNat : ℕ) : ℤ) = v := by omega
    exact (congrArg₂ (fun a b => f c a b) h1 h2)
  · rw [dif_neg hi, if_neg hi]

theorem midImg_eq {B H C : ℕ} (A : (⟨4, ![B, C, H, H]⟩ : Shape).Idx → EReal) (n : Fin B) (f : Img C)
    (h : ∀ (c : Fin C) (y x : Fin H), A (ix4 n c y x) = f c y x) : midImg A n = onSquare H f := by
  funext c u v
  unfold midImg onSquare
  by_cases hi : Inside H u v
  · rw [dif_pos hi, if_pos hi, h]
    have h1 : ((u.toNat : ℕ) : ℤ) = u := by omega
    have h2 : ((v.toNat : ℕ) : ℤ) = v := by omega
    exact (congrArg₂ (fun a b => f c a b) h1 h2)
  · rw [dif_neg hi, if_neg hi]

/-- The three by three taps, one by one. -/
theorem taps_nine {C O : ℕ} (s p : ℕ) (X : Img C) (W : Fin O → Fin C → ℕ → EReal) (o : Fin O) (u v : ℤ) :
    taps 9 3 s p X W o u v
      = 0 + tap X W o 0 (s * u + 0 - p) (s * v + 0 - p) + tap X W o 1 (s * u + 0 - p) (s * v + 1 - p)
        + tap X W o 2 (s * u + 0 - p) (s * v + 2 - p) + tap X W o 3 (s * u + 1 - p) (s * v + 0 - p)
        + tap X W o 4 (s * u + 1 - p) (s * v + 1 - p) + tap X W o 5 (s * u + 1 - p) (s * v + 2 - p)
        + tap X W o 6 (s * u + 2 - p) (s * v + 0 - p) + tap X W o 7 (s * u + 2 - p) (s * v + 1 - p)
        + tap X W o 8 (s * u + 2 - p) (s * v + 2 - p) := by
  unfold taps
  simp only [Finset.sum_range_succ, Finset.sum_range_zero]
  rfl

end Net

end
-- ==== Proof.Padded.lean ====
/- The kernel's zero border: a batch of square images with one row or column of zeros joined on each side, read at an index. -/
module

public import proofs.«01_k».proof.Proof.Net

@[expose] public section

set_option maxRecDepth 16384

noncomputable section

namespace Net

open Idealize.ShloMosaic

/-- Four images in a row, last axis the channels. -/
abbrev S4i (h w c : ℕ) : Shape := ⟨4, ![4, h, w, c]⟩

/-- Zeros joined above, below, left and right, in that order. -/
def border {H C : ℕ} (A : (S4i H H C).Idx → EReal) (z : EReal)
    (h1 : Shape.Concatenates [S4i 1 H C, S4i H H C] (S4i (H + 1) H C) 1)
    (h2 : Shape.Concatenates [S4i (H + 1) H C, S4i 1 H C] (S4i (H + 2) H C) 1)
    (h3 : Shape.Concatenates [S4i (H + 2) 1 C, S4i (H + 2) H C] (S4i (H + 2) (H + 1) C) 2)
    (h4 : Shape.Concatenates [S4i (H + 2) (H + 1) C, S4i (H + 2) 1 C] (S4i (H + 2) (H + 2) C) 2) :
    (S4i (H + 2) (H + 2) C).Idx → EReal :=
  concatenate (S4i (H + 2) (H + 2) C) 2
    [⟨S4i (H + 2) (H + 1) C, concatenate (S4i (H + 2) (H + 1) C) 2
      [⟨S4i (H + 2) 1 C, broadcast (S4i (H + 2) 1 C) z⟩,
       ⟨S4i (H + 2) H C, concatenate (S4i (H + 2) H C) 1
        [⟨S4i (H + 1) H C, concatenate (S4i (H + 1) H C) 1
          [⟨S4i 1 H C, broadcast (S4i 1 H C) z⟩, ⟨S4i H H C, A⟩] h1⟩,
         ⟨S4i 1 H C, broadcast (S4i 1 H C) z⟩] h2⟩] h3⟩,
     ⟨S4i (H + 2) 1 C, broadcast (S4i (H + 2) 1 C) z⟩] h4

/-- Two batches joined along the rows, read at an index. -/
theorem join_rows {h w c p q : ℕ} (x : (S4i p w c).Idx → EReal) (y : (S4i q w c).Idx → EReal) (hpq : h = p + q)
    (hc : Shape.Concatenates [S4i p w c, S4i q w c] (S4i h w c) 1) (b : Fin 4) (u : Fin h) (v : Fin w) (k : Fin c) :
    concatenate (S4i h w c) 1 [⟨S4i p w c, x⟩, ⟨S4i q w c, y⟩] hc (ix4 b u v k)
      = if hu : (u : ℕ) < p then x (ix4 b ⟨u, hu⟩ v k) else y (ix4 b ⟨u - p, by omega⟩ v k) := by
  rw [concatenate_pair_apply]
  by_cases hu : (u : ℕ) < p
  · rw [dif_pos hu]
    refine (dif_pos (show _ < _ from hu)).trans ?_
    refine congrArg x (funext fun a => ?_)
    fin_cases a <;> rfl
  · rw [dif_neg hu]
    refine (dif_neg (show ¬ _ < _ from hu)).trans ?_
    refine congrArg y (funext fun a => ?_)
    fin_cases a <;> rfl

/-- Two batches joined along the columns, read at an index. -/
theorem join_cols {h w c p q : ℕ} (x : (S4i h p c).Idx → EReal) (y : (S4i h q c).Idx → EReal) (hpq : w = p + q)
    (hc : Shape.Concatenates [S4i h p c, S4i h q c] (S4i h w c) 2) (b : Fin 4) (u : Fin h) (v : Fin w) (k : Fin c) :
    concatenate (S4i h w c) 2 [⟨S4i h p c, x⟩, ⟨S4i h q c, y⟩] hc (ix4 b u v k)
      = if hv : (v : ℕ) < p then x (ix4 b u ⟨v, hv⟩ k) else y (ix4 b u ⟨v - p, by omega⟩ k) := by
  rw [concatenate_pair_apply]
  by_cases hv : (v : ℕ) < p
  · rw [dif_pos hv]
    refine (dif_pos (show _ < _ from hv)).trans ?_
    refine congrArg x (funext fun a => ?_)
    fin_cases a <;> rfl
  · rw [dif_neg hv]
    refine (dif_neg (show ¬ _ < _ from hv)).trans ?_
    refine congrArg y (funext fun a => ?_)
    fin_cases a <;> rfl

/-- The bordered batch at an index is the image at the place one up and one left, the border being the zeros outside. -/
theorem border_read {H C : ℕ} (A : (S4i H H C).Idx → EReal) (z : EReal) (hz : z = 0) (h1 h2 h3 h4) (b : Fin 4)
    (u v : Fin (H + 2)) (c : Fin C) :
    border A z h1 h2 h3 h4 (ix4 b u v c) = lastImg A b c ((u : ℕ) - 1 : ℤ) ((v : ℕ) - 1 : ℤ) := by
  have hu := u.isLt
  have hv := v.isLt
  unfold border lastImg
  rw [join_cols _ _ (by omega)]
  by_cases ha : (v : ℕ) < H + 1
  · rw [dif_pos ha, join_cols _ _ (by omega)]
    by_cases hb : (v : ℕ) < 1
    · rw [dif_pos (show (((⟨v, ha⟩ : Fin (H + 1)) : ℕ)) < 1 from hb), dif_neg (by omega)]
      exact hz
    · rw [dif_neg (show ¬ (((⟨v, ha⟩ : Fin (H + 1)) : ℕ)) < 1 from hb), join_rows _ _ (by omega)]
      by_cases hd : (u : ℕ) < H + 1
      · rw [dif_pos hd, join_rows _ _ (by omega)]
        by_cases he : (u : ℕ) < 1
        · rw [dif_pos (show (((⟨u, hd⟩ : Fin (H + 1)) : ℕ)) < 1 from he), dif_neg (by omega)]
          exact hz
        · rw [dif_neg (show ¬ (((⟨u, hd⟩ : Fin (H + 1)) : ℕ)) < 1 from he), dif_pos (by refine ⟨?_, ?_, ?_, ?_⟩ <;> omega)]
          refine congrArg A (congrArg₂ (fun p q => ix4 b p q c) (Fin.ext ?_) (Fin.ext ?_))
          · show (u : ℕ) - 1 = (((u : ℕ) : ℤ) - 1).toNat
            omega
          · show (v : ℕ) - 1 = (((v : ℕ) : ℤ) - 1).toNat
            omega
      · rw [dif_neg hd, dif_neg (by omega)]
        exact hz
  · rw [dif_neg ha, dif_neg (by omega)]
    exact hz

end Net

end
-- ==== Proof.Conv.Dense.lean ====
/- The kernel's dense convolutions: nine shifted pieces of a bordered batch, joined along the channels and multiplied by the
   flat weights, are the nine taps of the convolution. -/
module

public import proofs.«01_k».proof.Proof.Padded
public import Idealize.ShloMosaic.Lib.MatmulPlain

@[expose] public section

set_option maxRecDepth 16384

noncomputable section

namespace Net

open Idealize.ShloMosaic

/-- Weights laid out with a row for each tap and channel, a column for each result channel. -/
def flat {K O C : ℕ} [NeZero K] (w : (⟨2, ![K, O]⟩ : Shape).Idx → EReal) : Fin O → Fin C → ℕ → EReal := fun o c t =>
  w (ix2 (Fin.ofNat K (t * C + c)) o)

theorem zero_word : (Scalar.sitofp (F := Ideal) .f32 (0#32) : EReal) = 0 := by
  pointwise
  simp

/-! ## The pieces -/

/-- A piece of stride one: the columns moved by `dx`, then the rows by `dy`. -/
theorem piece_one {H M C dy dx : ℕ} {X : Fin 4 → Img C} {P : (S4i H H C).Idx → EReal}
    (hP : ∀ b u v c, P (ix4 b u v c) = X b c ((u : ℕ) - 1 : ℤ) ((v : ℕ) - 1 : ℤ))
    (h1 : (S4i H H C).Slices ![0, 0, dx, 0] (S4i H M C)) (h2 : (S4i H M C).Slices ![0, dy, 0, 0] (S4i M M C))
    (b : Fin 4) (u v : Fin M) (c : Fin C) (A B : ℤ) (hA : A = (u : ℕ) + (dy : ℤ) - 1) (hB : B = (v : ℕ) + (dx : ℤ) - 1) :
    extractStridedSlice (S4i M M C) ![0, dy, 0, 0] (extractStridedSlice (S4i H M C) ![0, 0, dx, 0] P h1) h2 (ix4 b u v c)
      = X b c A B := by
  have hu : u.val + dy < H := by
    obtain ⟨_, h⟩ := h2
    have := h 1
    have h' : dy + M ≤ H := this
    have := u.isLt; omega
  have hv : v.val + dx < H := by
    obtain ⟨_, h⟩ := h1
    have := h 2
    have h' : dx + M ≤ H := this
    have := v.isLt; omega
  rw [extractStridedSlice_apply _ _ _ _ (ix4 b ⟨u.val + dy, hu⟩ v c) (fun a => by
      fin_cases a
      · exact (Nat.zero_add _).symm
      · exact Nat.add_comm _ _
      · exact (Nat.zero_add _).symm
      · exact (Nat.zero_add _).symm),
    extractStridedSlice_apply _ _ _ _ (ix4 b ⟨u.val + dy, hu⟩ ⟨v.val + dx, hv⟩ c) (fun a => by
      fin_cases a
      · exact (Nat.zero_add _).symm
      · exact (Nat.zero_add _).symm
      · exact Nat.add_comm _ _
      · exact (Nat.zero_add _).symm), hP]
  have e1 : (((u.val + dy : ℕ)) : ℤ) - 1 = A := by omega
  have e2 : (((v.val + dx : ℕ)) : ℤ) - 1 = B := by omega
  exact congrArg₂ (X b c) e1 e2

/-- Every second row, from row `a`. -/
theorem split_rows {H M V C a : ℕ} {P : (S4i H V C).Idx → EReal} (hH : H = 2 * M) (ha : a < 2)
    (h1 : (S4i H V C).ShapeCasts ⟨5, ![4, M, 2, V, C]⟩)
    (h2 : (⟨5, ![4, M, 2, V, C]⟩ : Shape).Slices ![0, 0, a, 0, 0] ⟨5, ![4, M, 1, V, C]⟩)
    (h3 : (⟨5, ![4, M, 1, V, C]⟩ : Shape).ShapeCasts (S4i M V C)) (b : Fin 4) (u : Fin M) (v : Fin V) (c : Fin C) :
    shapeCast (S4i M V C) (extractStridedSlice ⟨5, ![4, M, 1, V, C]⟩ ![0, 0, a, 0, 0]
      (shapeCast ⟨5, ![4, M, 2, V, C]⟩ P h1) h2) h3 (ix4 b u v c)
      = P (ix4 b ⟨2 * u.val + a, by omega⟩ v c) := by
  rw [shapeCast_apply _ _ _ (ix5 b u 0 v c) (by
      rw [Shape.rowMajor_val_five, Shape.rowMajor_val_four]
      show (((b.val * M + u.val) * 1 + 0) * V + v.val) * C + c.val = ((b.val * M + u.val) * V + v.val) * C + c.val
      ring),
    extractStridedSlice_apply _ _ _ _ (ix5 b u ⟨a, ha⟩ v c) (fun k => by
      fin_cases k
      · exact (Nat.zero_add _).symm
      · exact (Nat.zero_add _).symm
      · rfl
      · exact (Nat.zero_add _).symm
      · exact (Nat.zero_add _).symm),
    shapeCast_apply _ _ _ (ix4 b ⟨2 * u.val + a, by omega⟩ v c) (by
      rw [Shape.rowMajor_val_five, Shape.rowMajor_val_four]
      show ((b.val * H + (2 * u.val + a)) * V + v.val) * C + c.val = (((b.val * M + u.val) * 2 + a) * V + v.val) * C + c.val
      subst hH
      ring)]

/-- Every second column, from column `a`. -/
theorem split_cols {H M V C a : ℕ} {P : (S4i V H C).Idx → EReal} (hH : H = 2 * M) (ha : a < 2)
    (h1 : (S4i V H C).ShapeCasts ⟨5, ![4, V, M, 2, C]⟩)
    (h2 : (⟨5, ![4, V, M, 2, C]⟩ : Shape).Slices ![0, 0, 0, a, 0] ⟨5, ![4, V, M, 1, C]⟩)
    (h3 : (⟨5, ![4, V, M, 1, C]⟩ : Shape).ShapeCasts (S4i V M C)) (b : Fin 4) (u : Fin V) (v : Fin M) (c : Fin C) :
    shapeCast (S4i V M C) (extractStridedSlice ⟨5, ![4, V, M, 1, C]⟩ ![0, 0, 0, a, 0]
      (shapeCast ⟨5, ![4, V, M, 2, C]⟩ P h1) h2) h3 (ix4 b u v c)
      = P (ix4 b u ⟨2 * v.val + a, by omega⟩ c) := by
  rw [shapeCast_apply _ _ _ (ix5 b u v 0 c) (by
      rw [Shape.rowMajor_val_five, Shape.rowMajor_val_four]
      show (((b.val * V + u.val) * M + v.val) * 1 + 0) * C + c.val = ((b.val * V + u.val) * M + v.val) * C + c.val
      ring),
    extractStridedSlice_apply _ _ _ _ (ix5 b u v ⟨a, ha⟩ c) (fun k => by
      fin_cases k
      · exact (Nat.zero_add _).symm
      · exact (Nat.zero_add _).symm
      · exact (Nat.zero_add _).symm
      · rfl
      · exact (Nat.zero_add _).symm),
    shapeCast_apply _ _ _ (ix4 b u ⟨2 * v.val + a, by omega⟩ c) (by
      rw [Shape.rowMajor_val_five, Shape.rowMajor_val_four]
      show ((b.val * V + u.val) * H + (2 * v.val + a)) * C + c.val = (((b.val * V + u.val) * M + v.val) * 2 + a) * C + c.val
      subst hH
      ring)]

/-- A piece of stride two: every second row from `i` and every second column from `j`, moved by `r` rows and `q` columns. -/
theorem piece_two {H V M C i j r q : ℕ} {X : Fin 4 → Img C} {P : (S4i H H C).Idx → EReal}
    (hP : ∀ b u v c, P (ix4 b u v c) = X b c ((u : ℕ) - 1 : ℤ) ((v : ℕ) - 1 : ℤ)) (hH : H = 2 * V) (hi : i < 2) (hj : j < 2)
    (h1 : (S4i H H C).ShapeCasts ⟨5, ![4, V, 2, H, C]⟩)
    (h2 : (⟨5, ![4, V, 2, H, C]⟩ : Shape).Slices ![0, 0, i, 0, 0] ⟨5, ![4, V, 1, H, C]⟩)
    (h3 : (⟨5, ![4, V, 1, H, C]⟩ : Shape).ShapeCasts (S4i V H C))
    (k1 : (S4i V H C).ShapeCasts ⟨5, ![4, V, V, 2, C]⟩)
    (k2 : (⟨5, ![4, V, V, 2, C]⟩ : Shape).Slices ![0, 0, 0, j, 0] ⟨5, ![4, V, V, 1, C]⟩)
    (k3 : (⟨5, ![4, V, V, 1, C]⟩ : Shape).ShapeCasts (S4i V V C)) (hs : (S4i V V C).Slices ![0, r, q, 0] (S4i M M C))
    (b : Fin 4) (u v : Fin M) (c : Fin C) (A B : ℤ) (hA : A = 2 * ((u : ℕ) + (r : ℤ)) + i - 1) (hB : B = 2 * ((v : ℕ) + (q : ℤ)) + j - 1) :
    extractStridedSlice (S4i M M C) ![0, r, q, 0]
      (shapeCast (S4i V V C) (extractStridedSlice ⟨5, ![4, V, V, 1, C]⟩ ![0, 0, 0, j, 0] (shapeCast ⟨5, ![4, V, V, 2, C]⟩
        (shapeCast (S4i V H C) (extractStridedSlice ⟨5, ![4, V, 1, H, C]⟩ ![0, 0, i, 0, 0]
          (shapeCast ⟨5, ![4, V, 2, H, C]⟩ P h1) h2) h3) k1) k2) k3) hs (ix4 b u v c)
      = X b c A B := by
  have hu : u.val + r < V := by
    obtain ⟨_, h⟩ := hs
    have h' : r + M ≤ V := h 1
    have := u.isLt; omega
  have hv : v.val + q < V := by
    obtain ⟨_, h⟩ := hs
    have h' : q + M ≤ V := h 2
    have := v.isLt; omega
  rw [extractStridedSlice_apply _ _ _ _ (ix4 b ⟨u.val + r, hu⟩ ⟨v.val + q, hv⟩ c) (fun a => by
      fin_cases a
      · exact (Nat.zero_add _).symm
      · exact Nat.add_comm _ _
      · exact Nat.add_comm _ _
      · exact (Nat.zero_add _).symm),
    split_cols hH hj, split_rows hH hi, hP]
  have e1 : (((2 * (u.val + r) + i : ℕ)) : ℤ) - 1 = A := by push_cast; omega
  have e2 : (((2 * (v.val + q) + j : ℕ)) : ℤ) - 1 = B := by push_cast; omega
  exact congrArg₂ (X b c) e1 e2

/-! ## The product -/

/-- Nine pieces side by side along the channels. -/
abbrev nine {M C : ℕ} (p : Fin 9 → (S4i M M C).Idx → EReal) : List ((s : Shape) × (s.Idx → EReal)) :=
  [⟨S4i M M C, p 0⟩, ⟨S4i M M C, p 1⟩, ⟨S4i M M C, p 2⟩, ⟨S4i M M C, p 3⟩, ⟨S4i M M C, p 4⟩, ⟨S4i M M C, p 5⟩,
    ⟨S4i M M C, p 6⟩, ⟨S4i M M C, p 7⟩, ⟨S4i M M C, p 8⟩]

theorem nine_read {M C K : ℕ} (p : Fin 9 → (S4i M M C).Idx → EReal)
    (hc : Shape.Concatenates ((nine p).map (·.1)) (S4i M M K) 3) (b : Fin 4) (u v : Fin M) (k : Fin K) (t : Fin 9) (c : Fin C)
    (hk : k.val = t.val * C + c.val) :
    concatenate (S4i M M K) 3 (nine p) hc (ix4 b u v k) = p t (ix4 b u v c) := by
  have hC : 0 < C := by have := c.isLt; omega
  refine concatenate_ofFn_apply (t := S4i M M K) (s₁ := S4i M M C) 3 p hc rfl C rfl (ix4 b u v k) t ?_ (ix4 b u v c) ?_ ?_
  · show k.val / C = t.val
    rw [hk, Nat.add_comm, Nat.add_mul_div_right _ _ hC, Nat.div_eq_of_lt c.isLt, Nat.zero_add]
  · show c.val = k.val % C
    rw [hk, Nat.add_comm, Nat.add_mul_mod_self_right, Nat.mod_eq_of_lt c.isLt]
  · intro a ha
    fin_cases a
    · rfl
    · rfl
    · rfl
    · exact absurd rfl ha

/-- A sum over taps and channels laid side by side. -/
theorem taps_sum {n k s p C O K : ℕ} [NeZero K] (hK : n * C = K) (X : Img C) (w : (⟨2, ![K, O]⟩ : Shape).Idx → EReal) (o : Fin O)
    (u v : ℤ) (f : Fin K → EReal)
    (hf : ∀ (t : Fin n) (c : Fin C) (i : Fin K), i.val = t.val * C + c.val →
      f i = X c (s * u + ((t.val / k : ℕ) : ℤ) - p) (s * v + ((t.val % k : ℕ) : ℤ) - p) * w (ix2 i o)) :
    ∑ i : Fin K, f i = taps n k s p X (flat w) o u v := by
  rw [Fin.sum_univ_tiles n C hK]
  unfold taps
  rw [← Fin.sum_univ_eq_sum_range]
  refine Finset.sum_congr rfl fun t _ => ?_
  unfold tap
  refine Finset.sum_congr rfl fun c _ => ?_
  have hlt : t.val * C + c.val < K := by
    have h1 := Nat.mul_le_mul_right C (Nat.succ_le_of_lt t.isLt)
    rw [Nat.succ_mul] at h1
    have := c.isLt
    omega
  rw [hf t c _ rfl]
  refine congrArg (_ * ·) (congrArg w (congrArg (fun q => ix2 q o) (Fin.ext ?_)))
  exact (Nat.mod_eq_of_lt hlt).symm

/-- The product of the joined pieces by the flat weights is the nine taps. -/
theorem dense_taps {M C O N K : ℕ} [NeZero K] (hK : 9 * C = K) (s : ℕ) (X : Fin 4 → Img C)
    (p : Fin 9 → (S4i M M C).Idx → EReal)
    (hp : ∀ t b u v c, p t (ix4 b u v c)
      = X b c (s * ((u : ℕ) : ℤ) + ((t.val / 3 : ℕ) : ℤ) - (1 : ℕ)) (s * ((v : ℕ) : ℤ) + ((t.val % 3 : ℕ) : ℤ) - (1 : ℕ)))
    (hc : Shape.Concatenates ((nine p).map (·.1)) (S4i M M K) 3) (hsc : (S4i M M K).ShapeCasts ⟨2, ![N, K]⟩)
    (w : (⟨2, ![K, O]⟩ : Shape).Idx → EReal) (z : (⟨2, ![N, O]⟩ : Shape).Idx → EReal) (hz : ∀ i, z i = 0)
    (b : Fin 4) (y x : Fin M) (o : Fin O) (r : Fin N) (hr : r.val = (b.val * M + y.val) * M + x.val) :
    FloatOps.matmul (F := Ideal) (φ₁ := .f32) (φ₂ := .f32) (DotDims.plain N K O) none
      (shapeCast ⟨2, ![N, K]⟩ (concatenate (S4i M M K) 3 (nine p) hc) hsc) w z (ix2 r o)
      = taps 9 3 s 1 (X b) (flat w) o y x := by
  refine (Ideal.matmul_plain_apply none _ w z r o).trans ?_
  refine (congrArg (· + _) (hz _)).trans ((zero_add _).trans ?_)
  refine taps_sum hK (X b) w o y x _ fun t c i hi => ?_
  show shapeCast ⟨2, ![N, K]⟩ (concatenate (S4i M M K) 3 (nine p) hc) hsc (ix2 r i) * w (ix2 i o) = _
  rw [shapeCast_apply _ _ _ (ix4 b y x i) (by
    rw [Shape.rowMajor_val_four, Shape.rowMajor_val_two]
    show ((b.val * M + y.val) * M + x.val) * K + i.val = r.val * K + i.val
    rw [hr]), nine_read p hc b y x i t c hi, hp]

/-- A product's rows given back their image, with the bias added. -/
theorem bias_read {M O N : ℕ} (a : (⟨2, ![N, O]⟩ : Shape).Idx → EReal) (β : (⟨2, ![1, O]⟩ : Shape).Idx → EReal)
    (hb : (⟨2, ![1, O]⟩ : Shape).Broadcasts ⟨2, ![N, O]⟩) (hs : (⟨2, ![N, O]⟩ : Shape).ShapeCasts (S4i M M O)) (hO : O ≠ 1)
    (b : Fin 4) (y x : Fin M) (o : Fin O) (r : Fin N) (hr : r.val = (b.val * M + y.val) * M + x.val) :
    shapeCast (S4i M M O) (addf (F := Ideal) (φ := .f32) a (broadcastTo ⟨2, ![N, O]⟩ β hb)) hs (ix4 b y x o)
      = a (ix2 r o) + β (ix2 0 o) := by
  rw [shapeCast_apply _ _ _ (ix2 r o) (by
    rw [Shape.rowMajor_val_four, Shape.rowMajor_val_two]
    show r.val * O + o.val = ((b.val * M + y.val) * M + x.val) * O + o.val
    rw [hr])]
  refine congrArg (a (ix2 r o) + ·) ?_
  refine broadcastTo_apply _ _ _ _ fun k => ?_
  fin_cases k
  · rfl
  · exact (if_neg hO).symm

/-- The identity reshape. -/
theorem same {s : Shape} {α : Type} (x : s.Idx → α) (h : s.ShapeCasts s) : shapeCast s x h = x := by
  funext j
  exact shapeCast_apply x h j j rfl

/-- The same for nine pieces named one by one. -/
theorem nine_taps {M C O N K : ℕ} [NeZero K] (hK : 9 * C = K) (s : ℕ) (X : Fin 4 → Img C)
    (p0 p1 p2 p3 p4 p5 p6 p7 p8 : (S4i M M C).Idx → EReal)
    (h0 : ∀ (b : Fin 4) (u v : Fin M) (c : Fin C), p0 (ix4 b u v c) = X b c (s * ((u : ℕ) : ℤ) + 0 - 1) (s * ((v : ℕ) : ℤ) + 0 - 1))
    (h1 : ∀ (b : Fin 4) (u v : Fin M) (c : Fin C), p1 (ix4 b u v c) = X b c (s * ((u : ℕ) : ℤ) + 0 - 1) (s * ((v : ℕ) : ℤ) + 1 - 1))
    (h2 : ∀ (b : Fin 4) (u v : Fin M) (c : Fin C), p2 (ix4 b u v c) = X b c (s * ((u : ℕ) : ℤ) + 0 - 1) (s * ((v : ℕ) : ℤ) + 2 - 1))
    (h3 : ∀ (b : Fin 4) (u v : Fin M) (c : Fin C), p3 (ix4 b u v c) = X b c (s * ((u : ℕ) : ℤ) + 1 - 1) (s * ((v : ℕ) : ℤ) + 0 - 1))
    (h4 : ∀ (b : Fin 4) (u v : Fin M) (c : Fin C), p4 (ix4 b u v c) = X b c (s * ((u : ℕ) : ℤ) + 1 - 1) (s * ((v : ℕ) : ℤ) + 1 - 1))
    (h5 : ∀ (b : Fin 4) (u v : Fin M) (c : Fin C), p5 (ix4 b u v c) = X b c (s * ((u : ℕ) : ℤ) + 1 - 1) (s * ((v : ℕ) : ℤ) + 2 - 1))
    (h6 : ∀ (b : Fin 4) (u v : Fin M) (c : Fin C), p6 (ix4 b u v c) = X b c (s * ((u : ℕ) : ℤ) + 2 - 1) (s * ((v : ℕ) : ℤ) + 0 - 1))
    (h7 : ∀ (b : Fin 4) (u v : Fin M) (c : Fin C), p7 (ix4 b u v c) = X b c (s * ((u : ℕ) : ℤ) + 2 - 1) (s * ((v : ℕ) : ℤ) + 1 - 1))
    (h8 : ∀ (b : Fin 4) (u v : Fin M) (c : Fin C), p8 (ix4 b u v c) = X b c (s * ((u : ℕ) : ℤ) + 2 - 1) (s * ((v : ℕ) : ℤ) + 2 - 1))
    (hc : Shape.Concatenates [S4i M M C, S4i M M C, S4i M M C, S4i M M C, S4i M M C, S4i M M C, S4i M M C, S4i M M C, S4i M M C]
      (S4i M M K) 3) (hsc : (S4i M M K).ShapeCasts ⟨2, ![N, K]⟩)
    (w : (⟨2, ![K, O]⟩ : Shape).Idx → EReal) (z : (⟨2, ![N, O]⟩ : Shape).Idx → EReal) (hz : ∀ i, z i = 0)
    (b : Fin 4) (y x : Fin M) (o : Fin O) (r : Fin N) (hr : r.val = (b.val * M + y.val) * M + x.val) :
    FloatOps.matmul (F := Ideal) (φ₁ := .f32) (φ₂ := .f32) (DotDims.plain N K O) none
      (shapeCast ⟨2, ![N, K]⟩ (concatenate (S4i M M K) 3
        [⟨S4i M M C, p0⟩, ⟨S4i M M C, p1⟩, ⟨S4i M M C, p2⟩, ⟨S4i M M C, p3⟩, ⟨S4i M M C, p4⟩, ⟨S4i M M C, p5⟩, ⟨S4i M M C, p6⟩, ⟨S4i M M C, p7⟩, ⟨S4i M M C, p8⟩] hc) hsc) w z (ix2 r o)
      = taps 9 3 s 1 (X b) (flat w) o y x := by
  refine dense_taps hK s X ![p0, p1, p2, p3, p4, p5, p6, p7, p8] ?_ hc hsc w z hz b y x o r hr
  intro t b u v c
  fin_cases t
  · exact (h0 b u v c).trans (by simp)
  · exact (h1 b u v c).trans (by simp)
  · exact (h2 b u v c).trans (by simp)
  · exact (h3 b u v c).trans (by simp)
  · exact (h4 b u v c).trans (by simp)
  · exact (h5 b u v c).trans (by simp)
  · exact (h6 b u v c).trans (by simp)
  · exact (h7 b u v c).trans (by simp)
  · exact (h8 b u v c).trans (by simp)

/-- Every second row from `i`, every second column from `j`. -/
abbrev phase {H V C : ℕ} (i j : ℕ) (P : (S4i H H C).Idx → EReal)
    (h1 : (S4i H H C).ShapeCasts ⟨5, ![4, V, 2, H, C]⟩)
    (h2 : (⟨5, ![4, V, 2, H, C]⟩ : Shape).Slices ![0, 0, i, 0, 0] ⟨5, ![4, V, 1, H, C]⟩)
    (h3 : (⟨5, ![4, V, 1, H, C]⟩ : Shape).ShapeCasts (S4i V H C))
    (k1 : (S4i V H C).ShapeCasts ⟨5, ![4, V, V, 2, C]⟩)
    (k2 : (⟨5, ![4, V, V, 2, C]⟩ : Shape).Slices ![0, 0, 0, j, 0] ⟨5, ![4, V, V, 1, C]⟩)
    (k3 : (⟨5, ![4, V, V, 1, C]⟩ : Shape).ShapeCasts (S4i V V C)) : (S4i V V C).Idx → EReal :=
  shapeCast (S4i V V C) (extractStridedSlice ⟨5, ![4, V, V, 1, C]⟩ ![0, 0, 0, j, 0] (shapeCast ⟨5, ![4, V, V, 2, C]⟩
    (shapeCast (S4i V H C) (extractStridedSlice ⟨5, ![4, V, 1, H, C]⟩ ![0, 0, i, 0, 0]
      (shapeCast ⟨5, ![4, V, 2, H, C]⟩ P h1) h2) h3) k1) k2) k3

/-- The product of stride two. -/
theorem prod_two {H V M C O N K : ℕ} [NeZero K] (hK : 9 * C = K) {X : Fin 4 → Img C} {P : (S4i H H C).Idx → EReal}
    (hP : ∀ b u v c, P (ix4 b u v c) = X b c ((u : ℕ) - 1 : ℤ) ((v : ℕ) - 1 : ℤ)) (hH : H = 2 * V)
    {h1 : (S4i H H C).ShapeCasts ⟨5, ![4, V, 2, H, C]⟩}
    {h20 : (⟨5, ![4, V, 2, H, C]⟩ : Shape).Slices ![0, 0, 0, 0, 0] ⟨5, ![4, V, 1, H, C]⟩}
    {h21 : (⟨5, ![4, V, 2, H, C]⟩ : Shape).Slices ![0, 0, 1, 0, 0] ⟨5, ![4, V, 1, H, C]⟩}
    {h3 : (⟨5, ![4, V, 1, H, C]⟩ : Shape).ShapeCasts (S4i V H C)}
    {k1 : (S4i V H C).ShapeCasts ⟨5, ![4, V, V, 2, C]⟩}
    {k20 : (⟨5, ![4, V, V, 2, C]⟩ : Shape).Slices ![0, 0, 0, 0, 0] ⟨5, ![4, V, V, 1, C]⟩}
    {k21 : (⟨5, ![4, V, V, 2, C]⟩ : Shape).Slices ![0, 0, 0, 1, 0] ⟨5, ![4, V, V, 1, C]⟩}
    {k3 : (⟨5, ![4, V, V, 1, C]⟩ : Shape).ShapeCasts (S4i V V C)}
    {s00 : (S4i V V C).Slices ![0, 0, 0, 0] (S4i M M C)} {s01 : (S4i V V C).Slices ![0, 0, 1, 0] (S4i M M C)}
    {s10 : (S4i V V C).Slices ![0, 1, 0, 0] (S4i M M C)} {s11 : (S4i V V C).Slices ![0, 1, 1, 0] (S4i M M C)}
    {hc : Shape.Concatenates [S4i M M C, S4i M M C, S4i M M C, S4i M M C, S4i M M C, S4i M M C, S4i M M C, S4i M M C, S4i M M C]
      (S4i M M K) 3} {hsc : (S4i M M K).ShapeCasts ⟨2, ![N, K]⟩}
    (w : (⟨2, ![K, O]⟩ : Shape).Idx → EReal) (z : (⟨2, ![N, O]⟩ : Shape).Idx → EReal) (hz : ∀ i, z i = 0)
    (b : Fin 4) (y x : Fin M) (o : Fin O) (r : Fin N) (hr : r.val = (b.val * M + y.val) * M + x.val) :
    FloatOps.matmul (F := Ideal) (φ₁ := .f32) (φ₂ := .f32) (DotDims.plain N K O) none
      (shapeCast ⟨2, ![N, K]⟩ (concatenate (S4i M M K) 3
        [⟨S4i M M C, extractStridedSlice (S4i M M C) ![0, 0, 0, 0] (phase 0 0 P h1 h20 h3 k1 k20 k3) s00⟩,
         ⟨S4i M M C, extractStridedSlice (S4i M M C) ![0, 0, 0, 0] (phase 0 1 P h1 h20 h3 k1 k21 k3) s00⟩,
         ⟨S4i M M C, extractStridedSlice (S4i M M C) ![0, 0, 1, 0] (phase 0 0 P h1 h20 h3 k1 k20 k3) s01⟩,
         ⟨S4i M M C, extractStridedSlice (S4i M M C) ![0, 0, 0, 0] (phase 1 0 P h1 h21 h3 k1 k20 k3) s00⟩,
         ⟨S4i M M C, extractStridedSlice (S4i M M C) ![0, 0, 0, 0] (phase 1 1 P h1 h21 h3 k1 k21 k3) s00⟩,
         ⟨S4i M M C, extractStridedSlice (S4i M M C) ![0, 0, 1, 0] (phase 1 0 P h1 h21 h3 k1 k20 k3) s01⟩,
         ⟨S4i M M C, extractStridedSlice (S4i M M C) ![0, 1, 0, 0] (phase 0 0 P h1 h20 h3 k1 k20 k3) s10⟩,
         ⟨S4i M M C, extractStridedSlice (S4i M M C) ![0, 1, 0, 0] (phase 0 1 P h1 h20 h3 k1 k21 k3) s10⟩,
         ⟨S4i M M C, extractStridedSlice (S4i M M C) ![0, 1, 1, 0] (phase 0 0 P h1 h20 h3 k1 k20 k3) s11⟩] hc) hsc) w z (ix2 r o)
      = taps 9 3 2 1 (X b) (flat w) o y x := by
  refine nine_taps hK 2 X _ _ _ _ _ _ _ _ _ ?_ ?_ ?_ ?_ ?_ ?_ ?_ ?_ ?_ hc hsc w z hz b y x o r hr <;> intro b u v c
  · exact piece_two hP hH (by decide) (by decide) h1 h20 h3 k1 k20 k3 s00 b u v c _ _ (by push_cast; ring) (by push_cast; ring)
  · exact piece_two hP hH (by decide) (by decide) h1 h20 h3 k1 k21 k3 s00 b u v c _ _ (by push_cast; ring) (by push_cast; ring)
  · exact piece_two hP hH (by decide) (by decide) h1 h20 h3 k1 k20 k3 s01 b u v c _ _ (by push_cast; ring) (by push_cast; ring)
  · exact piece_two hP hH (by decide) (by decide) h1 h21 h3 k1 k20 k3 s00 b u v c _ _ (by push_cast; ring) (by push_cast; ring)
  · exact piece_two hP hH (by decide) (by decide) h1 h21 h3 k1 k21 k3 s00 b u v c _ _ (by push_cast; ring) (by push_cast; ring)
  · exact piece_two hP hH (by decide) (by decide) h1 h21 h3 k1 k20 k3 s01 b u v c _ _ (by push_cast; ring) (by push_cast; ring)
  · exact piece_two hP hH (by decide) (by decide) h1 h20 h3 k1 k20 k3 s10 b u v c _ _ (by push_cast; ring) (by push_cast; ring)
  · exact piece_two hP hH (by decide) (by decide) h1 h20 h3 k1 k21 k3 s10 b u v c _ _ (by push_cast; ring) (by push_cast; ring)
  · exact piece_two hP hH (by decide) (by decide) h1 h20 h3 k1 k20 k3 s11 b u v c _ _ (by push_cast; ring) (by push_cast; ring)

/-- The product of stride one. -/
theorem prod_one {H M C O N K : ℕ} [NeZero K] (hK : 9 * C = K) {X : Fin 4 → Img C} {P : (S4i H H C).Idx → EReal}
    (hP : ∀ b u v c, P (ix4 b u v c) = X b c ((u : ℕ) - 1 : ℤ) ((v : ℕ) - 1 : ℤ))
    {c0 : (S4i H H C).Slices ![0, 0, 0, 0] (S4i H M C)} {c1 : (S4i H H C).Slices ![0, 0, 1, 0] (S4i H M C)}
    {c2 : (S4i H H C).Slices ![0, 0, 2, 0] (S4i H M C)}
    {r0 : (S4i H M C).Slices ![0, 0, 0, 0] (S4i M M C)} {r1 : (S4i H M C).Slices ![0, 1, 0, 0] (S4i M M C)}
    {r2 : (S4i H M C).Slices ![0, 2, 0, 0] (S4i M M C)}
    {hc : Shape.Concatenates [S4i M M C, S4i M M C, S4i M M C, S4i M M C, S4i M M C, S4i M M C, S4i M M C, S4i M M C, S4i M M C]
      (S4i M M K) 3} {hsc : (S4i M M K).ShapeCasts ⟨2, ![N, K]⟩}
    (w : (⟨2, ![K, O]⟩ : Shape).Idx → EReal) (z : (⟨2, ![N, O]⟩ : Shape).Idx → EReal) (hz : ∀ i, z i = 0)
    (b : Fin 4) (y x : Fin M) (o : Fin O) (r : Fin N) (hr : r.val = (b.val * M + y.val) * M + x.val) :
    FloatOps.matmul (F := Ideal) (φ₁ := .f32) (φ₂ := .f32) (DotDims.plain N K O) none
      (shapeCast ⟨2, ![N, K]⟩ (concatenate (S4i M M K) 3
        [⟨S4i M M C, extractStridedSlice (S4i M M C) ![0, 0, 0, 0] (extractStridedSlice (S4i H M C) ![0, 0, 0, 0] P c0) r0⟩,
         ⟨S4i M M C, extractStridedSlice (S4i M M C) ![0, 0, 0, 0] (extractStridedSlice (S4i H M C) ![0, 0, 1, 0] P c1) r0⟩,
         ⟨S4i M M C, extractStridedSlice (S4i M M C) ![0, 0, 0, 0] (extractStridedSlice (S4i H M C) ![0, 0, 2, 0] P c2) r0⟩,
         ⟨S4i M M C, extractStridedSlice (S4i M M C) ![0, 1, 0, 0] (extractStridedSlice (S4i H M C) ![0, 0, 0, 0] P c0) r1⟩,
         ⟨S4i M M C, extractStridedSlice (S4i M M C) ![0, 1, 0, 0] (extractStridedSlice (S4i H M C) ![0, 0, 1, 0] P c1) r1⟩,
         ⟨S4i M M C, extractStridedSlice (S4i M M C) ![0, 1, 0, 0] (extractStridedSlice (S4i H M C) ![0, 0, 2, 0] P c2) r1⟩,
         ⟨S4i M M C, extractStridedSlice (S4i M M C) ![0, 2, 0, 0] (extractStridedSlice (S4i H M C) ![0, 0, 0, 0] P c0) r2⟩,
         ⟨S4i M M C, extractStridedSlice (S4i M M C) ![0, 2, 0, 0] (extractStridedSlice (S4i H M C) ![0, 0, 1, 0] P c1) r2⟩,
         ⟨S4i M M C, extractStridedSlice (S4i M M C) ![0, 2, 0, 0] (extractStridedSlice (S4i H M C) ![0, 0, 2, 0] P c2) r2⟩] hc)
        hsc) w z (ix2 r o)
      = taps 9 3 1 1 (X b) (flat w) o y x := by
  refine nine_taps hK 1 X _ _ _ _ _ _ _ _ _ ?_ ?_ ?_ ?_ ?_ ?_ ?_ ?_ ?_ hc hsc w z hz b y x o r hr <;> intro b u v c
  · exact piece_one hP c0 r0 b u v c _ _ (by push_cast; ring) (by push_cast; ring)
  · exact piece_one hP c1 r0 b u v c _ _ (by push_cast; ring) (by push_cast; ring)
  · exact piece_one hP c2 r0 b u v c _ _ (by push_cast; ring) (by push_cast; ring)
  · exact piece_one hP c0 r1 b u v c _ _ (by push_cast; ring) (by push_cast; ring)
  · exact piece_one hP c1 r1 b u v c _ _ (by push_cast; ring) (by push_cast; ring)
  · exact piece_one hP c2 r1 b u v c _ _ (by push_cast; ring) (by push_cast; ring)
  · exact piece_one hP c0 r2 b u v c _ _ (by push_cast; ring) (by push_cast; ring)
  · exact piece_one hP c1 r2 b u v c _ _ (by push_cast; ring) (by push_cast; ring)
  · exact piece_one hP c2 r2 b u v c _ _ (by push_cast; ring) (by push_cast; ring)

end Net

end
-- ==== Proof.Conv.Rolls.lean ====
/- The first layer of each encoder, as the kernel computes it: an image lies along one line of H·H entries, a tap of the window is
   the line rotated and multiplied by a mask that is one where the window's entry lies on the image, the taps are stacked along the
   channels, and one product contracts them with the weights. -/
module

public import proofs.«01_k».proof.Proof.Conv.Dense
public import Idealize.ShloMosaic.Lib.WordArith

@[expose] public section

set_option maxRecDepth 16384

noncomputable section

namespace Net

open Idealize.ShloMosaic

/-! ## The mask -/

/-- A signed comparison of two small numbers, downwards. -/
theorem sge_small (a b : ℕ) (ha : a < 2 ^ 31) (hb : b < 2 ^ 31) :
    IntOp.cmpi .sge (BitVec.ofNat 32 a) (BitVec.ofNat 32 b) = BitVec.ofBool (decide (b ≤ a)) := by
  show BitVec.ofBool (BitVec.sle _ _) = _
  rw [BitVec.sle, WordArith.toInt_ofNat_small _ ha, WordArith.toInt_ofNat_small _ hb]
  congr 1
  simp

/-- A signed comparison of two small numbers, upwards. -/
theorem sle_small (a b : ℕ) (ha : a < 2 ^ 31) (hb : b < 2 ^ 31) :
    IntOp.cmpi .sle (BitVec.ofNat 32 a) (BitVec.ofNat 32 b) = BitVec.ofBool (decide (a ≤ b)) := by
  show BitVec.ofBool (BitVec.sle _ _) = _
  rw [BitVec.sle, WordArith.toInt_ofNat_small _ ha, WordArith.toInt_ofNat_small _ hb]
  congr 1
  simp

/-- Four conditions taken together, as a choice between one and zero. -/
theorem choose_four (p q r s : Prop) [Decidable p] [Decidable q] [Decidable r] [Decidable s] (x y : EReal) :
    Scalar.select (IntOp.andi (IntOp.andi (IntOp.andi (BitVec.ofBool (decide p)) (BitVec.ofBool (decide q))) (BitVec.ofBool (decide r)))
      (BitVec.ofBool (decide s))) x y = if p ∧ q ∧ r ∧ s then x else y := by
  by_cases hp : p <;> by_cases hq : q <;> by_cases hr : r <;> by_cases hs : s <;> simp [hp, hq, hr, hs, Scalar.select, IntOp.andi]

/-- The words of a line's entry: its row and its column. -/
def Coords (H L : ℕ) (rows cols : IVec ⟨3, ![1, 1, L]⟩ 32) : Prop :=
  ∀ l : Fin L, rows (ix3 0 0 l) = BitVec.ofNat 32 (l.val / H) ∧ cols (ix3 0 0 l) = BitVec.ofNat 32 (l.val % H)

/-- The mask of the entries whose row lies in [A, B] and whose column lies in [C, D]. -/
theorem mask_read {H L : ℕ} (hH : 0 < H) (hL : L < 2 ^ 31) {rows cols : IVec ⟨3, ![1, 1, L]⟩ 32} (hrc : Coords H L rows cols)
    (A B C D : ℕ) (hA : A < 2 ^ 31) (hB : B < 2 ^ 31) (hC : C < 2 ^ 31) (hD : D < 2 ^ 31) (one zero : EReal) (l : Fin L) :
    select (andi (andi (andi (cmpi .sge rows (broadcast _ (BitVec.ofNat 32 A))) (cmpi .sle rows (broadcast _ (BitVec.ofNat 32 B))))
      (cmpi .sge cols (broadcast _ (BitVec.ofNat 32 C)))) (cmpi .sle cols (broadcast _ (BitVec.ofNat 32 D))))
      (broadcast (⟨3, ![1, 1, L]⟩ : Shape) one) (broadcast (⟨3, ![1, 1, L]⟩ : Shape) zero) (ix3 0 0 l)
      = if A ≤ l.val / H ∧ l.val / H ≤ B ∧ C ≤ l.val % H ∧ l.val % H ≤ D then one else zero := by
  show Scalar.select (IntOp.andi (IntOp.andi (IntOp.andi (IntOp.cmpi .sge (rows (ix3 0 0 l)) (BitVec.ofNat 32 A))
    (IntOp.cmpi .sle (rows (ix3 0 0 l)) (BitVec.ofNat 32 B))) (IntOp.cmpi .sge (cols (ix3 0 0 l)) (BitVec.ofNat 32 C)))
    (IntOp.cmpi .sle (cols (ix3 0 0 l)) (BitVec.ofNat 32 D))) one zero = _
  have h1 : l.val / H < 2 ^ 31 := lt_of_le_of_lt (Nat.div_le_self _ _) (by have := l.isLt; omega)
  have h2 : l.val % H < 2 ^ 31 := lt_of_le_of_lt (Nat.mod_le _ _) (by have := l.isLt; omega)
  rw [(hrc l).1, (hrc l).2, sge_small _ _ h1 hA, sle_small _ _ h1 hB, sge_small _ _ h2 hC, sle_small _ _ h2 hD, choose_four]

/-! ## The rotated line -/

/-- A line rotated by `o` entries, read: the entry `o` further on, counted around. -/
theorem roll_read {C L n m o : ℕ} (x : (⟨3, ![4, C, L]⟩ : Shape).Idx → EReal)
    (h1 : (⟨3, ![4, C, L]⟩ : Shape).Slices ![0, 0, o] ⟨3, ![4, C, n]⟩) (h2 : (⟨3, ![4, C, L]⟩ : Shape).Slices ![0, 0, 0] ⟨3, ![4, C, m]⟩)
    (hc : Shape.Concatenates [⟨3, ![4, C, n]⟩, ⟨3, ![4, C, m]⟩] (⟨3, ![4, C, L]⟩ : Shape) 2)
    (b : Fin 4) (c : Fin C) (l k : Fin L) (hk : (l.val < n ∧ k.val = l.val + o) ∨ (n ≤ l.val ∧ k.val + n = l.val)) :
    concatenate (⟨3, ![4, C, L]⟩ : Shape) 2 [⟨⟨3, ![4, C, n]⟩, extractStridedSlice ⟨3, ![4, C, n]⟩ ![0, 0, o] x h1⟩,
      ⟨⟨3, ![4, C, m]⟩, extractStridedSlice ⟨3, ![4, C, m]⟩ ![0, 0, 0] x h2⟩] hc (ix3 b c l) = x (ix3 b c k) := by
  have hnm : n + m = L := by
    have := hc.2.2
    simpa using this
  rcases hk with ⟨hl, hk⟩ | ⟨hl, hk⟩
  · refine Eq.trans (concatenate_apply_piece (t := ⟨3, ![4, C, L]⟩) 2 _ _ _ 0 (by show 0 < 2; decide) ⟨3, ![4, C, n]⟩ _ rfl rfl 0 rfl
      (ix3 b c ⟨l.val, hl⟩) (fun a ha => ?_) (by show 0 + l.val = l.val; omega)) ?_
    · match a, ha with
      | ⟨0, _⟩, _ => rfl
      | ⟨1, _⟩, _ => rfl
      | ⟨2, _⟩, ha => exact absurd rfl ha
    · refine (extractStridedSlice_apply _ _ _ _ (ix3 b c k) (fun a => ?_))
      match a with
      | ⟨0, _⟩ => show b.val = 0 + b.val; omega
      | ⟨1, _⟩ => show c.val = 0 + c.val; omega
      | ⟨2, _⟩ => show k.val = o + l.val; omega
  · have hm : l.val - n < m := by have := l.isLt; omega
    refine Eq.trans (concatenate_apply_piece (t := ⟨3, ![4, C, L]⟩) 2 _ _ _ 1 (by show 1 < 2; decide) ⟨3, ![4, C, m]⟩ _ rfl rfl n rfl
      (ix3 b c ⟨l.val - n, hm⟩) (fun a ha => ?_) (by show n + (l.val - n) = l.val; omega)) ?_
    · match a, ha with
      | ⟨0, _⟩, _ => rfl
      | ⟨1, _⟩, _ => rfl
      | ⟨2, _⟩, ha => exact absurd rfl ha
    · refine (extractStridedSlice_apply _ _ _ _ (ix3 b c k) (fun a => ?_))
      match a with
      | ⟨0, _⟩ => show b.val = 0 + b.val; omega
      | ⟨1, _⟩ => show c.val = 0 + c.val; omega
      | ⟨2, _⟩ => show k.val = 0 + (l.val - n); omega

/-- What a tap holds: the image moved by (di, dj). -/
def Tap {C L : ℕ} (H : ℕ) (hL : L = H * H) (x : (⟨3, ![4, C, L]⟩ : Shape).Idx → EReal) (di dj : ℤ)
    (y : (⟨3, ![4, C, L]⟩ : Shape).Idx → EReal) : Prop :=
  ∀ (b : Fin 4) (c : Fin C) (l : Fin L), y (ix3 b c l) = rowImg H hL x b c (((l.val / H : ℕ) : ℤ) + di) (((l.val % H : ℕ) : ℤ) + dj)

/-- The word one and the word zero. -/
theorem one_word : (Scalar.ofBits (F := Ideal) .f32 0x3F800000#32 : EReal) = 1 := by
  pointwise
theorem zero_word' : (Scalar.ofBits (F := Ideal) .f32 0x00000000#32 : EReal) = 0 := by
  pointwise

/-- A tap's entries from a line `y` that, where the moved entry lies on the image, holds the image there. -/
theorem tap_of {C H L : ℕ} (hH : 0 < H) (hL : L = H * H) (hL31 : L < 2 ^ 31) (x y : (⟨3, ![4, C, L]⟩ : Shape).Idx → EReal)
    {rows cols : IVec ⟨3, ![1, 1, L]⟩ 32} (hrc : Coords H L rows cols) (di dj : ℤ)
    (hy : ∀ (b : Fin 4) (c : Fin C) (l k : Fin L), (k.val : ℤ) = l.val + (di * H + dj) → y (ix3 b c l) = x (ix3 b c k))
    (A B P D : ℕ) (hA : (A : ℤ) = max 0 (-di)) (hB : (B : ℤ) = min ((H : ℤ) - 1) (H - 1 - di))
    (hP : (P : ℤ) = max 0 (-dj)) (hD : (D : ℤ) = min ((H : ℤ) - 1) (H - 1 - dj)) (hA' : A < 2 ^ 31) (hP' : P < 2 ^ 31)
    (hbc : (⟨3, ![1, 1, L]⟩ : Shape).Broadcasts ⟨3, ![4, C, L]⟩) (hL1 : L ≠ 1) :
    Tap H hL x di dj (mulf (F := Ideal) (φ := .f32) y (broadcastTo (⟨3, ![4, C, L]⟩ : Shape)
      (select (andi (andi (andi (cmpi .sge rows (broadcast _ (BitVec.ofNat 32 A))) (cmpi .sle rows (broadcast _ (BitVec.ofNat 32 B))))
      (cmpi .sge cols (broadcast _ (BitVec.ofNat 32 P)))) (cmpi .sle cols (broadcast _ (BitVec.ofNat 32 D))))
      (broadcast (⟨3, ![1, 1, L]⟩ : Shape) (Scalar.ofBits (F := Ideal) .f32 0x3F800000#32))
      (broadcast (⟨3, ![1, 1, L]⟩ : Shape) (Scalar.ofBits (F := Ideal) .f32 0x00000000#32))) hbc)) := by
  intro b c l
  have hHL : H ≤ L := by rw [hL]; exact Nat.le_mul_of_pos_left _ hH
  refine (congrArg (fun t : EReal => y (ix3 b c l) * t) ((broadcastTo_apply _ hbc (ix3 b c l) (ix3 0 0 l) (fun a => by
    match a with
    | ⟨0, _⟩ => rfl
    | ⟨1, _⟩ => rfl
    | ⟨2, _⟩ => show l.val = if L = 1 then 0 else l.val; rw [if_neg hL1])).trans
    (mask_read hH hL31 hrc A B P D hA' (by omega) hP' (by omega) _ _ l))).trans ?_
  have h0 := Nat.div_add_mod l.val H
  have hm := Nat.mod_lt l.val hH
  have hd : l.val / H < H := by
    rw [Nat.div_lt_iff_lt_mul hH, ← hL]
    exact l.isLt
  generalize hr : l.val / H = r at *
  generalize hq : l.val % H = q at *
  unfold rowImg
  by_cases hi : Inside H ((r : ℤ) + di) ((q : ℤ) + dj)
  · rw [dif_pos hi]
    have hi' := hi
    obtain ⟨i1, i2, i3, i4⟩ := hi'
    rw [if_pos (by omega), one_word, mul_one]
    refine hy b c l _ ?_
    show ((((r : ℤ) + di).toNat * H + ((q : ℤ) + dj).toNat : ℕ) : ℤ) = _
    push_cast
    rw [Int.toNat_of_nonneg i1, Int.toNat_of_nonneg i3, ← h0]
    push_cast
    ring
  · rw [dif_neg hi, if_neg (fun hh => hi ?_), zero_word', mul_zero]
    obtain ⟨j1, j2, j3, j4⟩ := hh
    refine ⟨?_, ?_, ?_, ?_⟩ <;> omega

/-- A rotated and masked line is a tap. -/
theorem tap_roll {C H L n m o : ℕ} (hH : 0 < H) (hL : L = H * H) (hL31 : L < 2 ^ 31) (x : (⟨3, ![4, C, L]⟩ : Shape).Idx → EReal)
    {rows cols : IVec ⟨3, ![1, 1, L]⟩ 32} (hrc : Coords H L rows cols) (di dj : ℤ) (A B P D : ℕ)
    (hk : ((A : ℤ) = max 0 (-di) ∧ (B : ℤ) = min ((H : ℤ) - 1) (H - 1 - di) ∧ (P : ℤ) = max 0 (-dj) ∧
      (D : ℤ) = min ((H : ℤ) - 1) (H - 1 - dj)) ∧ (A < 2 ^ 31 ∧ P < 2 ^ 31) ∧ L ≠ 1 ∧ n + o = L ∧
      ((o : ℤ) = di * H + dj ∨ (o : ℤ) = di * H + dj + L))
    (h1 : (⟨3, ![4, C, L]⟩ : Shape).Slices ![0, 0, o] ⟨3, ![4, C, n]⟩ := by decide)
    (h2 : (⟨3, ![4, C, L]⟩ : Shape).Slices ![0, 0, 0] ⟨3, ![4, C, m]⟩ := by decide)
    (hc : Shape.Concatenates [⟨3, ![4, C, n]⟩, ⟨3, ![4, C, m]⟩] (⟨3, ![4, C, L]⟩ : Shape) 2 := by decide)
    (hbc : (⟨3, ![1, 1, L]⟩ : Shape).Broadcasts ⟨3, ![4, C, L]⟩ := by decide) :
    Tap H hL x di dj (mulf (F := Ideal) (φ := .f32)
      (concatenate (⟨3, ![4, C, L]⟩ : Shape) 2 [⟨⟨3, ![4, C, n]⟩, extractStridedSlice ⟨3, ![4, C, n]⟩ ![0, 0, o] x h1⟩,
        ⟨⟨3, ![4, C, m]⟩, extractStridedSlice ⟨3, ![4, C, m]⟩ ![0, 0, 0] x h2⟩] hc)
      (broadcastTo (⟨3, ![4, C, L]⟩ : Shape)
      (select (andi (andi (andi (cmpi .sge rows (broadcast _ (BitVec.ofNat 32 A))) (cmpi .sle rows (broadcast _ (BitVec.ofNat 32 B))))
      (cmpi .sge cols (broadcast _ (BitVec.ofNat 32 P)))) (cmpi .sle cols (broadcast _ (BitVec.ofNat 32 D))))
      (broadcast (⟨3, ![1, 1, L]⟩ : Shape) (Scalar.ofBits (F := Ideal) .f32 0x3F800000#32))
      (broadcast (⟨3, ![1, 1, L]⟩ : Shape) (Scalar.ofBits (F := Ideal) .f32 0x00000000#32))) hbc)) := by
  obtain ⟨⟨hA, hB, hP, hD⟩, ⟨hA', hP'⟩, hL1, hno, ho⟩ := hk
  refine tap_of hH hL hL31 x _ hrc di dj (fun b c l k hk => ?_) A B P D hA hB hP hD hA' hP' hbc hL1
  refine roll_read x h1 h2 hc b c l k ?_
  have hl := l.isLt
  have hkk := k.isLt
  generalize di * (H : ℤ) + dj = δ at *
  rcases ho with ho | ho <;> omega

/-- The centre tap: the line itself, masked. -/
theorem tap_centre {C H L : ℕ} (hH : 0 < H) (hL : L = H * H) (hL31 : L < 2 ^ 31) (x : (⟨3, ![4, C, L]⟩ : Shape).Idx → EReal)
    {rows cols : IVec ⟨3, ![1, 1, L]⟩ 32} (hrc : Coords H L rows cols) (B D : ℕ)
    (hk : B + 1 = H ∧ D + 1 = H ∧ L ≠ 1)
    {hbc : (⟨3, ![1, 1, L]⟩ : Shape).Broadcasts ⟨3, ![4, C, L]⟩} :
    Tap H hL x 0 0 (mulf (F := Ideal) (φ := .f32) x
      (broadcastTo (⟨3, ![4, C, L]⟩ : Shape)
      (select (andi (andi (andi (cmpi .sge rows (broadcast _ (BitVec.ofNat 32 0))) (cmpi .sle rows (broadcast _ (BitVec.ofNat 32 B))))
      (cmpi .sge cols (broadcast _ (BitVec.ofNat 32 0)))) (cmpi .sle cols (broadcast _ (BitVec.ofNat 32 D))))
      (broadcast (⟨3, ![1, 1, L]⟩ : Shape) (Scalar.ofBits (F := Ideal) .f32 0x3F800000#32))
      (broadcast (⟨3, ![1, 1, L]⟩ : Shape) (Scalar.ofBits (F := Ideal) .f32 0x00000000#32))) hbc)) := by
  refine tap_of hH hL hL31 x _ hrc 0 0 (fun b c l k hk => ?_) 0 B 0 D (by simp) (by omega) (by simp) (by omega) (by decide) (by decide) hbc hk.2.2
  have : k = l := Fin.ext (by simpa using hk)
  rw [this]

/-! ## The stack of taps -/

/-- A list of taps, numbered on from `t`, each the image moved by its place in a k×k window with border p. -/
def Stacked {C L : ℕ} (H : ℕ) (hL : L = H * H) (x : (⟨3, ![4, C, L]⟩ : Shape).Idx → EReal) (k p : ℕ) :
    ℕ → List ((s : Shape) × (s.Idx → EReal)) → Prop
  | _, [] => True
  | t, e :: es => (∃ y, e = ⟨⟨3, ![4, C, L]⟩, y⟩ ∧ Tap H hL x (((t / k : ℕ) : ℤ) - p) (((t % k : ℕ) : ℤ) - p) y) ∧ Stacked H hL x k p (t + 1) es

theorem Stacked.nil {C L H : ℕ} {hL : L = H * H} {x : (⟨3, ![4, C, L]⟩ : Shape).Idx → EReal} {k p t : ℕ} : Stacked H hL x k p t [] :=
  trivial

theorem Stacked.cons {C L H : ℕ} {hL : L = H * H} {x : (⟨3, ![4, C, L]⟩ : Shape).Idx → EReal} {k p t : ℕ}
    {y : (⟨3, ![4, C, L]⟩ : Shape).Idx → EReal} {es : List ((s : Shape) × (s.Idx → EReal))}
    (h : Tap H hL x (((t / k : ℕ) : ℤ) - p) (((t % k : ℕ) : ℤ) - p) y) (hs : Stacked H hL x k p (t + 1) es) :
    Stacked H hL x k p t (⟨⟨3, ![4, C, L]⟩, y⟩ :: es) :=
  ⟨⟨y, rfl, h⟩, hs⟩

theorem Stacked.get {C L H : ℕ} {hL : L = H * H} {x : (⟨3, ![4, C, L]⟩ : Shape).Idx → EReal} {k p : ℕ} :
    ∀ {xs : List ((s : Shape) × (s.Idx → EReal))} {t : ℕ}, Stacked H hL x k p t xs → ∀ (i : ℕ) (hi : i < xs.length),
      ∃ y, xs[i] = ⟨⟨3, ![4, C, L]⟩, y⟩ ∧ Tap H hL x ((((t + i) / k : ℕ) : ℤ) - p) ((((t + i) % k : ℕ) : ℤ) - p) y
  | [], _, _, i, hi => absurd hi (by simp)
  | e :: es, t, h, 0, _ => h.1
  | e :: es, t, h, i + 1, hi => by
    obtain ⟨y, h1, h2⟩ := Stacked.get h.2 i (by simpa using hi)
    refine ⟨y, by simpa using h1, ?_⟩
    rw [show t + (i + 1) = t + 1 + i by omega]
    exact h2

theorem Stacked.pre {C L H : ℕ} {hL : L = H * H} {x : (⟨3, ![4, C, L]⟩ : Shape).Idx → EReal} {k p K : ℕ} :
    ∀ {xs : List ((s : Shape) × (s.Idx → EReal))} {t : ℕ}, Stacked H hL x k p t xs → ∀ i : ℕ, i ≤ xs.length →
      ((((xs.take i).map (·.1)).map fun s : Shape => if h : s.rank = (⟨3, ![4, K, L]⟩ : Shape).rank then
        s.size ((1 : Fin (⟨3, ![4, K, L]⟩ : Shape).rank).cast h.symm) else 0).sum = i * C)
  | _, _, _, 0, _ => by simp
  | [], _, _, i + 1, hi => absurd hi (by simp)
  | e :: es, t, h, i + 1, hi => by
    obtain ⟨⟨y, he, _⟩, h2⟩ := h
    have ih := Stacked.pre (K := K) h2 i (by simpa using hi)
    subst he
    simp only [List.take_succ_cons, List.map_cons, List.sum_cons]
    rw [ih]
    show C + i * C = (i + 1) * C
    rw [Nat.add_mul, Nat.one_mul, Nat.add_comm]

/-- The stack's channels hold the taps in order. -/
def HoldsStack {C L : ℕ} (H : ℕ) (hL : L = H * H) (x : (⟨3, ![4, C, L]⟩ : Shape).Idx → EReal) (k p n K : ℕ)
    (S : (⟨3, ![4, K, L]⟩ : Shape).Idx → EReal) : Prop :=
  ∀ (t : Fin n) (c : Fin C) (i : Fin K), i.val = t.val * C + c.val → ∀ (b : Fin 4) (l : Fin L),
    S (ix3 b i l) = rowImg H hL x b c (((l.val / H : ℕ) : ℤ) + (((t.val / k : ℕ) : ℤ) - p)) (((l.val % H : ℕ) : ℤ) + (((t.val % k : ℕ) : ℤ) - p))

theorem stack_read {C L H k p n K : ℕ} {hL : L = H * H} {x : (⟨3, ![4, C, L]⟩ : Shape).Idx → EReal}
    (xs : List ((s : Shape) × (s.Idx → EReal))) (hs : Stacked H hL x k p 0 xs) (hn : n = xs.length)
    (hc : Shape.Concatenates (xs.map (·.1)) (⟨3, ![4, K, L]⟩ : Shape) 1) :
    HoldsStack H hL x k p n K (concatenate (⟨3, ![4, K, L]⟩ : Shape) 1 xs hc) := by
  intro t c i hi b l
  have ht : t.val < xs.length := hn ▸ t.isLt
  obtain ⟨y, h1, h2⟩ := hs.get t.val ht
  rw [Nat.zero_add] at h2
  refine (concatenate_apply_piece (t := ⟨3, ![4, K, L]⟩) 1 xs hc _ t.val ht ⟨3, ![4, C, L]⟩ y h1 rfl (t.val * C)
    (hs.pre t.val ht.le) (ix3 b c l) (fun a ha => ?_) (by show t.val * C + c.val = i.val; omega)).trans (h2 b c l)
  match a, ha with
  | ⟨0, _⟩, _ => rfl
  | ⟨1, _⟩, ha => exact absurd rfl ha
  | ⟨2, _⟩, _ => rfl

/-! ## The product -/

/-- A product that contracts the first operand's rows with the second's columns. -/
def crossed (K L O : ℕ) : DotDims ⟨2, ![K, L]⟩ ⟨2, ![O, K]⟩ ⟨2, ![L, O]⟩ where
  lhsContracting := [0]
  rhsContracting := [1]
  lhsNonContracting := [1]
  rhsNonContracting := [0]
  lhsBatch := []
  rhsBatch := []
  wf := ⟨rfl, by simp, rfl, by simp, by simp, by simp,
    (by decide : (([] ++ [1] ++ [0] : List (Fin 2))).Perm (List.finRange 2)),
    (by decide : (([] ++ [0] ++ [1] : List (Fin 2))).Perm (List.finRange 2)),
    rfl, by show 0 < 2; decide, fun a => by fin_cases a <;> rfl⟩

theorem crossed_read {K L O : ℕ} (a : (⟨2, ![K, L]⟩ : Shape).Idx → EReal) (w : (⟨2, ![O, K]⟩ : Shape).Idx → EReal)
    (z : (⟨2, ![L, O]⟩ : Shape).Idx → EReal) (l : Fin L) (o : Fin O) :
    FloatOps.matmul (F := Ideal) (φ₁ := .f32) (φ₂ := .f32) (crossed K L O) none a w z (ix2 l o)
      = z (ix2 l o) + ∑ k : Fin K, a (ix2 k l) * w (ix2 o k) := by
  refine (Ideal.matmul_apply₁_of (crossed K L O) rfl rfl a w z (ix2 l o) (fun k => ix2 k l) (fun k => ix2 o k) (fun k => ?_) (fun k => ?_))
  · funext q
    match q with
    | ⟨0, _⟩ => rfl
    | ⟨1, _⟩ => rfl
  · funext q
    match q with
    | ⟨0, _⟩ => rfl
    | ⟨1, _⟩ => rfl

/-- A matrix turned over. -/
def turned {O K : ℕ} (w : (⟨2, ![O, K]⟩ : Shape).Idx → EReal) : (⟨2, ![K, O]⟩ : Shape).Idx → EReal :=
  fun i => w (ix2 (i 1 : Fin O) (i 0 : Fin K))

/-- One image of the first layer: the product with the stack's slice, the bias, the positive part, on the square. -/
theorem image_read {C L H k p n K O : ℕ} [NeZero K] {hL : L = H * H} {x : (⟨3, ![4, C, L]⟩ : Shape).Idx → EReal}
    {S : (⟨3, ![4, K, L]⟩ : Shape).Idx → EReal} (hS : HoldsStack H hL x k p n K S) (hK : n * C = K) (hO : O ≠ 1) (q : Fin 4)
    {hsl : (⟨3, ![4, K, L]⟩ : Shape).Slices ![q.val, 0, 0] ⟨3, ![1, K, L]⟩}
    {hs1 : (⟨3, ![1, K, L]⟩ : Shape).ShapeCasts ⟨2, ![K, L]⟩}
    {hb : (⟨2, ![1, O]⟩ : Shape).Broadcasts ⟨2, ![L, O]⟩} {hs2 : (⟨2, ![L, O]⟩ : Shape).ShapeCasts ⟨3, ![H, H, O]⟩}
    (w : (⟨2, ![O, K]⟩ : Shape).Idx → EReal) (β : (⟨2, ![1, O]⟩ : Shape).Idx → EReal)
    (z : (⟨2, ![L, O]⟩ : Shape).Idx → EReal) (hz : ∀ i, z i = 0) (zero : EReal) (h0 : zero = 0)
    (u v : Fin H) (o : Fin O) :
    shapeCast ⟨3, ![H, H, O]⟩ (maximumf (F := Ideal) (φ := .f32) (addf (F := Ideal) (φ := .f32)
      (FloatOps.matmul (F := Ideal) (φ₁ := .f32) (φ₂ := .f32) (crossed K L O) none
        (shapeCast ⟨2, ![K, L]⟩ (extractStridedSlice ⟨3, ![1, K, L]⟩ ![q.val, 0, 0] S hsl) hs1) w z)
      (broadcastTo ⟨2, ![L, O]⟩ β hb)) (broadcast ⟨2, ![L, O]⟩ zero)) hs2 (ix3 u v o)
      = max (taps n k 1 p (rowImg H hL x q) (flat (turned w)) o u v + β (ix2 0 o)) 0 := by
  have hlt : u.val * H + v.val < L := by
    have h1 := Nat.mul_le_mul_right H (Nat.succ_le_of_lt u.isLt)
    rw [Nat.succ_mul] at h1
    have := v.isLt
    omega
  have hH : 0 < H := by have := u.isLt; omega
  rw [shapeCast_apply _ _ _ (ix2 ⟨u.val * H + v.val, hlt⟩ o) (by rw [Shape.rowMajor_val_three, Shape.rowMajor_val_two]; rfl)]
  refine congrArg₂ (fun a b : EReal => max a b) (congrArg₂ (fun a b : EReal => a + b) ?_ ?_) h0
  · rw [crossed_read, hz, zero_add]
    refine taps_sum hK (rowImg H hL x q) (turned w) o u v _ (fun t c i hi => ?_)
    refine congrArg (fun a : EReal => a * w (ix2 o i)) ?_
    rw [shapeCast_apply _ _ _ (ix3 0 i ⟨u.val * H + v.val, hlt⟩) (by
      rw [Shape.rowMajor_val_three, Shape.rowMajor_val_two]
      show (0 * K + i.val) * L + (u.val * H + v.val) = i.val * L + (u.val * H + v.val)
      rw [Nat.zero_mul, Nat.zero_add]),
      extractStridedSlice_apply _ _ _ _ (ix3 q i ⟨u.val * H + v.val, hlt⟩) (fun a => by
        match a with
        | ⟨0, _⟩ => rfl
        | ⟨1, _⟩ => exact (Nat.zero_add _).symm
        | ⟨2, _⟩ => exact (Nat.zero_add _).symm), hS t c i hi]
    have e1 : (u.val * H + v.val) / H = u.val := by
      rw [Nat.mul_comm, Nat.mul_add_div hH, Nat.div_eq_of_lt v.isLt, Nat.add_zero]
    have e2 : (u.val * H + v.val) % H = v.val := by
      rw [Nat.mul_comm, Nat.mul_add_mod, Nat.mod_eq_of_lt v.isLt]
    show rowImg H hL x q c ((((u.val * H + v.val) / H : ℕ) : ℤ) + _) ((((u.val * H + v.val) % H : ℕ) : ℤ) + _) = _
    rw [e1, e2]
    congr 1 <;> push_cast <;> ring
  · refine broadcastTo_apply _ hb _ (ix2 0 o) (fun a => ?_)
    match a with
    | ⟨0, _⟩ => rfl
    | ⟨1, _⟩ => show o.val = if O = 1 then 0 else o.val; rw [if_neg hO]

/-! ## The batch -/

/-- Four images put together into a batch, read. -/
theorem batch_read {H O : ℕ} {a0 a1 a2 a3 : (⟨3, ![H, H, O]⟩ : Shape).Idx → EReal} (f : Fin 4 → Fin H → Fin H → Fin O → EReal)
    (h0 : ∀ u v o, a0 (ix3 u v o) = f 0 u v o) (h1 : ∀ u v o, a1 (ix3 u v o) = f 1 u v o)
    (h2 : ∀ u v o, a2 (ix3 u v o) = f 2 u v o) (h3 : ∀ u v o, a3 (ix3 u v o) = f 3 u v o)
    {hs : (⟨3, ![H, H, O]⟩ : Shape).ShapeCasts ⟨4, ![1, H, H, O]⟩}
    {hc : Shape.Concatenates [⟨4, ![1, H, H, O]⟩, ⟨4, ![1, H, H, O]⟩, ⟨4, ![1, H, H, O]⟩, ⟨4, ![1, H, H, O]⟩] (S4i H H O) 0}
    (b : Fin 4) (u v : Fin H) (o : Fin O) :
    concatenate (S4i H H O) 0 [⟨⟨4, ![1, H, H, O]⟩, shapeCast ⟨4, ![1, H, H, O]⟩ a0 hs⟩, ⟨⟨4, ![1, H, H, O]⟩, shapeCast ⟨4, ![1, H, H, O]⟩ a1 hs⟩,
      ⟨⟨4, ![1, H, H, O]⟩, shapeCast ⟨4, ![1, H, H, O]⟩ a2 hs⟩, ⟨⟨4, ![1, H, H, O]⟩, shapeCast ⟨4, ![1, H, H, O]⟩ a3 hs⟩] hc (ix4 b u v o)
      = f b u v o := by
  have one : ∀ a : (⟨3, ![H, H, O]⟩ : Shape).Idx → EReal, shapeCast ⟨4, ![1, H, H, O]⟩ a hs (ix4 0 u v o) = a (ix3 u v o) := fun a =>
    shapeCast_apply _ _ _ (ix3 u v o) (by
      rw [Shape.rowMajor_val_three, Shape.rowMajor_val_four]
      show _ = ((0 * H + u.val) * H + v.val) * O + o.val
      show (u.val * H + v.val) * O + o.val = _
      rw [Nat.zero_mul, Nat.zero_add])
  have key := concatenate_ofFn_unit_apply (t := S4i H H O) (s₁ := ⟨4, ![1, H, H, O]⟩) 0
    (![shapeCast ⟨4, ![1, H, H, O]⟩ a0 hs, shapeCast ⟨4, ![1, H, H, O]⟩ a1 hs, shapeCast ⟨4, ![1, H, H, O]⟩ a2 hs,
      shapeCast ⟨4, ![1, H, H, O]⟩ a3 hs]) hc rfl rfl (ix4 b u v o) b rfl (ix4 0 u v o) (fun a ha => by
        match a, ha with
        | ⟨0, _⟩, ha => exact absurd rfl ha
        | ⟨1, _⟩, _ => rfl
        | ⟨2, _⟩, _ => rfl
        | ⟨3, _⟩, _ => rfl)
  refine Eq.trans key ?_
  fin_cases b
  · exact (one a0).trans (h0 u v o)
  · exact (one a1).trans (h1 u v o)
  · exact (one a2).trans (h2 u v o)
  · exact (one a3).trans (h3 u v o)

end Net

end
-- ==== Proof.Conv.Weights.lean ====
/- The weights as the kernel's host code lays them out, read by tap and channel. -/
module

public import proofs.«01_k».proof.Proof.Conv.Dense
public import proofs.«01_k».proof.Proof.Conv.Rolls
public import Idealize.ShloMosaic.Lib.KernelVsHost

@[expose] public section

set_option maxRecDepth 16384

noncomputable section

namespace Net

open Idealize.ShloMosaic

theorem tap_place {k C K : ℕ} [NeZero K] (hK : k * k * C = K) (c : Fin C) {t : ℕ} (ht : t < k * k) : (Fin.ofNat K (t * C + c.val)).val = t * C + c.val := by
  show (t * C + c.val) % K = _
  refine Nat.mod_eq_of_lt ?_
  have h1 : t * C + C ≤ k * k * C := by
    have := Nat.mul_le_mul_right C (show t + 1 ≤ k * k from ht)
    rwa [Nat.add_mul, Nat.one_mul] at this
  have := c.isLt
  omega

theorem tap_row {k : ℕ} [NeZero k] {t : ℕ} (ht : t < k * k) : (Fin.ofNat k (t / k)).val * k + (Fin.ofNat k (t % k)).val = t := by
  have hk : 0 < k := Nat.pos_of_ne_zero (NeZero.ne k)
  show (t / k) % k * k + (t % k) % k = t
  rw [Nat.mod_mod, Nat.mod_eq_of_lt (Nat.div_lt_of_lt_mul ht)]
  exact Nat.div_add_mod' t k

/-- Rows by tap and channel. -/
theorem flat_cast {k C O K : ℕ} [NeZero K] [NeZero k] (hK : k * k * C = K) (T : (⟨4, ![k, k, C, O]⟩ : Shape).Idx → EReal)
    (hs : (⟨4, ![k, k, C, O]⟩ : Shape).ShapeCasts ⟨2, ![K, O]⟩) (o : Fin O) (c : Fin C) {t : ℕ} (ht : t < k * k) :
    flat (shapeCast ⟨2, ![K, O]⟩ T hs) o c t = T (ix4 (Fin.ofNat k (t / k)) (Fin.ofNat k (t % k)) c o) := by
  unfold flat
  refine shapeCast_apply _ _ _ _ ?_
  rw [Shape.rowMajor_val_four, Shape.rowMajor_val_two]
  show (((Fin.ofNat k (t / k)).val * k + (Fin.ofNat k (t % k)).val) * C + c.val) * O + o.val = (Fin.ofNat K (t * C + c.val)).val * O + o.val
  rw [tap_row ht, tap_place hK c ht]

/-- The same turned over. -/
theorem turned_cast {k C O K : ℕ} [NeZero K] [NeZero k] (hK : k * k * C = K) (T : (⟨4, ![O, k, k, C]⟩ : Shape).Idx → EReal)
    (hs : (⟨4, ![O, k, k, C]⟩ : Shape).ShapeCasts ⟨2, ![O, K]⟩) (o : Fin O) (c : Fin C) {t : ℕ} (ht : t < k * k) :
    flat (turned (shapeCast ⟨2, ![O, K]⟩ T hs)) o c t = T (ix4 o (Fin.ofNat k (t / k)) (Fin.ofNat k (t % k)) c) := by
  unfold flat turned
  refine shapeCast_apply _ _ (ix2 o (Fin.ofNat K (t * C + c.val))) _ ?_
  rw [Shape.rowMajor_val_four, Shape.rowMajor_val_two]
  show ((o.val * k + (Fin.ofNat k (t / k)).val) * k + (Fin.ofNat k (t % k)).val) * C + c.val = o.val * K + (Fin.ofNat K (t * C + c.val)).val
  rw [tap_place hK c ht, ← hK]
  have h := tap_row (k := k) ht
  calc ((o.val * k + (Fin.ofNat k (t / k)).val) * k + (Fin.ofNat k (t % k)).val) * C + c.val
      = o.val * (k * k * C) + (((Fin.ofNat k (t / k)).val * k + (Fin.ofNat k (t % k)).val) * C + c.val) := by ring
    _ = _ := by rw [h]

/-- Taps first, channels, results. -/
theorem taps_first {k C O : ℕ} (w : (⟨4, ![O, C, k, k]⟩ : Shape).Idx → EReal)
    (h : (⟨4, ![O, C, k, k]⟩ : Shape).Transposes [2, 3, 1, 0] ⟨4, ![k, k, C, O]⟩) (i j : Fin k) (c : Fin C) (o : Fin O) :
    transpose ⟨4, ![k, k, C, O]⟩ [2, 3, 1, 0] w h (ix4 i j c o) = w (ix4 o c i j) := by
  refine transpose_apply _ _ _ _ _ (fun b => ?_)
  fin_cases b <;> rfl

/-- Channels last. -/
theorem channels_last {k C O : ℕ} (w : (⟨4, ![O, C, k, k]⟩ : Shape).Idx → EReal)
    (h : (⟨4, ![O, C, k, k]⟩ : Shape).Transposes [0, 2, 3, 1] ⟨4, ![O, k, k, C]⟩) (i j : Fin k) (c : Fin C) (o : Fin O) :
    transpose ⟨4, ![O, k, k, C]⟩ [0, 2, 3, 1] w h (ix4 o i j c) = w (ix4 o c i j) := by
  refine transpose_apply _ _ _ _ _ (fun b => ?_)
  fin_cases b <;> rfl

/-- Weights laid out with a row for each tap and channel. -/
theorem dense_wt {k C O K : ℕ} [NeZero K] [NeZero k] (hK : k * k * C = K) (w : (⟨4, ![O, C, k, k]⟩ : Shape).Idx → EReal)
    (h : (⟨4, ![O, C, k, k]⟩ : Shape).Transposes [2, 3, 1, 0] ⟨4, ![k, k, C, O]⟩)
    (hs : (⟨4, ![k, k, C, O]⟩ : Shape).ShapeCasts ⟨2, ![K, O]⟩) (o : Fin O) (c : Fin C) (t : ℕ) (ht : t < k * k) :
    flat (shapeCast ⟨2, ![K, O]⟩ (transpose ⟨4, ![k, k, C, O]⟩ [2, 3, 1, 0] w h) hs) o c t = wt w o c t :=
  (flat_cast hK _ hs o c ht).trans (taps_first w h _ _ c o)

/-- Weights laid out with a column for each tap and channel. -/
theorem turned_wt {k C O K : ℕ} [NeZero K] [NeZero k] (hK : k * k * C = K) (w : (⟨4, ![O, C, k, k]⟩ : Shape).Idx → EReal)
    (h : (⟨4, ![O, C, k, k]⟩ : Shape).Transposes [0, 2, 3, 1] ⟨4, ![O, k, k, C]⟩)
    (hs : (⟨4, ![O, k, k, C]⟩ : Shape).ShapeCasts ⟨2, ![O, K]⟩) (o : Fin O) (c : Fin C) (t : ℕ) (ht : t < k * k) :
    flat (turned (shapeCast ⟨2, ![O, K]⟩ (transpose ⟨4, ![O, k, k, C]⟩ [0, 2, 3, 1] w h) hs)) o c t = wt w o c t :=
  (turned_cast hK _ hs o c ht).trans (channels_last w h _ _ c o)

section Padded

variable {k C D O K : ℕ} [NeZero K] [NeZero k] (hK : k * k * (C + D) = K) (w : (⟨4, ![O, C, k, k]⟩ : Shape).Idx → EReal)
  (h : (⟨4, ![O, C, k, k]⟩ : Shape).Transposes [0, 2, 3, 1] ⟨4, ![O, k, k, C]⟩)
  {z : (⟨0, ![]⟩ : Shape).Idx → EReal} (hu : 0 < (⟨0, ![]⟩ : Shape).numel) (hz : z (Shape.Idx.first hu) = 0)
  (hp : (⟨4, ![O, k, k, C]⟩ : Shape).Pads ![0, 0, 0, 0] ![0, 0, 0, D] ![0, 0, 0, 0] ⟨4, ![O, k, k, C + D]⟩)
  (hs : (⟨4, ![O, k, k, C + D]⟩ : Shape).ShapeCasts ⟨2, ![O, K]⟩)

include hK in
/-- The channels there are. -/
theorem padded_wt (o : Fin O) (c : Fin C) (t : ℕ) (ht : t < k * k) :
    flat (turned (shapeCast ⟨2, ![O, K]⟩ (pad ⟨4, ![O, k, k, C + D]⟩ ![0, 0, 0, 0] ![0, 0, 0, D] ![0, 0, 0, 0]
      (transpose ⟨4, ![O, k, k, C]⟩ [0, 2, 3, 1] w h) z hp hu) hs)) o (Fin.castAdd D c) t = wt w o c t := by
  refine (turned_cast hK _ hs o _ ht).trans ?_
  refine Eq.trans (pad_apply_of_inside _ _ _ _ _ hp hu _ (ix4 o (Fin.ofNat k (t / k)) (Fin.ofNat k (t % k)) c) (fun a => ?_))
    (channels_last w h _ _ c o)
  fin_cases a
  · show o.val = 0 + o.val * (0 + 1)
    omega
  · show (Fin.ofNat k (t / k)).val = 0 + (Fin.ofNat k (t / k)).val * (0 + 1)
    omega
  · show (Fin.ofNat k (t % k)).val = 0 + (Fin.ofNat k (t % k)).val * (0 + 1)
    omega
  · show c.val = 0 + c.val * (0 + 1)
    omega

include hK hz in
/-- The channels added, of weight zero. -/
theorem padded_zero (o : Fin O) (c : Fin (C + D)) (hc : C ≤ c.val) (t : ℕ) (ht : t < k * k) :
    flat (turned (shapeCast ⟨2, ![O, K]⟩ (pad ⟨4, ![O, k, k, C + D]⟩ ![0, 0, 0, 0] ![0, 0, 0, D] ![0, 0, 0, 0]
      (transpose ⟨4, ![O, k, k, C]⟩ [0, 2, 3, 1] w h) z hp hu) hs)) o c t = 0 := by
  refine (turned_cast hK _ hs o _ ht).trans ?_
  refine (pad_apply_of_not_inside _ _ _ _ _ hp hu _ (3 : Fin 4) (fun hin => ?_)).trans hz
  have h3 : (c.val - 0) / (0 + 1) < C := hin.2.2
  omega

end Padded

section Images

variable {N C D H L : ℕ} (hL : L = H * H)

/-- The rows of an image laid one after the other. -/
theorem rows_img (x : (⟨4, ![N, C, H, H]⟩ : Shape).Idx → EReal) (hs : (⟨4, ![N, C, H, H]⟩ : Shape).ShapeCasts ⟨3, ![N, C, L]⟩)
    (n : Fin N) : rowImg H hL (shapeCast ⟨3, ![N, C, L]⟩ x hs) n = midImg x n := by
  funext c u v
  unfold rowImg midImg
  by_cases hi : Inside H u v
  · rw [dif_pos hi, dif_pos hi]
    refine shapeCast_apply _ _ _ _ ?_
    rw [Shape.rowMajor_val_four, Shape.rowMajor_val_three]
    show ((n.val * C + c.val) * H + u.toNat) * H + v.toNat = (n.val * C + c.val) * L + (u.toNat * H + v.toNat)
    rw [hL]; ring
  · rw [dif_neg hi, dif_neg hi]

/-- The channels of an image that were there before more were added. -/
theorem padded_img (x : (⟨4, ![N, C, H, H]⟩ : Shape).Idx → EReal) (z : (⟨0, ![]⟩ : Shape).Idx → EReal) (hu : 0 < (⟨0, ![]⟩ : Shape).numel)
    (hp : (⟨4, ![N, C, H, H]⟩ : Shape).Pads ![0, 0, 0, 0] ![0, D, 0, 0] ![0, 0, 0, 0] ⟨4, ![N, C + D, H, H]⟩) (n : Fin N) (c : Fin C) :
    midImg (pad ⟨4, ![N, C + D, H, H]⟩ ![0, 0, 0, 0] ![0, D, 0, 0] ![0, 0, 0, 0] x z hp hu) n (Fin.castAdd D c) = midImg x n c := by
  funext u v
  unfold midImg
  by_cases hi : Inside H u v
  · rw [dif_pos hi, dif_pos hi]
    refine pad_apply_of_inside _ _ _ _ _ hp hu _ _ (fun a => ?_)
    fin_cases a
    · show n.val = 0 + n.val * (0 + 1)
      omega
    · show c.val = 0 + c.val * (0 + 1)
      omega
    · show u.toNat = 0 + u.toNat * (0 + 1)
      omega
    · show v.toNat = 0 + v.toNat * (0 + 1)
      omega
  · rw [dif_neg hi, dif_neg hi]

/-- A block of consecutive images. -/
theorem block_img {B : ℕ} (A : (⟨3, ![B, C, L]⟩ : Shape).Idx → EReal) (x : (⟨3, ![N, C, L]⟩ : Shape).Idx → EReal) (b : Fin B) (n : Fin N)
    (h : ∀ c l, A (ix3 b c l) = x (ix3 n c l)) : rowImg H hL A b = rowImg H hL x n := by
  funext c u v
  unfold rowImg
  by_cases hi : Inside H u v
  · rw [dif_pos hi, dif_pos hi]
    exact h _ _
  · rw [dif_neg hi, dif_neg hi]

end Images

/-! ## The joined convolution's weights, in two parts -/

section Joined

variable (w : (⟨4, ![128, 288, 3, 3]⟩ : Shape).Idx → EReal)
  (h : (⟨4, ![128, 288, 3, 3]⟩ : Shape).Transposes [2, 3, 1, 0] ⟨4, ![3, 3, 288, 128]⟩)

/-- The third quarter. -/
theorem part_mask (hl : (⟨4, ![3, 3, 288, 128]⟩ : Shape).Slices ![0, 0, 192, 0] ⟨4, ![3, 3, 32, 128]⟩)
    (hs : (⟨4, ![3, 3, 32, 128]⟩ : Shape).ShapeCasts ⟨2, ![288, 128]⟩) (o : Fin 128) (c : Fin 32) (t : ℕ) (ht : t < 9) :
    flat (shapeCast ⟨2, ![288, 128]⟩ (extractStridedSlice ⟨4, ![3, 3, 32, 128]⟩ ![0, 0, 192, 0]
      (transpose ⟨4, ![3, 3, 288, 128]⟩ [2, 3, 1, 0] w h) hl) hs) o c t = wt w o ⟨192 + c.val, by omega⟩ t := by
  refine (flat_cast (k := 3) rfl _ hs o c ht).trans ?_
  refine (extractStridedSlice_apply _ _ _ _ (ix4 (Fin.ofNat 3 (t / 3)) (Fin.ofNat 3 (t % 3)) ⟨192 + c.val, by omega⟩ o) (fun a => ?_)).trans
    (taps_first w h _ _ _ o)
  fin_cases a
  · show (Fin.ofNat 3 (t / 3)).val = 0 + (Fin.ofNat 3 (t / 3)).val
    omega
  · show (Fin.ofNat 3 (t % 3)).val = 0 + (Fin.ofNat 3 (t % 3)).val
    omega
  · rfl
  · show o.val = 0 + o.val
    omega

/-- A slice of the channels. -/
theorem part_read {p q : ℕ} (hq : q + p ≤ 288) (hl : (⟨4, ![3, 3, 288, 128]⟩ : Shape).Slices ![0, 0, q, 0] ⟨4, ![3, 3, p, 128]⟩)
    (i j : Fin 3) (c : Fin p) (o : Fin 128) : extractStridedSlice ⟨4, ![3, 3, p, 128]⟩ ![0, 0, q, 0]
      (transpose ⟨4, ![3, 3, 288, 128]⟩ [2, 3, 1, 0] w h) hl (ix4 i j c o) = w (ix4 o ⟨q + c.val, by omega⟩ i j) := by
  refine (extractStridedSlice_apply _ _ _ _ (ix4 i j ⟨q + c.val, by omega⟩ o) (fun a => ?_)).trans (taps_first w h _ _ _ o)
  fin_cases a
  · show i.val = 0 + i.val
    omega
  · show j.val = 0 + j.val
    omega
  · rfl
  · show o.val = 0 + o.val
    omega

variable (l0 : (⟨4, ![3, 3, 288, 128]⟩ : Shape).Slices ![0, 0, 0, 0] ⟨4, ![3, 3, 128, 128]⟩)
  (l1 : (⟨4, ![3, 3, 288, 128]⟩ : Shape).Slices ![0, 0, 128, 0] ⟨4, ![3, 3, 64, 128]⟩)
  (l2 : (⟨4, ![3, 3, 288, 128]⟩ : Shape).Slices ![0, 0, 224, 0] ⟨4, ![3, 3, 64, 128]⟩)
  (hc : Shape.Concatenates [⟨4, ![3, 3, 128, 128]⟩, ⟨4, ![3, 3, 64, 128]⟩, ⟨4, ![3, 3, 64, 128]⟩] ⟨4, ![3, 3, 256, 128]⟩ 2)

/-- The other three, one after the other. -/
abbrev rest : (⟨4, ![3, 3, 256, 128]⟩ : Shape).Idx → EReal :=
  concatenate ⟨4, ![3, 3, 256, 128]⟩ 2
    [⟨⟨4, ![3, 3, 128, 128]⟩, extractStridedSlice ⟨4, ![3, 3, 128, 128]⟩ ![0, 0, 0, 0] (transpose ⟨4, ![3, 3, 288, 128]⟩ [2, 3, 1, 0] w h) l0⟩,
     ⟨⟨4, ![3, 3, 64, 128]⟩, extractStridedSlice ⟨4, ![3, 3, 64, 128]⟩ ![0, 0, 128, 0] (transpose ⟨4, ![3, 3, 288, 128]⟩ [2, 3, 1, 0] w h) l1⟩,
     ⟨⟨4, ![3, 3, 64, 128]⟩, extractStridedSlice ⟨4, ![3, 3, 64, 128]⟩ ![0, 0, 224, 0] (transpose ⟨4, ![3, 3, 288, 128]⟩ [2, 3, 1, 0] w h) l2⟩] hc

theorem rest_read (i j : Fin 3) (c : Fin 256) (o : Fin 128) (d : Fin 288) (hd : d.val = if c.val < 192 then c.val else c.val + 32) :
    rest w h l0 l1 l2 hc (ix4 i j c o) = w (ix4 o d i j) := by
  unfold rest
  have hcl := c.isLt
  by_cases h1 : c.val < 128
  · rw [if_pos (by omega)] at hd
    refine Eq.trans (concatenate_apply_piece (t := ⟨4, ![3, 3, 256, 128]⟩) 2 _ _ _ 0 (by show 0 < 3; decide) ⟨4, ![3, 3, 128, 128]⟩ _ rfl rfl 0 rfl
      (ix4 i j (⟨c.val, h1⟩ : Fin 128) o) (fun a ha => ?_) (by show 0 + c.val = c.val; omega)) ?_
    · match a, ha with
      | ⟨0, _⟩, _ => rfl
      | ⟨1, _⟩, _ => rfl
      | ⟨2, _⟩, ha => exact absurd rfl ha
      | ⟨3, _⟩, _ => rfl
    · refine (part_read w h (by omega) l0 i j _ o).trans (congrArg (fun q => w (ix4 o q i j)) (Fin.ext ?_))
      show 0 + c.val = d.val
      omega
  · by_cases h2 : c.val < 192
    · rw [if_pos h2] at hd
      refine Eq.trans (concatenate_apply_piece (t := ⟨4, ![3, 3, 256, 128]⟩) 2 _ _ _ 1 (by show 1 < 3; decide) ⟨4, ![3, 3, 64, 128]⟩ _ rfl rfl 128 rfl
        (ix4 i j (⟨c.val - 128, by omega⟩ : Fin 64) o) (fun a ha => ?_) (by show 128 + (c.val - 128) = c.val; omega)) ?_
      · match a, ha with
        | ⟨0, _⟩, _ => rfl
        | ⟨1, _⟩, _ => rfl
        | ⟨2, _⟩, ha => exact absurd rfl ha
        | ⟨3, _⟩, _ => rfl
      · refine (part_read w h (by omega) l1 i j _ o).trans (congrArg (fun q => w (ix4 o q i j)) (Fin.ext ?_))
        show 128 + (c.val - 128) = d.val
        omega
    · rw [if_neg h2] at hd
      refine Eq.trans (concatenate_apply_piece (t := ⟨4, ![3, 3, 256, 128]⟩) 2 _ _ _ 2 (by show 2 < 3; decide) ⟨4, ![3, 3, 64, 128]⟩ _ rfl rfl 192 rfl
        (ix4 i j (⟨c.val - 192, by omega⟩ : Fin 64) o) (fun a ha => ?_) (by show 192 + (c.val - 192) = c.val; omega)) ?_
      · match a, ha with
        | ⟨0, _⟩, _ => rfl
        | ⟨1, _⟩, _ => rfl
        | ⟨2, _⟩, ha => exact absurd rfl ha
        | ⟨3, _⟩, _ => rfl
      · refine (part_read w h (by omega) l2 i j _ o).trans (congrArg (fun q => w (ix4 o q i j)) (Fin.ext ?_))
        show 224 + (c.val - 192) = d.val
        omega

theorem part_rest (hs : (⟨4, ![3, 3, 256, 128]⟩ : Shape).ShapeCasts ⟨2, ![2304, 128]⟩) (o : Fin 128) (c : Fin 256) (t : ℕ) (ht : t < 9)
    (d : Fin 288) (hd : d.val = if c.val < 192 then c.val else c.val + 32) :
    flat (shapeCast ⟨2, ![2304, 128]⟩ (rest w h l0 l1 l2 hc) hs) o c t = wt w o d t :=
  (flat_cast (k := 3) rfl _ hs o c ht).trans (rest_read w h l0 l1 l2 hc _ _ c o d hd)

end Joined

end Net

end
-- ==== Proof.Conv.Sums.lean ====
/- Sums over two or three axes of an array, read at an index of the axes left. -/
module

public import proofs.«01_k».proof.Proof.Net
public import Idealize.ShloMosaic.Lib.IdealHost

@[expose] public section

set_option maxRecDepth 16384

noncomputable section

namespace Net

open Idealize.ShloMosaic

/-- The host's sum over the last three of five axes. -/
theorem host_sum {N G Q M : ℕ} (h : (⟨5, ![N, G, Q, M, M]⟩ : Shape).ReducesTo [2, 3, 4] ⟨2, ![N, G]⟩)
    (x : (⟨5, ![N, G, Q, M, M]⟩ : Shape).Idx → EReal) (init : EReal) (n : Fin N) (g : Fin G) :
    Ideal.hostReduceAdd h x init (ix2 n g) = init + ∑ a : Fin Q, ∑ y : Fin M, ∑ z : Fin M, x (ix5 n g a y z) := by
  unfold Ideal.hostReduceAdd
  refine congrArg (init + ·) ?_
  simp only [← Fintype.sum_prod_type']
  refine Finset.sum_nbij' (t := Finset.univ) (fun i => ((i 2 : Fin Q), (i 3 : Fin M), (i 4 : Fin M)))
    (fun p => ix5 n g p.1 p.2.1 p.2.2) (fun i _ => Finset.mem_univ _) (fun p _ => ?_) (fun i hi => ?_) (fun p _ => rfl) (fun i hi => ?_)
  · refine Finset.mem_filter.2 ⟨Finset.mem_univ _, ?_⟩
    funext b
    apply Fin.ext
    match b with
    | ⟨0, _⟩ => rfl
    | ⟨1, _⟩ => rfl
  all_goals
    have hd := (Finset.mem_filter.1 hi).2
    have h0 : (i 0).val = n.val := congrArg Fin.val (congrFun hd 0)
    have h1 : (i 1).val = g.val := congrArg Fin.val (congrFun hd 1)
    have he : (ix5 n g (i 2 : Fin Q) (i 3 : Fin M) (i 4 : Fin M) : (⟨5, ![N, G, Q, M, M]⟩ : Shape).Idx) = i := by
      funext b
      apply Fin.ext
      match b with
      | ⟨0, _⟩ => exact h0.symm
      | ⟨1, _⟩ => exact h1.symm
      | ⟨2, _⟩ => rfl
      | ⟨3, _⟩ => rfl
      | ⟨4, _⟩ => rfl
  · exact he
  · exact (congrArg x he).symm

/-- The kernel's sum over the middle two of four axes. -/
theorem mid_sum {B M C : ℕ} (h : (⟨4, ![B, M, M, C]⟩ : Shape).Reduces [1, 2] ⟨2, ![B, C]⟩)
    (x : (⟨4, ![B, M, M, C]⟩ : Shape).Idx → EReal) (b : Fin B) (c : Fin C) :
    Ideal.reduceAdd h x (ix2 b c) = ∑ y : Fin M, ∑ z : Fin M, x (ix4 b y z c) := by
  unfold Ideal.reduceAdd
  simp only [← Fintype.sum_prod_type']
  refine Finset.sum_nbij' (t := Finset.univ) (fun i => ((i 1 : Fin M), (i 2 : Fin M)))
    (fun p => ix4 b p.1 p.2 c) (fun i _ => Finset.mem_univ _) (fun p _ => ?_) (fun i hi => ?_) (fun p _ => rfl) (fun i hi => ?_)
  · refine Finset.mem_filter.2 ⟨Finset.mem_univ _, ?_⟩
    funext b
    apply Fin.ext
    match b with
    | ⟨0, _⟩ => rfl
    | ⟨1, _⟩ => rfl
  all_goals
    have hd := (Finset.mem_filter.1 hi).2
    have h0 : (i 0).val = b.val := congrArg Fin.val (congrFun hd 0)
    have h1 : (i 3).val = c.val := congrArg Fin.val (congrFun hd 1)
    have he : (ix4 b (i 1 : Fin M) (i 2 : Fin M) c : (⟨4, ![B, M, M, C]⟩ : Shape).Idx) = i := by
      funext b
      apply Fin.ext
      match b with
      | ⟨0, _⟩ => exact h0.symm
      | ⟨1, _⟩ => rfl
      | ⟨2, _⟩ => rfl
      | ⟨3, _⟩ => exact h1.symm
  · exact he
  · exact (congrArg x he).symm

end Net

end
-- ==== Proof.Conv.Windows.lean ====
/- The reference's convolutions: a bordered batch, its windows stacked along two further axes (rows, then columns), and one
   contraction over channel, window row and window column — together the taps of the convolution. -/
module

public import proofs.«01_k».proof.Proof.Net
public import Idealize.ShloMosaic.Lib.KernelVsHost
public import Idealize.ShloMosaic.Lib.MatmulPlain
public import Mathlib.Algebra.BigOperators.Fin

@[expose] public section

set_option maxRecDepth 16384

noncomputable section

namespace Net

open Idealize.ShloMosaic

/-! ## The border -/

/-- A batch bordered by `p` zeros, read at an index: the image there. -/
theorem pad_read {N C H V p : ℕ} (A : (⟨4, ![N, C, H, H]⟩ : Shape).Idx → EReal) {e : Shape} (z : e.Idx → EReal)
    (h : (⟨4, ![N, C, H, H]⟩ : Shape).Pads ![0, 0, p, p] ![0, 0, p, p] ![0, 0, 0, 0] ⟨4, ![N, C, V, V]⟩) (hu : 0 < e.numel)
    (hz : z (Shape.Idx.first hu) = 0) (n : Fin N) (c : Fin C) (u v : Fin V) :
    pad ⟨4, ![N, C, V, V]⟩ ![0, 0, p, p] ![0, 0, p, p] ![0, 0, 0, 0] A z h hu (ix4 n c u v)
      = midImg A n c ((u : ℕ) - (p : ℤ)) ((v : ℕ) - (p : ℤ)) := by
  unfold midImg
  by_cases hi : Inside H ((u : ℕ) - (p : ℤ)) ((v : ℕ) - (p : ℤ))
  · rw [dif_pos hi]
    obtain ⟨h1, h2, h3, h4⟩ := hi
    refine pad_apply_of_inside _ _ _ _ _ _ _ _ (ix4 n c ⟨((u : ℕ) - (p : ℤ)).toNat, by omega⟩ ⟨((v : ℕ) - (p : ℤ)).toNat, by omega⟩)
      (fun a => ?_)
    fin_cases a
    · show n.val = 0 + n.val * (0 + 1); omega
    · show c.val = 0 + c.val * (0 + 1); omega
    · show u.val = p + ((u : ℕ) - (p : ℤ)).toNat * (0 + 1); omega
    · show v.val = p + ((v : ℕ) - (p : ℤ)).toNat * (0 + 1); omega
  · rw [dif_neg hi]
    by_cases hr : 0 ≤ ((u : ℕ) - (p : ℤ)) ∧ ((u : ℕ) - (p : ℤ)) < H
    · refine (pad_apply_of_not_inside _ _ _ _ _ _ _ _ 3 (fun hh => ?_)).trans hz
      have h1 : p ≤ v.val := hh.1
      have h2 : (v.val - p) / (0 + 1) < H := hh.2.2
      rw [Nat.zero_add, Nat.div_one] at h2
      exact hi ⟨hr.1, hr.2, by omega, by omega⟩
    · refine (pad_apply_of_not_inside _ _ _ _ _ _ _ _ 2 (fun hh => ?_)).trans hz
      have h1 : p ≤ u.val := hh.1
      have h2 : (u.val - p) / (0 + 1) < H := hh.2.2
      rw [Nat.zero_add, Nat.div_one] at h2
      exact hr ⟨by omega, by omega⟩

/-! ## The windows -/

section Windows

variable {N C V H : ℕ}

/-- The bordered batch `P` holds the images `X`, moved by the border. -/
abbrev Holds (p : ℕ) (X : Fin N → Img C) (P : (⟨4, ![N, C, V, V]⟩ : Shape).Idx → EReal) : Prop :=
  ∀ n c u v, P (ix4 n c u v) = X n c ((u : ℕ) - (p : ℤ)) ((v : ℕ) - (p : ℤ))

/-- One row piece, as a window of one row. -/
theorem row_one {p i : ℕ} {X : Fin N → Img C} {P : (⟨4, ![N, C, V, V]⟩ : Shape).Idx → EReal} (hP : Holds p X P)
    (hs : (⟨4, ![N, C, V, V]⟩ : Shape).Slices ![0, 0, i, 0] ⟨4, ![N, C, H, V]⟩)
    (hb : (⟨4, ![N, C, H, V]⟩ : Shape).BroadcastsInDim ⟨5, ![N, C, H, V, 1]⟩ ![0, 1, 2, 3])
    (n : Fin N) (c : Fin C) (y : Fin H) (v : Fin V) :
    broadcastInDim ⟨5, ![N, C, H, V, 1]⟩ ![0, 1, 2, 3] hb (extractStridedSlice ⟨4, ![N, C, H, V]⟩ ![0, 0, i, 0] P hs) (ix5 n c y v 0)
      = X n c ((1 : ℕ) * (y : ℕ) + (i : ℤ) - p) ((v : ℕ) - (p : ℤ)) := by
  have hy : i + y.val < V := by
    obtain ⟨_, h⟩ := hs
    have h' : i + H ≤ V := h 2
    have := y.isLt; omega
  refine (broadcastInDim_apply _ hb _ _ (ix4 n c y v) (fun a => ?_)).trans ?_
  · fin_cases a
    · show n.val = if N = 1 then 0 else n.val
      have := n.isLt; split <;> omega
    · show c.val = if C = 1 then 0 else c.val
      have := c.isLt; split <;> omega
    · show y.val = if H = 1 then 0 else y.val
      have := y.isLt; split <;> omega
    · show v.val = if V = 1 then 0 else v.val
      have := v.isLt; split <;> omega
  refine (extractStridedSlice_apply _ _ _ _ (ix4 n c ⟨i + y.val, hy⟩ v) (fun a => ?_)).trans ?_
  · fin_cases a
    · exact (Nat.zero_add _).symm
    · exact (Nat.zero_add _).symm
    · rfl
    · exact (Nat.zero_add _).symm
  rw [hP]
  exact congrArg (X n c · _) (by show (((i + y.val : ℕ) : ℤ) - p) = _; push_cast; ring)

/-- One row piece of stride two. -/
theorem row_two {p i : ℕ} {X : Fin N → Img C} {P : (⟨4, ![N, C, V, V]⟩ : Shape).Idx → EReal} (hP : Holds p X P)
    (hs : (⟨4, ![N, C, V, V]⟩ : Shape).SlicesBy ![0, 0, i, 0] ![1, 1, 2, 1] ⟨4, ![N, C, H, V]⟩)
    (hb : (⟨4, ![N, C, H, V]⟩ : Shape).BroadcastsInDim ⟨5, ![N, C, H, V, 1]⟩ ![0, 1, 2, 3])
    (n : Fin N) (c : Fin C) (y : Fin H) (v : Fin V) :
    broadcastInDim ⟨5, ![N, C, H, V, 1]⟩ ![0, 1, 2, 3] hb (Host.slice ⟨4, ![N, C, H, V]⟩ ![0, 0, i, 0] ![1, 1, 2, 1] P hs) (ix5 n c y v 0)
      = X n c ((2 : ℕ) * (y : ℕ) + (i : ℤ) - p) ((v : ℕ) - (p : ℤ)) := by
  have hy : i + 2 * y.val < V := by
    have h' := (hs.2 2).2
    have := y.isLt
    rcases h' with h0 | hl
    · have h0' : H = 0 := h0
      omega
    · have hl' : i + 2 * (H - 1) < V := hl
      omega
  refine (broadcastInDim_apply _ hb _ _ (ix4 n c y v) (fun a => ?_)).trans ?_
  · fin_cases a
    · show n.val = if N = 1 then 0 else n.val
      have := n.isLt; split <;> omega
    · show c.val = if C = 1 then 0 else c.val
      have := c.isLt; split <;> omega
    · show y.val = if H = 1 then 0 else y.val
      have := y.isLt; split <;> omega
    · show v.val = if V = 1 then 0 else v.val
      have := v.isLt; split <;> omega
  have he : Host.slice ⟨4, ![N, C, H, V]⟩ ![0, 0, i, 0] ![1, 1, 2, 1] P hs (ix4 n c y v) = P (ix4 n c ⟨i + 2 * y.val, hy⟩ v) := by
    unfold Host.slice
    refine congrArg P (funext fun a => Fin.ext ?_)
    fin_cases a
    · show 0 + 1 * n.val = n.val; omega
    · show 0 + 1 * c.val = c.val; omega
    · rfl
    · show 0 + 1 * v.val = v.val; omega
  rw [he, hP]
  exact congrArg (X n c · _) (by show (((i + 2 * y.val : ℕ) : ℤ) - p) = _; push_cast; ring)

/-- A stack of row pieces read at an index. -/
theorem rows_read {k s p : ℕ} {X : Fin N → Img C} (f : Fin k → (⟨5, ![N, C, H, V, 1]⟩ : Shape).Idx → EReal)
    (hf : ∀ i n c y v, f i (ix5 n c y v 0) = X n c ((s : ℕ) * (y : ℕ) + ((i : ℕ) : ℤ) - p) ((v : ℕ) - (p : ℤ)))
    (hc : Shape.Concatenates ((List.ofFn fun i : Fin k => (⟨_, f i⟩ : (s : Shape) × (s.Idx → EReal))).map (·.1)) ⟨5, ![N, C, H, V, k]⟩ 4)
    (n : Fin N) (c : Fin C) (y : Fin H) (v : Fin V) (i : Fin k) :
    concatenate ⟨5, ![N, C, H, V, k]⟩ 4 (List.ofFn fun i : Fin k => (⟨_, f i⟩ : (s : Shape) × (s.Idx → EReal))) hc (ix5 n c y v i)
      = X n c ((s : ℕ) * (y : ℕ) + ((i : ℕ) : ℤ) - p) ((v : ℕ) - (p : ℤ)) := by
  refine (concatenate_ofFn_unit_apply (t := ⟨5, ![N, C, H, V, k]⟩) 4 f hc rfl rfl (ix5 n c y v i) i rfl (ix5 n c y v 0) (fun b hb => ?_)).trans
    (hf i n c y v)
  match b, hb with
  | ⟨0, _⟩, _ => rfl
  | ⟨1, _⟩, _ => rfl
  | ⟨2, _⟩, _ => rfl
  | ⟨3, _⟩, _ => rfl
  | ⟨4, _⟩, hb => exact absurd rfl hb

/-- Three stacked row pieces. -/
theorem rows_three {s p : ℕ} {X : Fin N → Img C} {a0 a1 a2 : (⟨5, ![N, C, H, V, 1]⟩ : Shape).Idx → EReal}
    (h0 : ∀ n c y v, a0 (ix5 n c y v 0) = X n c ((s : ℕ) * (y : ℕ) + ((0 : ℕ) : ℤ) - p) ((v : ℕ) - (p : ℤ)))
    (h1 : ∀ n c y v, a1 (ix5 n c y v 0) = X n c ((s : ℕ) * (y : ℕ) + ((1 : ℕ) : ℤ) - p) ((v : ℕ) - (p : ℤ)))
    (h2 : ∀ n c y v, a2 (ix5 n c y v 0) = X n c ((s : ℕ) * (y : ℕ) + ((2 : ℕ) : ℤ) - p) ((v : ℕ) - (p : ℤ)))
    (hc : Shape.Concatenates (([⟨_, a0⟩, ⟨_, a1⟩, ⟨_, a2⟩] : List ((s : Shape) × (s.Idx → EReal))).map (·.1)) ⟨5, ![N, C, H, V, 3]⟩ 4)
    (n : Fin N) (c : Fin C) (y : Fin H) (v : Fin V) (i : Fin 3) :
    concatenate ⟨5, ![N, C, H, V, 3]⟩ 4 [⟨_, a0⟩, ⟨_, a1⟩, ⟨_, a2⟩] hc (ix5 n c y v i)
      = X n c ((s : ℕ) * (y : ℕ) + ((i : ℕ) : ℤ) - p) ((v : ℕ) - (p : ℤ)) :=
  rows_read (k := 3) ![a0, a1, a2] (fun i n c y v => by
    fin_cases i
    · exact h0 n c y v
    · exact h1 n c y v
    · exact h2 n c y v) hc n c y v i

/-- Seven stacked row pieces. -/
theorem rows_seven {s p : ℕ} {X : Fin N → Img C} {a0 a1 a2 a3 a4 a5 a6 : (⟨5, ![N, C, H, V, 1]⟩ : Shape).Idx → EReal}
    (h0 : ∀ n c y v, a0 (ix5 n c y v 0) = X n c ((s : ℕ) * (y : ℕ) + ((0 : ℕ) : ℤ) - p) ((v : ℕ) - (p : ℤ)))
    (h1 : ∀ n c y v, a1 (ix5 n c y v 0) = X n c ((s : ℕ) * (y : ℕ) + ((1 : ℕ) : ℤ) - p) ((v : ℕ) - (p : ℤ)))
    (h2 : ∀ n c y v, a2 (ix5 n c y v 0) = X n c ((s : ℕ) * (y : ℕ) + ((2 : ℕ) : ℤ) - p) ((v : ℕ) - (p : ℤ)))
    (h3 : ∀ n c y v, a3 (ix5 n c y v 0) = X n c ((s : ℕ) * (y : ℕ) + ((3 : ℕ) : ℤ) - p) ((v : ℕ) - (p : ℤ)))
    (h4 : ∀ n c y v, a4 (ix5 n c y v 0) = X n c ((s : ℕ) * (y : ℕ) + ((4 : ℕ) : ℤ) - p) ((v : ℕ) - (p : ℤ)))
    (h5 : ∀ n c y v, a5 (ix5 n c y v 0) = X n c ((s : ℕ) * (y : ℕ) + ((5 : ℕ) : ℤ) - p) ((v : ℕ) - (p : ℤ)))
    (h6 : ∀ n c y v, a6 (ix5 n c y v 0) = X n c ((s : ℕ) * (y : ℕ) + ((6 : ℕ) : ℤ) - p) ((v : ℕ) - (p : ℤ)))
    (hc : Shape.Concatenates (([⟨_, a0⟩, ⟨_, a1⟩, ⟨_, a2⟩, ⟨_, a3⟩, ⟨_, a4⟩, ⟨_, a5⟩, ⟨_, a6⟩] :
      List ((s : Shape) × (s.Idx → EReal))).map (·.1)) ⟨5, ![N, C, H, V, 7]⟩ 4)
    (n : Fin N) (c : Fin C) (y : Fin H) (v : Fin V) (i : Fin 7) :
    concatenate ⟨5, ![N, C, H, V, 7]⟩ 4 [⟨_, a0⟩, ⟨_, a1⟩, ⟨_, a2⟩, ⟨_, a3⟩, ⟨_, a4⟩, ⟨_, a5⟩, ⟨_, a6⟩] hc (ix5 n c y v i)
      = X n c ((s : ℕ) * (y : ℕ) + ((i : ℕ) : ℤ) - p) ((v : ℕ) - (p : ℤ)) :=
  rows_read (k := 7) ![a0, a1, a2, a3, a4, a5, a6] (fun i n c y v => by
    fin_cases i
    · exact h0 n c y v
    · exact h1 n c y v
    · exact h2 n c y v
    · exact h3 n c y v
    · exact h4 n c y v
    · exact h5 n c y v
    · exact h6 n c y v) hc n c y v i

/-- The row windows `R` of the images `X`. -/
abbrev HoldsRows {k : ℕ} (s p : ℕ) (X : Fin N → Img C) (R : (⟨5, ![N, C, H, V, k]⟩ : Shape).Idx → EReal) : Prop :=
  ∀ n c y v i, R (ix5 n c y v i) = X n c ((s : ℕ) * (y : ℕ) + ((i : ℕ) : ℤ) - p) ((v : ℕ) - (p : ℤ))

/-- One column piece of the row windows. -/
theorem col_one {k s p j : ℕ} {X : Fin N → Img C} {R : (⟨5, ![N, C, H, V, k]⟩ : Shape).Idx → EReal} (hR : HoldsRows s p X R)
    (hs : (⟨5, ![N, C, H, V, k]⟩ : Shape).Slices ![0, 0, 0, j, 0] ⟨5, ![N, C, H, H, k]⟩)
    (hb : (⟨5, ![N, C, H, H, k]⟩ : Shape).BroadcastsInDim ⟨6, ![N, C, H, H, k, 1]⟩ ![0, 1, 2, 3, 4])
    (n : Fin N) (c : Fin C) (y x : Fin H) (i : Fin k) :
    broadcastInDim ⟨6, ![N, C, H, H, k, 1]⟩ ![0, 1, 2, 3, 4] hb (extractStridedSlice ⟨5, ![N, C, H, H, k]⟩ ![0, 0, 0, j, 0] R hs)
        (ix6 n c y x i 0)
      = X n c ((s : ℕ) * (y : ℕ) + ((i : ℕ) : ℤ) - p) ((1 : ℕ) * (x : ℕ) + (j : ℤ) - p) := by
  have hx : j + x.val < V := by
    obtain ⟨_, h⟩ := hs
    have h' : j + H ≤ V := h 3
    have := x.isLt; omega
  refine (broadcastInDim_apply _ hb _ _ (ix5 n c y x i) (fun a => ?_)).trans ?_
  · fin_cases a
    · show n.val = if N = 1 then 0 else n.val
      have := n.isLt; split <;> omega
    · show c.val = if C = 1 then 0 else c.val
      have := c.isLt; split <;> omega
    · show y.val = if H = 1 then 0 else y.val
      have := y.isLt; split <;> omega
    · show x.val = if H = 1 then 0 else x.val
      have := x.isLt; split <;> omega
    · show i.val = if k = 1 then 0 else i.val
      have := i.isLt; split <;> omega
  refine (extractStridedSlice_apply _ _ _ _ (ix5 n c y ⟨j + x.val, hx⟩ i) (fun a => ?_)).trans ?_
  · fin_cases a
    · exact (Nat.zero_add _).symm
    · exact (Nat.zero_add _).symm
    · exact (Nat.zero_add _).symm
    · rfl
    · exact (Nat.zero_add _).symm
  rw [hR]
  exact congrArg (X n c _) (by show (((j + x.val : ℕ) : ℤ) - p) = _; push_cast; ring)

/-- One column piece of stride two. -/
theorem col_two {k s p j : ℕ} {X : Fin N → Img C} {R : (⟨5, ![N, C, H, V, k]⟩ : Shape).Idx → EReal} (hR : HoldsRows s p X R)
    (hs : (⟨5, ![N, C, H, V, k]⟩ : Shape).SlicesBy ![0, 0, 0, j, 0] ![1, 1, 1, 2, 1] ⟨5, ![N, C, H, H, k]⟩)
    (hb : (⟨5, ![N, C, H, H, k]⟩ : Shape).BroadcastsInDim ⟨6, ![N, C, H, H, k, 1]⟩ ![0, 1, 2, 3, 4])
    (n : Fin N) (c : Fin C) (y x : Fin H) (i : Fin k) :
    broadcastInDim ⟨6, ![N, C, H, H, k, 1]⟩ ![0, 1, 2, 3, 4] hb (Host.slice ⟨5, ![N, C, H, H, k]⟩ ![0, 0, 0, j, 0] ![1, 1, 1, 2, 1] R hs)
        (ix6 n c y x i 0)
      = X n c ((s : ℕ) * (y : ℕ) + ((i : ℕ) : ℤ) - p) ((2 : ℕ) * (x : ℕ) + (j : ℤ) - p) := by
  have hx : j + 2 * x.val < V := by
    have h' := (hs.2 3).2
    have := x.isLt
    rcases h' with h0 | hl
    · have h0' : H = 0 := h0
      omega
    · have hl' : j + 2 * (H - 1) < V := hl
      omega
  refine (broadcastInDim_apply _ hb _ _ (ix5 n c y x i) (fun a => ?_)).trans ?_
  · fin_cases a
    · show n.val = if N = 1 then 0 else n.val
      have := n.isLt; split <;> omega
    · show c.val = if C = 1 then 0 else c.val
      have := c.isLt; split <;> omega
    · show y.val = if H = 1 then 0 else y.val
      have := y.isLt; split <;> omega
    · show x.val = if H = 1 then 0 else x.val
      have := x.isLt; split <;> omega
    · show i.val = if k = 1 then 0 else i.val
      have := i.isLt; split <;> omega
  have he : Host.slice ⟨5, ![N, C, H, H, k]⟩ ![0, 0, 0, j, 0] ![1, 1, 1, 2, 1] R hs (ix5 n c y x i)
      = R (ix5 n c y ⟨j + 2 * x.val, hx⟩ i) := by
    unfold Host.slice
    refine congrArg R (funext fun a => Fin.ext ?_)
    fin_cases a
    · show 0 + 1 * n.val = n.val; omega
    · show 0 + 1 * c.val = c.val; omega
    · show 0 + 1 * y.val = y.val; omega
    · rfl
    · show 0 + 1 * i.val = i.val; omega
  rw [he, hR]
  exact congrArg (X n c _) (by show (((j + 2 * x.val : ℕ) : ℤ) - p) = _; push_cast; ring)

/-- The windows `Q` of the images `X`. -/
abbrev HoldsWindows {k : ℕ} (s p : ℕ) (X : Fin N → Img C) (Q : (⟨6, ![N, C, H, H, k, k]⟩ : Shape).Idx → EReal) : Prop :=
  ∀ n c y x i j, Q (ix6 n c y x i j)
    = X n c ((s : ℕ) * (y : ℕ) + ((i : ℕ) : ℤ) - p) ((s : ℕ) * (x : ℕ) + ((j : ℕ) : ℤ) - p)

theorem cols_read {k s p : ℕ} {X : Fin N → Img C} (f : Fin k → (⟨6, ![N, C, H, H, k, 1]⟩ : Shape).Idx → EReal)
    (hf : ∀ j n c y x i, f j (ix6 n c y x i 0)
      = X n c ((s : ℕ) * (y : ℕ) + ((i : ℕ) : ℤ) - p) ((s : ℕ) * (x : ℕ) + ((j : ℕ) : ℤ) - p))
    (hc : Shape.Concatenates ((List.ofFn fun i : Fin k => (⟨_, f i⟩ : (s : Shape) × (s.Idx → EReal))).map (·.1)) ⟨6, ![N, C, H, H, k, k]⟩ 5) :
    HoldsWindows s p X
      (concatenate ⟨6, ![N, C, H, H, k, k]⟩ 5 (List.ofFn fun i : Fin k => (⟨_, f i⟩ : (s : Shape) × (s.Idx → EReal))) hc) := by
  intro n c y x i j
  refine (concatenate_ofFn_unit_apply (t := ⟨6, ![N, C, H, H, k, k]⟩) 5 f hc rfl rfl (ix6 n c y x i j) j rfl (ix6 n c y x i 0)
    (fun b hb => ?_)).trans (hf j n c y x i)
  match b, hb with
  | ⟨0, _⟩, _ => rfl
  | ⟨1, _⟩, _ => rfl
  | ⟨2, _⟩, _ => rfl
  | ⟨3, _⟩, _ => rfl
  | ⟨4, _⟩, _ => rfl
  | ⟨5, _⟩, hb => exact absurd rfl hb

/-- Three stacked column pieces. -/
theorem cols_three {s p : ℕ} {X : Fin N → Img C} {a0 a1 a2 : (⟨6, ![N, C, H, H, 3, 1]⟩ : Shape).Idx → EReal}
    (h0 : ∀ n c y x i, a0 (ix6 n c y x i 0) = X n c ((s : ℕ) * (y : ℕ) + ((i : ℕ) : ℤ) - p) ((s : ℕ) * (x : ℕ) + ((0 : ℕ) : ℤ) - p))
    (h1 : ∀ n c y x i, a1 (ix6 n c y x i 0) = X n c ((s : ℕ) * (y : ℕ) + ((i : ℕ) : ℤ) - p) ((s : ℕ) * (x : ℕ) + ((1 : ℕ) : ℤ) - p))
    (h2 : ∀ n c y x i, a2 (ix6 n c y x i 0) = X n c ((s : ℕ) * (y : ℕ) + ((i : ℕ) : ℤ) - p) ((s : ℕ) * (x : ℕ) + ((2 : ℕ) : ℤ) - p))
    (hc : Shape.Concatenates (([⟨_, a0⟩, ⟨_, a1⟩, ⟨_, a2⟩] : List ((s : Shape) × (s.Idx → EReal))).map (·.1)) ⟨6, ![N, C, H, H, 3, 3]⟩ 5) :
    HoldsWindows s p X (concatenate ⟨6, ![N, C, H, H, 3, 3]⟩ 5 [⟨_, a0⟩, ⟨_, a1⟩, ⟨_, a2⟩] hc) :=
  cols_read (k := 3) ![a0, a1, a2] (fun j n c y x i => by
    fin_cases j
    · exact h0 n c y x i
    · exact h1 n c y x i
    · exact h2 n c y x i) hc

/-- Seven stacked column pieces. -/
theorem cols_seven {s p : ℕ} {X : Fin N → Img C} {a0 a1 a2 a3 a4 a5 a6 : (⟨6, ![N, C, H, H, 7, 1]⟩ : Shape).Idx → EReal}
    (h0 : ∀ n c y x i, a0 (ix6 n c y x i 0) = X n c ((s : ℕ) * (y : ℕ) + ((i : ℕ) : ℤ) - p) ((s : ℕ) * (x : ℕ) + ((0 : ℕ) : ℤ) - p))
    (h1 : ∀ n c y x i, a1 (ix6 n c y x i 0) = X n c ((s : ℕ) * (y : ℕ) + ((i : ℕ) : ℤ) - p) ((s : ℕ) * (x : ℕ) + ((1 : ℕ) : ℤ) - p))
    (h2 : ∀ n c y x i, a2 (ix6 n c y x i 0) = X n c ((s : ℕ) * (y : ℕ) + ((i : ℕ) : ℤ) - p) ((s : ℕ) * (x : ℕ) + ((2 : ℕ) : ℤ) - p))
    (h3 : ∀ n c y x i, a3 (ix6 n c y x i 0) = X n c ((s : ℕ) * (y : ℕ) + ((i : ℕ) : ℤ) - p) ((s : ℕ) * (x : ℕ) + ((3 : ℕ) : ℤ) - p))
    (h4 : ∀ n c y x i, a4 (ix6 n c y x i 0) = X n c ((s : ℕ) * (y : ℕ) + ((i : ℕ) : ℤ) - p) ((s : ℕ) * (x : ℕ) + ((4 : ℕ) : ℤ) - p))
    (h5 : ∀ n c y x i, a5 (ix6 n c y x i 0) = X n c ((s : ℕ) * (y : ℕ) + ((i : ℕ) : ℤ) - p) ((s : ℕ) * (x : ℕ) + ((5 : ℕ) : ℤ) - p))
    (h6 : ∀ n c y x i, a6 (ix6 n c y x i 0) = X n c ((s : ℕ) * (y : ℕ) + ((i : ℕ) : ℤ) - p) ((s : ℕ) * (x : ℕ) + ((6 : ℕ) : ℤ) - p))
    (hc : Shape.Concatenates (([⟨_, a0⟩, ⟨_, a1⟩, ⟨_, a2⟩, ⟨_, a3⟩, ⟨_, a4⟩, ⟨_, a5⟩, ⟨_, a6⟩] :
      List ((s : Shape) × (s.Idx → EReal))).map (·.1)) ⟨6, ![N, C, H, H, 7, 7]⟩ 5) :
    HoldsWindows s p X (concatenate ⟨6, ![N, C, H, H, 7, 7]⟩ 5 [⟨_, a0⟩, ⟨_, a1⟩, ⟨_, a2⟩, ⟨_, a3⟩, ⟨_, a4⟩, ⟨_, a5⟩, ⟨_, a6⟩] hc) :=
  cols_read (k := 7) ![a0, a1, a2, a3, a4, a5, a6] (fun j n c y x i => by
    fin_cases j
    · exact h0 n c y x i
    · exact h1 n c y x i
    · exact h2 n c y x i
    · exact h3 n c y x i
    · exact h4 n c y x i
    · exact h5 n c y x i
    · exact h6 n c y x i) hc

end Windows

/-! ## The contraction -/

section Contraction

variable {O C k N H : ℕ}

/-- The dimension numbers of the contraction over channel, window row and window column. -/
def dims (O C k N H : ℕ) : DotDims ⟨4, ![O, C, k, k]⟩ ⟨6, ![N, C, H, H, k, k]⟩ ⟨4, ![O, N, H, H]⟩ where
  lhsContracting := [1, 2, 3]
  rhsContracting := [1, 4, 5]
  lhsNonContracting := [0]
  rhsNonContracting := [0, 2, 3]
  lhsBatch := []
  rhsBatch := []
  wf := ⟨rfl, by simp, rfl, by simp, by simp, by simp,
    (by decide : (([] ++ [0] ++ [1, 2, 3] : List (Fin 4))).Perm (List.finRange 4)),
    (by decide : (([] ++ [0, 2, 3] ++ [1, 4, 5] : List (Fin 6))).Perm (List.finRange 6)),
    rfl, by show 0 < 4; decide, fun a => by fin_cases a <;> rfl⟩

/-- The contracted index is its three coordinates. -/
def three (O C k N H : ℕ) : (dims O C k N H).contr.Idx ≃ Fin C × Fin k × Fin k where
  toFun q := ((q (⟨0, by show 0 < 3; decide⟩) : Fin C), (q (⟨1, by show 1 < 3; decide⟩) : Fin k), (q (⟨2, by show 2 < 3; decide⟩) : Fin k))
  invFun p := fun a => match a with
    | ⟨0, _⟩ => (p.1 : Fin C)
    | ⟨1, _⟩ => (p.2.1 : Fin k)
    | ⟨2, _⟩ => (p.2.2 : Fin k)
    | ⟨a + 3, h⟩ => absurd (show a + 3 < 3 from h) (by omega)
  left_inv q := by
    funext a
    match a with
    | ⟨0, _⟩ => rfl
    | ⟨1, _⟩ => rfl
    | ⟨2, _⟩ => rfl
    | ⟨a + 3, h⟩ => exact absurd (show a + 3 < 3 from h) (by omega)
  right_inv p := rfl

/-- The contraction read at an index. -/
theorem dot_read (w : FVec Ideal ⟨4, ![O, C, k, k]⟩ .f32) (Q : FVec Ideal ⟨6, ![N, C, H, H, k, k]⟩ .f32) (o : Fin O) (n : Fin N) (y x : Fin H) :
    Host.dotGeneral (dims O C k N H) none w Q (ix4 o n y x)
      = ∑ c : Fin C, ∑ i : Fin k, ∑ j : Fin k, w (ix4 o c i j) * Q (ix6 n c y x i j) := by
  refine (Ideal.dotGeneral_apply _ _ _ _ _ _).trans ?_
  rw [← Equiv.sum_comp (three O C k N H).symm, Fintype.sum_prod_type]
  refine Finset.sum_congr rfl fun c _ => ?_
  rw [Fintype.sum_prod_type]
  refine Finset.sum_congr rfl fun i _ => Finset.sum_congr rfl fun j _ => ?_
  refine congrArg₂ (fun a b => w a * Q b) ?_ ?_
  · funext a
    apply Fin.ext
    match a with
    | ⟨0, _⟩ => rfl
    | ⟨1, _⟩ => rfl
    | ⟨2, _⟩ => rfl
    | ⟨3, _⟩ => rfl
  · funext a
    apply Fin.ext
    match a with
    | ⟨0, _⟩ => rfl
    | ⟨1, _⟩ => rfl
    | ⟨2, _⟩ => rfl
    | ⟨3, _⟩ => rfl
    | ⟨4, _⟩ => rfl
    | ⟨5, _⟩ => rfl

/-- The contraction of the windows is the taps of the convolution. -/
theorem windows_taps [NeZero k] {s p : ℕ} {X : Fin N → Img C} (w : FVec Ideal ⟨4, ![O, C, k, k]⟩ .f32)
    {Q : FVec Ideal ⟨6, ![N, C, H, H, k, k]⟩ .f32} (hQ : HoldsWindows s p X Q) (o : Fin O) (n : Fin N) (y x : Fin H) :
    Host.dotGeneral (dims O C k N H) none w Q (ix4 o n y x) = taps (k * k) k s p (X n) (wt w) o (y : ℕ) (x : ℕ) := by
  rw [dot_read, Finset.sum_comm]
  have hk : 0 < k := Nat.pos_of_ne_zero (NeZero.ne k)
  rw [taps, Finset.sum_range, Fin.sum_univ_tiles k k rfl]
  refine Finset.sum_congr rfl fun i _ => ?_
  rw [Finset.sum_comm]
  refine Finset.sum_congr rfl fun j _ => ?_
  have hd : (i.val * k + j.val) / k = i.val := by
    rw [Nat.mul_comm, Nat.mul_add_div hk, Nat.div_eq_of_lt j.isLt, Nat.add_zero]
  have hm : (i.val * k + j.val) % k = j.val := by
    rw [Nat.mul_comm, Nat.mul_add_mod, Nat.mod_eq_of_lt j.isLt]
  show _ = tap (X n) (wt w) o (i.val * k + j.val) (s * ((y : ℕ) : ℤ) + (((i.val * k + j.val) / k : ℕ) : ℤ) - p)
    (s * ((x : ℕ) : ℤ) + (((i.val * k + j.val) % k : ℕ) : ℤ) - p)
  rw [hd, hm]
  refine Finset.sum_congr rfl fun c _ => ?_
  rw [hQ, mul_comm]
  refine congrArg (X n c _ _ * ·) ?_
  unfold wt
  rw [hd, hm]
  congr 1
  funext a
  match a with
  | ⟨0, _⟩ => rfl
  | ⟨1, _⟩ => rfl
  | ⟨2, _⟩ => exact (Fin.ofNat_val_eq_self i).symm
  | ⟨3, _⟩ => exact (Fin.ofNat_val_eq_self j).symm

end Contraction

end Net

end
-- ==== Proof.Conv.RefConv.lean ====
/- A convolution of the reference: contraction, axes put back, bias, and (for most of them) the positive part. -/
module

public import proofs.«01_k».proof.Proof.Conv.Windows

@[expose] public section

set_option maxRecDepth 16384

noncomputable section

namespace Net

open Idealize.ShloMosaic

variable {O C k N H s p : ℕ}

/-- A value for each channel, spread over a batch. -/
theorem spread_read (β : (⟨1, ![O]⟩ : Shape).Idx → EReal)
    (hb1 : (⟨4, ![1, O, 1, 1]⟩ : Shape).BroadcastsInDim ⟨4, ![N, O, H, H]⟩ ![0, 1, 2, 3])
    (hb2 : (⟨1, ![O]⟩ : Shape).BroadcastsInDim ⟨4, ![1, O, 1, 1]⟩ ![1]) (n : Fin N) (o : Fin O) (y x : Fin H) :
    broadcastInDim ⟨4, ![N, O, H, H]⟩ ![0, 1, 2, 3] hb1 (broadcastInDim ⟨4, ![1, O, 1, 1]⟩ ![1] hb2 β) (ix4 n o y x) = β (ix1 o) := by
  have ho : o.val = if O = 1 then 0 else o.val := by have := o.isLt; split <;> omega
  refine (broadcastInDim_apply _ hb1 _ _ (ix4 0 o 0 0) (fun a => ?_)).trans ?_
  · fin_cases a
    · show 0 = if 1 = 1 then 0 else n.val
      rfl
    · exact ho
    · show 0 = if 1 = 1 then 0 else y.val
      rfl
    · show 0 = if 1 = 1 then 0 else x.val
      rfl
  refine broadcastInDim_apply _ hb2 _ _ (ix1 o) (fun a => ?_)
  fin_cases a
  exact ho

/-- The contraction with its axes put back and its bias, read at an index. -/
theorem conv_read [NeZero k] {X : Fin N → Img C} (w : FVec Ideal ⟨4, ![O, C, k, k]⟩ .f32)
    {Q : FVec Ideal ⟨6, ![N, C, H, H, k, k]⟩ .f32} (hQ : HoldsWindows s p X Q) (β : FVec Ideal ⟨1, ![O]⟩ .f32)
    (ht : (⟨4, ![O, N, H, H]⟩ : Shape).Transposes [1, 0, 2, 3] ⟨4, ![N, O, H, H]⟩)
    (hb1 : (⟨4, ![1, O, 1, 1]⟩ : Shape).BroadcastsInDim ⟨4, ![N, O, H, H]⟩ ![0, 1, 2, 3])
    (hb2 : (⟨1, ![O]⟩ : Shape).BroadcastsInDim ⟨4, ![1, O, 1, 1]⟩ ![1]) (n : Fin N) (o : Fin O) (y x : Fin H) :
    addf (transpose ⟨4, ![N, O, H, H]⟩ [1, 0, 2, 3] (Host.dotGeneral (dims O C k N H) none w Q) ht)
        (broadcastInDim ⟨4, ![N, O, H, H]⟩ ![0, 1, 2, 3] hb1 (broadcastInDim ⟨4, ![1, O, 1, 1]⟩ ![1] hb2 β)) (ix4 n o y x)
      = taps (k * k) k s p (X n) (wt w) o (y : ℕ) (x : ℕ) + β (ix1 o) := by
  refine congrArg₂ (fun a b : EReal => a + b) ?_ (spread_read β hb1 hb2 n o y x)
  refine (transpose_apply [1, 0, 2, 3] _ ht _ (ix4 o n y x) (fun b => ?_)).trans (windows_taps w hQ o n y x)
  match b with
  | ⟨0, _⟩ => rfl
  | ⟨1, _⟩ => rfl
  | ⟨2, _⟩ => rfl
  | ⟨3, _⟩ => rfl

/-- A convolution inside its square is its taps and its bias. -/
theorem conv_in (X : Img C) (W : Fin O → Fin C → ℕ → EReal) (β : Fin O → EReal) (o : Fin O) (y x : Fin H) :
    conv H k s p X W β o (y : ℕ) (x : ℕ) = taps (k * k) k s p X W o (y : ℕ) (x : ℕ) + β o :=
  if_pos ⟨by omega, by have := y.isLt; omega, by omega, by have := x.isLt; omega⟩

/-- The same reading, in the convolution's terms. -/
theorem conv_read_in [NeZero k] {X : Fin N → Img C} (w : FVec Ideal ⟨4, ![O, C, k, k]⟩ .f32)
    {Q : FVec Ideal ⟨6, ![N, C, H, H, k, k]⟩ .f32} (hQ : HoldsWindows s p X Q) (β : FVec Ideal ⟨1, ![O]⟩ .f32)
    (ht : (⟨4, ![O, N, H, H]⟩ : Shape).Transposes [1, 0, 2, 3] ⟨4, ![N, O, H, H]⟩)
    (hb1 : (⟨4, ![1, O, 1, 1]⟩ : Shape).BroadcastsInDim ⟨4, ![N, O, H, H]⟩ ![0, 1, 2, 3])
    (hb2 : (⟨1, ![O]⟩ : Shape).BroadcastsInDim ⟨4, ![1, O, 1, 1]⟩ ![1]) (n : Fin N) (o : Fin O) (y x : Fin H) :
    addf (transpose ⟨4, ![N, O, H, H]⟩ [1, 0, 2, 3] (Host.dotGeneral (dims O C k N H) none w Q) ht)
        (broadcastInDim ⟨4, ![N, O, H, H]⟩ ![0, 1, 2, 3] hb1 (broadcastInDim ⟨4, ![1, O, 1, 1]⟩ ![1] hb2 β)) (ix4 n o y x)
      = conv H k s p (X n) (wt w) (fun o => β (ix1 o)) o (y : ℕ) (x : ℕ) := by
  rw [conv_in]
  exact conv_read w hQ β ht hb1 hb2 n o y x

theorem relu_onSquare {M : ℕ} (f : Img C) : relu (onSquare M f) = onSquare M fun c u v => max (f c u v) 0 := by
  funext c u v
  unfold relu onSquare
  by_cases h : Inside M u v
  · simp only [if_pos h]
  · simp only [if_neg h, max_self]

/-- The images of a convolution's positive part. -/
theorem relu_conv_images [NeZero k] {X : Fin N → Img C} (w : FVec Ideal ⟨4, ![O, C, k, k]⟩ .f32)
    {Q : FVec Ideal ⟨6, ![N, C, H, H, k, k]⟩ .f32} (hQ : HoldsWindows s p X Q) (β : FVec Ideal ⟨1, ![O]⟩ .f32)
    (ht : (⟨4, ![O, N, H, H]⟩ : Shape).Transposes [1, 0, 2, 3] ⟨4, ![N, O, H, H]⟩)
    (hb1 : (⟨4, ![1, O, 1, 1]⟩ : Shape).BroadcastsInDim ⟨4, ![N, O, H, H]⟩ ![0, 1, 2, 3])
    (hb2 : (⟨1, ![O]⟩ : Shape).BroadcastsInDim ⟨4, ![1, O, 1, 1]⟩ ![1])
    (hb3 : (⟨0, ![]⟩ : Shape).BroadcastsInDim ⟨4, ![N, O, H, H]⟩ ![]) (n : Fin N) :
    midImg (B := N) (H := H) (C := O) (maximumf (addf (transpose ⟨4, ![N, O, H, H]⟩ [1, 0, 2, 3] (Host.dotGeneral (dims O C k N H) none w Q) ht)
        (broadcastInDim ⟨4, ![N, O, H, H]⟩ ![0, 1, 2, 3] hb1 (broadcastInDim ⟨4, ![1, O, 1, 1]⟩ ![1] hb2 β)))
        (broadcastInDim ⟨4, ![N, O, H, H]⟩ ![] hb3 (constant (F := Ideal) ⟨0, ![]⟩ .f32 0x00000000#32))) n
      = relu (conv H k s p (X n) (wt w) fun o => β (ix1 o)) := by
  unfold conv
  rw [relu_onSquare]
  refine midImg_eq _ _ _ fun c y x => ?_
  refine congrArg₂ (fun a b : EReal => max a b) (conv_read w hQ β ht hb1 hb2 n c y x) ?_
  refine (Idealize.ShloMosaic.Ideal.ofBits_zero_f32 : _)

/-! ## The four groups of channels -/

/-- Four images' channels one after the other. -/
def join4 (X0 : Img 128) (X1 : Img 64) (X2 : Img 32) (X3 : Img 64) : Img 288 := fun c u v =>
  if h : c.val < 128 then X0 ⟨c.val, h⟩ u v
  else if h : c.val < 192 then X1 ⟨c.val - 128, by omega⟩ u v
  else if h : c.val < 224 then X2 ⟨c.val - 192, by omega⟩ u v
  else X3 ⟨c.val - 224, by omega⟩ u v

theorem join4_images {a0 : (⟨4, ![N, 128, H, H]⟩ : Shape).Idx → EReal} {a1 : (⟨4, ![N, 64, H, H]⟩ : Shape).Idx → EReal}
    {a2 : (⟨4, ![N, 32, H, H]⟩ : Shape).Idx → EReal} {a3 : (⟨4, ![N, 64, H, H]⟩ : Shape).Idx → EReal}
    (hc : Shape.Concatenates (([⟨_, a0⟩, ⟨_, a1⟩, ⟨_, a2⟩, ⟨_, a3⟩] : List ((s : Shape) × (s.Idx → EReal))).map (·.1))
      ⟨4, ![N, 288, H, H]⟩ 1) (n : Fin N) :
    midImg (concatenate ⟨4, ![N, 288, H, H]⟩ 1 [⟨_, a0⟩, ⟨_, a1⟩, ⟨_, a2⟩, ⟨_, a3⟩] hc) n
      = join4 (midImg a0 n) (midImg a1 n) (midImg a2 n) (midImg a3 n) := by
  funext c u v
  unfold join4
  split_ifs with h0 h1 h2
  all_goals
    unfold midImg
    by_cases hi : Inside H u v
    · rw [dif_pos hi, dif_pos hi]
      first
        | refine concatenate_apply_piece (t := ⟨4, ![N, 288, H, H]⟩) 1 _ hc _ 0 (by show 0 < 4; decide) _ a0 rfl rfl 0 rfl _ (fun b hb => ?_)
            (by show 0 + c.val = c.val; omega)
          match b, hb with
          | ⟨0, _⟩, _ => rfl
          | ⟨1, _⟩, hb => exact absurd rfl hb
          | ⟨2, _⟩, _ => rfl
          | ⟨3, _⟩, _ => rfl
        | refine concatenate_apply_piece (t := ⟨4, ![N, 288, H, H]⟩) 1 _ hc _ 1 (by show 1 < 4; decide) _ a1 rfl rfl 128 rfl _ (fun b hb => ?_)
            (by show 128 + (c.val - 128) = c.val; omega)
          match b, hb with
          | ⟨0, _⟩, _ => rfl
          | ⟨1, _⟩, hb => exact absurd rfl hb
          | ⟨2, _⟩, _ => rfl
          | ⟨3, _⟩, _ => rfl
        | refine concatenate_apply_piece (t := ⟨4, ![N, 288, H, H]⟩) 1 _ hc _ 2 (by show 2 < 4; decide) _ a2 rfl rfl 192 rfl _ (fun b hb => ?_)
            (by show 192 + (c.val - 192) = c.val; omega)
          match b, hb with
          | ⟨0, _⟩, _ => rfl
          | ⟨1, _⟩, hb => exact absurd rfl hb
          | ⟨2, _⟩, _ => rfl
          | ⟨3, _⟩, _ => rfl
        | refine concatenate_apply_piece (t := ⟨4, ![N, 288, H, H]⟩) 1 _ hc _ 3 (by show 3 < 4; decide) _ a3 rfl rfl 224 rfl _ (fun b hb => ?_)
            (by show 224 + (c.val - 224) = c.val; omega)
          match b, hb with
          | ⟨0, _⟩, _ => rfl
          | ⟨1, _⟩, hb => exact absurd rfl hb
          | ⟨2, _⟩, _ => rfl
          | ⟨3, _⟩, _ => rfl
    · rw [dif_neg hi, dif_neg hi]

end Net

end
-- ==== Proof.Conv.RefNorm.lean ====
/- The reference's group normalisation: mean and variance over four channels of an image, scale and shift per channel. -/
module

public import proofs.«01_k».proof.Proof.Conv.RefConv
public import proofs.«01_k».proof.Proof.Conv.Dense
public import proofs.«01_k».proof.Proof.Conv.Sums

@[expose] public section

set_option maxRecDepth 16384

noncomputable section

namespace Net

open Idealize.ShloMosaic

/-- Channel `a` of the group channel `c` lies in. -/
def mate (c : Fin 128) (a : Fin 4) : Fin 128 := ⟨4 * (c.val / 4) + a.val, by omega⟩

/-- The mean of a channel's group. -/
def mean (cnt : EReal) (M : ℕ) (X : Img 128) (c : Fin 128) : EReal :=
  Ideal.div (∑ a : Fin 4, ∑ y : Fin M, ∑ z : Fin M, X (mate c a) (y : ℕ) (z : ℕ)) cnt

/-- The variance of a channel's group. -/
def var (cnt : EReal) (M : ℕ) (X : Img 128) (c : Fin 128) : EReal :=
  Ideal.div (∑ a : Fin 4, ∑ y : Fin M, ∑ z : Fin M,
    (X (mate c a) (y : ℕ) (z : ℕ) - mean cnt M X c) * (X (mate c a) (y : ℕ) (z : ℕ) - mean cnt M X c)) cnt

/-- The small number added to a variance. -/
def eps : EReal := Ideal.ofBits .f32 0x3727C5AC#32

/-- Group normalisation with scale `γ` and shift `β`. -/
def gn (cnt : EReal) (M : ℕ) (X : Img 128) (γ β : Fin 128 → EReal) : Img 128 :=
  onSquare M fun c u v => (X c u v - mean cnt M X c) * Ideal.rsqrt (var cnt M X c + eps) * γ c + β c

section Reference

variable {N M : ℕ}

theorem spread5 (x : (⟨5, ![N, 32, 1, 1, 1]⟩ : Shape).Idx → EReal)
    (h : (⟨5, ![N, 32, 1, 1, 1]⟩ : Shape).BroadcastsInDim ⟨5, ![N, 32, 4, M, M]⟩ ![0, 1, 2, 3, 4]) (n : Fin N) (g : Fin 32) (a : Fin 4)
    (y z : Fin M) : broadcastInDim ⟨5, ![N, 32, 4, M, M]⟩ ![0, 1, 2, 3, 4] h x (ix5 n g a y z) = x (ix5 n g 0 0 0) := by
  refine broadcastInDim_apply _ h _ _ (ix5 n g 0 0 0) (fun b => ?_)
  fin_cases b
  · show n.val = if N = 1 then 0 else n.val
    have := n.isLt; split <;> omega
  · show g.val = if 32 = 1 then 0 else g.val
    rfl
  · show 0 = if 1 = 1 then 0 else a.val
    rfl
  · show 0 = if 1 = 1 then 0 else y.val
    rfl
  · show 0 = if 1 = 1 then 0 else z.val
    rfl

theorem spread2 (x : (⟨2, ![N, 32]⟩ : Shape).Idx → EReal)
    (h : (⟨2, ![N, 32]⟩ : Shape).BroadcastsInDim ⟨5, ![N, 32, 1, 1, 1]⟩ ![0, 1]) (n : Fin N) (g : Fin 32) :
    broadcastInDim ⟨5, ![N, 32, 1, 1, 1]⟩ ![0, 1] h x (ix5 n g 0 0 0) = x (ix2 n g) := by
  refine broadcastInDim_apply _ h _ _ (ix2 n g) (fun b => ?_)
  fin_cases b
  · show n.val = if N = 1 then 0 else n.val
    have := n.isLt; split <;> omega
  · show g.val = if 32 = 1 then 0 else g.val
    rfl

/-- The array holds the images by group. -/
abbrev HoldsGroups (X : Fin N → Img 128) (A : (⟨5, ![N, 32, 4, M, M]⟩ : Shape).Idx → EReal) : Prop :=
  ∀ n g a y z, A (ix5 n g a y z) = X n ⟨4 * g.val + a.val, by have := g.isLt; have := a.isLt; omega⟩ (y : ℕ) (z : ℕ)

/-- A batch cut into its groups. -/
theorem groups_of {X : Fin N → Img 128} {P : (⟨4, ![N, 128, M, M]⟩ : Shape).Idx → EReal}
    (hP : ∀ n c (y z : Fin M), P (ix4 n c y z) = X n c (y : ℕ) (z : ℕ))
    (h : (⟨4, ![N, 128, M, M]⟩ : Shape).ShapeCasts ⟨5, ![N, 32, 4, M, M]⟩) : HoldsGroups X (shapeCast ⟨5, ![N, 32, 4, M, M]⟩ P h) := by
  intro n g a y z
  rw [shapeCast_apply _ _ _ (ix4 n ⟨4 * g.val + a.val, by have := g.isLt; have := a.isLt; omega⟩ y z) (by
    rw [Shape.rowMajor_val_five, Shape.rowMajor_val_four]
    show ((n.val * 128 + (4 * g.val + a.val)) * M + y.val) * M + z.val = (((n.val * 32 + g.val) * 4 + a.val) * M + y.val) * M + z.val
    have : n.val * 128 + (4 * g.val + a.val) = (n.val * 32 + g.val) * 4 + a.val := by omega
    rw [this])]
  exact hP _ _ _ _

variable {X : Fin N → Img 128} {A : FVec Ideal ⟨5, ![N, 32, 4, M, M]⟩ .f32} (hA : HoldsGroups X A)
  (hr : (⟨5, ![N, 32, 4, M, M]⟩ : Shape).ReducesTo [2, 3, 4] ⟨2, ![N, 32]⟩)
  (h5 : (⟨5, ![N, 32, 1, 1, 1]⟩ : Shape).BroadcastsInDim ⟨5, ![N, 32, 4, M, M]⟩ ![0, 1, 2, 3, 4])
  (h2 : (⟨2, ![N, 32]⟩ : Shape).BroadcastsInDim ⟨5, ![N, 32, 1, 1, 1]⟩ ![0, 1])
  (h0 : (⟨0, ![]⟩ : Shape).BroadcastsInDim ⟨5, ![N, 32, 1, 1, 1]⟩ ![]) (hu : 0 < (⟨0, ![]⟩ : Shape).numel) (w : BitVec 32)

/-- The host's text of the group means, spread over the batch. -/
abbrev meanText (A : FVec Ideal ⟨5, ![N, 32, 4, M, M]⟩ .f32) : FVec Ideal ⟨5, ![N, 32, 4, M, M]⟩ .f32 :=
  broadcastInDim ⟨5, ![N, 32, 4, M, M]⟩ ![0, 1, 2, 3, 4] h5 (Host.divf (broadcastInDim ⟨5, ![N, 32, 1, 1, 1]⟩ ![0, 1] h2
    (Host.reduceAdd A (constant (F := Ideal) ⟨0, ![]⟩ .f32 0x00000000#32) hr hu))
    (broadcastInDim ⟨5, ![N, 32, 1, 1, 1]⟩ ![] h0 (constant (F := Ideal) ⟨0, ![]⟩ .f32 w)))

/-- The host's count: the number of entries less zero. -/
abbrev countText : FVec Ideal ⟨0, ![]⟩ .f32 :=
  subf (constant (F := Ideal) ⟨0, ![]⟩ .f32 w) (sitofp .f32 (constantI ⟨0, ![]⟩ 32 0#32))

/-- The host's text of the normalised batch, from the batch and the centred batch. -/
abbrev normText (A Z : FVec Ideal ⟨5, ![N, 32, 4, M, M]⟩ .f32) (n0 : FVec Ideal ⟨0, ![]⟩ .f32) : FVec Ideal ⟨5, ![N, 32, 4, M, M]⟩ .f32 :=
  mulf (subf A (meanText hr h5 h2 h0 hu w A)) (broadcastInDim ⟨5, ![N, 32, 4, M, M]⟩ ![0, 1, 2, 3, 4] h5 (Host.rsqrt (addf (select
    (broadcastInDim ⟨5, ![N, 32, 1, 1, 1]⟩ ![] h0 (cmpf .ogt n0 (constant (F := Ideal) ⟨0, ![]⟩ .f32 0x00000000#32)))
    (Host.divf (broadcastInDim ⟨5, ![N, 32, 1, 1, 1]⟩ ![0, 1] h2
      (Host.reduceAdd (mulf Z Z) (constant (F := Ideal) ⟨0, ![]⟩ .f32 0x00000000#32) hr hu))
      (broadcastInDim ⟨5, ![N, 32, 1, 1, 1]⟩ ![] h0 n0))
    (broadcastInDim ⟨5, ![N, 32, 1, 1, 1]⟩ ![] h0 (id (constant (F := Ideal) ⟨0, ![]⟩ .f32 0x7FC00000#32))))
    (broadcastInDim ⟨5, ![N, 32, 1, 1, 1]⟩ ![] h0 (constant (F := Ideal) ⟨0, ![]⟩ .f32 0x3727C5AC#32)))))

include hA in
/-- A group's sum. -/
theorem sum_text (n : Fin N) (g : Fin 32) (c : Fin 128) (hc : c.val / 4 = g.val) (f : EReal → EReal)
    {B : FVec Ideal ⟨5, ![N, 32, 4, M, M]⟩ .f32} (hB : ∀ a y z, B (ix5 n g a y z) = f (A (ix5 n g a y z))) :
    Host.reduceAdd B (constant (F := Ideal) ⟨0, ![]⟩ .f32 0x00000000#32) hr hu (ix2 n g)
      = ∑ a : Fin 4, ∑ y : Fin M, ∑ z : Fin M, f (X n (mate c a) (y : ℕ) (z : ℕ)) := by
  refine (ValueIdx.hostReduceAdd_apply _ _ _ _ _).trans ((host_sum _ _ _ _ _).trans ?_)
  have h0 : (constant (F := Ideal) ⟨0, ![]⟩ .f32 0x00000000#32 : (⟨0, ![]⟩ : Shape).Idx → EReal) (Shape.Idx.first hu) = 0 :=
    Ideal.ofBits_zero_f32
  rw [h0, zero_add]
  refine Finset.sum_congr rfl fun a _ => Finset.sum_congr rfl fun y _ => Finset.sum_congr rfl fun z _ => ?_
  rw [hB, hA]
  refine congrArg (fun q => f (X n q _ _)) (Fin.ext ?_)
  show 4 * g.val + a.val = 4 * (c.val / 4) + a.val
  rw [hc]

include hA in
theorem mean_text (n : Fin N) (g : Fin 32) (a : Fin 4) (y z : Fin M) (c : Fin 128) (hc : c.val / 4 = g.val) :
    meanText hr h5 h2 h0 hu w A (ix5 n g a y z) = mean (Ideal.ofBits .f32 w) M (X n) c := by
  refine (spread5 _ h5 n g a y z).trans ?_
  refine congrArg₂ Ideal.div ((spread2 _ h2 n g).trans (sum_text hA hr hu n g c hc id fun _ _ _ => rfl)) ?_
  exact ValueIdx.broadcastInDim_scalar_apply h0 _ _

theorem count_text : countText w ix0 = Ideal.ofBits .f32 w := by
  show Ideal.ofBits .f32 w - (Scalar.sitofp (F := Ideal) .f32 (0#32) : EReal) = _
  rw [zero_word, sub_zero]

include hA in
theorem norm_text (hw : 0 < Ideal.ofBits .f32 w) (n : Fin N) (g : Fin 32) (a : Fin 4) (y z : Fin M) (c : Fin 128)
    (hc : c.val = 4 * g.val + a.val) :
    normText hr h5 h2 h0 hu w A (subf A (meanText hr h5 h2 h0 hu w A)) (countText w) (ix5 n g a y z)
      = (X n c (y : ℕ) (z : ℕ) - mean (Ideal.ofBits .f32 w) M (X n) c) * Ideal.rsqrt (var (Ideal.ofBits .f32 w) M (X n) c + eps) := by
  have hc' : c.val / 4 = g.val := by have := a.isLt; omega
  have hx : A (ix5 n g a y z) = X n c (y : ℕ) (z : ℕ) := by
    rw [hA]
    exact congrArg (fun q => X n q _ _) (Fin.ext hc.symm)
  refine congrArg₂ (fun p q : EReal => p * q) ?_ ?_
  · refine congrArg₂ (fun p q : EReal => p - q) hx (mean_text hA hr h5 h2 h0 hu w n g a y z c hc')
  refine (spread5 _ h5 n g a y z).trans (congrArg Ideal.rsqrt ?_)
  refine congrArg₂ (fun p q : EReal => p + q) ?_ (ValueIdx.broadcastInDim_scalar_apply h0 _ _)
  have hcmp : broadcastInDim ⟨5, ![N, 32, 1, 1, 1]⟩ ![] h0 (cmpf .ogt (countText w) (constant (F := Ideal) ⟨0, ![]⟩ .f32 0x00000000#32))
      (ix5 n g 0 0 0) = 1#1 := by
    refine (ValueIdx.broadcastInDim_scalar_apply h0 _ _).trans ?_
    have e : countText w ix0 = Ideal.ofBits .f32 w := count_text w
    show Scalar.cmpf .ogt (countText w ix0) (Ideal.ofBits .f32 0x00000000#32) = 1#1
    rw [e, Ideal.ofBits_zero_f32]
    pointwise
    simp [hw]
  refine (if_pos hcmp).trans ?_
  refine congrArg₂ Ideal.div ((spread2 _ h2 n g).trans ?_) ((ValueIdx.broadcastInDim_scalar_apply h0 _ _).trans (count_text w))
  refine sum_text hA hr hu n g c hc' (fun x => (x - mean (Ideal.ofBits .f32 w) M (X n) c) * (x - mean (Ideal.ofBits .f32 w) M (X n) c))
    fun a' y' z' => ?_
  have e := mean_text hA hr h5 h2 h0 hu w n g a' y' z' c hc'
  exact congrArg₂ (fun p q : EReal => p * q) (congrArg (A (ix5 n g a' y' z') - ·) e) (congrArg (A (ix5 n g a' y' z') - ·) e)

include hA in
/-- A normalised batch with its scale, shift and positive part, read at an index. -/
theorem gn_read (hw : 0 < Ideal.ofBits .f32 w) (γ β : FVec Ideal ⟨1, ![128]⟩ .f32)
    (hs : (⟨5, ![N, 32, 4, M, M]⟩ : Shape).ShapeCasts ⟨4, ![N, 128, M, M]⟩)
    (hb1 : (⟨4, ![1, 128, 1, 1]⟩ : Shape).BroadcastsInDim ⟨4, ![N, 128, M, M]⟩ ![0, 1, 2, 3])
    (hb2 : (⟨1, ![128]⟩ : Shape).BroadcastsInDim ⟨4, ![1, 128, 1, 1]⟩ ![1])
    (hb3 : (⟨0, ![]⟩ : Shape).BroadcastsInDim ⟨4, ![N, 128, M, M]⟩ ![]) (n : Fin N) (c : Fin 128) (y z : Fin M) :
    maximumf (addf (mulf (shapeCast ⟨4, ![N, 128, M, M]⟩
        (normText hr h5 h2 h0 hu w A (subf A (meanText hr h5 h2 h0 hu w A)) (countText w)) hs)
        (broadcastInDim ⟨4, ![N, 128, M, M]⟩ ![0, 1, 2, 3] hb1 (broadcastInDim ⟨4, ![1, 128, 1, 1]⟩ ![1] hb2 γ)))
        (broadcastInDim ⟨4, ![N, 128, M, M]⟩ ![0, 1, 2, 3] hb1 (broadcastInDim ⟨4, ![1, 128, 1, 1]⟩ ![1] hb2 β)))
        (broadcastInDim ⟨4, ![N, 128, M, M]⟩ ![] hb3 (constant (F := Ideal) ⟨0, ![]⟩ .f32 0x00000000#32)) (ix4 n c y z)
      = max ((X n c (y : ℕ) (z : ℕ) - mean (Ideal.ofBits .f32 w) M (X n) c) * Ideal.rsqrt (var (Ideal.ofBits .f32 w) M (X n) c + eps)
          * γ (ix1 c) + β (ix1 c)) 0 := by
  refine congrArg₂ (fun a b : EReal => max a b) (congrArg₂ (fun a b : EReal => a + b) (congrArg₂ (fun a b : EReal => a * b) ?_
    (spread_read γ hb1 hb2 n c y z)) (spread_read β hb1 hb2 n c y z)) ?_
  · rw [shapeCast_apply _ _ _ (ix5 n ⟨c.val / 4, by omega⟩ ⟨c.val % 4, by omega⟩ y z) (by
      rw [Shape.rowMajor_val_five, Shape.rowMajor_val_four]
      show (((n.val * 32 + c.val / 4) * 4 + c.val % 4) * M + y.val) * M + z.val = ((n.val * 128 + c.val) * M + y.val) * M + z.val
      have : (n.val * 32 + c.val / 4) * 4 + c.val % 4 = n.val * 128 + c.val := by omega
      rw [this])]
    exact norm_text hA hr h5 h2 h0 hu w hw n _ _ y z c (by show c.val = 4 * (c.val / 4) + c.val % 4; omega)
  · exact (ValueIdx.broadcastInDim_scalar_apply hb3 _ _).trans Ideal.ofBits_zero_f32

include hA in
theorem gn_images (hw : 0 < Ideal.ofBits .f32 w) (γ β : FVec Ideal ⟨1, ![128]⟩ .f32)
    (hs : (⟨5, ![N, 32, 4, M, M]⟩ : Shape).ShapeCasts ⟨4, ![N, 128, M, M]⟩)
    (hb1 : (⟨4, ![1, 128, 1, 1]⟩ : Shape).BroadcastsInDim ⟨4, ![N, 128, M, M]⟩ ![0, 1, 2, 3])
    (hb2 : (⟨1, ![128]⟩ : Shape).BroadcastsInDim ⟨4, ![1, 128, 1, 1]⟩ ![1])
    (hb3 : (⟨0, ![]⟩ : Shape).BroadcastsInDim ⟨4, ![N, 128, M, M]⟩ ![]) (n : Fin N) :
    midImg (B := N) (C := 128) (H := M) (maximumf (addf (mulf (shapeCast ⟨4, ![N, 128, M, M]⟩
        (normText hr h5 h2 h0 hu w A (subf A (meanText hr h5 h2 h0 hu w A)) (countText w)) hs)
        (broadcastInDim ⟨4, ![N, 128, M, M]⟩ ![0, 1, 2, 3] hb1 (broadcastInDim ⟨4, ![1, 128, 1, 1]⟩ ![1] hb2 γ)))
        (broadcastInDim ⟨4, ![N, 128, M, M]⟩ ![0, 1, 2, 3] hb1 (broadcastInDim ⟨4, ![1, 128, 1, 1]⟩ ![1] hb2 β)))
        (broadcastInDim ⟨4, ![N, 128, M, M]⟩ ![] hb3 (constant (F := Ideal) ⟨0, ![]⟩ .f32 0x00000000#32))) n
      = relu (gn (Ideal.ofBits .f32 w) M (X n) (fun c => γ (ix1 c)) fun c => β (ix1 c)) := by
  unfold gn
  rw [relu_onSquare]
  exact midImg_eq _ _ _ fun c y z => gn_read hA hr h5 h2 h0 hu w hw γ β hs hb1 hb2 hb3 n c y z

end Reference

theorem count_1024 : Ideal.ofBits .f32 0x44800000#32 = ((1024 : ℝ) : EReal) := by
  have h1 : ¬(BitVec.extractLsb' 31 1 1149239296#32 = 1#1) := by decide
  have h2 : 1149239296 >>> 23 % 256 = 137 := by decide
  norm_num [Ideal.ofBits, Ideal.ieee, h1, h2]
theorem count_256 : Ideal.ofBits .f32 0x43800000#32 = ((256 : ℝ) : EReal) := by
  have h1 : ¬(BitVec.extractLsb' 31 1 1132462080#32 = 1#1) := by decide
  have h2 : 1132462080 >>> 23 % 256 = 135 := by decide
  norm_num [Ideal.ofBits, Ideal.ieee, h1, h2]
theorem count_64 : Ideal.ofBits .f32 0x42800000#32 = ((64 : ℝ) : EReal) := by
  have h1 : ¬(BitVec.extractLsb' 31 1 1115684864#32 = 1#1) := by decide
  have h2 : 1115684864 >>> 23 % 256 = 133 := by decide
  norm_num [Ideal.ofBits, Ideal.ieee, h1, h2]
theorem eps_pos : ∃ e : ℝ, 0 < e ∧ eps = (e : EReal) := by
  have h1 : ¬(BitVec.extractLsb' 31 1 925353388#32 = 1#1) := by decide
  have h2 : 925353388 >>> 23 % 256 = 110 := by decide
  refine ⟨10995116 * 2 ^ (-40 : ℤ), by positivity, ?_⟩
  unfold eps
  norm_num [Ideal.ofBits, Ideal.ieee, h1, h2]

end Net

end
-- ==== Proof.Conv.Norm.lean ====
/- Group normalisation as the kernel computes it: sums over the square, a product with the matrix of the groups, the mean of the
   squares less the square of the mean. -/
module

public import proofs.«01_k».proof.Proof.Conv.Dense
public import proofs.«01_k».proof.Proof.Conv.Sums
public import proofs.«01_k».proof.Proof.Conv.RefNorm

@[expose] public section

set_option maxRecDepth 16384

noncomputable section

namespace Net

open Idealize.ShloMosaic

/-- The variance as the mean of the squares less the square of the mean. -/
def spreadOf (cnt : EReal) (M : ℕ) (X : Img 128) (c : Fin 128) : EReal :=
  Ideal.div (∑ a : Fin 4, ∑ y : Fin M, ∑ z : Fin M, X (mate c a) (y : ℕ) (z : ℕ) * X (mate c a) (y : ℕ) (z : ℕ)) cnt
    - mean cnt M X c * mean cnt M X c

/-- One normalised entry. -/
def normed (cnt : EReal) (M : ℕ) (X : Img 128) (γ β : Fin 128 → EReal) : Img 128 := fun c u v =>
  max ((X c u v - mean cnt M X c) * Ideal.rsqrt (spreadOf cnt M X c + eps) * γ c + β c) 0

/-- The matrix of the groups: one where two channels share a group. -/
def Groups (S : (⟨2, ![128, 128]⟩ : Shape).Idx → EReal) : Prop :=
  ∀ k c : Fin 128, S (ix2 k c) = if k.val / 4 = c.val / 4 then 1 else 0

theorem group_sum {S : (⟨2, ![128, 128]⟩ : Shape).Idx → EReal} (hS : Groups S) (f : Fin 128 → EReal) (c : Fin 128) :
    ∑ k : Fin 128, f k * S (ix2 k c) = ∑ a : Fin 4, f (mate c a) := by
  have h1 : ∀ k : Fin 128, f k * S (ix2 k c) = if k.val / 4 = c.val / 4 then f k else 0 := fun k => by
    rw [hS]
    by_cases h : k.val / 4 = c.val / 4
    · rw [if_pos h, if_pos h, mul_one]
    · rw [if_neg h, if_neg h, mul_zero]
  rw [Finset.sum_congr rfl fun k _ => h1 k, ← Finset.sum_filter]
  refine (Finset.sum_bij (fun (a : Fin 4) _ => mate c a) (fun a _ => ?_) (fun a _ b _ hab => ?_) (fun k hk => ?_) (fun a _ => rfl)).symm
  · refine Finset.mem_filter.mpr ⟨Finset.mem_univ _, ?_⟩
    show (4 * (c.val / 4) + a.val) / 4 = c.val / 4
    omega
  · have := congrArg Fin.val hab
    apply Fin.ext
    have h2 : 4 * (c.val / 4) + a.val = 4 * (c.val / 4) + b.val := this
    omega
  · have h2 := (Finset.mem_filter.mp hk).2
    refine ⟨⟨k.val % 4, by omega⟩, Finset.mem_univ _, Fin.ext ?_⟩
    show 4 * (c.val / 4) + k.val % 4 = k.val
    omega

section Text

variable {M : ℕ} (h : (⟨4, ![4, M, M, 128]⟩ : Shape).Reduces [1, 2] ⟨2, ![4, 128]⟩) (S : (⟨2, ![128, 128]⟩ : Shape).Idx → EReal)
  (hS : Groups S) (cnt : EReal) (x : (S4i M M 128).Idx → EReal)

/-- The mean's text. -/
abbrev muText : FVec Ideal ⟨2, ![4, 128]⟩ .f32 :=
  divf (FloatOps.matmul (φ₁ := .f32) (φ₂ := .f32) (DotDims.plain 4 128 128) none
    (multiReduction (F := Ideal) .add [1, 2] ⟨2, ![4, 128]⟩ (x : FVec Ideal (S4i M M 128) .f32) 0x00000000#32 h (.inl rfl) rfl) S
    (constant ⟨2, ![4, 128]⟩ .f32 0x00000000#32)) (broadcast ⟨2, ![4, 128]⟩ cnt)

/-- The reciprocal deviation's text. -/
abbrev devText : FVec Ideal ⟨2, ![4, 128]⟩ .f32 :=
  rsqrt (addf (subf (muText h S cnt (mulf (F := Ideal) (φ := .f32) x x)) (mulf (muText h S cnt x) (muText h S cnt x)))
    (broadcast ⟨2, ![4, 128]⟩ (Scalar.ofBits (F := Ideal) .f32 0x3727C5AC#32)))

include hS in
theorem mu_sum (b : Fin 4) (c : Fin 128) :
    muText h S cnt x (ix2 b c) = Ideal.div (∑ a : Fin 4, ∑ y : Fin M, ∑ z : Fin M, x (ix4 b y z (mate c a))) cnt := by
  refine congrArg (fun t => Ideal.div t cnt) ?_
  refine (Ideal.matmul_plain_apply none _ S _ b c).trans ?_
  have hz : (constant (F := Ideal) ⟨2, ![4, 128]⟩ .f32 0x00000000#32 (ix2 b c) : EReal) = 0 := by pointwise
  refine (congrArg (fun t : EReal => t + _) hz).trans ((zero_add _).trans ?_)
  refine (group_sum hS (fun k => multiReduction (F := Ideal) .add [1, 2] ⟨2, ![4, 128]⟩ (x : FVec Ideal (S4i M M 128) .f32) 0x00000000#32 h (.inl rfl) rfl (ix2 b k)) c).trans ?_
  refine Finset.sum_congr rfl fun a _ => ?_
  exact mid_sum h x b (mate c a)

include hS in
theorem mu_read (b : Fin 4) (c : Fin 128) : muText h S cnt x (ix2 b c) = mean cnt M (lastImg (C := 128) x b) c := by
  refine (mu_sum h S hS cnt x b c).trans ?_
  unfold mean
  refine congrArg (fun t => Ideal.div t cnt) (Finset.sum_congr rfl fun a _ => Finset.sum_congr rfl fun y _ => Finset.sum_congr rfl fun z _ => ?_)
  exact (lastImg_in x b (mate c a) y z).symm

include hS in
theorem dev_read (b : Fin 4) (c : Fin 128) :
    devText h S cnt x (ix2 b c) = Ideal.rsqrt (spreadOf cnt M (lastImg (C := 128) x b) c + eps) := by
  refine congrArg Ideal.rsqrt (congrArg (fun t : EReal => t + eps) (congrArg₂ (fun p q : EReal => p - q) ?_
    (congrArg₂ (fun p q : EReal => p * q) (mu_read h S hS cnt x b c) (mu_read h S hS cnt x b c))))
  refine (mu_sum h S hS cnt _ b c).trans ?_
  refine congrArg (fun t => Ideal.div t cnt) (Finset.sum_congr rfl fun a _ => Finset.sum_congr rfl fun y _ => Finset.sum_congr rfl fun z _ => ?_)
  show x (ix4 b y z (mate c a)) * x (ix4 b y z (mate c a)) = _
  rw [lastImg_in x b (mate c a) y z]

variable (q1 : (⟨2, ![4, 128]⟩ : Shape).ShapeCasts ⟨4, ![4, 1, 1, 128]⟩) (q2 : (⟨4, ![4, 1, 1, 128]⟩ : Shape).Broadcasts (S4i M M 128))
  (q3 : (⟨2, ![1, 128]⟩ : Shape).ShapeCasts ⟨4, ![1, 1, 1, 128]⟩) (q4 : (⟨4, ![1, 1, 1, 128]⟩ : Shape).Broadcasts (S4i M M 128))

theorem over_square (m : (⟨2, ![4, 128]⟩ : Shape).Idx → EReal) (b : Fin 4) (y z : Fin M) (c : Fin 128) :
    broadcastTo (S4i M M 128) (shapeCast ⟨4, ![4, 1, 1, 128]⟩ m q1) q2 (ix4 b y z c) = m (ix2 b c) := by
  refine (broadcastTo_apply _ q2 _ (ix4 b 0 0 c) (fun a => ?_)).trans (shapeCast_apply _ _ _ (ix2 b c) ?_)
  · match a with
    | ⟨0, _⟩ => rfl
    | ⟨1, _⟩ => rfl
    | ⟨2, _⟩ => rfl
    | ⟨3, _⟩ => rfl
  · rw [Shape.rowMajor_val_four, Shape.rowMajor_val_two]
    show b.val * 128 + c.val = ((b.val * 1 + 0) * 1 + 0) * 128 + c.val
    omega

theorem over_batch (m : (⟨2, ![1, 128]⟩ : Shape).Idx → EReal) (b : Fin 4) (y z : Fin M) (c : Fin 128) :
    broadcastTo (S4i M M 128) (shapeCast ⟨4, ![1, 1, 1, 128]⟩ m q3) q4 (ix4 b y z c) = m (ix2 0 c) := by
  refine (broadcastTo_apply _ q4 _ (ix4 0 0 0 c) (fun a => ?_)).trans (shapeCast_apply _ _ _ (ix2 0 c) ?_)
  · match a with
    | ⟨0, _⟩ => rfl
    | ⟨1, _⟩ => rfl
    | ⟨2, _⟩ => rfl
    | ⟨3, _⟩ => rfl
  · rw [Shape.rowMajor_val_four, Shape.rowMajor_val_two]
    rfl

include hS in
/-- The normalised batch, read. -/
theorem norm_read (γ β : (⟨2, ![1, 128]⟩ : Shape).Idx → EReal) (zero : EReal) (h0 : zero = 0) (b : Fin 4) (y z : Fin M) (c : Fin 128) :
    maximumf (F := Ideal) (φ := .f32) (addf (mulf (mulf (subf x
        (broadcastTo (S4i M M 128) (shapeCast ⟨4, ![4, 1, 1, 128]⟩ (muText h S cnt x) q1) q2))
        (broadcastTo (S4i M M 128) (shapeCast ⟨4, ![4, 1, 1, 128]⟩ (devText h S cnt x) q1) q2))
        (broadcastTo (S4i M M 128) (shapeCast ⟨4, ![1, 1, 1, 128]⟩ γ q3) q4))
        (broadcastTo (S4i M M 128) (shapeCast ⟨4, ![1, 1, 1, 128]⟩ β q3) q4)) (broadcast (S4i M M 128) zero) (ix4 b y z c)
      = normed cnt M (lastImg (C := 128) x b) (fun c => γ (ix2 0 c)) (fun c => β (ix2 0 c)) c y z := by
  unfold normed
  refine congrArg₂ (fun p q : EReal => max p q) (congrArg₂ (fun p q : EReal => p + q) (congrArg₂ (fun p q : EReal => p * q)
    (congrArg₂ (fun p q : EReal => p * q) (congrArg₂ (fun p q : EReal => p - q) (lastImg_in x b c y z).symm ?_) ?_) ?_) ?_) h0
  · exact (over_square q1 q2 _ b y z c).trans (mu_read h S hS cnt x b c)
  · exact (over_square q1 q2 _ b y z c).trans (dev_read h S hS cnt x b c)
  · exact over_batch q3 q4 γ b y z c
  · exact over_batch q3 q4 β b y z c

end Text

end Net

end
-- ==== Proof.Conv.Prelude.lean ====
/- What the first program's host code hands the call: images row after row, weights by tap and channel, biases as rows. -/
module

public import proofs.«01_k».proof.Proof.KernelIdealFrame.Blocks
public import proofs.«01_k».proof.Proof.Conv.Weights
public import proofs.«01_k».proof.Proof.Conv.Norm
public import Idealize.ShloMosaic.Lib.Pipeline.ValueKit

@[expose] public section

set_option maxRecDepth 16384

noncomputable section

namespace Cert.Proof.KernelSide

open Idealize.ShloMosaic Idealize.ShloMosaic.TcCoe Idealize.SL.Sem
open Cert.KernelIdeal Cert.KernelIdeal.Gen Net

variable (m : (ℓ : Loc nD τ sig) → Buf (Elt Ideal) ℓ) (c : Dev nD)

/-! ## The images -/

theorem V_images :
    (V m c main_v0 : S64x128x1024.Idx → EReal) = shapeCast S64x128x1024 (m ((c : Thread nD τ).loc main_arg0) : S64x128x32x32.Idx → EReal) shapeCasts_S64x128x32x32_S64x128x1024
    ∧ (V m c main_v1 : S64x8x4096.Idx → EReal) = shapeCast S64x8x4096 (m ((c : Thread nD τ).loc main_arg3) : S64x8x64x64.Idx → EReal) shapeCasts_S64x8x64x64_S64x8x4096
    ∧ (V m c main_v3 : S64x8x1024.Idx → EReal) = shapeCast S64x8x1024 (pad S64x8x32x32 ![0, 0, 0, 0] ![0, 6, 0, 0] ![0, 0, 0, 0]
        (m ((c : Thread nD τ).loc main_arg1) : S64x2x32x32.Idx → EReal) (sitofp (F := Ideal) .f32 (constantI S_ 32 0#32))
        pads_S64x2x32x32_S64x8x32x32_000_060_000_000 h_S_) shapeCasts_S64x8x32x32_S64x8x1024
    ∧ (V m c main_v5 : S64x8x1024.Idx → EReal) = shapeCast S64x8x1024 (pad S64x8x32x32 ![0, 0, 0, 0] ![0, 7, 0, 0] ![0, 0, 0, 0]
        (m ((c : Thread nD τ).loc main_arg2) : S64x1x32x32.Idx → EReal) (sitofp (F := Ideal) .f32 (constantI S_ 32 0#32))
        pads_S64x1x32x32_S64x8x32x32_000_070_000_000 h_S_) shapeCasts_S64x8x32x32_S64x8x1024 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, StableHlo.TRef.nullary, StableHlo.TRef.unary, StableHlo.TRef.binary, StableHlo.TRef.ternary, StableHlo.TRef.reshape, StableHlo.TRef.toBuf, StableHlo.TRef.ofBuf, cast_eq]
  after_results_simp
  exact ⟨rfl, rfl, rfl, rfl⟩

/-! ## The weights -/

theorem V_first :
    (V m c main_v7 : S128x72.Idx → EReal) = shapeCast S128x72 (transpose S128x3x3x8 [0, 2, 3, 1]
        (m ((c : Thread nD τ).loc main_arg4) : S128x8x3x3.Idx → EReal) transposes_S128x8x3x3_S128x3x3x8_0_2_3_1) shapeCasts_S128x3x3x8_S128x72
    ∧ (V m c main_v10 : S128x392.Idx → EReal) = shapeCast S128x392 (pad S128x7x7x8 ![0, 0, 0, 0] ![0, 0, 0, 6] ![0, 0, 0, 0]
        (transpose S128x7x7x2 [0, 2, 3, 1] (m ((c : Thread nD τ).loc main_arg8) : S128x2x7x7.Idx → EReal) transposes_S128x2x7x7_S128x7x7x2_0_2_3_1)
        (sitofp (F := Ideal) .f32 (constantI S_ 32 0#32)) pads_S128x7x7x2_S128x7x7x8_000_000_000_060 h_S_) shapeCasts_S128x7x7x8_S128x392
    ∧ (V m c main_v13 : S64x72.Idx → EReal) = shapeCast S64x72 (pad S64x3x3x8 ![0, 0, 0, 0] ![0, 0, 0, 7] ![0, 0, 0, 0]
        (transpose S64x3x3x1 [0, 2, 3, 1] (m ((c : Thread nD τ).loc main_arg12) : S64x1x3x3.Idx → EReal) transposes_S64x1x3x3_S64x3x3x1_0_2_3_1)
        (sitofp (F := Ideal) .f32 (constantI S_ 32 0#32)) pads_S64x3x3x1_S64x3x3x8_000_000_000_070 h_S_) shapeCasts_S64x3x3x8_S64x72 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, StableHlo.TRef.nullary, StableHlo.TRef.unary, StableHlo.TRef.binary, StableHlo.TRef.ternary, StableHlo.TRef.reshape, StableHlo.TRef.toBuf, StableHlo.TRef.ofBuf, cast_eq]
  after_results_simp
  exact ⟨rfl, rfl, rfl⟩

theorem V_dense :
    (V m c main_v15 : S1152x64.Idx → EReal) = shapeCast S1152x64 (transpose S3x3x128x64 [2, 3, 1, 0]
        (m ((c : Thread nD τ).loc main_arg6) : S64x128x3x3.Idx → EReal) transposes_S64x128x3x3_S3x3x128x64_2_3_1_0) shapeCasts_S3x3x128x64_S1152x64
    ∧ (V m c main_v17 : S1152x64.Idx → EReal) = shapeCast S1152x64 (transpose S3x3x128x64 [2, 3, 1, 0]
        (m ((c : Thread nD τ).loc main_arg10) : S64x128x3x3.Idx → EReal) transposes_S64x128x3x3_S3x3x128x64_2_3_1_0) shapeCasts_S3x3x128x64_S1152x64
    ∧ (V m c main_v19 : S576x32.Idx → EReal) = shapeCast S576x32 (transpose S3x3x64x32 [2, 3, 1, 0]
        (m ((c : Thread nD τ).loc main_arg14) : S32x64x3x3.Idx → EReal) transposes_S32x64x3x3_S3x3x64x32_2_3_1_0) shapeCasts_S3x3x64x32_S576x32
    ∧ (V m c main_v29 : S1152x128.Idx → EReal) = shapeCast S1152x128 (transpose S3x3x128x128 [2, 3, 1, 0]
        (m ((c : Thread nD τ).loc main_arg20) : S128x128x3x3.Idx → EReal) transposes_S128x128x3x3_S3x3x128x128_2_3_1_0) shapeCasts_S3x3x128x128_S1152x128
    ∧ (V m c main_v31 : S1152x128.Idx → EReal) = shapeCast S1152x128 (transpose S3x3x128x128 [2, 3, 1, 0]
        (m ((c : Thread nD τ).loc main_arg24) : S128x128x3x3.Idx → EReal) transposes_S128x128x3x3_S3x3x128x128_2_3_1_0) shapeCasts_S3x3x128x128_S1152x128 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, StableHlo.TRef.nullary, StableHlo.TRef.unary, StableHlo.TRef.binary, StableHlo.TRef.ternary, StableHlo.TRef.reshape, StableHlo.TRef.toBuf, StableHlo.TRef.ofBuf, cast_eq]
  after_results_simp
  exact ⟨rfl, rfl, rfl, rfl, rfl⟩

theorem V_joined :
    (V m c main_v25 : S2304x128.Idx → EReal) = shapeCast S2304x128 (rest (m ((c : Thread nD τ).loc main_arg16) : S128x288x3x3.Idx → EReal)
        transposes_S128x288x3x3_S3x3x288x128_2_3_1_0 slices_S3x3x288x128_S3x3x128x128_0_0_0_0 slices_S3x3x288x128_S3x3x64x128_0_0_128_0
        slices_S3x3x288x128_S3x3x64x128_0_0_224_0 concatenates_S3x3x128x128_S3x3x64x128_S3x3x64x128_S3x3x256x128_d2) shapeCasts_S3x3x256x128_S2304x128
    ∧ (V m c main_v27 : S288x128.Idx → EReal) = shapeCast S288x128 (extractStridedSlice S3x3x32x128 ![0, 0, 192, 0]
        (transpose S3x3x288x128 [2, 3, 1, 0] (m ((c : Thread nD τ).loc main_arg16) : S128x288x3x3.Idx → EReal) transposes_S128x288x3x3_S3x3x288x128_2_3_1_0)
        slices_S3x3x288x128_S3x3x32x128_0_0_192_0) shapeCasts_S3x3x32x128_S288x128 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, StableHlo.TRef.nullary, StableHlo.TRef.unary, StableHlo.TRef.binary, StableHlo.TRef.ternary, StableHlo.TRef.reshape, StableHlo.TRef.toBuf, StableHlo.TRef.ofBuf, cast_eq]
  after_results_simp
  exact ⟨rfl, rfl⟩

/-! ## The biases and scales -/

theorem V_rows :
    (V m c main_v41 : S1x128.Idx → EReal) = shapeCast S1x128 (m ((c : Thread nD τ).loc main_arg5) : S128.Idx → EReal) shapeCasts_S128_S1x128
    ∧ (V m c main_v42 : S1x128.Idx → EReal) = shapeCast S1x128 (m ((c : Thread nD τ).loc main_arg9) : S128.Idx → EReal) shapeCasts_S128_S1x128
    ∧ (V m c main_v43 : S1x64.Idx → EReal) = shapeCast S1x64 (m ((c : Thread nD τ).loc main_arg13) : S64.Idx → EReal) shapeCasts_S64_S1x64
    ∧ (V m c main_v44 : S1x64.Idx → EReal) = shapeCast S1x64 (m ((c : Thread nD τ).loc main_arg7) : S64.Idx → EReal) shapeCasts_S64_S1x64
    ∧ (V m c main_v45 : S1x64.Idx → EReal) = shapeCast S1x64 (m ((c : Thread nD τ).loc main_arg11) : S64.Idx → EReal) shapeCasts_S64_S1x64
    ∧ (V m c main_v46 : S1x32.Idx → EReal) = shapeCast S1x32 (m ((c : Thread nD τ).loc main_arg15) : S32.Idx → EReal) shapeCasts_S32_S1x32
    ∧ (V m c main_v47 : S1x128.Idx → EReal) = shapeCast S1x128 (m ((c : Thread nD τ).loc main_arg17) : S128.Idx → EReal) shapeCasts_S128_S1x128 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, StableHlo.TRef.nullary, StableHlo.TRef.unary, StableHlo.TRef.binary, StableHlo.TRef.ternary, StableHlo.TRef.reshape, StableHlo.TRef.toBuf, StableHlo.TRef.ofBuf, cast_eq]
  after_results_simp
  exact ⟨rfl, rfl, rfl, rfl, rfl, rfl, rfl⟩

theorem V_norm_rows :
    (V m c main_v48 : S1x128.Idx → EReal) = shapeCast S1x128 (m ((c : Thread nD τ).loc main_arg18) : S128.Idx → EReal) shapeCasts_S128_S1x128
    ∧ (V m c main_v49 : S1x128.Idx → EReal) = shapeCast S1x128 (m ((c : Thread nD τ).loc main_arg19) : S128.Idx → EReal) shapeCasts_S128_S1x128
    ∧ (V m c main_v50 : S1x128.Idx → EReal) = shapeCast S1x128 (m ((c : Thread nD τ).loc main_arg21) : S128.Idx → EReal) shapeCasts_S128_S1x128
    ∧ (V m c main_v51 : S1x128.Idx → EReal) = shapeCast S1x128 (m ((c : Thread nD τ).loc main_arg22) : S128.Idx → EReal) shapeCasts_S128_S1x128 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, StableHlo.TRef.nullary, StableHlo.TRef.unary, StableHlo.TRef.binary, StableHlo.TRef.ternary, StableHlo.TRef.reshape, StableHlo.TRef.toBuf, StableHlo.TRef.ofBuf, cast_eq]
  after_results_simp
  exact ⟨rfl, rfl, rfl, rfl⟩

theorem V_norm_rows' :
    (V m c main_v52 : S1x128.Idx → EReal) = shapeCast S1x128 (m ((c : Thread nD τ).loc main_arg23) : S128.Idx → EReal) shapeCasts_S128_S1x128
    ∧ (V m c main_v53 : S1x128.Idx → EReal) = shapeCast S1x128 (m ((c : Thread nD τ).loc main_arg25) : S128.Idx → EReal) shapeCasts_S128_S1x128
    ∧ (V m c main_v54 : S1x128.Idx → EReal) = shapeCast S1x128 (m ((c : Thread nD τ).loc main_arg26) : S128.Idx → EReal) shapeCasts_S128_S1x128
    ∧ (V m c main_v55 : S1x128.Idx → EReal) = shapeCast S1x128 (m ((c : Thread nD τ).loc main_arg27) : S128.Idx → EReal) shapeCasts_S128_S1x128 := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, StableHlo.TRef.nullary, StableHlo.TRef.unary, StableHlo.TRef.binary, StableHlo.TRef.ternary, StableHlo.TRef.reshape, StableHlo.TRef.toBuf, StableHlo.TRef.ofBuf, cast_eq]
  after_results_simp
  exact ⟨rfl, rfl, rfl, rfl⟩

/-! ## The matrix of the groups -/

/-- A channel's number over four, as the host code rounds it. -/
theorem quarter (k : Fin 128) (z : BitVec 32) (hz : z = 4#32) :
    Scalar.select (IntOp.andi (IntOp.cmpi CmpIPredicate.ne
        (if BitVec.ofNat 32 k.val = 0 then 0 else if (BitVec.ofNat 32 k.val).msb = true then -1 else 1)
        (if z = 0 then (0 : BitVec 32) else if BitVec.msb z = true then -1 else 1))
        (IntOp.cmpi CmpIPredicate.ne (IntOp.remsi ArithUnit.host (BitVec.ofNat 32 k.val) z) 0#32))
      (IntOp.subi (IntOp.divsi ArithUnit.host (BitVec.ofNat 32 k.val) z) 1#32)
      (IntOp.divsi ArithUnit.host (BitVec.ofNat 32 k.val) z) = BitVec.ofNat 32 (k.val / 4) := by
  subst hz
  revert k
  decide +kernel

theorem V_groups : Groups (V m c main_v40 : S128x128.Idx → EReal) := fun k l => by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, StableHlo.TRef.nullary, StableHlo.TRef.unary, StableHlo.TRef.binary, StableHlo.TRef.ternary, StableHlo.TRef.reshape, StableHlo.TRef.toBuf, StableHlo.TRef.ofBuf, cast_eq]
  after_results_simp
  pointwise
  refine (congrArg₂ (fun a b => (FloatOps.uitofp (F := Ideal) .f32 (IntOp.cmpi .eq a b) : EReal)) (quarter k _ rfl) (quarter l _ rfl)).trans ?_
  have hk := k.isLt
  have hl := l.isLt
  by_cases h : k.val / 4 = l.val / 4
  · rw [if_pos h, h]
    simp [IntOp.cmpi, FloatOps.uitofp]
  · rw [if_neg h]
    have hne : BitVec.ofNat 32 (k.val / 4) ≠ BitVec.ofNat 32 (l.val / 4) := fun e => h (by
      have := congrArg BitVec.toNat e
      simp only [BitVec.toNat_ofNat] at this
      omega)
    simp [IntOp.cmpi, FloatOps.uitofp, hne]

end Cert.Proof.KernelSide

end
-- ==== Proof.Conv.Stages.lean ====
/- The kernel's dense convolutions as the network's. -/
module

public import proofs.«01_k».proof.Proof.Conv.Dense
public import proofs.«01_k».proof.Proof.Gen.KernelIdeal.Skeleton

@[expose] public section

set_option maxRecDepth 16384

noncomputable section

namespace Cert.Proof.KernelSide

open Idealize.ShloMosaic Idealize.ShloMosaic.TcCoe Idealize.SL.Sem
open Cert.KernelIdeal Cert.KernelIdeal.Gen Net

theorem zero_splat {s : Shape} (i : s.Idx) : (constant (F := Ideal) s .f32 0x00000000#32 i : EReal) = 0 := by
  pointwise

theorem geo2_read (A : FVec Ideal S4x64x64x128 .f32) (w : FVec Ideal S1152x64 .f32) (β : FVec Ideal S1x64 .f32)
    (b : Fin 4) (y x : Fin 32) (o : Fin 64) :
    k0_pay160 (F := Ideal) A w β (ix4 b y x o) = taps 9 3 2 1 (lastImg A b) (flat w) o y x + β (ix2 0 o) := by
  unfold k0_pay160
  have hr : (b.val * 32 + y.val) * 32 + x.val < 4096 := by omega
  refine (bias_read _ _ _ _ (by decide) b y x o ⟨_, hr⟩ rfl).trans ?_
  refine congrArg₂ (· + ·) ?_ (congrFun (same β _) _)
  rw [same w]
  exact prod_two rfl (fun b u v c => border_read A _ zero_word _ _ _ _ b u v c) rfl w _ zero_splat b y x o ⟨_, hr⟩ rfl

theorem flow2_read (A : FVec Ideal S4x32x32x128 .f32) (w : FVec Ideal S1152x64 .f32) (β : FVec Ideal S1x64 .f32)
    (b : Fin 4) (y x : Fin 32) (o : Fin 64) :
    k0_pay163 (F := Ideal) A w β (ix4 b y x o) = max (taps 9 3 1 1 (lastImg A b) (flat w) o y x + β (ix2 0 o)) 0 := by
  unfold k0_pay163
  have hr : (b.val * 32 + y.val) * 32 + x.val < 4096 := by omega
  refine congrArg₂ max ?_ (by pointwise)
  refine (bias_read _ _ _ _ (by decide) b y x o ⟨_, hr⟩ rfl).trans ?_
  refine congrArg₂ (· + ·) ?_ (congrFun (same β _) _)
  rw [same w]
  exact prod_one rfl (fun b u v c => border_read A _ zero_word _ _ _ _ b u v c) w _ zero_splat b y x o ⟨_, hr⟩ rfl

end Cert.Proof.KernelSide

end
-- ==== Proof.Conv.Joined.lean ====
/- The joined channels and the first convolution over them. -/
module

public import proofs.«01_k».proof.Proof.Conv.Stages
public import proofs.«01_k».proof.Proof.Conv.Rolls

@[expose] public section

set_option maxRecDepth 16384

noncomputable section

namespace Cert.Proof.KernelSide

open Idealize.ShloMosaic Idealize.ShloMosaic.TcCoe Idealize.SL.Sem
open Cert.KernelIdeal Cert.KernelIdeal.Gen Net

/-- Hidden channels, flow channels, geometry channels, one after the other. -/
def join3 (X0 : Img 128) (X1 X2 : Img 64) : Img 256 := fun c u v =>
  if h : c.val < 128 then X0 ⟨c.val, h⟩ u v
  else if h : c.val < 192 then X1 ⟨c.val - 128, by omega⟩ u v
  else X2 ⟨c.val - 192, by omega⟩ u v

theorem join3_read (P : FVec Ideal S4x32x32x128 .f32) (Q R : FVec Ideal S4x32x32x64 .f32)
    (hc : Shape.Concatenates (([⟨_, P⟩, ⟨_, Q⟩, ⟨_, R⟩] : List ((s : Shape) × (s.Idx → EReal))).map (·.1)) S4x32x32x256 3)
    (b : Fin 4) (y x : Fin 32) (c : Fin 256) :
    concatenate S4x32x32x256 3 [⟨_, P⟩, ⟨_, Q⟩, ⟨_, R⟩] hc (ix4 b y x c)
      = join3 (lastImg (C := 128) P b) (lastImg (C := 64) Q b) (lastImg (C := 64) R b) c y x := by
  unfold join3
  by_cases h : c.val < 128
  · rw [dif_pos h]
    refine Eq.trans (concatenate_apply_piece (t := S4x32x32x256) 3 _ _ _ 0 (by show 0 < 3; decide) S4x32x32x128 _ rfl rfl 0 rfl
      (ix4 b y x ⟨c.val, h⟩) (fun a ha => ?_) (by show 0 + c.val = c.val; omega)) (lastImg_in P b _ y x).symm
    match a, ha with
    | ⟨0, _⟩, _ => rfl
    | ⟨1, _⟩, _ => rfl
    | ⟨2, _⟩, _ => rfl
    | ⟨3, _⟩, ha => exact absurd rfl ha
  · rw [dif_neg h]
    by_cases h' : c.val < 192
    · rw [dif_pos h']
      refine Eq.trans (concatenate_apply_piece (t := S4x32x32x256) 3 _ _ _ 1 (by show 1 < 3; decide) S4x32x32x64 _ rfl rfl 128 rfl
        (ix4 b y x ⟨c.val - 128, by omega⟩) (fun a ha => ?_) (by show 128 + (c.val - 128) = c.val; omega)) (lastImg_in Q b _ y x).symm
      match a, ha with
      | ⟨0, _⟩, _ => rfl
      | ⟨1, _⟩, _ => rfl
      | ⟨2, _⟩, _ => rfl
      | ⟨3, _⟩, ha => exact absurd rfl ha
    · rw [dif_neg h']
      refine Eq.trans (concatenate_apply_piece (t := S4x32x32x256) 3 _ _ _ 2 (by show 2 < 3; decide) S4x32x32x64 _ rfl rfl 192 rfl
        (ix4 b y x ⟨c.val - 192, by omega⟩) (fun a ha => ?_) (by show 192 + (c.val - 192) = c.val; omega)) (lastImg_in R b _ y x).symm
      match a, ha with
      | ⟨0, _⟩, _ => rfl
      | ⟨1, _⟩, _ => rfl
      | ⟨2, _⟩, _ => rfl
      | ⟨3, _⟩, ha => exact absurd rfl ha

theorem mask2_read (A : FVec Ideal S4x32x32x64 .f32) (w : FVec Ideal S576x32 .f32) (β : FVec Ideal S1x32 .f32)
    (hb : S1x32.Broadcasts S4096x32) (hs : S4096x32.ShapeCasts S4x32x32x32)
    (P : FVec Ideal S4096x32 .f32) (z : EReal) (hz : z = 0)
    (hP : ∀ (b : Fin 4) (y x : Fin 32) (o : Fin 32) (r : Fin 4096) (hr : r.val = (b.val * 32 + y.val) * 32 + x.val),
      P (ix2 r o) = taps 9 3 1 1 (lastImg A b) (flat w) o y x)
    (b : Fin 4) (y x : Fin 32) (o : Fin 32) :
    maximumf (F := Ideal) (φ := .f32) (shapeCast S4x32x32x32 (addf (F := Ideal) (φ := .f32) P (broadcastTo S4096x32 β hb)) hs)
      (broadcast S4x32x32x32 z) (ix4 b y x o) = max (taps 9 3 1 1 (lastImg A b) (flat w) o y x + β (ix2 0 o)) 0 := by
  have hr : (b.val * 32 + y.val) * 32 + x.val < 4096 := by omega
  refine congrArg₂ (fun p q : EReal => max p q) ?_ hz
  refine (bias_read P β hb hs (by decide) b y x o ⟨_, hr⟩ rfl).trans ?_
  exact congrArg (fun t : EReal => t + _) (hP b y x o ⟨_, hr⟩ rfl)

/-- The mask's second layer. -/
def maskTwo (A : FVec Ideal S4x32x32x64 .f32) (w : FVec Ideal S576x32 .f32) (β : FVec Ideal S1x32 .f32) (b : Fin 4) : Img 32 :=
  onSquare 32 fun o u v => max (taps 9 3 1 1 (lastImg (C := 64) A b) (flat w) o u v + β (ix2 0 o)) 0

/-- The joined image. -/
def three (h : FVec Ideal S4x32x32x128 .f32) (g d : FVec Ideal S4x32x32x64 .f32) (b : Fin 4) : Img 256 :=
  onSquare 32 (join3 (lastImg (C := 128) h b) (lastImg (C := 64) d b) (lastImg (C := 64) g b))

/-- The joined image with its border of zeros. -/
theorem three_border (h : FVec Ideal S4x32x32x128 .f32) (g d : FVec Ideal S4x32x32x64 .f32) :
    ∃ P : FVec Ideal S4x34x34x256 .f32, k0_pay168 (F := Ideal) h g d = shapeCast S4x17x2x34x256 P shapeCasts_S4x34x34x256_S4x17x2x34x256 ∧
      ∀ (b : Fin 4) (u v : Fin 34) (c : Fin 256), P (ix4 b u v c) = three h g d b c ((u : ℕ) - 1 : ℤ) ((v : ℕ) - 1 : ℤ) := by
  refine ⟨_, rfl, fun b u v c => ?_⟩
  exact (border_read _ _ zero_word _ _ _ _ b u v c).trans
    (congrFun (congrFun (congrFun (lastImg_eq _ b _ (join3_read h d g _ b)) c) _) _)

/-- The mask's second layer with its border of zeros. -/
theorem mask_border (mo : FVec Ideal S4x32x32x64 .f32) (w2 : FVec Ideal S576x32 .f32) (β2 : FVec Ideal S1x32 .f32) :
    ∃ P : FVec Ideal S4x34x34x32 .f32, k0_pay175 (F := Ideal) (k0_pay164 mo) w2 β2 (k0_pay167 mo)
        = shapeCast S4x17x2x34x32 P shapeCasts_S4x34x34x32_S4x17x2x34x32 ∧
      ∀ (b : Fin 4) (u v : Fin 34) (c : Fin 32), P (ix4 b u v c) = maskTwo mo w2 β2 b c ((u : ℕ) - 1 : ℤ) ((v : ℕ) - 1 : ℤ) := by
  refine ⟨_, rfl, fun b u v c => ?_⟩
  refine (border_read _ _ zero_word _ _ _ _ b u v c).trans
    (congrFun (congrFun (congrFun (lastImg_eq _ b _ (fun y x c => mask2_read mo w2 β2 _ _ _ _ zero_word' (fun b y x o r hr => ?_) b y x c)) c) _) _)
  exact prod_one rfl (fun b u v c => border_read mo _ zero_word _ _ _ _ b u v c) (c0 := slices_S4x34x34x64_o0_0_0_0_S4x34x32x64) w2 _ zero_splat b y x o r hr

theorem c1_read (h : FVec Ideal S4x32x32x128 .f32) (g d mo : FVec Ideal S4x32x32x64 .f32) (w2 : FVec Ideal S576x32 .f32)
    (β2 : FVec Ideal S1x32 .f32) (wA : FVec Ideal S2304x128 .f32) (wB : FVec Ideal S288x128 .f32) (β : FVec Ideal S1x128 .f32)
    (b : Fin 4) (y x : Fin 16) (o : Fin 128) :
    k0_pay177 (F := Ideal) (k0_pay170 h g d) (k0_pay171 h g d) (k0_pay173 h g d) (k0_pay174 h g d)
        (k0_pay175 (k0_pay164 mo) w2 β2 (k0_pay167 mo)) (k0_pay176 (k0_pay164 mo) w2 β2 (k0_pay167 mo)) wA wB β (ix4 b y x o)
      = taps 9 3 2 1 (three h g d b) (flat wA) o y x + taps 9 3 2 1 (maskTwo mo w2 β2 b) (flat wB) o y x + β (ix2 0 o) := by
  obtain ⟨P, h1, h2⟩ := three_border h g d
  obtain ⟨Q, q1, q2⟩ := mask_border mo w2 β2
  unfold k0_pay177 k0_pay170 k0_pay171 k0_pay173 k0_pay174 k0_pay169 k0_pay172 k0_pay176
  rw [h1, q1]
  have hr : (b.val * 16 + y.val) * 16 + x.val < 1024 := by omega
  refine (bias_read _ _ _ _ (by decide) b y x o ⟨_, hr⟩ rfl).trans ?_
  refine congrArg₂ (fun p q : EReal => p + q) (congrArg₂ (fun p q : EReal => p + q) ?_ ?_) (congrFun (same β _) _)
  · rw [same wA]
    exact prod_two rfl (X := three h g d) h2 rfl wA _ zero_splat b y x o ⟨_, hr⟩ rfl
  · rw [same wB]
    exact prod_two rfl (X := maskTwo mo w2 β2) q2 rfl wB _ zero_splat b y x o ⟨_, hr⟩ rfl

end Cert.Proof.KernelSide

end
-- ==== Proof.Conv.Late.lean ====
/- The kernel's last two convolutions and its normalised batches. -/
module

public import proofs.«01_k».proof.Proof.Conv.Stages
public import proofs.«01_k».proof.Proof.Conv.Rolls
public import proofs.«01_k».proof.Proof.Conv.Norm

@[expose] public section

set_option maxRecDepth 16384

noncomputable section

namespace Cert.Proof.KernelSide

open Idealize.ShloMosaic Idealize.ShloMosaic.TcCoe Idealize.SL.Sem
open Cert.KernelIdeal Cert.KernelIdeal.Gen Net

/-- The value a word of the format stands for. -/
abbrev wordOf (w : BitVec 32) : EReal := Scalar.ofBits (F := Ideal) .f32 w

/-- A row's entries by channel. -/
abbrev row (γ : FVec Ideal S1x128 .f32) : Fin 128 → EReal := fun c => γ (ix2 0 c)

variable {S : FVec Ideal S128x128 .f32} (hS : Groups S)

include hS in
/-- The normalised batch with its border of zeros. -/
theorem c2_border (x : FVec Ideal S4x16x16x128 .f32) (γ β : FVec Ideal S1x128 .f32) :
    ∃ P : FVec Ideal S4x18x18x128 .f32, k0_pay181 (F := Ideal) S x γ β = shapeCast S4x9x2x18x128 P shapeCasts_S4x18x18x128_S4x9x2x18x128 ∧
      ∀ (b : Fin 4) (u v : Fin 18) (c : Fin 128), P (ix4 b u v c)
        = onSquare 16 (normed (wordOf 0x44800000#32) 16 (lastImg (C := 128) x b) (row γ) (row β)) c ((u : ℕ) - 1 : ℤ) ((v : ℕ) - 1 : ℤ) := by
  refine ⟨_, rfl, fun b u v c => ?_⟩
  refine (border_read _ _ zero_word _ _ _ _ b u v c).trans
    (congrFun (congrFun (congrFun (lastImg_eq _ b _ (fun y z c => ?_)) c) _) _)
  refine (norm_read _ S hS _ x _ _ _ _ γ _ _ zero_word' b y z c).trans ?_
  exact congrArg (fun t => normed (wordOf 0x44800000#32) 16 (lastImg (C := 128) x b) (row γ) (row t) c y z) (same β _)

include hS in
theorem c2_read (x : FVec Ideal S4x16x16x128 .f32) (γ β : FVec Ideal S1x128 .f32) (w : FVec Ideal S1152x128 .f32)
    (δ : FVec Ideal S1x128 .f32) (b : Fin 4) (y z : Fin 8) (o : Fin 128) :
    k0_pay184 (F := Ideal) w δ (k0_pay182 S x γ β) (k0_pay183 S x γ β) (ix4 b y z o)
      = taps 9 3 2 1 (onSquare 16 (normed (wordOf 0x44800000#32) 16 (lastImg (C := 128) x b) (row γ) (row β))) (flat w) o y z
        + δ (ix2 0 o) := by
  obtain ⟨P, h1, h2⟩ := c2_border hS x γ β
  unfold k0_pay184 k0_pay182 k0_pay183
  rw [h1]
  have hr : (b.val * 8 + y.val) * 8 + z.val < 256 := by omega
  refine (bias_read _ _ _ _ (by decide) b y z o ⟨_, hr⟩ rfl).trans ?_
  refine congrArg (fun p : EReal => p + _) ?_
  exact prod_two rfl (X := fun b => onSquare 16 (normed (wordOf 0x44800000#32) 16 (lastImg (C := 128) x b) (row γ) (row β)))
    h2 rfl w _ zero_splat b y z o ⟨_, hr⟩ rfl

include hS in
theorem c3_read (γ β : FVec Ideal S1x128 .f32) (w₂ : FVec Ideal S1152x128 .f32) (δ₂ : FVec Ideal S1x128 .f32)
    (p : FVec Ideal S4x9x18x128 .f32) (q : FVec Ideal S4x9x1x18x128 .f32)
    (w : FVec Ideal S1152x128 .f32) (δ : FVec Ideal S1x128 .f32) (b : Fin 4) (y z : Fin 4) (o : Fin 128) :
    k0_pay190 (F := Ideal) γ β (k0_pay188 S w₂ δ₂ p q) (k0_pay189 S w₂ δ₂ p q) w δ (ix4 b y z o)
      = taps 9 3 2 1 (onSquare 8 (normed (wordOf 0x43800000#32) 8 (lastImg (C := 128) (k0_pay184 (F := Ideal) w₂ δ₂ p q) b) (row γ) (row β)))
          (flat w) o y z + δ (ix2 0 o) := by
  unfold k0_pay190
  have hr : (b.val * 4 + y.val) * 4 + z.val < 64 := by omega
  refine (bias_read _ _ _ _ (by decide) b y z o ⟨_, hr⟩ rfl).trans ?_
  refine congrArg₂ (fun p q : EReal => p + q) ?_ (congrFun (same δ _) _)
  rw [same w]
  refine prod_two rfl (X := fun b => onSquare 8 (normed (wordOf 0x43800000#32) 8 (lastImg (C := 128) (k0_pay184 (F := Ideal) w₂ δ₂ p q) b)
    (row γ) (row β))) (fun b u v c => ?_) rfl w _ zero_splat b y z o ⟨_, hr⟩ rfl
  refine (border_read _ _ zero_word _ _ _ _ b u v c).trans
    (congrFun (congrFun (congrFun (lastImg_eq _ b _ (fun y z c => ?_)) c) _) _)
  exact norm_read _ S hS _ (k0_pay184 (F := Ideal) w₂ δ₂ p q) _ _ _ _ γ β _ zero_word' b y z c

include hS in
theorem last_read (x : FVec Ideal S4x4x4x128 .f32) (γ β : FVec Ideal S1x128 .f32) (b : Fin 4) (l : Fin 16) (c : Fin 128) :
    k0_pay191 (F := Ideal) S x γ β (ix3 b l c)
      = normed (wordOf 0x42800000#32) 4 (lastImg (C := 128) x b) (row γ) (row β) c
          ((⟨l.val / 4, by omega⟩ : Fin 4) : ℕ) ((⟨l.val % 4, by omega⟩ : Fin 4) : ℕ) := by
  unfold k0_pay191
  refine (shapeCast_apply _ _ _ (ix4 b (⟨l.val / 4, by omega⟩ : Fin 4) (⟨l.val % 4, by omega⟩ : Fin 4) c) ?_).trans ?_
  · rw [Shape.rowMajor_val_four, Shape.rowMajor_val_three]
    show ((b.val * 4 + l.val / 4) * 4 + l.val % 4) * 128 + c.val = (b.val * 16 + l.val) * 128 + c.val
    omega
  refine (norm_read _ S hS _ x _ _ _ _ _ _ _ zero_word' b _ _ c).trans ?_
  exact congrArg₂ (fun t t' => normed (wordOf 0x42800000#32) 4 (lastImg (C := 128) x b) (row t) (row t') c _ _) (same γ _) (same β _)

theorem out_read (x : FVec Ideal S4x4x4x128 .f32) (γ β : FVec Ideal S1x128 .f32) (b : Fin 4) (c : Fin 128) (l : Fin 16) :
    k0_pay1 (F := Ideal) (k0_pay192 S x γ β) (k0_pay193 S x γ β) (k0_pay194 S x γ β) (k0_pay195 S x γ β) (ix3 b c l)
      = k0_pay191 (F := Ideal) S x γ β (ix3 b l c) := by
  match b with
  | ⟨0, _⟩ => pointwise [k0_pay1, k0_pay192, k0_pay193, k0_pay194, k0_pay195]
  | ⟨1, _⟩ => pointwise [k0_pay1, k0_pay192, k0_pay193, k0_pay194, k0_pay195]
  | ⟨2, _⟩ => pointwise [k0_pay1, k0_pay192, k0_pay193, k0_pay194, k0_pay195]
  | ⟨3, _⟩ => pointwise [k0_pay1, k0_pay192, k0_pay193, k0_pay194, k0_pay195]

end Cert.Proof.KernelSide

end
-- ==== Proof.Conv.Same.lean ====
/- Convolutions of one image written with different weights: weights equal on the taps used, channels of weight zero,
   and 288 channels taken in two parts. -/
module

public import proofs.«01_k».proof.Proof.Conv.Joined
public import proofs.«01_k».proof.Proof.Conv.RefConv

@[expose] public section

set_option maxRecDepth 16384

noncomputable section

namespace Net

open Idealize.ShloMosaic
open Cert.Proof.KernelSide (join3)

/-- Only the first `n` taps of the weights are used. -/
theorem taps_congr {C O : ℕ} {n : ℕ} (k s p : ℕ) (X : Img C) {W W' : Fin O → Fin C → ℕ → EReal} (h : ∀ o c t, t < n → W o c t = W' o c t)
    (o : Fin O) (u v : ℤ) : taps n k s p X W o u v = taps n k s p X W' o u v := by
  unfold taps tap
  exact Finset.sum_congr rfl fun t ht => Finset.sum_congr rfl fun c _ => by rw [h o c t (Finset.mem_range.mp ht)]

/-- Channels whose weights are zero may be left out. -/
theorem taps_narrow {C C' O : ℕ} {n : ℕ} (k s p : ℕ) (hC : C ≤ C') {X : Img C} {X' : Img C'} (hX : ∀ c : Fin C, X' (Fin.castLE hC c) = X c)
    {W : Fin O → Fin C → ℕ → EReal} {W' : Fin O → Fin C' → ℕ → EReal} (hW : ∀ o (c : Fin C) t, t < n → W' o (Fin.castLE hC c) t = W o c t)
    (h0 : ∀ o (c : Fin C') t, t < n → C ≤ c.val → W' o c t = 0) (o : Fin O) (u v : ℤ) :
    taps n k s p X' W' o u v = taps n k s p X W o u v := by
  unfold taps tap
  refine Finset.sum_congr rfl fun t ht => ?_
  have ht' := Finset.mem_range.mp ht
  obtain ⟨d, rfl⟩ := Nat.exists_eq_add_of_le hC
  rw [Fin.sum_univ_add]
  rw [Finset.sum_eq_zero (s := Finset.univ) (f := fun i : Fin d => X' (Fin.natAdd C i) _ _ * W' o (Fin.natAdd C i) t) (fun i _ => by
    rw [h0 o _ t ht' (by show C ≤ C + i.val; omega), mul_zero]), add_zero]
  refine Finset.sum_congr rfl fun c _ => ?_
  have e1 := hX c
  have e2 := hW o c t ht'
  exact congrArg₂ (fun a b : EReal => a * b) (congrFun (congrFun e1 _) _) e2

theorem sum_288 (f : Fin 288 → EReal) : ∑ c, f c = (∑ c : Fin 192, f ⟨c.val, by omega⟩ + ∑ c : Fin 32, f ⟨192 + c.val, by omega⟩)
    + ∑ c : Fin 64, f ⟨224 + c.val, by omega⟩ := by
  refine (Fin.sum_univ_add (a := 224) (b := 64) f).trans (congrArg₂ (fun a b : EReal => a + b) ?_ rfl)
  exact Fin.sum_univ_add (a := 192) (b := 32) fun c => f ⟨c.val, by omega⟩

theorem sum_256 (f : Fin 256 → EReal) : ∑ c, f c = ∑ c : Fin 192, f ⟨c.val, by omega⟩ + ∑ c : Fin 64, f ⟨192 + c.val, by omega⟩ :=
  Fin.sum_univ_add (a := 192) (b := 64) f

/-- The 288 channels in two parts: all but the third quarter, and the third. -/
theorem taps_split {O : ℕ} {n : ℕ} (k s p : ℕ) (X0 : Img 128) (X1 : Img 64) (X2 : Img 32) (X3 : Img 64)
    {W : Fin O → Fin 288 → ℕ → EReal} {WA : Fin O → Fin 256 → ℕ → EReal} {WB : Fin O → Fin 32 → ℕ → EReal}
    (hA : ∀ o (c : Fin 192) t, t < n → WA o ⟨c.val, by omega⟩ t = W o ⟨c.val, by omega⟩ t)
    (hA' : ∀ o (c : Fin 64) t, t < n → WA o ⟨192 + c.val, by omega⟩ t = W o ⟨224 + c.val, by omega⟩ t)
    (hB : ∀ o (c : Fin 32) t, t < n → WB o c t = W o ⟨192 + c.val, by omega⟩ t) (o : Fin O) (u v : ℤ) :
    taps n k s p (join3 X0 X1 X3) WA o u v + taps n k s p X2 WB o u v = taps n k s p (join4 X0 X1 X2 X3) W o u v := by
  unfold taps
  rw [← Finset.sum_add_distrib]
  refine Finset.sum_congr rfl fun t ht => ?_
  have ht' := Finset.mem_range.mp ht
  unfold tap
  rw [sum_288, sum_256, add_right_comm]
  refine congrArg₂ (fun a b : EReal => a + b) (congrArg₂ (fun a b : EReal => a + b) ?_ ?_) ?_
  · refine Finset.sum_congr rfl fun c _ => congrArg₂ (fun a b : EReal => a * b) ?_ (hA o c t ht')
    unfold join3 join4
    by_cases h : c.val < 128
    · rw [dif_pos h, dif_pos h]
    · rw [dif_neg h, dif_neg h, dif_pos c.isLt, dif_pos c.isLt]
  · refine Finset.sum_congr rfl fun c _ => congrArg₂ (fun a b : EReal => a * b) ?_ (hB o c t ht')
    have hc := c.isLt
    unfold join4
    rw [dif_neg (by show ¬(192 + c.val < 128); omega), dif_neg (by show ¬(192 + c.val < 192); omega), dif_pos (by show 192 + c.val < 224; omega)]
    exact congrArg (fun q => X2 q _ _) (Fin.ext (by show c.val = 192 + c.val - 192; omega))
  · refine Finset.sum_congr rfl fun c _ => congrArg₂ (fun a b : EReal => a * b) ?_ (hA' o c t ht')
    have hc := c.isLt
    unfold join3 join4
    rw [dif_neg (by show ¬(192 + c.val < 128); omega), dif_neg (by show ¬(192 + c.val < 192); omega),
      dif_neg (by show ¬(224 + c.val < 128); omega), dif_neg (by show ¬(224 + c.val < 192); omega), dif_neg (by show ¬(224 + c.val < 224); omega)]
    exact congrArg (fun q => X3 q _ _) (Fin.ext (by show 192 + c.val - 192 = 224 + c.val - 224; omega))

/-- An image that is zero outside its square. -/
abbrev Within {C : ℕ} (H : ℕ) (X : Img C) : Prop := onSquare H X = X

theorem within_onSquare {C : ℕ} (H : ℕ) (f : Img C) : Within H (onSquare H f) := by
  funext c u v
  unfold onSquare
  split <;> rfl

theorem within_last {B H C : ℕ} (A : (⟨4, ![B, H, H, C]⟩ : Shape).Idx → EReal) (b : Fin B) : Within H (lastImg A b) := by
  funext c u v
  unfold onSquare
  split
  · rfl
  · rename_i h
    unfold lastImg
    rw [dif_neg h]

theorem within_join3 {H : ℕ} {X0 : Img 128} {X1 X2 : Img 64} (h0 : Within H X0) (h1 : Within H X1) (h2 : Within H X2) :
    Within H (join3 X0 X1 X2) := by
  funext c u v
  by_cases hi : Inside H u v
  · unfold onSquare
    rw [if_pos hi]
  · have z : ∀ {C : ℕ} {X : Img C}, Within H X → ∀ c, X c u v = 0 := fun hX c => by
      have e := congrFun (congrFun (congrFun hX c) u) v
      unfold onSquare at e
      rw [if_neg hi] at e
      exact e.symm
    unfold onSquare
    rw [if_neg hi]
    unfold join3
    split_ifs
    · exact (z h0 _).symm
    · exact (z h1 _).symm
    · exact (z h2 _).symm

end Net

end
-- ==== Proof.Conv.FirstGeo.lean ====
/- The geometry encoder's first layer in the kernel: the convolution of the 64×64 image with nine taps, then the positive part. -/
module

public import proofs.«01_k».proof.Proof.Conv.Stages
public import proofs.«01_k».proof.Proof.Conv.Rolls
public import proofs.«01_k».proof.Proof.KernelIdealFrame.Values

@[expose] public section

set_option maxRecDepth 16384

noncomputable section

namespace Cert.Proof.KernelSide

open Idealize.ShloMosaic Idealize.ShloMosaic.TcCoe Idealize.SL.Sem
open Cert.KernelIdeal Cert.KernelIdeal.Gen Net

/-- The rows and columns of the 4096 entries. -/
theorem coords_64 : Coords 64 4096 k0_pay200 k0_pay201 := by
  intro l
  have h : ∀ l : Fin 4096, k0_pay200 (ix3 0 0 l) = BitVec.ofNat 32 (l.val / 64) ∧ k0_pay201 (ix3 0 0 l) = BitVec.ofNat 32 (l.val % 64) := by
    decide +kernel
  exact h l

/-- The line of 4096 entries is the square of 64. -/
theorem sq64 : 4096 = 64 * 64 := rfl

/-- The stack of the nine taps. -/
abbrev geoStack (x1 : FVec Ideal S4x8x4096 .f32) : FVec Ideal S4x72x4096 .f32 :=
  k0_pay23 (F := Ideal) (k0_pay197 (F := Ideal) x1) k0_pay200 k0_pay201 (k0_pay202 (F := Ideal) x1) (k0_pay203 (F := Ideal) x1)
    (k0_pay204 (F := Ideal) x1) (k0_pay205 (F := Ideal) x1) (k0_pay206 (F := Ideal) x1) (k0_pay207 (F := Ideal) x1)
    (k0_pay208 (F := Ideal) x1) (k0_pay209 (F := Ideal) x1) k0_pay210

theorem geo_stack (x1 : FVec Ideal S4x8x4096 .f32) :
    HoldsStack 64 sq64 (k0_pay197 (F := Ideal) x1) 3 1 9 72 (geoStack x1) := by
  unfold geoStack
  unfold k0_pay23
  refine stack_read (n := 9) _ ?_ ?_ _
  · repeat' first
      | exact Stacked.nil
      | refine Stacked.cons ?_ ?_
    all_goals first
      | exact tap_roll (by decide) sq64 (by decide) _ coords_64 _ _ _ _ _ _ (by decide)
      | exact tap_centre (by decide) sq64 (by decide) _ coords_64 _ _ (by decide)
  · rfl

/-- The first layer of the geometry encoder, over a batch of four. -/
theorem geo1_read (x1 : FVec Ideal S4x8x4096 .f32) (w : FVec Ideal S128x72 .f32) (β : FVec Ideal S1x128 .f32)
    (b : Fin 4) (y x : Fin 64) (o : Fin 128) :
    k0_pay27 (F := Ideal) w β (geoStack x1)
      (k0_pay24 (F := Ideal) (k0_pay197 (F := Ideal) x1) w β k0_pay200 k0_pay201 (k0_pay202 (F := Ideal) x1) (k0_pay203 (F := Ideal) x1)
        (k0_pay204 (F := Ideal) x1) (k0_pay205 (F := Ideal) x1) (k0_pay206 (F := Ideal) x1) (k0_pay207 (F := Ideal) x1)
        (k0_pay208 (F := Ideal) x1) (k0_pay209 (F := Ideal) x1) k0_pay210)
      (k0_pay25 (F := Ideal) (k0_pay197 (F := Ideal) x1) w β k0_pay200 k0_pay201 (k0_pay202 (F := Ideal) x1) (k0_pay203 (F := Ideal) x1)
        (k0_pay204 (F := Ideal) x1) (k0_pay205 (F := Ideal) x1) (k0_pay206 (F := Ideal) x1) (k0_pay207 (F := Ideal) x1)
        (k0_pay208 (F := Ideal) x1) (k0_pay209 (F := Ideal) x1) k0_pay210)
      (k0_pay26 (F := Ideal) (k0_pay197 (F := Ideal) x1) k0_pay200 k0_pay201 (k0_pay202 (F := Ideal) x1) (k0_pay203 (F := Ideal) x1)
        (k0_pay204 (F := Ideal) x1) (k0_pay205 (F := Ideal) x1) (k0_pay206 (F := Ideal) x1) (k0_pay207 (F := Ideal) x1)
        (k0_pay208 (F := Ideal) x1) (k0_pay209 (F := Ideal) x1) k0_pay210)
      (constant (F := Ideal) S4096x128 .f32 0x00000000#32) (ix4 b y x o)
      = max (taps 9 3 1 1 (rowImg 64 sq64 (k0_pay197 (F := Ideal) x1) b) (flat (turned w)) o y x + β (ix2 0 o)) 0 := by
  have hS := geo_stack x1
  unfold k0_pay27 k0_pay24 k0_pay25 k0_pay26
  refine batch_read (fun b y x o => max (taps 9 3 1 1 (rowImg 64 sq64 (k0_pay197 (F := Ideal) x1) b) (flat (turned w)) o y x + β (ix2 0 o)) 0)
    (fun u v o => ?_) (fun u v o => ?_) (fun u v o => ?_) (fun u v o => ?_) b y x o
  · exact image_read hS rfl (by decide) 0 w β _ zero_splat _ zero_word' u v o
  · exact image_read hS rfl (by decide) 1 w β _ zero_splat _ zero_word' u v o
  · exact image_read hS rfl (by decide) 2 w β _ zero_splat _ zero_word' u v o
  · exact image_read hS rfl (by decide) 3 w β _ zero_splat _ zero_word' u v o

end Cert.Proof.KernelSide

end
-- ==== Proof.Conv.FirstFlow.lean ====
/- The flow encoder's first layer in the kernel: the convolution of the 32×32 image with forty-nine taps, then the positive part. -/
module

public import proofs.«01_k».proof.Proof.Conv.Stages
public import proofs.«01_k».proof.Proof.Conv.Rolls
public import proofs.«01_k».proof.Proof.KernelIdealFrame.Values

@[expose] public section

set_option maxRecDepth 16384

noncomputable section

namespace Cert.Proof.KernelSide

open Idealize.ShloMosaic Idealize.ShloMosaic.TcCoe Idealize.SL.Sem
open Cert.KernelIdeal Cert.KernelIdeal.Gen Net

/-- The rows and columns of the flow's 1024 entries. -/
theorem coords_flow : Coords 32 1024 k0_pay218 k0_pay219 := by
  intro l
  have h : ∀ l : Fin 1024, k0_pay218 (ix3 0 0 l) = BitVec.ofNat 32 (l.val / 32) ∧ k0_pay219 (ix3 0 0 l) = BitVec.ofNat 32 (l.val % 32) := by
    decide +kernel
  exact h l

/-- The line of 1024 entries is the square of 32. -/
theorem sq32' : 1024 = 32 * 32 := rfl

/-- The stack of the forty-nine taps. -/
abbrev flowStack (x2 : FVec Ideal S4x8x1024 .f32) : FVec Ideal S4x392x1024 .f32 :=
  k0_pay131 (F := Ideal) (k0_pay212 (F := Ideal) x2) k0_pay218 k0_pay219
    (k0_pay220 (F := Ideal) x2) (k0_pay221 (F := Ideal) x2) (k0_pay222 (F := Ideal) x2) (k0_pay223 (F := Ideal) x2) (k0_pay224 (F
    := Ideal) x2) (k0_pay225 (F := Ideal) x2) (k0_pay226 (F := Ideal) x2) (k0_pay227 (F := Ideal) x2) (k0_pay228 (F := Ideal) x2)
    (k0_pay229 (F := Ideal) x2) (k0_pay230 (F := Ideal) x2) (k0_pay231 (F := Ideal) x2) (k0_pay232 (F := Ideal) x2) (k0_pay233 (F
    := Ideal) x2) (k0_pay234 (F := Ideal) x2) (k0_pay235 (F := Ideal) x2) (k0_pay236 (F := Ideal) x2) (k0_pay237 (F := Ideal) x2)
    (k0_pay238 (F := Ideal) x2) (k0_pay239 (F := Ideal) x2) (k0_pay240 (F := Ideal) x2) (k0_pay241 (F := Ideal) x2) (k0_pay242 (F
    := Ideal) x2) (k0_pay243 (F := Ideal) x2) (k0_pay244 (F := Ideal) x2) (k0_pay245 (F := Ideal) x2) (k0_pay246 (F := Ideal) x2)
    (k0_pay247 (F := Ideal) x2) (k0_pay248 (F := Ideal) x2) (k0_pay249 (F := Ideal) x2) (k0_pay250 (F := Ideal) x2) (k0_pay251 (F
    := Ideal) x2) (k0_pay252 (F := Ideal) x2) (k0_pay253 (F := Ideal) x2) (k0_pay254 (F := Ideal) x2) (k0_pay255 (F := Ideal) x2)
    (k0_pay256 (F := Ideal) x2) (k0_pay257 (F := Ideal) x2) (k0_pay258 (F := Ideal) x2) (k0_pay259 (F := Ideal) x2) (k0_pay260 (F
    := Ideal) x2) (k0_pay261 (F := Ideal) x2) (k0_pay262 (F := Ideal) x2) (k0_pay263 (F := Ideal) x2) (k0_pay264 (F := Ideal) x2)
    (k0_pay265 (F := Ideal) x2) (k0_pay266 (F := Ideal) x2) (k0_pay267 (F := Ideal) x2) k0_pay268 k0_pay269

theorem flow_stack (x2 : FVec Ideal S4x8x1024 .f32) :
    HoldsStack 32 sq32' (k0_pay212 (F := Ideal) x2) 7 3 49 392 (flowStack x2) := by
  unfold flowStack
  unfold k0_pay131
  refine stack_read (n := 49) _ ?_ ?_ _
  · repeat' first
      | exact Stacked.nil
      | refine Stacked.cons ?_ ?_
    all_goals first
      | exact tap_roll (by decide) sq32' (by decide) _ coords_flow _ _ _ _ _ _ (by decide)
      | exact tap_centre (by decide) sq32' (by decide) _ coords_flow _ _ (by decide)
  · rfl

/-- The first layer of the flow encoder, over a batch of four. -/
theorem flow1_read (x2 : FVec Ideal S4x8x1024 .f32) (w : FVec Ideal S128x392 .f32) (β : FVec Ideal S1x128 .f32)
    (b : Fin 4) (y x : Fin 32) (o : Fin 128) :
    k0_pay135 (F := Ideal) w β (flowStack x2)
      (k0_pay132 (F := Ideal) (k0_pay212 (F := Ideal) x2) w β k0_pay218 k0_pay219
        (k0_pay220 (F := Ideal) x2) (k0_pay221 (F := Ideal) x2) (k0_pay222 (F := Ideal) x2) (k0_pay223 (F := Ideal) x2) (k0_pay224
        (F := Ideal) x2) (k0_pay225 (F := Ideal) x2) (k0_pay226 (F := Ideal) x2) (k0_pay227 (F := Ideal) x2) (k0_pay228 (F :=
        Ideal) x2) (k0_pay229 (F := Ideal) x2) (k0_pay230 (F := Ideal) x2) (k0_pay231 (F := Ideal) x2) (k0_pay232 (F := Ideal) x2)
        (k0_pay233 (F := Ideal) x2) (k0_pay234 (F := Ideal) x2) (k0_pay235 (F := Ideal) x2) (k0_pay236 (F := Ideal) x2) (k0_pay237
        (F := Ideal) x2) (k0_pay238 (F := Ideal) x2) (k0_pay239 (F := Ideal) x2) (k0_pay240 (F := Ideal) x2) (k0_pay241 (F :=
        Ideal) x2) (k0_pay242 (F := Ideal) x2) (k0_pay243 (F := Ideal) x2) (k0_pay244 (F := Ideal) x2) (k0_pay245 (F := Ideal) x2)
        (k0_pay246 (F := Ideal) x2) (k0_pay247 (F := Ideal) x2) (k0_pay248 (F := Ideal) x2) (k0_pay249 (F := Ideal) x2) (k0_pay250
        (F := Ideal) x2) (k0_pay251 (F := Ideal) x2) (k0_pay252 (F := Ideal) x2) (k0_pay253 (F := Ideal) x2) (k0_pay254 (F :=
        Ideal) x2) (k0_pay255 (F := Ideal) x2) (k0_pay256 (F := Ideal) x2) (k0_pay257 (F := Ideal) x2) (k0_pay258 (F := Ideal) x2)
        (k0_pay259 (F := Ideal) x2) (k0_pay260 (F := Ideal) x2) (k0_pay261 (F := Ideal) x2) (k0_pay262 (F := Ideal) x2) (k0_pay263
        (F := Ideal) x2) (k0_pay264 (F := Ideal) x2) (k0_pay265 (F := Ideal) x2) (k0_pay266 (F := Ideal) x2) (k0_pay267 (F :=
        Ideal) x2) k0_pay268 k0_pay269)
      (k0_pay133 (F := Ideal) (k0_pay212 (F := Ideal) x2) w β k0_pay218 k0_pay219
        (k0_pay220 (F := Ideal) x2) (k0_pay221 (F := Ideal) x2) (k0_pay222 (F := Ideal) x2) (k0_pay223 (F := Ideal) x2) (k0_pay224
        (F := Ideal) x2) (k0_pay225 (F := Ideal) x2) (k0_pay226 (F := Ideal) x2) (k0_pay227 (F := Ideal) x2) (k0_pay228 (F :=
        Ideal) x2) (k0_pay229 (F := Ideal) x2) (k0_pay230 (F := Ideal) x2) (k0_pay231 (F := Ideal) x2) (k0_pay232 (F := Ideal) x2)
        (k0_pay233 (F := Ideal) x2) (k0_pay234 (F := Ideal) x2) (k0_pay235 (F := Ideal) x2) (k0_pay236 (F := Ideal) x2) (k0_pay237
        (F := Ideal) x2) (k0_pay238 (F := Ideal) x2) (k0_pay239 (F := Ideal) x2) (k0_pay240 (F := Ideal) x2) (k0_pay241 (F :=
        Ideal) x2) (k0_pay242 (F := Ideal) x2) (k0_pay243 (F := Ideal) x2) (k0_pay244 (F := Ideal) x2) (k0_pay245 (F := Ideal) x2)
        (k0_pay246 (F := Ideal) x2) (k0_pay247 (F := Ideal) x2) (k0_pay248 (F := Ideal) x2) (k0_pay249 (F := Ideal) x2) (k0_pay250
        (F := Ideal) x2) (k0_pay251 (F := Ideal) x2) (k0_pay252 (F := Ideal) x2) (k0_pay253 (F := Ideal) x2) (k0_pay254 (F :=
        Ideal) x2) (k0_pay255 (F := Ideal) x2) (k0_pay256 (F := Ideal) x2) (k0_pay257 (F := Ideal) x2) (k0_pay258 (F := Ideal) x2)
        (k0_pay259 (F := Ideal) x2) (k0_pay260 (F := Ideal) x2) (k0_pay261 (F := Ideal) x2) (k0_pay262 (F := Ideal) x2) (k0_pay263
        (F := Ideal) x2) (k0_pay264 (F := Ideal) x2) (k0_pay265 (F := Ideal) x2) (k0_pay266 (F := Ideal) x2) (k0_pay267 (F :=
        Ideal) x2) k0_pay268 k0_pay269)
      (k0_pay134 (F := Ideal) (k0_pay212 (F := Ideal) x2) w β k0_pay218 k0_pay219
        (k0_pay220 (F := Ideal) x2) (k0_pay221 (F := Ideal) x2) (k0_pay222 (F := Ideal) x2) (k0_pay223 (F := Ideal) x2) (k0_pay224
        (F := Ideal) x2) (k0_pay225 (F := Ideal) x2) (k0_pay226 (F := Ideal) x2) (k0_pay227 (F := Ideal) x2) (k0_pay228 (F :=
        Ideal) x2) (k0_pay229 (F := Ideal) x2) (k0_pay230 (F := Ideal) x2) (k0_pay231 (F := Ideal) x2) (k0_pay232 (F := Ideal) x2)
        (k0_pay233 (F := Ideal) x2) (k0_pay234 (F := Ideal) x2) (k0_pay235 (F := Ideal) x2) (k0_pay236 (F := Ideal) x2) (k0_pay237
        (F := Ideal) x2) (k0_pay238 (F := Ideal) x2) (k0_pay239 (F := Ideal) x2) (k0_pay240 (F := Ideal) x2) (k0_pay241 (F :=
        Ideal) x2) (k0_pay242 (F := Ideal) x2) (k0_pay243 (F := Ideal) x2) (k0_pay244 (F := Ideal) x2) (k0_pay245 (F := Ideal) x2)
        (k0_pay246 (F := Ideal) x2) (k0_pay247 (F := Ideal) x2) (k0_pay248 (F := Ideal) x2) (k0_pay249 (F := Ideal) x2) (k0_pay250
        (F := Ideal) x2) (k0_pay251 (F := Ideal) x2) (k0_pay252 (F := Ideal) x2) (k0_pay253 (F := Ideal) x2) (k0_pay254 (F :=
        Ideal) x2) (k0_pay255 (F := Ideal) x2) (k0_pay256 (F := Ideal) x2) (k0_pay257 (F := Ideal) x2) (k0_pay258 (F := Ideal) x2)
        (k0_pay259 (F := Ideal) x2) (k0_pay260 (F := Ideal) x2) (k0_pay261 (F := Ideal) x2) (k0_pay262 (F := Ideal) x2) (k0_pay263
        (F := Ideal) x2) (k0_pay264 (F := Ideal) x2) (k0_pay265 (F := Ideal) x2) (k0_pay266 (F := Ideal) x2) (k0_pay267 (F :=
        Ideal) x2) k0_pay268 k0_pay269)
      (ix4 b y x o)
      = max (taps 49 7 1 3 (rowImg 32 sq32' (k0_pay212 (F := Ideal) x2) b) (flat (turned w)) o y x + β (ix2 0 o)) 0 := by
  have hS := flow_stack x2
  unfold k0_pay135 k0_pay132 k0_pay133 k0_pay134
  refine batch_read (fun b y x o => max (taps 49 7 1 3 (rowImg 32 sq32' (k0_pay212 (F := Ideal) x2) b) (flat (turned w)) o y x + β (ix2 0 o)) 0)
    (fun u v o => ?_) (fun u v o => ?_) (fun u v o => ?_) (fun u v o => ?_) b y x o
  · exact image_read hS rfl (by decide) 0 w β _ zero_splat _ zero_word' u v o
  · exact image_read hS rfl (by decide) 1 w β _ zero_splat _ zero_word' u v o
  · exact image_read hS rfl (by decide) 2 w β _ zero_splat _ zero_word' u v o
  · exact image_read hS rfl (by decide) 3 w β _ zero_splat _ zero_word' u v o

end Cert.Proof.KernelSide

end
-- ==== Proof.Conv.FirstMask.lean ====
/- The mask encoder's first layer in the kernel: the convolution of the 32×32 image with nine taps, then the positive part. -/
module

public import proofs.«01_k».proof.Proof.Conv.Stages
public import proofs.«01_k».proof.Proof.Conv.Rolls
public import proofs.«01_k».proof.Proof.KernelIdealFrame.Values

@[expose] public section

set_option maxRecDepth 16384

noncomputable section

namespace Cert.Proof.KernelSide

open Idealize.ShloMosaic Idealize.ShloMosaic.TcCoe Idealize.SL.Sem
open Cert.KernelIdeal Cert.KernelIdeal.Gen Net

/-- The rows and columns of the mask's 1024 entries. -/
theorem coords_mask : Coords 32 1024 k0_pay276 k0_pay277 := by
  intro l
  have h : ∀ l : Fin 1024, k0_pay276 (ix3 0 0 l) = BitVec.ofNat 32 (l.val / 32) ∧ k0_pay277 (ix3 0 0 l) = BitVec.ofNat 32 (l.val % 32) := by
    decide +kernel
  exact h l

/-- The line of 1024 entries is the square of 32. -/
theorem sq32 : 1024 = 32 * 32 := rfl

/-- The stack of the nine taps. -/
abbrev maskStack (x3 : FVec Ideal S4x8x1024 .f32) : FVec Ideal S4x72x1024 .f32 :=
  k0_pay153 (F := Ideal) (k0_pay271 (F := Ideal) x3) k0_pay276 k0_pay277 (k0_pay278 (F := Ideal) x3) (k0_pay279 (F := Ideal) x3)
    (k0_pay280 (F := Ideal) x3) (k0_pay281 (F := Ideal) x3) (k0_pay282 (F := Ideal) x3) (k0_pay283 (F := Ideal) x3)
    (k0_pay284 (F := Ideal) x3)

theorem mask_stack (x3 : FVec Ideal S4x8x1024 .f32) :
    HoldsStack 32 sq32 (k0_pay271 (F := Ideal) x3) 3 1 9 72 (maskStack x3) := by
  unfold maskStack
  unfold k0_pay153
  refine stack_read (n := 9) _ ?_ ?_ _
  · repeat' first
      | exact Stacked.nil
      | refine Stacked.cons ?_ ?_
    all_goals first
      | exact tap_roll (by decide) sq32 (by decide) _ coords_mask _ _ _ _ _ _ (by decide)
      | exact tap_centre (by decide) sq32 (by decide) _ coords_mask _ _ (by decide)
  · rfl

/-- The first layer of the mask encoder, over a batch of four. -/
theorem mask1_read (x3 : FVec Ideal S4x8x1024 .f32) (w : FVec Ideal S64x72 .f32) (β : FVec Ideal S1x64 .f32)
    (b : Fin 4) (y x : Fin 32) (o : Fin 64) :
    k0_pay155 (F := Ideal) w β (maskStack x3)
      (k0_pay154 (F := Ideal) (k0_pay271 (F := Ideal) x3) w β k0_pay276 k0_pay277 (k0_pay278 (F := Ideal) x3) (k0_pay279 (F := Ideal) x3)
        (k0_pay280 (F := Ideal) x3) (k0_pay281 (F := Ideal) x3) (k0_pay282 (F := Ideal) x3) (k0_pay283 (F := Ideal) x3)
        (k0_pay284 (F := Ideal) x3)) (ix4 b y x o)
      = max (taps 9 3 1 1 (rowImg 32 sq32 (k0_pay271 (F := Ideal) x3) b) (flat (turned w)) o y x + β (ix2 0 o)) 0 := by
  have hS := mask_stack x3
  unfold k0_pay155 k0_pay154
  refine batch_read (fun b y x o => max (taps 9 3 1 1 (rowImg 32 sq32 (k0_pay271 (F := Ideal) x3) b) (flat (turned w)) o y x + β (ix2 0 o)) 0)
    (fun u v o => ?_) (fun u v o => ?_) (fun u v o => ?_) (fun u v o => ?_) b y x o
  · exact image_read hS rfl (by decide) 0 w β _ zero_splat _ zero_word' u v o
  · exact image_read hS rfl (by decide) 1 w β _ zero_splat _ zero_word' u v o
  · exact image_read hS rfl (by decide) 2 w β _ zero_splat _ zero_word' u v o
  · exact image_read hS rfl (by decide) 3 w β _ zero_splat _ zero_word' u v o

end Cert.Proof.KernelSide

end
-- ==== Proof.Conv.Whole.lean ====
/- One grid point of the first call, as images: each encoder, the joined convolution, and the three normalised stages. -/
module

public import proofs.«01_k».proof.Proof.Conv.Joined
public import proofs.«01_k».proof.Proof.Conv.Late
public import proofs.«01_k».proof.Proof.Conv.Same
public import proofs.«01_k».proof.Proof.Conv.FirstGeo
public import proofs.«01_k».proof.Proof.Conv.FirstFlow
public import proofs.«01_k».proof.Proof.Conv.FirstMask
public import proofs.«01_k».proof.Proof.KernelIdealFrame.Values
public import Idealize.ShloMosaic.Lib.Pipeline.ValueKit

@[expose] public section

set_option maxRecDepth 16384

noncomputable section

namespace Cert.Proof.KernelSide

open Idealize.ShloMosaic Idealize.ShloMosaic.TcCoe Idealize.SL.Sem
open Cert.KernelIdeal Cert.KernelIdeal.Gen Net

/-- The entries of a row of any width, by channel. -/
abbrev rowOf {O : ℕ} (β : (⟨2, ![1, O]⟩ : Shape).Idx → EReal) : Fin O → EReal := fun o => β (ix2 0 o)

/-! ## The loads of whole buffers -/

theorem ld0 (x : Vec Ideal S128x128 .f32) : View.ld x r0_0 = x := View.ld_unit_lit _ x (by decide)
theorem ld1 (x : Vec Ideal S4x8x4096 .f32) : View.ld x r0_1 = x := View.ld_unit_lit _ x (by decide)
theorem ld2 (x : Vec Ideal S128x72 .f32) : View.ld x r0_2 = x := View.ld_unit_lit _ x (by decide)
theorem ld3 (x : Vec Ideal S1x128 .f32) : View.ld x r0_3 = x := View.ld_unit_lit _ x (by decide)
theorem ld4 (x : Vec Ideal S4x8x1024 .f32) : View.ld x r0_4 = x := View.ld_unit_lit _ x (by decide)
theorem ld5 (x : Vec Ideal S128x392 .f32) : View.ld x r0_5 = x := View.ld_unit_lit _ x (by decide)
theorem ld6 (x : Vec Ideal S64x72 .f32) : View.ld x r0_6 = x := View.ld_unit_lit _ x (by decide)
theorem ld7 (x : Vec Ideal S1x64 .f32) : View.ld x r0_7 = x := View.ld_unit_lit _ x (by decide)
theorem ld12 (x : Vec Ideal S1152x64 .f32) : View.ld x r0_12 = x := View.ld_unit_lit _ x (by decide)
theorem ld13 (x : Vec Ideal S576x32 .f32) : View.ld x r0_13 = x := View.ld_unit_lit _ x (by decide)
theorem ld14 (x : Vec Ideal S1x32 .f32) : View.ld x r0_14 = x := View.ld_unit_lit _ x (by decide)
theorem ld15 (x : Vec Ideal S2304x128 .f32) : View.ld x r0_15 = x := View.ld_unit_lit _ x (by decide)
theorem ld16 (x : Vec Ideal S288x128 .f32) : View.ld x r0_16 = x := View.ld_unit_lit _ x (by decide)
theorem ld17 (x : Vec Ideal S1152x128 .f32) : View.ld x r0_17 = x := View.ld_unit_lit _ x (by decide)

theorem v196 (x : Vec Ideal S128x128 .f32) : k0_pay196 (F := Ideal) x = x := (same _ _).trans (ld0 x)
theorem v197 (x : Vec Ideal S4x8x4096 .f32) : k0_pay197 (F := Ideal) x = x := (same _ _).trans (ld1 x)
theorem v198 (x : Vec Ideal S128x72 .f32) : k0_pay198 (F := Ideal) x = x := (same _ _).trans (ld2 x)
theorem v199 (x : Vec Ideal S1x128 .f32) : k0_pay199 (F := Ideal) x = x := (same _ _).trans (ld3 x)
theorem v212 (x : Vec Ideal S4x8x1024 .f32) : k0_pay212 (F := Ideal) x = x := (same _ _).trans (ld4 x)
theorem v213 (x : Vec Ideal S128x392 .f32) : k0_pay213 (F := Ideal) x = x := (same _ _).trans (ld5 x)
theorem v214 (x : Vec Ideal S1x128 .f32) : k0_pay214 (F := Ideal) x = x := (same _ _).trans (ld3 x)
theorem v271 (x : Vec Ideal S4x8x1024 .f32) : k0_pay271 (F := Ideal) x = x := (same _ _).trans (ld4 x)
theorem v272 (x : Vec Ideal S64x72 .f32) : k0_pay272 (F := Ideal) x = x := (same _ _).trans (ld6 x)
theorem v273 (x : Vec Ideal S1x64 .f32) : k0_pay273 (F := Ideal) x = x := (same _ _).trans (ld7 x)
theorem v290 (x : Vec Ideal S576x32 .f32) : k0_pay290 (F := Ideal) x = x := (same _ _).trans (ld13 x)
theorem v291 (x : Vec Ideal S1x32 .f32) : k0_pay291 (F := Ideal) x = x := (same _ _).trans (ld14 x)
theorem v294 (x : Vec Ideal S1x128 .f32) : k0_pay294 (F := Ideal) x = x := (same _ _).trans (ld3 x)
theorem v295 (x : Vec Ideal S1152x128 .f32) : k0_pay295 (F := Ideal) x = x := (same _ _).trans (ld17 x)
theorem v296 (x : Vec Ideal S1x128 .f32) : k0_pay296 (F := Ideal) x = x := (same _ _).trans (ld3 x)
theorem v185 (x : Vec Ideal S1x128 .f32) : k0_pay185 (F := Ideal) (View.ld x r0_3) = x := (same _ _).trans (ld3 x)
theorem v186 (x : Vec Ideal S1x128 .f32) : k0_pay186 (F := Ideal) (View.ld x r0_3) = x := (same _ _).trans (ld3 x)

/-- A batch whose rows were laid one after the other, read back. -/
theorem last_row {B C H L : ℕ} (hL : L = H * H) (A : (⟨4, ![B, H, H, C]⟩ : Shape).Idx → EReal) (x : (⟨3, ![B, C, L]⟩ : Shape).Idx → EReal)
    (b : Fin B) (h : ∀ (y z : Fin H) (c : Fin C) (l : Fin L), l.val = y.val * H + z.val → A (ix4 b y z c) = x (ix3 b c l)) :
    lastImg A b = rowImg H hL x b := by
  funext c u v
  unfold lastImg rowImg
  by_cases hi : Inside H u v
  · rw [dif_pos hi, dif_pos hi]
    exact h _ _ _ _ rfl
  · rw [dif_neg hi, dif_neg hi]

theorem hid_read (x0 : FVec Ideal S4x128x1024 .f32) (b : Fin 4) (y z : Fin 32) (c : Fin 128) :
    k0_pay286 (F := Ideal) x0 (ix4 b y z c) = x0 (ix3 b c ⟨y.val * 32 + z.val, by omega⟩) := by
  unfold k0_pay286 k0_pay159 k0_pay156 k0_pay157 k0_pay158
  refine batch_read (fun b y z c => x0 (ix3 b c ⟨y.val * 32 + z.val, by omega⟩)) (fun u v o => ?_) (fun u v o => ?_) (fun u v o => ?_)
    (fun u v o => ?_) b y z c
  · pointwise
  · pointwise
  · pointwise
  · pointwise

theorem hid_img (x0 : FVec Ideal S4x128x1024 .f32) (b : Fin 4) :
    lastImg (C := 128) (k0_pay286 (F := Ideal) x0) b = rowImg 32 sq32 x0 b :=
  last_row sq32 _ _ b fun y z c l hl => (hid_read x0 b y z c).trans (congrArg x0 (congrArg (ix3 b c) (Fin.ext hl.symm)))

/-- The geometry's encoder. -/
def geoImg (x1 : FVec Ideal S4x8x4096 .f32) (x4 : FVec Ideal S128x72 .f32) (x5 : FVec Ideal S1x128 .f32) (x10 : FVec Ideal S1152x64 .f32)
    (x11 : FVec Ideal S1x64 .f32) (b : Fin 4) : Img 64 :=
  relu (conv 32 3 2 1 (relu (conv 64 3 1 1 (rowImg 64 sq64 x1 b) (flat (turned x4)) (rowOf x5))) (flat x10) (rowOf x11))

/-- A layer with its positive part, from the batch's entries. -/
theorem layer_img {B H O C : ℕ} (A : (⟨4, ![B, H, H, O]⟩ : Shape).Idx → EReal) (b : Fin B) (k s p : ℕ) (X : Img C) (W : Fin O → Fin C → ℕ → EReal)
    (β : Fin O → EReal) (h : ∀ (y x : Fin H) (o : Fin O), A (ix4 b y x o) = max (taps (k * k) k s p X W o y x + β o) 0) :
    lastImg A b = relu (conv H k s p X W β) :=
  (lastImg_eq A b (fun o u v => max (taps (k * k) k s p X W o u v + β o) 0) h).trans
    (relu_onSquare fun o u v => taps (k * k) k s p X W o u v + β o).symm

theorem geo_img (x1 : FVec Ideal S4x8x4096 .f32) (x4 : FVec Ideal S128x72 .f32) (x5 : FVec Ideal S1x128 .f32) (x10 : FVec Ideal S1152x64 .f32)
    (x11 : FVec Ideal S1x64 .f32) (b : Fin 4) :
    lastImg (C := 64) (k0_pay287 (F := Ideal) x1 x4 x5 x10 x11) b = geoImg x1 x4 x5 x10 x11 b := by
  unfold geoImg
  refine layer_img _ b 3 2 1 _ _ _ fun y x o => ?_
  unfold k0_pay287
  rw [ld12, ld7, v198, v199]
  refine congrArg₂ (fun p q : EReal => max p q) ((geo2_read _ _ _ b y x o).trans ?_) zero_word'
  refine congrArg (fun X => taps 9 3 2 1 X (flat x10) o y x + x11 (ix2 0 o)) ?_
  refine layer_img _ b 3 1 1 _ _ _ fun y x o => ?_
  exact (geo1_read x1 x4 x5 b y x o).trans (by rw [v197])

/-- The flow's encoder. -/
def flowImg (x2 : FVec Ideal S4x8x1024 .f32) (x6 : FVec Ideal S128x392 .f32) (x7 : FVec Ideal S1x128 .f32) (x12 : FVec Ideal S1152x64 .f32)
    (x13 : FVec Ideal S1x64 .f32) (b : Fin 4) : Img 64 :=
  relu (conv 32 3 1 1 (relu (conv 32 7 1 3 (rowImg 32 sq32' x2 b) (flat (turned x6)) (rowOf x7))) (flat x12) (rowOf x13))

theorem flow_img (x2 : FVec Ideal S4x8x1024 .f32) (x6 : FVec Ideal S128x392 .f32) (x7 : FVec Ideal S1x128 .f32) (x12 : FVec Ideal S1152x64 .f32)
    (x13 : FVec Ideal S1x64 .f32) (b : Fin 4) :
    lastImg (C := 64) (k0_pay288 (F := Ideal) x2 x6 x7 x12 x13) b = flowImg x2 x6 x7 x12 x13 b := by
  unfold flowImg
  refine layer_img _ b 3 1 1 _ _ _ fun y x o => ?_
  unfold k0_pay288
  rw [ld12, ld7, v213, v214]
  refine (flow2_read _ _ _ b y x o).trans ?_
  refine congrArg (fun X => max (taps 9 3 1 1 X (flat x12) o y x + x13 (ix2 0 o)) 0) ?_
  refine layer_img _ b 7 1 3 _ _ _ fun y x o => ?_
  exact (flow1_read x2 x6 x7 b y x o).trans (by rw [v212])

/-- The mask's encoder. -/
def maskImg (x3 : FVec Ideal S4x8x1024 .f32) (x8 : FVec Ideal S64x72 .f32) (x9 : FVec Ideal S1x64 .f32) (x14 : FVec Ideal S576x32 .f32)
    (x15 : FVec Ideal S1x32 .f32) (b : Fin 4) : Img 32 :=
  relu (conv 32 3 1 1 (relu (conv 32 3 1 1 (rowImg 32 sq32 x3 b) (flat (turned x8)) (rowOf x9))) (flat x14) (rowOf x15))

theorem mask_img (x3 : FVec Ideal S4x8x1024 .f32) (x8 : FVec Ideal S64x72 .f32) (x9 : FVec Ideal S1x64 .f32) (x14 : FVec Ideal S576x32 .f32)
    (x15 : FVec Ideal S1x32 .f32) (b : Fin 4) :
    maskTwo (k0_pay285 (F := Ideal) x3 x8 x9) x14 x15 b = maskImg x3 x8 x9 x14 x15 b := by
  unfold maskImg maskTwo
  refine Eq.trans ?_ (relu_onSquare fun o u v => taps (3 * 3) 3 1 1 _ _ o u v + rowOf x15 o).symm
  refine congrArg (fun X : Img 64 => onSquare 32 fun o u v => max (taps 9 3 1 1 X (flat x14) o u v + x15 (ix2 0 o)) 0) ?_
  refine layer_img _ b 3 1 1 _ _ _ fun y x o => ?_
  unfold k0_pay285
  rw [v272, v273]
  exact (mask1_read x3 x8 x9 b y x o).trans (by rw [v271])

section Stages

variable (x0 : FVec Ideal S4x128x1024 .f32) (x1 : FVec Ideal S4x8x4096 .f32) (x2 x3 : FVec Ideal S4x8x1024 .f32)
  (x4 : FVec Ideal S128x72 .f32) (x5 : FVec Ideal S1x128 .f32) (x6 : FVec Ideal S128x392 .f32) (x7 : FVec Ideal S1x128 .f32)
  (x8 : FVec Ideal S64x72 .f32) (x9 : FVec Ideal S1x64 .f32) (x10 : FVec Ideal S1152x64 .f32) (x11 : FVec Ideal S1x64 .f32)
  (x12 : FVec Ideal S1152x64 .f32) (x13 : FVec Ideal S1x64 .f32) (x14 : FVec Ideal S576x32 .f32) (x15 : FVec Ideal S1x32 .f32)
  (x16 : FVec Ideal S2304x128 .f32) (x17 : FVec Ideal S288x128 .f32) (x18 x19 x20 : FVec Ideal S1x128 .f32)
  (x21 : FVec Ideal S1152x128 .f32) (x22 x23 x24 : FVec Ideal S1x128 .f32) (x25 : FVec Ideal S1152x128 .f32)
  (x26 x27 x28 : FVec Ideal S1x128 .f32) (x29 : FVec Ideal S128x128 .f32) (hS : Groups x29)

/-- The joined convolution. -/
def one (b : Fin 4) : Img 128 := onSquare 16 fun o u v =>
  taps 9 3 2 1 (join3 (rowImg 32 sq32 x0 b) (flowImg x2 x6 x7 x12 x13 b) (geoImg x1 x4 x5 x10 x11 b)) (flat x16) o u v
    + taps 9 3 2 1 (maskImg x3 x8 x9 x14 x15 b) (flat x17) o u v + x18 (ix2 0 o)

theorem one_img (b : Fin 4) :
    lastImg (C := 128) (k0_pay293 (F := Ideal) x0 x1 x2 x3 x4 x5 x6 x7 x8 x9 x10 x11 x12 x13 x14 x15 x16 x17 x18) b
      = one x0 x1 x2 x3 x4 x5 x6 x7 x8 x9 x10 x11 x12 x13 x14 x15 x16 x17 x18 b := by
  unfold one
  refine lastImg_eq _ b _ fun y x o => ?_
  unfold k0_pay293 k0_pay289 k0_pay292
  rw [ld15, ld16, ld3, v290, v291]
  refine (c1_read _ _ _ _ _ _ _ _ _ b y x o).trans ?_
  rw [mask_img]
  unfold three
  rw [within_join3 (within_last _ _) (within_last _ _) (within_last _ _), hid_img, flow_img, geo_img]

/-- The second convolution. -/
def two (P : Img 128) : Img 128 :=
  conv 8 3 2 1 (onSquare 16 (normed (wordOf 0x44800000#32) 16 P (row x19) (row x20))) (flat x21) (row x22)

/-- The third. -/
def tri (P : Img 128) : Img 128 :=
  conv 4 3 2 1 (onSquare 8 (normed (wordOf 0x43800000#32) 8 P (row x23) (row x24))) (flat x25) (row x26)

include hS in
theorem tri_img (b : Fin 4) :
    lastImg (C := 128) (k0_pay299 (F := Ideal) x0 x1 x2 x3 x4 x5 x6 x7 x8 x9 x10 x11 x12 x13 x14 x15 x16 x17 x18 x19 x20 x21 x22 x23 x24 x25 x26 x29) b
      = tri x23 x24 x25 x26 (two x19 x20 x21 x22 (one x0 x1 x2 x3 x4 x5 x6 x7 x8 x9 x10 x11 x12 x13 x14 x15 x16 x17 x18 b)) := by
  unfold tri conv
  refine lastImg_eq _ b _ fun y x o => ?_
  unfold k0_pay299
  rw [v185, v186, ld17, ld3, v196, v295, v296]
  refine (c3_read hS _ _ _ _ _ _ _ _ b y x o).trans ?_
  refine congrArg (fun X : Img 128 => taps 9 3 2 1 (onSquare 8 (normed (wordOf 0x43800000#32) 8 X (row x23) (row x24))) (flat x25) o y x
    + x26 (ix2 0 o)) ?_
  unfold two conv
  refine lastImg_eq _ b _ fun y x o => ?_
  unfold k0_pay297 k0_pay298
  rw [ld3, v294, v196]
  refine (c2_read hS _ _ _ _ _ b y x o).trans ?_
  rw [one_img]

include hS in
/-- What the grid point stores. -/
theorem stored_read (b : Fin 4) (c : Fin 128) (l : Fin 16) :
    out0_30 (F := Ideal) x0 x1 x2 x3 x4 x5 x6 x7 x8 x9 x10 x11 x12 x13 x14 x15 x16 x17 x18 x19 x20 x21 x22 x23 x24 x25 x26 x27 x28 x29 (ix3 b c l)
      = normed (wordOf 0x42800000#32) 4 (tri x23 x24 x25 x26 (two x19 x20 x21 x22
          (one x0 x1 x2 x3 x4 x5 x6 x7 x8 x9 x10 x11 x12 x13 x14 x15 x16 x17 x18 b))) (row x27) (row x28) c
          ((l.val / 4 : ℕ) : ℤ) ((l.val % 4 : ℕ) : ℤ) := by
  unfold out0_30
  rw [View.canon_cons_unit_lit _ _ _ (by decide), ld3, ld3, v196]
  refine (out_read (S := x29) _ _ _ b c l).trans ((last_read hS _ _ _ b l c).trans ?_)
  rw [tri_img x0 x1 x2 x3 x4 x5 x6 x7 x8 x9 x10 x11 x12 x13 x14 x15 x16 x17 x18 x19 x20 x21 x22 x23 x24 x25 x26 x29 hS]

end Stages

end Cert.Proof.KernelSide

end
-- ==== Proof.Conv.Grid.lean ====
/- The blocks each grid point of the first call reads. -/
module

public import proofs.«01_k».proof.Proof.Conv.Prelude
public import proofs.«01_k».proof.Proof.Conv.Whole

@[expose] public section

set_option maxRecDepth 16384

noncomputable section

namespace Cert.Proof.KernelSide

open Idealize.ShloMosaic Idealize.ShloMosaic.TcCoe Idealize.SL.Sem
open Cert.KernelIdeal Cert.KernelIdeal.Gen Net

variable (m : (ℓ : Loc nD τ sig) → Buf (Elt Ideal) ℓ) (c : Dev nD)

/-! Which block each window shows at a grid point. -/

theorem idx : ∀ t : Fin cfg0.N, win0_0.index t = ![t.val, 0, 0] ∧ win0_1.index t = ![t.val, 0, 0] ∧ win0_2.index t = ![t.val, 0, 0]
    ∧ win0_3.index t = ![t.val, 0, 0] ∧ win0_30.index t = ![t.val, 0, 0] ∧ t.val < 16 :=
  (by decide +kernel : ∀ t : Fin grid0.N, _)
theorem idx_first : ∀ t : Fin cfg0.N, win0_4.index t = ![0, 0] ∧ win0_6.index t = ![0, 0] ∧ win0_8.index t = ![0, 0] :=
  (by decide +kernel : ∀ t : Fin grid0.N, _)
theorem idx_dense : ∀ t : Fin cfg0.N, win0_10.index t = ![0, 0] ∧ win0_12.index t = ![0, 0] ∧ win0_14.index t = ![0, 0] ∧ win0_21.index t = ![0, 0] ∧ win0_25.index t = ![0, 0] :=
  (by decide +kernel : ∀ t : Fin grid0.N, _)
theorem idx_joined : ∀ t : Fin cfg0.N, win0_16.index t = ![0, 0] ∧ win0_17.index t = ![0, 0] ∧ win0_29.index t = ![0, 0] :=
  (by decide +kernel : ∀ t : Fin grid0.N, _)
theorem idx_rows : ∀ t : Fin cfg0.N, win0_5.index t = ![0, 0] ∧ win0_7.index t = ![0, 0] ∧ win0_9.index t = ![0, 0] ∧ win0_11.index t = ![0, 0] ∧ win0_13.index t = ![0, 0] ∧ win0_15.index t = ![0, 0] ∧ win0_18.index t = ![0, 0] :=
  (by decide +kernel : ∀ t : Fin grid0.N, _)
theorem idx_norm_rows : ∀ t : Fin cfg0.N, win0_19.index t = ![0, 0] ∧ win0_20.index t = ![0, 0] ∧ win0_22.index t = ![0, 0] ∧ win0_23.index t = ![0, 0] ∧ win0_24.index t = ![0, 0] ∧ win0_26.index t = ![0, 0] ∧ win0_27.index t = ![0, 0] ∧ win0_28.index t = ![0, 0] :=
  (by decide +kernel : ∀ t : Fin grid0.N, _)

section Whole

variable (t : Fin cfg0.N)

/-! The windows that show a whole array: a read of any array, then what the call reads. -/

set_option maxHeartbeats 1600000 in
theorem read_first : (∀ A : S128x72.Idx → EReal, (((cfg0.win 4).blk t).view.read (Elt Ideal) A : S128x72.Idx → EReal) = A)
    ∧ (∀ A : S128x392.Idx → EReal, (((cfg0.win 6).blk t).view.read (Elt Ideal) A : S128x392.Idx → EReal) = A)
    ∧ (∀ A : S64x72.Idx → EReal, (((cfg0.win 8).blk t).view.read (Elt Ideal) A : S64x72.Idx → EReal) = A) := by
  refine ⟨fun A => ?_, fun A => ?_, fun A => ?_⟩ <;> blk_ext! [idx_first t]

theorem blk_first : (iblk m c 4 t : S128x72.Idx → EReal) = V m c main_v7
    ∧ (iblk m c 6 t : S128x392.Idx → EReal) = V m c main_v10
    ∧ (iblk m c 8 t : S64x72.Idx → EReal) = V m c main_v13 := by
  obtain ⟨h0, h1, h2⟩ := read_first t
  exact ⟨h0 _, h1 _, h2 _⟩

set_option maxHeartbeats 1600000 in
theorem read_dense : (∀ A : S1152x64.Idx → EReal, (((cfg0.win 10).blk t).view.read (Elt Ideal) A : S1152x64.Idx → EReal) = A)
    ∧ (∀ A : S1152x64.Idx → EReal, (((cfg0.win 12).blk t).view.read (Elt Ideal) A : S1152x64.Idx → EReal) = A)
    ∧ (∀ A : S576x32.Idx → EReal, (((cfg0.win 14).blk t).view.read (Elt Ideal) A : S576x32.Idx → EReal) = A)
    ∧ (∀ A : S1152x128.Idx → EReal, (((cfg0.win 21).blk t).view.read (Elt Ideal) A : S1152x128.Idx → EReal) = A)
    ∧ (∀ A : S1152x128.Idx → EReal, (((cfg0.win 25).blk t).view.read (Elt Ideal) A : S1152x128.Idx → EReal) = A) := by
  refine ⟨fun A => ?_, fun A => ?_, fun A => ?_, fun A => ?_, fun A => ?_⟩ <;> blk_ext! [idx_dense t]

theorem blk_dense : (iblk m c 10 t : S1152x64.Idx → EReal) = V m c main_v15
    ∧ (iblk m c 12 t : S1152x64.Idx → EReal) = V m c main_v17
    ∧ (iblk m c 14 t : S576x32.Idx → EReal) = V m c main_v19
    ∧ (iblk m c 21 t : S1152x128.Idx → EReal) = V m c main_v29
    ∧ (iblk m c 25 t : S1152x128.Idx → EReal) = V m c main_v31 := by
  obtain ⟨h0, h1, h2, h3, h4⟩ := read_dense t
  exact ⟨h0 _, h1 _, h2 _, h3 _, h4 _⟩

set_option maxHeartbeats 1600000 in
theorem read_joined : (∀ A : S2304x128.Idx → EReal, (((cfg0.win 16).blk t).view.read (Elt Ideal) A : S2304x128.Idx → EReal) = A)
    ∧ (∀ A : S288x128.Idx → EReal, (((cfg0.win 17).blk t).view.read (Elt Ideal) A : S288x128.Idx → EReal) = A)
    ∧ (∀ A : S128x128.Idx → EReal, (((cfg0.win 29).blk t).view.read (Elt Ideal) A : S128x128.Idx → EReal) = A) := by
  refine ⟨fun A => ?_, fun A => ?_, fun A => ?_⟩ <;> blk_ext! [idx_joined t]

theorem blk_joined : (iblk m c 16 t : S2304x128.Idx → EReal) = V m c main_v25
    ∧ (iblk m c 17 t : S288x128.Idx → EReal) = V m c main_v27
    ∧ (iblk m c 29 t : S128x128.Idx → EReal) = V m c main_v40 := by
  obtain ⟨h0, h1, h2⟩ := read_joined t
  exact ⟨h0 _, h1 _, h2 _⟩

set_option maxHeartbeats 1600000 in
theorem read_rows : (∀ A : S1x128.Idx → EReal, (((cfg0.win 5).blk t).view.read (Elt Ideal) A : S1x128.Idx → EReal) = A)
    ∧ (∀ A : S1x128.Idx → EReal, (((cfg0.win 7).blk t).view.read (Elt Ideal) A : S1x128.Idx → EReal) = A)
    ∧ (∀ A : S1x64.Idx → EReal, (((cfg0.win 9).blk t).view.read (Elt Ideal) A : S1x64.Idx → EReal) = A)
    ∧ (∀ A : S1x64.Idx → EReal, (((cfg0.win 11).blk t).view.read (Elt Ideal) A : S1x64.Idx → EReal) = A)
    ∧ (∀ A : S1x64.Idx → EReal, (((cfg0.win 13).blk t).view.read (Elt Ideal) A : S1x64.Idx → EReal) = A)
    ∧ (∀ A : S1x32.Idx → EReal, (((cfg0.win 15).blk t).view.read (Elt Ideal) A : S1x32.Idx → EReal) = A)
    ∧ (∀ A : S1x128.Idx → EReal, (((cfg0.win 18).blk t).view.read (Elt Ideal) A : S1x128.Idx → EReal) = A) := by
  refine ⟨fun A => ?_, fun A => ?_, fun A => ?_, fun A => ?_, fun A => ?_, fun A => ?_, fun A => ?_⟩ <;> blk_ext! [idx_rows t]

theorem blk_rows : (iblk m c 5 t : S1x128.Idx → EReal) = V m c main_v41
    ∧ (iblk m c 7 t : S1x128.Idx → EReal) = V m c main_v42
    ∧ (iblk m c 9 t : S1x64.Idx → EReal) = V m c main_v43
    ∧ (iblk m c 11 t : S1x64.Idx → EReal) = V m c main_v44
    ∧ (iblk m c 13 t : S1x64.Idx → EReal) = V m c main_v45
    ∧ (iblk m c 15 t : S1x32.Idx → EReal) = V m c main_v46
    ∧ (iblk m c 18 t : S1x128.Idx → EReal) = V m c main_v47 := by
  obtain ⟨h0, h1, h2, h3, h4, h5, h6⟩ := read_rows t
  exact ⟨h0 _, h1 _, h2 _, h3 _, h4 _, h5 _, h6 _⟩

set_option maxHeartbeats 1600000 in
theorem read_norm_rows : (∀ A : S1x128.Idx → EReal, (((cfg0.win 19).blk t).view.read (Elt Ideal) A : S1x128.Idx → EReal) = A)
    ∧ (∀ A : S1x128.Idx → EReal, (((cfg0.win 20).blk t).view.read (Elt Ideal) A : S1x128.Idx → EReal) = A)
    ∧ (∀ A : S1x128.Idx → EReal, (((cfg0.win 22).blk t).view.read (Elt Ideal) A : S1x128.Idx → EReal) = A)
    ∧ (∀ A : S1x128.Idx → EReal, (((cfg0.win 23).blk t).view.read (Elt Ideal) A : S1x128.Idx → EReal) = A)
    ∧ (∀ A : S1x128.Idx → EReal, (((cfg0.win 24).blk t).view.read (Elt Ideal) A : S1x128.Idx → EReal) = A)
    ∧ (∀ A : S1x128.Idx → EReal, (((cfg0.win 26).blk t).view.read (Elt Ideal) A : S1x128.Idx → EReal) = A)
    ∧ (∀ A : S1x128.Idx → EReal, (((cfg0.win 27).blk t).view.read (Elt Ideal) A : S1x128.Idx → EReal) = A)
    ∧ (∀ A : S1x128.Idx → EReal, (((cfg0.win 28).blk t).view.read (Elt Ideal) A : S1x128.Idx → EReal) = A) := by
  refine ⟨fun A => ?_, fun A => ?_, fun A => ?_, fun A => ?_, fun A => ?_, fun A => ?_, fun A => ?_, fun A => ?_⟩ <;> blk_ext! [idx_norm_rows t]

theorem blk_norm_rows : (iblk m c 19 t : S1x128.Idx → EReal) = V m c main_v48
    ∧ (iblk m c 20 t : S1x128.Idx → EReal) = V m c main_v49
    ∧ (iblk m c 22 t : S1x128.Idx → EReal) = V m c main_v50
    ∧ (iblk m c 23 t : S1x128.Idx → EReal) = V m c main_v51
    ∧ (iblk m c 24 t : S1x128.Idx → EReal) = V m c main_v52
    ∧ (iblk m c 26 t : S1x128.Idx → EReal) = V m c main_v53
    ∧ (iblk m c 27 t : S1x128.Idx → EReal) = V m c main_v54
    ∧ (iblk m c 28 t : S1x128.Idx → EReal) = V m c main_v55 := by
  obtain ⟨h0, h1, h2, h3, h4, h5, h6, h7⟩ := read_norm_rows t
  exact ⟨h0 _, h1 _, h2 _, h3 _, h4 _, h5 _, h6 _, h7 _⟩

/-! Four of the images. -/

set_option maxHeartbeats 1600000 in
theorem read_images (b : Fin 4) (n : Fin 64) (hn : n.val = t.val * 4 + b.val) :
    (∀ (A : S64x128x1024.Idx → EReal) (k : Fin 128) (l : Fin 1024), (((cfg0.win 0).blk t).view.read (Elt Ideal) A : S4x128x1024.Idx → EReal) (ix3 b k l) = A (ix3 n k l))
    ∧ (∀ (A : S64x8x4096.Idx → EReal) (k : Fin 8) (l : Fin 4096), (((cfg0.win 1).blk t).view.read (Elt Ideal) A : S4x8x4096.Idx → EReal) (ix3 b k l) = A (ix3 n k l))
    ∧ (∀ (A : S64x8x1024.Idx → EReal) (k : Fin 8) (l : Fin 1024), (((cfg0.win 2).blk t).view.read (Elt Ideal) A : S4x8x1024.Idx → EReal) (ix3 b k l) = A (ix3 n k l))
    ∧ (∀ (A : S64x8x1024.Idx → EReal) (k : Fin 8) (l : Fin 1024), (((cfg0.win 3).blk t).view.read (Elt Ideal) A : S4x8x1024.Idx → EReal) (ix3 b k l) = A (ix3 n k l)) := by
  refine ⟨fun A k l => ?_, fun A k l => ?_, fun A k l => ?_, fun A k l => ?_⟩ <;> blk_ext [idx t]

theorem blk_images (b : Fin 4) (n : Fin 64) (hn : n.val = t.val * 4 + b.val) :
    (∀ (k : Fin 128) (l : Fin 1024), (iblk m c 0 t : S4x128x1024.Idx → EReal) (ix3 b k l) = (V m c main_v0 : S64x128x1024.Idx → EReal) (ix3 n k l))
    ∧ (∀ (k : Fin 8) (l : Fin 4096), (iblk m c 1 t : S4x8x4096.Idx → EReal) (ix3 b k l) = (V m c main_v1 : S64x8x4096.Idx → EReal) (ix3 n k l))
    ∧ (∀ (k : Fin 8) (l : Fin 1024), (iblk m c 2 t : S4x8x1024.Idx → EReal) (ix3 b k l) = (V m c main_v3 : S64x8x1024.Idx → EReal) (ix3 n k l))
    ∧ (∀ (k : Fin 8) (l : Fin 1024), (iblk m c 3 t : S4x8x1024.Idx → EReal) (ix3 b k l) = (V m c main_v5 : S64x8x1024.Idx → EReal) (ix3 n k l)) := by
  obtain ⟨h0, h1, h2, h3⟩ := read_images t b n hn
  exact ⟨h0 _, h1 _, h2 _, h3 _⟩

end Whole

/-- A row, by channel. -/
theorem row_cast {O : ℕ} (β : (⟨1, ![O]⟩ : Shape).Idx → EReal) (h : (⟨1, ![O]⟩ : Shape).ShapeCasts ⟨2, ![1, O]⟩) :
    rowOf (shapeCast ⟨2, ![1, O]⟩ β h) = fun o => β (ix1 o) := by
  funext o
  refine shapeCast_apply _ _ _ _ ?_
  rw [Shape.rowMajor_val_two]
  rw [Shape.rowMajor_val_one]
  show o.val = (0 : ℕ) * O + o.val
  omega

end Cert.Proof.KernelSide

end
-- ==== Proof.Conv.Real.lean ====
/- Finite images: convolutions and normalised batches of finite images are finite, and on them the two texts of the variance agree. -/
module

public import proofs.«01_k».proof.Proof.Conv.Norm
public import proofs.«01_k».proof.Proof.Conv.RefConv

@[expose] public section

set_option maxRecDepth 16384

noncomputable section

namespace Net

open Idealize.ShloMosaic

/-- A finite value. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy
  exact ⟨a + b, (EReal.coe_add a b).symm⟩
theorem Fin'.mul {x y : EReal} (hx : Fin' x) (hy : Fin' y) : Fin' (x * y) := by
  obtain ⟨a, rfl⟩ := hx; obtain ⟨b, rfl⟩ := hy
  exact ⟨a * b, (EReal.coe_mul a b).symm⟩
theorem Fin'.sub {x y : EReal} (hx : Fin' x) (hy : Fin' y) : Fin' (x - y) := by
  obtain ⟨a, rfl⟩ := hx; obtain ⟨b, rfl⟩ := hy
  exact ⟨a - b, (EReal.coe_sub a b).symm⟩
theorem Fin'.zero : Fin' 0 := ⟨0, EReal.coe_zero.symm⟩
theorem Fin'.pos {x : EReal} (hx : Fin' x) : Fin' (max x 0) := by
  rcases le_total x 0 with h | h
  · rw [max_eq_right h]; exact Fin'.zero
  · rw [max_eq_left h]; exact hx
theorem Fin'.sum {ι : Type} (s : Finset ι) {f : ι → EReal} (h : ∀ i ∈ s, Fin' (f i)) : Fin' (∑ i ∈ s, f i) := by
  classical
  induction s using Finset.induction_on with
  | empty => rw [Finset.sum_empty]; exact Fin'.zero
  | insert a s ha ih =>
    rw [Finset.sum_insert ha]
    exact (h a (Finset.mem_insert_self a s)).add (ih fun i hi => h i (Finset.mem_insert_of_mem hi))

/-- A finite image. -/
def Finite' {C : ℕ} (X : Img C) : Prop := ∀ c u v, Fin' (X c u v)

theorem Finite'.onSquare {C H : ℕ} {f : Img C} (h : Finite' f) : Finite' (onSquare H f) := fun c u v => by
  unfold Net.onSquare
  split
  · exact h c u v
  · exact Fin'.zero

theorem Finite'.relu {C : ℕ} {f : Img C} (h : Finite' f) : Finite' (relu f) := fun c u v => (h c u v).pos

theorem Finite'.taps {C O : ℕ} {X : Img C} {W : Fin O → Fin C → ℕ → EReal} (h : Finite' X) (hW : ∀ o c t, Fin' (W o c t))
    (n k s p : ℕ) (o : Fin O) (u v : ℤ) : Fin' (taps n k s p X W o u v) := by
  unfold Net.taps tap
  exact Fin'.sum _ fun t _ => Fin'.sum _ fun c _ => (h _ _ _).mul (hW _ _ _)

theorem Finite'.conv {C O : ℕ} {X : Img C} {W : Fin O → Fin C → ℕ → EReal} {β : Fin O → EReal} (h : Finite' X)
    (hW : ∀ o c t, Fin' (W o c t)) (hβ : ∀ o, Fin' (β o)) (H k s p : ℕ) : Finite' (conv H k s p X W β) :=
  Finite'.onSquare fun o u v => (h.taps hW _ _ _ _ o u v).add (hβ o)

theorem Finite'.midImg {B H C : ℕ} {A : (⟨4, ![B, C, H, H]⟩ : Shape).Idx → EReal} (h : ∀ i, Fin' (A i)) (n : Fin B) :
    Finite' (midImg A n) := fun c u v => by
  unfold Net.midImg
  split
  · exact h _
  · exact Fin'.zero

theorem div_real (a N : ℝ) (hN : N ≠ 0) : Ideal.div (a : EReal) (N : EReal) = ((a / N : ℝ) : EReal) := by
  unfold Ideal.div
  rw [if_neg (fun h => hN (by exact_mod_cast h)), ← EReal.coe_inv, ← EReal.coe_mul, div_eq_mul_inv]

/-- The mean of the squares about the mean is the mean of the squares less the square of the mean. -/
theorem spread_real {ι : Type} [Fintype ι] (x : ι → ℝ) (N : ℝ) (hN : N ≠ 0) (hc : (Fintype.card ι : ℝ) = N) :
    (∑ i, (x i - (∑ j, x j) / N) * (x i - (∑ j, x j) / N)) / N = (∑ i, x i * x i) / N - (∑ j, x j) / N * ((∑ j, x j) / N) := by
  set μ := (∑ j, x j) / N with hμ
  have h1 : ∑ i, (x i - μ) * (x i - μ) = (∑ i, x i * x i) - 2 * μ * (∑ i, x i) + N * (μ * μ) := by
    have : ∀ i, (x i - μ) * (x i - μ) = x i * x i - 2 * μ * x i + μ * μ := fun i => by ring
    rw [Finset.sum_congr rfl fun i _ => this i, Finset.sum_add_distrib, Finset.sum_sub_distrib, ← Finset.mul_sum, Finset.sum_const,
      Finset.card_univ, nsmul_eq_mul, hc]
  have h2 : ∑ i, x i = N * μ := by rw [hμ]; field_simp
  rw [h1, h2]
  field_simp
  ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Norm

variable {M : ℕ} {X : Img 128} (hX : Finite' X) (N : ℝ) (hN : 0 < N) (hc : (4 * M * M : ℝ) = N)

include hX in
/-- The group's values as one family of reals. -/
theorem group_real (c : Fin 128) : ∃ f : Fin 4 × Fin M × Fin M → ℝ, ∀ a y z, X (mate c a) ((y : Fin M) : ℕ) ((z : Fin M) : ℕ) = (f (a, y, z) : EReal) := by
  choose f hf using hX
  exact ⟨fun p => f (mate c p.1) (p.2.1 : ℕ) (p.2.2 : ℕ), fun a y z => hf _ _ _⟩

theorem triple_sum (g : Fin 4 × Fin M × Fin M → ℝ) :
    ∑ a : Fin 4, ∑ y : Fin M, ∑ z : Fin M, ((g (a, y, z) : ℝ) : EReal) = ((∑ p, g p : ℝ) : EReal) := by
  rw [Fintype.sum_prod_type, coe_sum]
  refine Finset.sum_congr rfl fun a _ => ?_
  rw [Fintype.sum_prod_type, coe_sum]
  exact Finset.sum_congr rfl fun y _ => (coe_sum _ _).symm

include hX hN hc in
theorem group_facts (c : Fin 128) : ∃ μ v : ℝ, 0 ≤ v ∧ mean (N : EReal) M X c = (μ : EReal) ∧ var (N : EReal) M X c = (v : EReal)
    ∧ spreadOf (N : EReal) M X c = (v : EReal) := by
  obtain ⟨f, hf⟩ := group_real (M := M) hX c
  have h1 : mean (N : EReal) M X c = (((∑ p, f p) / N : ℝ) : EReal) := by
    unfold mean
    simp only [hf]
    rw [triple_sum, div_real _ _ hN.ne']
  have h2 : var (N : EReal) M X c = (((∑ p, (f p - (∑ q, f q) / N) * (f p - (∑ q, f q) / N)) / N : ℝ) : EReal) := by
    unfold var
    rw [h1]
    simp only [hf, ← EReal.coe_sub, ← EReal.coe_mul]
    rw [triple_sum (fun p => (f p - (∑ q, f q) / N) * (f p - (∑ q, f q) / N)), div_real _ _ hN.ne']
  have h3 : spreadOf (N : EReal) M X c = (((∑ p, f p * f p) / N - (∑ q, f q) / N * ((∑ q, f q) / N) : ℝ) : EReal) := by
    unfold spreadOf
    rw [h1]
    simp only [hf, ← EReal.coe_mul]
    rw [triple_sum (fun p => f p * f p), div_real _ _ hN.ne', ← EReal.coe_sub]
  refine ⟨_, _, ?_, h1, h2, h3.trans ?_⟩
  · exact div_nonneg (Finset.sum_nonneg fun p _ => mul_self_nonneg _) hN.le
  · rw [spread_real f N hN.ne' (by
      rw [Fintype.card_prod, Fintype.card_prod, Fintype.card_fin, Fintype.card_fin, ← hc]
      push_cast; ring)]

include hX hN hc in
theorem spread_eq (c : Fin 128) : spreadOf (N : EReal) M X c = var (N : EReal) M X c := by
  obtain ⟨μ, v, _, _, h2, h3⟩ := group_facts hX N hN hc c
  rw [h2, h3]

include hX hN hc in
theorem normed_eq (γ β : Fin 128 → EReal) : onSquare M (normed (N : EReal) M X γ β) = relu (gn (N : EReal) M X γ β) := by
  unfold gn
  rw [relu_onSquare]
  unfold normed
  simp only [spread_eq hX N hN hc]

include hX hN hc in
theorem gn_finite {γ β : Fin 128 → EReal} (hγ : ∀ c, Fin' (γ c)) (hβ : ∀ c, Fin' (β c)) : Finite' (gn (N : EReal) M X γ β) := by
  refine Finite'.onSquare fun c u v => ?_
  obtain ⟨μ, w, hw, h1, h2, _⟩ := group_facts hX N hN hc c
  obtain ⟨e, he, hep⟩ := eps_pos
  rw [h1, h2, hep, ← EReal.coe_add]
  refine ((((hX c u v).sub ⟨μ, rfl⟩).mul ?_).mul (hγ c)).add (hβ c)
  rw [Ideal.rsqrt_coe, if_neg (by linarith), if_neg (by linarith)]
  exact ⟨_, rfl⟩

end Norm

end Net

end
-- ==== Proof.Conv.RefStages.lean ====
/- The reference's stages up to its first normalisation. -/
module

public import proofs.«01_k».proof.Proof.Conv.RefConv
public import proofs.«01_k».proof.Proof.Conv.RefNorm
public import proofs.«01_k».proof.Proof.Gen.ReferenceIdeal.Run

@[expose] public section

set_option maxRecDepth 16384

noncomputable section

namespace Cert.Proof.RefSide

open Net Idealize.ShloMosaic Idealize.ShloMosaic.TcCoe Idealize.SL.Sem Cert.ReferenceIdeal Cert.ReferenceIdeal.Gen Cert.ReferenceIdeal.Value

variable (V0 : Valuation τ sig (Elt Ideal))

/-- The arguments as arrays. -/
abbrev hidden : S64x128x32x32.Idx → EReal := V0 (Proc.devRef .tc main_arg0)
abbrev flow : S64x2x32x32.Idx → EReal := V0 (Proc.devRef .tc main_arg1)
abbrev mask : S64x1x32x32.Idx → EReal := V0 (Proc.devRef .tc main_arg2)
abbrev geo : S64x8x64x64.Idx → EReal := V0 (Proc.devRef .tc main_arg3)

/-- The images of the geometry's first convolution. -/
def geo1 (n : Fin 64) : Img 128 :=
  relu (conv 64 3 1 1 (midImg (geo V0) n) (wt (V0 (Proc.devRef .tc main_arg4) : S128x8x3x3.Idx → EReal))
    fun o => (V0 (Proc.devRef .tc main_arg5) : S128.Idx → EReal) (ix1 o))
def geo2 (n : Fin 64) : Img 64 :=
  relu (conv 32 3 2 1 (geo1 V0 n) (wt (V0 (Proc.devRef .tc main_arg6) : S64x128x3x3.Idx → EReal))
    fun o => (V0 (Proc.devRef .tc main_arg7) : S64.Idx → EReal) (ix1 o))
def flow1 (n : Fin 64) : Img 128 :=
  relu (conv 32 7 1 3 (midImg (flow V0) n) (wt (V0 (Proc.devRef .tc main_arg8) : S128x2x7x7.Idx → EReal))
    fun o => (V0 (Proc.devRef .tc main_arg9) : S128.Idx → EReal) (ix1 o))
def flow2 (n : Fin 64) : Img 64 :=
  relu (conv 32 3 1 1 (flow1 V0 n) (wt (V0 (Proc.devRef .tc main_arg10) : S64x128x3x3.Idx → EReal))
    fun o => (V0 (Proc.devRef .tc main_arg11) : S64.Idx → EReal) (ix1 o))
def mask1 (n : Fin 64) : Img 64 :=
  relu (conv 32 3 1 1 (midImg (mask V0) n) (wt (V0 (Proc.devRef .tc main_arg12) : S64x1x3x3.Idx → EReal))
    fun o => (V0 (Proc.devRef .tc main_arg13) : S64.Idx → EReal) (ix1 o))
def mask2 (n : Fin 64) : Img 32 :=
  relu (conv 32 3 1 1 (mask1 V0 n) (wt (V0 (Proc.devRef .tc main_arg14) : S32x64x3x3.Idx → EReal))
    fun o => (V0 (Proc.devRef .tc main_arg15) : S32.Idx → EReal) (ix1 o))

theorem zero_pad : (sitofp (F := Ideal) .f32 (constantI S_ 32 0#32) : S_.Idx → EReal) (Shape.Idx.first h_S_) = 0 := by
  exact zero_word

theorem v0_holds : Holds 1 (fun n => midImg (geo V0) n) (res_main_v0 V0) := fun n c u v =>
  pad_read (geo V0) _ _ h_S_ zero_pad n c u v
theorem v7_holds : HoldsRows 1 1 (fun n => midImg (geo V0) n) (res_main_v7 V0) :=
  rows_three (row_one (v0_holds V0) _ _) (row_one (v0_holds V0) _ _) (row_one (v0_holds V0) _ _) _
theorem v22_holds : Holds 1 (geo1 V0) (res_main_v22 V0) := fun n c u v =>
  (pad_read _ _ _ h_S_ zero_pad n c u v).trans (congrFun (congrFun (congrFun
    (relu_conv_images (s := 1) _ (cols_three (col_one (v7_holds V0) _ _) (col_one (v7_holds V0) _ _) (col_one (v7_holds V0) _ _) _) _ _ _ _ _ n) c) _) _)
theorem v29_holds : HoldsRows 2 1 (geo1 V0) (res_main_v29 V0) :=
  rows_three (row_two (v22_holds V0) _ _) (row_two (v22_holds V0) _ _) (row_two (v22_holds V0) _ _) _

theorem v44_holds : Holds 3 (fun n => midImg (flow V0) n) (res_main_v44 V0) := fun n c u v =>
  pad_read (flow V0) _ _ h_S_ zero_pad n c u v
theorem v59_holds : HoldsRows 1 3 (fun n => midImg (flow V0) n) (res_main_v59 V0) :=
  rows_seven (row_one (v44_holds V0) _ _) (row_one (v44_holds V0) _ _) (row_one (v44_holds V0) _ _) (row_one (v44_holds V0) _ _)
    (row_one (v44_holds V0) _ _) (row_one (v44_holds V0) _ _) (row_one (v44_holds V0) _ _) _
theorem v82_holds : Holds 1 (flow1 V0) (res_main_v82 V0) := fun n c u v =>
  (pad_read _ _ _ h_S_ zero_pad n c u v).trans (congrFun (congrFun (congrFun
    (relu_conv_images (s := 1) _ (cols_seven (col_one (v59_holds V0) _ _) (col_one (v59_holds V0) _ _) (col_one (v59_holds V0) _ _)
      (col_one (v59_holds V0) _ _) (col_one (v59_holds V0) _ _) (col_one (v59_holds V0) _ _) (col_one (v59_holds V0) _ _) _) _ _ _ _ _ n) c) _) _)
theorem v89_holds : HoldsRows 1 1 (flow1 V0) (res_main_v89 V0) :=
  rows_three (row_one (v82_holds V0) _ _) (row_one (v82_holds V0) _ _) (row_one (v82_holds V0) _ _) _

theorem v104_holds : Holds 1 (fun n => midImg (mask V0) n) (res_main_v104 V0) := fun n c u v =>
  pad_read (mask V0) _ _ h_S_ zero_pad n c u v
theorem v111_holds : HoldsRows 1 1 (fun n => midImg (mask V0) n) (res_main_v111 V0) :=
  rows_three (row_one (v104_holds V0) _ _) (row_one (v104_holds V0) _ _) (row_one (v104_holds V0) _ _) _
theorem v126_holds : Holds 1 (mask1 V0) (res_main_v126 V0) := fun n c u v =>
  (pad_read _ _ _ h_S_ zero_pad n c u v).trans (congrFun (congrFun (congrFun
    (relu_conv_images (s := 1) _ (cols_three (col_one (v111_holds V0) _ _) (col_one (v111_holds V0) _ _) (col_one (v111_holds V0) _ _) _) _ _ _ _ _ n) c) _) _)
theorem v133_holds : HoldsRows 1 1 (mask1 V0) (res_main_v133 V0) :=
  rows_three (row_one (v126_holds V0) _ _) (row_one (v126_holds V0) _ _) (row_one (v126_holds V0) _ _) _

/-- The 288 channels. -/
def feat (n : Fin 64) : Img 288 := join4 (midImg (hidden V0) n) (flow2 V0 n) (mask2 V0 n) (geo2 V0 n)

theorem v148_images (n : Fin 64) : midImg (res_main_v148 V0) n = feat V0 n := by
  unfold feat res_main_v148
  refine (join4_images _ n).trans ?_
  congr 1
  · exact relu_conv_images (s := 1) _ (cols_three (col_one (v89_holds V0) _ _) (col_one (v89_holds V0) _ _) (col_one (v89_holds V0) _ _) _) _ _ _ _ _ n
  · exact relu_conv_images (s := 1) _ (cols_three (col_one (v133_holds V0) _ _) (col_one (v133_holds V0) _ _) (col_one (v133_holds V0) _ _) _) _ _ _ _ _ n
  · exact relu_conv_images (s := 2) _ (cols_three (col_two (v29_holds V0) _ _) (col_two (v29_holds V0) _ _) (col_two (v29_holds V0) _ _) _) _ _ _ _ _ n

theorem v149_holds : Holds 1 (feat V0) (res_main_v149 V0) := fun n c u v =>
  (pad_read _ _ _ h_S_ zero_pad n c u v).trans (congrFun (congrFun (congrFun (v148_images V0 n) c) _) _)
theorem v156_holds : HoldsRows 2 1 (feat V0) (res_main_v156 V0) :=
  rows_three (row_two (v149_holds V0) _ _) (row_two (v149_holds V0) _ _) (row_two (v149_holds V0) _ _) _

/-- The three normalised stages: what each convolution gives, and what its normalisation makes of it. -/
def pre1 (n : Fin 64) : Img 128 :=
  conv 16 3 2 1 (feat V0 n) (wt (V0 (Proc.devRef .tc main_arg16) : S128x288x3x3.Idx → EReal))
    fun o => (V0 (Proc.devRef .tc main_arg17) : S128.Idx → EReal) (ix1 o)
def out1 (n : Fin 64) : Img 128 :=
  relu (gn (Ideal.ofBits .f32 0x44800000#32) 16 (pre1 V0 n) (fun c => (V0 (Proc.devRef .tc main_arg18) : S128.Idx → EReal) (ix1 c))
    fun c => (V0 (Proc.devRef .tc main_arg19) : S128.Idx → EReal) (ix1 c))
def pre2 (n : Fin 64) : Img 128 :=
  conv 8 3 2 1 (out1 V0 n) (wt (V0 (Proc.devRef .tc main_arg20) : S128x128x3x3.Idx → EReal))
    fun o => (V0 (Proc.devRef .tc main_arg21) : S128.Idx → EReal) (ix1 o)
def out2 (n : Fin 64) : Img 128 :=
  relu (gn (Ideal.ofBits .f32 0x43800000#32) 8 (pre2 V0 n) (fun c => (V0 (Proc.devRef .tc main_arg22) : S128.Idx → EReal) (ix1 c))
    fun c => (V0 (Proc.devRef .tc main_arg23) : S128.Idx → EReal) (ix1 c))
def pre3 (n : Fin 64) : Img 128 :=
  conv 4 3 2 1 (out2 V0 n) (wt (V0 (Proc.devRef .tc main_arg24) : S128x128x3x3.Idx → EReal))
    fun o => (V0 (Proc.devRef .tc main_arg25) : S128.Idx → EReal) (ix1 o)

theorem pos_1024 : 0 < Ideal.ofBits .f32 0x44800000#32 := by rw [count_1024]; exact_mod_cast (by norm_num : (0 : ℝ) < 1024)
theorem pos_256 : 0 < Ideal.ofBits .f32 0x43800000#32 := by rw [count_256]; exact_mod_cast (by norm_num : (0 : ℝ) < 256)
theorem pos_64 : 0 < Ideal.ofBits .f32 0x42800000#32 := by rw [count_64]; exact_mod_cast (by norm_num : (0 : ℝ) < 64)

theorem v169_groups : HoldsGroups (M := 16) (pre1 V0) (res_main_v169 V0) :=
  groups_of (fun n c y z => conv_read_in (s := 2) _ (cols_three (col_two (v156_holds V0) _ _) (col_two (v156_holds V0) _ _) (col_two (v156_holds V0) _ _) _)
    _ _ _ _ n c y z) _
theorem v191_holds : Holds 1 (out1 V0) (res_main_v191 V0) := fun n c u v =>
  (pad_read _ _ _ h_S_ zero_pad n c u v).trans (congrFun (congrFun (congrFun
    (gn_images (v169_groups V0) _ _ _ _ h_S_ _ pos_1024 _ _ _ _ _ _ n) c) _) _)
theorem v198_holds : HoldsRows 2 1 (out1 V0) (res_main_v198 V0) :=
  rows_three (row_two (v191_holds V0) _ _) (row_two (v191_holds V0) _ _) (row_two (v191_holds V0) _ _) _

theorem v211_groups : HoldsGroups (M := 8) (pre2 V0) (res_main_v211 V0) :=
  groups_of (fun n c y z => conv_read_in (s := 2) _ (cols_three (col_two (v198_holds V0) _ _) (col_two (v198_holds V0) _ _) (col_two (v198_holds V0) _ _) _)
    _ _ _ _ n c y z) _
theorem v233_holds : Holds 1 (out2 V0) (res_main_v233 V0) := fun n c u v =>
  (pad_read _ _ _ h_S_ zero_pad n c u v).trans (congrFun (congrFun (congrFun
    (gn_images (v211_groups V0) _ _ _ _ h_S_ _ pos_256 _ _ _ _ _ _ n) c) _) _)
theorem v240_holds : HoldsRows 2 1 (out2 V0) (res_main_v240 V0) :=
  rows_three (row_two (v233_holds V0) _ _) (row_two (v233_holds V0) _ _) (row_two (v233_holds V0) _ _) _

theorem v253_groups : HoldsGroups (M := 4) (pre3 V0) (res_main_v253 V0) :=
  groups_of (fun n c y z => conv_read_in (s := 2) _ (cols_three (col_two (v240_holds V0) _ _) (col_two (v240_holds V0) _ _) (col_two (v240_holds V0) _ _) _)
    _ _ _ _ n c y z) _

/-- A batch with its rows and columns joined, read at an index. -/
theorem joined_read (A : S64x128x4x4.Idx → EReal) (n : Fin 64) (c : Fin 128) (l : Fin 16) :
    shapeCast S64x128x16 A shapeCasts_S64x128x4x4_S64x128x16 (ix3 n c l) = A (ix4 n c ⟨l.val / 4, by omega⟩ ⟨l.val % 4, by omega⟩) :=
  shapeCast_apply _ _ _ _ (by
    rw [Shape.rowMajor_val_four, Shape.rowMajor_val_three]
    show ((n.val * 128 + c.val) * 4 + l.val / 4) * 4 + l.val % 4 = (n.val * 128 + c.val) * 16 + l.val
    omega)

/-- The reference's result at an index. -/
def result (n : Fin 64) (c : Fin 128) (l : Fin 16) : EReal :=
  max ((pre3 V0 n c ((l.val / 4 : ℕ) : ℤ) ((l.val % 4 : ℕ) : ℤ) - mean (Ideal.ofBits .f32 0x42800000#32) 4 (pre3 V0 n) c)
    * Ideal.rsqrt (var (Ideal.ofBits .f32 0x42800000#32) 4 (pre3 V0 n) c + eps)
    * (V0 (Proc.devRef .tc main_arg26) : S128.Idx → EReal) (ix1 c) + (V0 (Proc.devRef .tc main_arg27) : S128.Idx → EReal) (ix1 c)) 0

end Cert.Proof.RefSide

end
-- ==== Proof.Conv.Agree.lean ====
/- One image through the kernel's stages and through the reference's: the same, when the inputs are real numbers. -/
module

public import proofs.«01_k».proof.Proof.Conv.Whole
public import proofs.«01_k».proof.Proof.Conv.Real
public import proofs.«01_k».proof.Proof.Conv.RefStages

@[expose] public section

set_option maxRecDepth 16384

noncomputable section

namespace Cert.Proof

open Net Idealize.ShloMosaic Idealize.ShloMosaic.TcCoe Idealize.SL.Sem
open Cert.ReferenceIdeal
open Cert.Proof.RefSide

theorem conv_same {C C' O : ℕ} (H k s p : ℕ) {X : Img C} {X' : Img C'} {W : Fin O → Fin C → ℕ → EReal} {W' : Fin O → Fin C' → ℕ → EReal}
    {β β' : Fin O → EReal} (h : ∀ o u v, taps (k * k) k s p X' W' o u v = taps (k * k) k s p X W o u v) (hβ : β' = β) :
    conv H k s p X' W' β' = conv H k s p X W β := by
  subst hβ
  unfold conv
  exact congrArg (onSquare H) (funext fun o => funext fun u => funext fun v => congrArg (· + β' o) (h o u v))

/-- Weights equal on the first `n` taps. -/
def Alike {C O : ℕ} (n : ℕ) (W W' : Fin O → Fin C → ℕ → EReal) : Prop := ∀ o c t, t < n → W o c t = W' o c t

/-- Weights with more channels, those added of weight zero. -/
def Wider {C C' O : ℕ} (n : ℕ) (hC : C ≤ C') (W' : Fin O → Fin C' → ℕ → EReal) (W : Fin O → Fin C → ℕ → EReal) : Prop :=
  (∀ o (c : Fin C) t, t < n → W' o (Fin.castLE hC c) t = W o c t) ∧ ∀ o (c : Fin C') t, t < n → C ≤ c.val → W' o c t = 0

section

variable (V0 : Valuation τ sig (Elt Ideal)) (n : Fin 64)

/-- The arguments the three normalisations depend on are real numbers. -/
structure AllReal : Prop where
  a0 : ∀ i, Fin' (hidden V0 i)
  a1 : ∀ i, Fin' (flow V0 i)
  a2 : ∀ i, Fin' (mask V0 i)
  a3 : ∀ i, Fin' (geo V0 i)
  a4 : ∀ i, Fin' ((V0 (Proc.devRef .tc main_arg4) : S128x8x3x3.Idx → EReal) i)
  a5 : ∀ i, Fin' ((V0 (Proc.devRef .tc main_arg5) : S128.Idx → EReal) i)
  a6 : ∀ i, Fin' ((V0 (Proc.devRef .tc main_arg6) : S64x128x3x3.Idx → EReal) i)
  a7 : ∀ i, Fin' ((V0 (Proc.devRef .tc main_arg7) : S64.Idx → EReal) i)
  a8 : ∀ i, Fin' ((V0 (Proc.devRef .tc main_arg8) : S128x2x7x7.Idx → EReal) i)
  a9 : ∀ i, Fin' ((V0 (Proc.devRef .tc main_arg9) : S128.Idx → EReal) i)
  a10 : ∀ i, Fin' ((V0 (Proc.devRef .tc main_arg10) : S64x128x3x3.Idx → EReal) i)
  a11 : ∀ i, Fin' ((V0 (Proc.devRef .tc main_arg11) : S64.Idx → EReal) i)
  a12 : ∀ i, Fin' ((V0 (Proc.devRef .tc main_arg12) : S64x1x3x3.Idx → EReal) i)
  a13 : ∀ i, Fin' ((V0 (Proc.devRef .tc main_arg13) : S64.Idx → EReal) i)
  a14 : ∀ i, Fin' ((V0 (Proc.devRef .tc main_arg14) : S32x64x3x3.Idx → EReal) i)
  a15 : ∀ i, Fin' ((V0 (Proc.devRef .tc main_arg15) : S32.Idx → EReal) i)
  a16 : ∀ i, Fin' ((V0 (Proc.devRef .tc main_arg16) : S128x288x3x3.Idx → EReal) i)
  a17 : ∀ i, Fin' ((V0 (Proc.devRef .tc main_arg17) : S128.Idx → EReal) i)
  a18 : ∀ i, Fin' ((V0 (Proc.devRef .tc main_arg18) : S128.Idx → EReal) i)
  a19 : ∀ i, Fin' ((V0 (Proc.devRef .tc main_arg19) : S128.Idx → EReal) i)
  a20 : ∀ i, Fin' ((V0 (Proc.devRef .tc main_arg20) : S128x128x3x3.Idx → EReal) i)
  a21 : ∀ i, Fin' ((V0 (Proc.devRef .tc main_arg21) : S128.Idx → EReal) i)
  a22 : ∀ i, Fin' ((V0 (Proc.devRef .tc main_arg22) : S128.Idx → EReal) i)
  a23 : ∀ i, Fin' ((V0 (Proc.devRef .tc main_arg23) : S128.Idx → EReal) i)
  a24 : ∀ i, Fin' ((V0 (Proc.devRef .tc main_arg24) : S128x128x3x3.Idx → EReal) i)
  a25 : ∀ i, Fin' ((V0 (Proc.devRef .tc main_arg25) : S128.Idx → EReal) i)

section Finite

variable {V0} (h : AllReal V0)
include h

theorem geo2_finite : Finite' (geo2 V0 n) :=
  (((((Finite'.midImg h.a3 n).conv (fun _ _ _ => h.a4 _) (fun _ => h.a5 _) _ _ _ _).relu).conv (fun _ _ _ => h.a6 _) (fun _ => h.a7 _) _ _ _ _).relu)
theorem flow2_finite : Finite' (flow2 V0 n) :=
  (((((Finite'.midImg h.a1 n).conv (fun _ _ _ => h.a8 _) (fun _ => h.a9 _) _ _ _ _).relu).conv (fun _ _ _ => h.a10 _) (fun _ => h.a11 _) _ _ _ _).relu)
theorem mask2_finite : Finite' (mask2 V0 n) :=
  (((((Finite'.midImg h.a2 n).conv (fun _ _ _ => h.a12 _) (fun _ => h.a13 _) _ _ _ _).relu).conv (fun _ _ _ => h.a14 _) (fun _ => h.a15 _) _ _ _ _).relu)
theorem feat_finite : Finite' (feat V0 n) := fun c u v => by
  unfold feat join4
  split_ifs
  · exact Finite'.midImg h.a0 n _ _ _
  · exact flow2_finite n h _ _ _
  · exact mask2_finite n h _ _ _
  · exact geo2_finite n h _ _ _
theorem pre1_finite : Finite' (pre1 V0 n) := (feat_finite n h).conv (fun _ _ _ => h.a16 _) (fun _ => h.a17 _) _ _ _ _
theorem out1_finite : Finite' (out1 V0 n) := by
  unfold out1
  rw [count_1024]
  exact (gn_finite (M := 16) (pre1_finite n h) 1024 (by norm_num) (by norm_num) (fun _ => h.a18 _) (fun _ => h.a19 _)).relu
theorem pre2_finite : Finite' (pre2 V0 n) := (out1_finite n h).conv (fun _ _ _ => h.a20 _) (fun _ => h.a21 _) _ _ _ _
theorem out2_finite : Finite' (out2 V0 n) := by
  unfold out2
  rw [count_256]
  exact (gn_finite (M := 8) (pre2_finite n h) 256 (by norm_num) (by norm_num) (fun _ => h.a22 _) (fun _ => h.a23 _)).relu
theorem pre3_finite : Finite' (pre3 V0 n) := (out2_finite n h).conv (fun _ _ _ => h.a24 _) (fun _ => h.a25 _) _ _ _ _

end Finite

open Cert.Proof.KernelSide (rowOf row geoImg flowImg maskImg one two tri join3 wordOf sq64 sq32 sq32')

variable (b : Fin 4)
  {x0 : (⟨3, ![4, 128, 1024]⟩ : Shape).Idx → EReal} {x1 : (⟨3, ![4, 8, 4096]⟩ : Shape).Idx → EReal}
  {x2 x3 : (⟨3, ![4, 8, 1024]⟩ : Shape).Idx → EReal} {x4 : (⟨2, ![128, 72]⟩ : Shape).Idx → EReal} {x5 : (⟨2, ![1, 128]⟩ : Shape).Idx → EReal}
  {x6 : (⟨2, ![128, 392]⟩ : Shape).Idx → EReal} {x7 : (⟨2, ![1, 128]⟩ : Shape).Idx → EReal} {x8 : (⟨2, ![64, 72]⟩ : Shape).Idx → EReal}
  {x9 : (⟨2, ![1, 64]⟩ : Shape).Idx → EReal} {x10 : (⟨2, ![1152, 64]⟩ : Shape).Idx → EReal} {x11 : (⟨2, ![1, 64]⟩ : Shape).Idx → EReal}
  {x12 : (⟨2, ![1152, 64]⟩ : Shape).Idx → EReal} {x13 : (⟨2, ![1, 64]⟩ : Shape).Idx → EReal} {x14 : (⟨2, ![576, 32]⟩ : Shape).Idx → EReal}
  {x15 : (⟨2, ![1, 32]⟩ : Shape).Idx → EReal} {x16 : (⟨2, ![2304, 128]⟩ : Shape).Idx → EReal} {x17 : (⟨2, ![288, 128]⟩ : Shape).Idx → EReal}
  {x18 x19 x20 : (⟨2, ![1, 128]⟩ : Shape).Idx → EReal} {x21 : (⟨2, ![1152, 128]⟩ : Shape).Idx → EReal}
  {x22 x23 x24 : (⟨2, ![1, 128]⟩ : Shape).Idx → EReal} {x25 : (⟨2, ![1152, 128]⟩ : Shape).Idx → EReal}
  {x26 x27 x28 : (⟨2, ![1, 128]⟩ : Shape).Idx → EReal}

variable {V0 n b}

theorem geo_agree (h1 : rowImg 64 sq64 x1 b = midImg (geo V0) n)
    (h4 : Alike 9 (flat (turned x4)) (wt (V0 (Proc.devRef .tc main_arg4) : S128x8x3x3.Idx → EReal)))
    (h5 : rowOf x5 = fun o => (V0 (Proc.devRef .tc main_arg5) : S128.Idx → EReal) (ix1 o))
    (h10 : Alike 9 (flat x10) (wt (V0 (Proc.devRef .tc main_arg6) : S64x128x3x3.Idx → EReal)))
    (h11 : rowOf x11 = fun o => (V0 (Proc.devRef .tc main_arg7) : S64.Idx → EReal) (ix1 o)) :
    geoImg x1 x4 x5 x10 x11 b = geo2 V0 n := by
  unfold geoImg geo2 geo1
  rw [h1]
  refine congrArg relu ?_
  rw [conv_same 64 3 1 1 (taps_congr 3 1 1 _ h4) h5]
  exact conv_same 32 3 2 1 (taps_congr 3 2 1 _ h10) h11

theorem flow_agree (h2 : ∀ c : Fin 2, rowImg 32 sq32' x2 b (Fin.castLE (by decide) c) = midImg (flow V0) n c)
    (h6 : Wider (C := 2) (C' := 8) 49 (by decide) (flat (turned x6)) (wt (V0 (Proc.devRef .tc main_arg8) : S128x2x7x7.Idx → EReal)))
    (h7 : rowOf x7 = fun o => (V0 (Proc.devRef .tc main_arg9) : S128.Idx → EReal) (ix1 o))
    (h12 : Alike 9 (flat x12) (wt (V0 (Proc.devRef .tc main_arg10) : S64x128x3x3.Idx → EReal)))
    (h13 : rowOf x13 = fun o => (V0 (Proc.devRef .tc main_arg11) : S64.Idx → EReal) (ix1 o)) :
    flowImg x2 x6 x7 x12 x13 b = flow2 V0 n := by
  unfold flowImg flow2 flow1
  refine congrArg relu ?_
  rw [conv_same 32 7 1 3 (taps_narrow 7 1 3 (by decide) h2 h6.1 h6.2) h7]
  exact conv_same 32 3 1 1 (taps_congr 3 1 1 _ h12) h13

theorem mask_agree (h3 : ∀ c : Fin 1, rowImg 32 sq32 x3 b (Fin.castLE (by decide) c) = midImg (mask V0) n c)
    (h8 : Wider (C := 1) (C' := 8) 9 (by decide) (flat (turned x8)) (wt (V0 (Proc.devRef .tc main_arg12) : S64x1x3x3.Idx → EReal)))
    (h9 : rowOf x9 = fun o => (V0 (Proc.devRef .tc main_arg13) : S64.Idx → EReal) (ix1 o))
    (h14 : Alike 9 (flat x14) (wt (V0 (Proc.devRef .tc main_arg14) : S32x64x3x3.Idx → EReal)))
    (h15 : rowOf x15 = fun o => (V0 (Proc.devRef .tc main_arg15) : S32.Idx → EReal) (ix1 o)) :
    maskImg x3 x8 x9 x14 x15 b = mask2 V0 n := by
  unfold maskImg mask2 mask1
  refine congrArg relu ?_
  rw [conv_same 32 3 1 1 (taps_narrow 3 1 1 (by decide) h3 h8.1 h8.2) h9]
  exact conv_same 32 3 1 1 (taps_congr 3 1 1 _ h14) h15

theorem one_agree (h0 : rowImg 32 sq32 x0 b = midImg (hidden V0) n) (hg : geoImg x1 x4 x5 x10 x11 b = geo2 V0 n)
    (hf : flowImg x2 x6 x7 x12 x13 b = flow2 V0 n) (hm : maskImg x3 x8 x9 x14 x15 b = mask2 V0 n)
    (hA : ∀ (o : Fin 128) (c : Fin 256) (t : ℕ), t < 9 → ∀ d : Fin 288, d.val = (if c.val < 192 then c.val else c.val + 32) →
      flat x16 o c t = wt (V0 (Proc.devRef .tc main_arg16) : S128x288x3x3.Idx → EReal) o d t)
    (hB : ∀ (o : Fin 128) (c : Fin 32) (t : ℕ), t < 9 →
      flat x17 o c t = wt (V0 (Proc.devRef .tc main_arg16) : S128x288x3x3.Idx → EReal) o ⟨192 + c.val, by omega⟩ t)
    (h18 : rowOf x18 = fun o => (V0 (Proc.devRef .tc main_arg17) : S128.Idx → EReal) (ix1 o)) :
    one x0 x1 x2 x3 x4 x5 x6 x7 x8 x9 x10 x11 x12 x13 x14 x15 x16 x17 x18 b = pre1 V0 n := by
  unfold one pre1 feat conv
  rw [h0, hg, hf, hm]
  refine congrArg (onSquare 16) (funext fun o => funext fun u => funext fun v => ?_)
  refine congrArg₂ (fun a b : EReal => a + b) (taps_split 3 2 1 _ _ _ _ (fun o c t ht => hA o _ t ht _ ?_) (fun o c t ht => hA o _ t ht _ ?_)
    (fun o c t ht => hB o c t ht) o u v) (congrFun h18 o)
  · exact (if_pos c.isLt).symm
  · have : ¬(192 + c.val < 192) := by omega
    refine Eq.trans ?_ (if_neg this).symm
    show 224 + c.val = 192 + c.val + 32
    omega

theorem two_agree (hr : AllReal V0) (h19 : row x19 = fun c => (V0 (Proc.devRef .tc main_arg18) : S128.Idx → EReal) (ix1 c))
    (h20 : row x20 = fun c => (V0 (Proc.devRef .tc main_arg19) : S128.Idx → EReal) (ix1 c))
    (h21 : Alike 9 (flat x21) (wt (V0 (Proc.devRef .tc main_arg20) : S128x128x3x3.Idx → EReal)))
    (h22 : row x22 = fun c => (V0 (Proc.devRef .tc main_arg21) : S128.Idx → EReal) (ix1 c)) :
    two x19 x20 x21 x22 (pre1 V0 n) = pre2 V0 n := by
  unfold two pre2 out1
  rw [h19, h20, show wordOf 0x44800000#32 = ((1024 : ℝ) : EReal) from count_1024, count_1024,
    normed_eq (M := 16) (pre1_finite n hr) 1024 (by norm_num) (by norm_num)]
  exact conv_same 8 3 2 1 (taps_congr 3 2 1 _ h21) h22

theorem tri_agree (hr : AllReal V0) (h23 : row x23 = fun c => (V0 (Proc.devRef .tc main_arg22) : S128.Idx → EReal) (ix1 c))
    (h24 : row x24 = fun c => (V0 (Proc.devRef .tc main_arg23) : S128.Idx → EReal) (ix1 c))
    (h25 : Alike 9 (flat x25) (wt (V0 (Proc.devRef .tc main_arg24) : S128x128x3x3.Idx → EReal)))
    (h26 : row x26 = fun c => (V0 (Proc.devRef .tc main_arg25) : S128.Idx → EReal) (ix1 c)) :
    tri x23 x24 x25 x26 (pre2 V0 n) = pre3 V0 n := by
  unfold tri pre3 out2
  rw [h23, h24, show wordOf 0x43800000#32 = ((256 : ℝ) : EReal) from count_256, count_256,
    normed_eq (M := 8) (pre2_finite n hr) 256 (by norm_num) (by norm_num)]
  exact conv_same 4 3 2 1 (taps_congr 3 2 1 _ h25) h26

theorem last_agree (hr : AllReal V0) (h27 : row x27 = fun c => (V0 (Proc.devRef .tc main_arg26) : S128.Idx → EReal) (ix1 c))
    (h28 : row x28 = fun c => (V0 (Proc.devRef .tc main_arg27) : S128.Idx → EReal) (ix1 c)) (c : Fin 128) (l : Fin 16) :
    normed (wordOf 0x42800000#32) 4 (pre3 V0 n) (row x27) (row x28) c ((l.val / 4 : ℕ) : ℤ) ((l.val % 4 : ℕ) : ℤ) = result V0 n c l := by
  unfold normed result
  rw [h27, h28, show wordOf 0x42800000#32 = ((64 : ℝ) : EReal) from count_64, count_64,
    spread_eq (M := 4) (pre3_finite n hr) 64 (by norm_num) (by norm_num)]

end

end Cert.Proof

end
-- ==== Proof.Conv.Bridge.lean ====
/- The first program's result array is its reference's, entry by entry, from arguments that are the same. -/
module

public import proofs.«01_k».proof.Proof.Conv.Grid
public import proofs.«01_k».proof.Proof.Conv.Agree

@[expose] public section

set_option maxRecDepth 16384

noncomputable section

namespace Cert.Proof.KernelSide

open Idealize.ShloMosaic Idealize.ShloMosaic.TcCoe Idealize.SL.Sem
open Idealize.ShloMosaic.Pipeline (Dat)
open Cert.KernelIdeal Cert.KernelIdeal.Gen Net
open Cert.Proof.RefSide (hidden flow mask geo geo2 flow2 mask2 pre1 pre2 pre3 result)

variable (m : (ℓ : Loc nD τ sig) → Buf (Elt Ideal) ℓ) (c : Dev nD)
  (V0 : Valuation Cert.ReferenceIdeal.τ Cert.ReferenceIdeal.sig (Elt Ideal))

/-- The two programs are given the same arguments. -/
structure Linked : Prop where
  e0 : (V0 (Proc.devRef .tc Cert.ReferenceIdeal.main_arg0) : S64x128x32x32.Idx → EReal) = m ((c : Thread nD τ).loc main_arg0)
  e1 : (V0 (Proc.devRef .tc Cert.ReferenceIdeal.main_arg1) : S64x2x32x32.Idx → EReal) = m ((c : Thread nD τ).loc main_arg1)
  e2 : (V0 (Proc.devRef .tc Cert.ReferenceIdeal.main_arg2) : S64x1x32x32.Idx → EReal) = m ((c : Thread nD τ).loc main_arg2)
  e3 : (V0 (Proc.devRef .tc Cert.ReferenceIdeal.main_arg3) : S64x8x64x64.Idx → EReal) = m ((c : Thread nD τ).loc main_arg3)
  e4 : (V0 (Proc.devRef .tc Cert.ReferenceIdeal.main_arg4) : S128x8x3x3.Idx → EReal) = m ((c : Thread nD τ).loc main_arg4)
  e5 : (V0 (Proc.devRef .tc Cert.ReferenceIdeal.main_arg5) : S128.Idx → EReal) = m ((c : Thread nD τ).loc main_arg5)
  e6 : (V0 (Proc.devRef .tc Cert.ReferenceIdeal.main_arg6) : S64x128x3x3.Idx → EReal) = m ((c : Thread nD τ).loc main_arg6)
  e7 : (V0 (Proc.devRef .tc Cert.ReferenceIdeal.main_arg7) : S64.Idx → EReal) = m ((c : Thread nD τ).loc main_arg7)
  e8 : (V0 (Proc.devRef .tc Cert.ReferenceIdeal.main_arg8) : S128x2x7x7.Idx → EReal) = m ((c : Thread nD τ).loc main_arg8)
  e9 : (V0 (Proc.devRef .tc Cert.ReferenceIdeal.main_arg9) : S128.Idx → EReal) = m ((c : Thread nD τ).loc main_arg9)
  e10 : (V0 (Proc.devRef .tc Cert.ReferenceIdeal.main_arg10) : S64x128x3x3.Idx → EReal) = m ((c : Thread nD τ).loc main_arg10)
  e11 : (V0 (Proc.devRef .tc Cert.ReferenceIdeal.main_arg11) : S64.Idx → EReal) = m ((c : Thread nD τ).loc main_arg11)
  e12 : (V0 (Proc.devRef .tc Cert.ReferenceIdeal.main_arg12) : S64x1x3x3.Idx → EReal) = m ((c : Thread nD τ).loc main_arg12)
  e13 : (V0 (Proc.devRef .tc Cert.ReferenceIdeal.main_arg13) : S64.Idx → EReal) = m ((c : Thread nD τ).loc main_arg13)
  e14 : (V0 (Proc.devRef .tc Cert.ReferenceIdeal.main_arg14) : S32x64x3x3.Idx → EReal) = m ((c : Thread nD τ).loc main_arg14)
  e15 : (V0 (Proc.devRef .tc Cert.ReferenceIdeal.main_arg15) : S32.Idx → EReal) = m ((c : Thread nD τ).loc main_arg15)
  e16 : (V0 (Proc.devRef .tc Cert.ReferenceIdeal.main_arg16) : S128x288x3x3.Idx → EReal) = m ((c : Thread nD τ).loc main_arg16)
  e17 : (V0 (Proc.devRef .tc Cert.ReferenceIdeal.main_arg17) : S128.Idx → EReal) = m ((c : Thread nD τ).loc main_arg17)
  e18 : (V0 (Proc.devRef .tc Cert.ReferenceIdeal.main_arg18) : S128.Idx → EReal) = m ((c : Thread nD τ).loc main_arg18)
  e19 : (V0 (Proc.devRef .tc Cert.ReferenceIdeal.main_arg19) : S128.Idx → EReal) = m ((c : Thread nD τ).loc main_arg19)
  e20 : (V0 (Proc.devRef .tc Cert.ReferenceIdeal.main_arg20) : S128x128x3x3.Idx → EReal) = m ((c : Thread nD τ).loc main_arg20)
  e21 : (V0 (Proc.devRef .tc Cert.ReferenceIdeal.main_arg21) : S128.Idx → EReal) = m ((c : Thread nD τ).loc main_arg21)
  e22 : (V0 (Proc.devRef .tc Cert.ReferenceIdeal.main_arg22) : S128.Idx → EReal) = m ((c : Thread nD τ).loc main_arg22)
  e23 : (V0 (Proc.devRef .tc Cert.ReferenceIdeal.main_arg23) : S128.Idx → EReal) = m ((c : Thread nD τ).loc main_arg23)
  e24 : (V0 (Proc.devRef .tc Cert.ReferenceIdeal.main_arg24) : S128x128x3x3.Idx → EReal) = m ((c : Thread nD τ).loc main_arg24)
  e25 : (V0 (Proc.devRef .tc Cert.ReferenceIdeal.main_arg25) : S128.Idx → EReal) = m ((c : Thread nD τ).loc main_arg25)
  e26 : (V0 (Proc.devRef .tc Cert.ReferenceIdeal.main_arg26) : S128.Idx → EReal) = m ((c : Thread nD τ).loc main_arg26)
  e27 : (V0 (Proc.devRef .tc Cert.ReferenceIdeal.main_arg27) : S128.Idx → EReal) = m ((c : Thread nD τ).loc main_arg27)

variable {m c V0} (L : Linked m c V0) (t : Fin cfg0.N) (b : Fin 4) (n : Fin 64)

include L

/-! ## The images -/

theorem img0 (hn : n.val = t.val * 4 + b.val) : rowImg 32 sq32 (iblk m c 0 t : S4x128x1024.Idx → EReal) b = midImg (hidden V0) n := by
  refine (block_img sq32 _ _ b n (blk_images m c t b n hn).1).trans ?_
  rw [(V_images m c).1]
  exact (rows_img sq32 _ _ n).trans (congrArg (fun x => midImg x n) L.e0.symm)

theorem img1 (hn : n.val = t.val * 4 + b.val) : rowImg 64 sq64 (iblk m c 1 t : S4x8x4096.Idx → EReal) b = midImg (geo V0) n := by
  refine (block_img sq64 _ _ b n (blk_images m c t b n hn).2.1).trans ?_
  rw [(V_images m c).2.1]
  exact (rows_img sq64 _ _ n).trans (congrArg (fun x => midImg x n) L.e3.symm)

theorem img2 (hn : n.val = t.val * 4 + b.val) (k : Fin 2) :
    rowImg 32 sq32' (iblk m c 2 t : S4x8x1024.Idx → EReal) b (Fin.castLE (by decide) k) = midImg (flow V0) n k := by
  refine (congrFun (block_img sq32' _ _ b n (blk_images m c t b n hn).2.2.1) _).trans ?_
  rw [(V_images m c).2.2.1]
  refine (congrFun (rows_img sq32' _ _ n) _).trans ?_
  exact (padded_img (D := 6) _ _ h_S_ _ n k).trans (congrArg (fun x => midImg x n k) L.e1.symm)

theorem img3 (hn : n.val = t.val * 4 + b.val) (k : Fin 1) :
    rowImg 32 sq32 (iblk m c 3 t : S4x8x1024.Idx → EReal) b (Fin.castLE (by decide) k) = midImg (mask V0) n k := by
  refine (congrFun (block_img sq32 _ _ b n (blk_images m c t b n hn).2.2.2) _).trans ?_
  rw [(V_images m c).2.2.2]
  refine (congrFun (rows_img sq32 _ _ n) _).trans ?_
  exact (padded_img (D := 7) _ _ h_S_ _ n k).trans (congrArg (fun x => midImg x n k) L.e2.symm)

/-! ## The weights -/

theorem wts4 : Alike 9 (flat (turned (iblk m c 4 t : S128x72.Idx → EReal))) (wt (V0 (Proc.devRef .tc Cert.ReferenceIdeal.main_arg4) : S128x8x3x3.Idx → EReal)) := by
  intro o k s hs
  rw [(blk_first m c t).1, (V_first m c).1, L.e4]
  exact turned_wt (k := 3) rfl _ _ _ o k s hs

theorem wts6 : Wider (C := 2) (C' := 8) 49 (by decide) (flat (turned (iblk m c 6 t : S128x392.Idx → EReal))) (wt (V0 (Proc.devRef .tc Cert.ReferenceIdeal.main_arg8) : S128x2x7x7.Idx → EReal)) := by
  rw [(blk_first m c t).2.1, (V_first m c).2.1, L.e8]
  exact ⟨fun o k s hs => padded_wt (k := 7) (C := 2) (D := 6) rfl _ _ h_S_ _ _ o k s hs,
    fun o k s hs hk => padded_zero (k := 7) (C := 2) (D := 6) rfl _ _ h_S_ RefSide.zero_pad _ _ o k hk s hs⟩

theorem wts8 : Wider (C := 1) (C' := 8) 9 (by decide) (flat (turned (iblk m c 8 t : S64x72.Idx → EReal))) (wt (V0 (Proc.devRef .tc Cert.ReferenceIdeal.main_arg12) : S64x1x3x3.Idx → EReal)) := by
  rw [(blk_first m c t).2.2, (V_first m c).2.2, L.e12]
  exact ⟨fun o k s hs => padded_wt (k := 3) (C := 1) (D := 7) rfl _ _ h_S_ _ _ o k s hs,
    fun o k s hs hk => padded_zero (k := 3) (C := 1) (D := 7) rfl _ _ h_S_ RefSide.zero_pad _ _ o k hk s hs⟩

theorem wts10 : Alike 9 (flat (iblk m c 10 t : S1152x64.Idx → EReal)) (wt (V0 (Proc.devRef .tc Cert.ReferenceIdeal.main_arg6) : S64x128x3x3.Idx → EReal)) := by
  intro o k s hs
  rw [(blk_dense m c t).1, (V_dense m c).1, L.e6]
  exact dense_wt (k := 3) rfl _ _ _ o k s hs

theorem wts12 : Alike 9 (flat (iblk m c 12 t : S1152x64.Idx → EReal)) (wt (V0 (Proc.devRef .tc Cert.ReferenceIdeal.main_arg10) : S64x128x3x3.Idx → EReal)) := by
  intro o k s hs
  rw [(blk_dense m c t).2.1, (V_dense m c).2.1, L.e10]
  exact dense_wt (k := 3) rfl _ _ _ o k s hs

theorem wts14 : Alike 9 (flat (iblk m c 14 t : S576x32.Idx → EReal)) (wt (V0 (Proc.devRef .tc Cert.ReferenceIdeal.main_arg14) : S32x64x3x3.Idx → EReal)) := by
  intro o k s hs
  rw [(blk_dense m c t).2.2.1, (V_dense m c).2.2.1, L.e14]
  exact dense_wt (k := 3) rfl _ _ _ o k s hs

theorem wts21 : Alike 9 (flat (iblk m c 21 t : S1152x128.Idx → EReal)) (wt (V0 (Proc.devRef .tc Cert.ReferenceIdeal.main_arg20) : S128x128x3x3.Idx → EReal)) := by
  intro o k s hs
  rw [(blk_dense m c t).2.2.2.1, (V_dense m c).2.2.2.1, L.e20]
  exact dense_wt (k := 3) rfl _ _ _ o k s hs

theorem wts25 : Alike 9 (flat (iblk m c 25 t : S1152x128.Idx → EReal)) (wt (V0 (Proc.devRef .tc Cert.ReferenceIdeal.main_arg24) : S128x128x3x3.Idx → EReal)) := by
  intro o k s hs
  rw [(blk_dense m c t).2.2.2.2, (V_dense m c).2.2.2.2, L.e24]
  exact dense_wt (k := 3) rfl _ _ _ o k s hs

theorem wts16 (o : Fin 128) (k : Fin 256) (s : ℕ) (hs : s < 9) (d : Fin 288) (hd : d.val = if k.val < 192 then k.val else k.val + 32) :
    flat (iblk m c 16 t : S2304x128.Idx → EReal) o k s = wt (V0 (Proc.devRef .tc Cert.ReferenceIdeal.main_arg16) : S128x288x3x3.Idx → EReal) o d s := by
  rw [(blk_joined m c t).1, (V_joined m c).1, L.e16]
  exact part_rest _ _ _ _ _ _ _ o k s hs d hd

theorem wts17 (o : Fin 128) (k : Fin 32) (s : ℕ) (hs : s < 9) :
    flat (iblk m c 17 t : S288x128.Idx → EReal) o k s = wt (V0 (Proc.devRef .tc Cert.ReferenceIdeal.main_arg16) : S128x288x3x3.Idx → EReal) o ⟨192 + k.val, by omega⟩ s := by
  rw [(blk_joined m c t).2.1, (V_joined m c).2, L.e16]
  exact part_mask _ _ _ _ o k s hs

/-! ## The stages -/

theorem geo_at (hn : n.val = t.val * 4 + b.val) : geoImg (iblk m c 1 t) (iblk m c 4 t) (iblk m c 5 t) (iblk m c 10 t) (iblk m c 11 t) b = geo2 V0 n := by
  obtain ⟨r5, r7, r9, r11, r13, r15, r18⟩ := blk_rows m c t
  obtain ⟨v5, v7, v9, v11, v13, v15, v18⟩ := V_rows m c
  refine geo_agree (img1 L t b n hn) (wts4 L t) ?_ (wts10 L t) ?_
  · rw [r5, v5, L.e5]; exact row_cast _ _
  · rw [r11, v11, L.e7]; exact row_cast _ _

theorem flow_at (hn : n.val = t.val * 4 + b.val) : flowImg (iblk m c 2 t) (iblk m c 6 t) (iblk m c 7 t) (iblk m c 12 t) (iblk m c 13 t) b = flow2 V0 n := by
  obtain ⟨r5, r7, r9, r11, r13, r15, r18⟩ := blk_rows m c t
  obtain ⟨v5, v7, v9, v11, v13, v15, v18⟩ := V_rows m c
  refine flow_agree (img2 L t b n hn) (wts6 L t) ?_ (wts12 L t) ?_
  · rw [r7, v7, L.e9]; exact row_cast _ _
  · rw [r13, v13, L.e11]; exact row_cast _ _

theorem mask_at (hn : n.val = t.val * 4 + b.val) : maskImg (iblk m c 3 t) (iblk m c 8 t) (iblk m c 9 t) (iblk m c 14 t) (iblk m c 15 t) b = mask2 V0 n := by
  obtain ⟨r5, r7, r9, r11, r13, r15, r18⟩ := blk_rows m c t
  obtain ⟨v5, v7, v9, v11, v13, v15, v18⟩ := V_rows m c
  refine mask_agree (img3 L t b n hn) (wts8 L t) ?_ (wts14 L t) ?_
  · rw [r9, v9, L.e13]; exact row_cast _ _
  · rw [r15, v15, L.e15]; exact row_cast _ _

theorem one_at (hn : n.val = t.val * 4 + b.val) : one (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) b = pre1 V0 n := by
  obtain ⟨r5, r7, r9, r11, r13, r15, r18⟩ := blk_rows m c t
  obtain ⟨v5, v7, v9, v11, v13, v15, v18⟩ := V_rows m c
  refine one_agree (img0 L t b n hn) (geo_at L t b n hn) (flow_at L t b n hn) (mask_at L t b n hn) (wts16 L t) (wts17 L t) ?_
  rw [r18, v18, L.e17]; exact row_cast _ _

theorem two_at (hr : AllReal V0) : two (iblk m c 19 t) (iblk m c 20 t) (iblk m c 21 t) (iblk m c 22 t) (pre1 V0 n) = pre2 V0 n := by
  obtain ⟨r19, r20, r22, r23, r24, r26, r27, r28⟩ := blk_norm_rows m c t
  obtain ⟨v19, v20, v22, v23⟩ := V_norm_rows m c
  refine two_agree hr ?_ ?_ (wts21 L t) ?_
  · rw [r19, v19, L.e18]; exact row_cast _ _
  · rw [r20, v20, L.e19]; exact row_cast _ _
  · rw [r22, v22, L.e21]; exact row_cast _ _

theorem tri_at (hr : AllReal V0) : tri (iblk m c 23 t) (iblk m c 24 t) (iblk m c 25 t) (iblk m c 26 t) (pre2 V0 n) = pre3 V0 n := by
  obtain ⟨r19, r20, r22, r23, r24, r26, r27, r28⟩ := blk_norm_rows m c t
  obtain ⟨v19, v20, v22, v23⟩ := V_norm_rows m c
  obtain ⟨v24, v26, v27, v28⟩ := V_norm_rows' m c
  refine tri_agree hr ?_ ?_ (wts25 L t) ?_
  · rw [r23, v23, L.e22]; exact row_cast _ _
  · rw [r24, v24, L.e23]; exact row_cast _ _
  · rw [r26, v26, L.e25]; exact row_cast _ _

/-- What a grid point stores of one image. -/
theorem point (hr : AllReal V0) (hn : n.val = t.val * 4 + b.val) (k k' : Fin 128) (hk : k'.val = k.val) (l l' : Fin 16) (hl : l'.val = l.val) :
    out0_30 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (ix3 b k l) = result V0 n k' l' := by
  obtain rfl : k' = k := Fin.ext hk
  obtain rfl : l' = l := Fin.ext hl
  have hG : Groups (iblk m c 29 t : S128x128.Idx → EReal) := by
    rw [(blk_joined m c t).2.2]; exact V_groups m c
  obtain ⟨r19, r20, r22, r23, r24, r26, r27, r28⟩ := blk_norm_rows m c t
  obtain ⟨v24, v26, v27, v28⟩ := V_norm_rows' m c
  refine (stored_read (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) hG b k' l').trans ?_
  rw [one_at L t b n hn, two_at L t n hr, tri_at L t n hr]
  refine last_agree hr ?_ ?_ k' l'
  · rw [r27, v27, L.e26]; exact row_cast _ _
  · rw [r28, v28, L.e27]; exact row_cast _ _

/-- The first program's result array. -/
theorem final (hr : AllReal V0) : (dats m 0 c).arrAt 30 (cfgs 0).N = ((fun y => result V0 (y 0) (y 1) (y 2)) : S64x128x16.Idx → EReal) := by
  refine (dats m 0 c).arrAt_eq_of_covers 30 _ (by decide +kernel) fun t _ y => ?_
  blk_simp
  rw [after0_30]
  idx_vars y
  refine point L t y0 _ hr ?_ y1 _ ?_ y2 _ ?_
  · blk_simp [idx t]
  · blk_simp [idx t]
  · blk_simp [idx t]

end Cert.Proof.KernelSide

end
-- ==== Proof.Conv.Finite.lean ====
/- The precondition read: every element of the arguments the normalisations depend on is a real number. -/
module

public import proofs.«01_k».proof.Proof.Gen.Pre_inputs_finite
public import proofs.«01_k».proof.Proof.Conv.Real
public import Idealize.ShloMosaic.Lib.ReduceAll
public import Idealize.ShloMosaic.Lib.IdealHost

@[expose] public section

set_option maxRecDepth 16384

noncomputable section

namespace Cert.Proof

open Net Idealize.ShloMosaic
open Cert.Pre_inputs_finite

instance : Subsingleton S_.Idx := ⟨fun a b => funext fun i => Fin.elim0 i⟩

/-- Two tests that hold together hold each. -/
theorem both {p q : IVec S_ 1} (h : andi p q = fun _ => 1#1) : p = (fun _ => 1#1) ∧ q = fun _ => 1#1 := by
  have key : ∀ a b : BitVec 1, a &&& b = 1#1 → a = 1#1 ∧ b = 1#1 := by decide
  exact ⟨funext fun i => (key _ _ (congrFun h i)).1, funext fun i => (key _ _ (congrFun h i)).2⟩

/-- A number of magnitude less than infinity is real. -/
theorem real_of_below {x : EReal} (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- A test over a whole array. -/
theorem real_of_all {s : Shape} {axes : List (Fin s.rank)} {x : FVec Ideal s .f32} {d : Fin 0 → Fin s.rank} {hb : S_.BroadcastsInDim s d}
    {hr : s.ReducesTo axes S_} {hu : 0 < S_.numel}
    (h : Host.reduce IntOp.andi (cmpf .olt (Host.absf x) (broadcastInDim s d hb (constant S_ .f32 0x7F800000#32))) (constantI S_ 1 1#1) hr hu = fun _ => 1#1)
    (i : s.Idx) : Fin' (x i) :=
  real_of_below (Host.reduce_andi_all _ _ hr hu (fun i => Fin.elim0 i) (congrFun h _) i)

theorem inputs_real (a0 : FVec Ideal S64x128x32x32 .f32) (a1 : FVec Ideal S64x2x32x32 .f32) (a2 : FVec Ideal S64x1x32x32 .f32) (a3 : FVec Ideal S64x8x64x64 .f32) (a4 : FVec Ideal S128x8x3x3 .f32) (a5 : FVec Ideal S128 .f32) (a6 : FVec Ideal S64x128x3x3 .f32) (a7 : FVec Ideal S64 .f32) (a8 : FVec Ideal S128x2x7x7 .f32) (a9 : FVec Ideal S128 .f32) (a10 : FVec Ideal S64x128x3x3 .f32) (a11 : FVec Ideal S64 .f32) (a12 : FVec Ideal S64x1x3x3 .f32) (a13 : FVec Ideal S64 .f32) (a14 : FVec Ideal S32x64x3x3 .f32) (a15 : FVec Ideal S32 .f32) (a16 : FVec Ideal S128x288x3x3 .f32) (a17 : FVec Ideal S128 .f32) (a18 : FVec Ideal S128 .f32) (a19 : FVec Ideal S128 .f32) (a20 : FVec Ideal S128x128x3x3 .f32) (a21 : FVec Ideal S128 .f32) (a22 : FVec Ideal S128 .f32) (a23 : FVec Ideal S128 .f32) (a24 : FVec Ideal S128x128x3x3 .f32) (a25 a26 a27 : FVec Ideal S128 .f32)
    (hX : Cert.Pre_inputs_finite.fn (F := Ideal) a0 a1 a2 a3 a4 a5 a6 a7 a8 a9 a10 a11 a12 a13 a14 a15 a16 a17 a18 a19 a20 a21 a22 a23 a24 a25 a26 a27 = fun _ => 1#1) :
    (∀ i, Fin' (a0 i)) ∧ (∀ i, Fin' (a1 i)) ∧ (∀ i, Fin' (a2 i)) ∧ (∀ i, Fin' (a3 i)) ∧ (∀ i, Fin' (a4 i)) ∧ (∀ i, Fin' (a5 i)) ∧ (∀ i, Fin' (a6 i)) ∧ (∀ i, Fin' (a7 i)) ∧ (∀ i, Fin' (a8 i)) ∧ (∀ i, Fin' (a9 i)) ∧ (∀ i, Fin' (a10 i)) ∧ (∀ i, Fin' (a11 i)) ∧ (∀ i, Fin' (a12 i)) ∧ (∀ i, Fin' (a13 i)) ∧ (∀ i, Fin' (a14 i)) ∧ (∀ i, Fin' (a15 i)) ∧ (∀ i, Fin' (a16 i)) ∧ (∀ i, Fin' (a17 i)) ∧ (∀ i, Fin' (a18 i)) ∧ (∀ i, Fin' (a19 i)) ∧ (∀ i, Fin' (a20 i)) ∧ (∀ i, Fin' (a21 i)) ∧ (∀ i, Fin' (a22 i)) ∧ (∀ i, Fin' (a23 i)) ∧ (∀ i, Fin' (a24 i)) ∧ (∀ i, Fin' (a25 i)) := by
  have h := hX
  unfold fn fn_part1 fn_part2 fn_part3 fn_part4 fn_part5 fn_part6 fn_part7 at h
  dsimp only at h
  obtain ⟨h, h25⟩ := both h
  obtain ⟨h, h24⟩ := both h
  obtain ⟨h, h23⟩ := both h
  obtain ⟨h, h22⟩ := both h
  obtain ⟨h, h21⟩ := both h
  obtain ⟨h, h20⟩ := both h
  obtain ⟨h, h19⟩ := both h
  obtain ⟨h, h18⟩ := both h
  obtain ⟨h, h17⟩ := both h
  obtain ⟨h, h16⟩ := both h
  obtain ⟨h, h15⟩ := both h
  obtain ⟨h, h14⟩ := both h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  exact ⟨real_of_all h, real_of_all h1, real_of_all h2, real_of_all h3, real_of_all h4, real_of_all h5, real_of_all h6, real_of_all h7, real_of_all h8, real_of_all h9, real_of_all h10, real_of_all h11, real_of_all h12, real_of_all h13, real_of_all h14, real_of_all h15, real_of_all h16, real_of_all h17, real_of_all h18, real_of_all h19, real_of_all h20, real_of_all h21, real_of_all h22, real_of_all h23, real_of_all h24, real_of_all h25⟩

end Cert.Proof

end
-- ==== Proof.Conv.RefRun.lean ====
/- The reference's run, with its result array read at an index. -/
module

public import proofs.«01_k».proof.Proof.Conv.RefStages

@[expose] public section

set_option maxRecDepth 16384

noncomputable section

namespace Cert.Proof.RefSide

open Net Idealize.ShloMosaic Idealize.ShloMosaic.TcCoe Idealize.ShloMosaic.StableHlo Idealize.SL.Sem Cert.ReferenceIdeal Cert.ReferenceIdeal.Gen Cert.ReferenceIdeal.Value

/-- The result array, entry by entry. -/
theorem v275_read (V0 : Valuation τ sig (Elt Ideal)) :
    (val6 V0 (Proc.devRef .tc main_v275) : S64x128x16.Idx → EReal) = fun y => result V0 (y 0) (y 1) (y 2) := by
  refine (val6_main_v275 V0).trans ?_
  funext y
  idx_vars y
  refine (joined_read _ y0 y1 y2).trans ?_
  exact gn_read (v253_groups V0) _ _ _ _ h_S_ _ pos_64 _ _ _ _ _ _ y0 y1 _ _

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v275) = ((fun y => result (launchContents m c) (y 0) (y 1) (y 2)) : S64x128x16.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun r h c => ⟨(h c).1.trans ((val6_main_v275 (launchContents m c)).symm.trans (v275_read _)), (h c).2⟩) (run m ρ)

end Cert.Proof.RefSide

end
-- ==== Proof.Conv.Algebraic.lean ====
/- The first program computes its reference's function, on arguments whose elements are real numbers. -/
module

public import proofs.«01_k».proof.Defs
public import proofs.«01_k».proof.Proof.Conv.Bridge
public import proofs.«01_k».proof.Proof.Conv.Finite
public import proofs.«01_k».proof.Proof.Conv.RefRun

@[expose] public section

set_option maxRecDepth 16384

noncomputable section

namespace Cert.Proof

open Idealize.ShloMosaic Idealize.ShloMosaic.TcCoe Idealize.ShloMosaic.StableHlo Idealize.SL.Sem
open Net
open KernelSide (Linked final)

/-- Equal arrays are real together. -/
theorem real_same {s : Shape} {x y : s.Idx → EReal} (e : x = y) (h : ∀ i, Fin' (y i)) (i : s.Idx) : Fin' (x i) := by
  rw [e]; exact h i

set_option maxHeartbeats 1600000 in
theorem algebraic1 : Cert.algebraic_KernelIdeal_ReferenceIdeal_pre_inputs_finite := by
  pair_intro
  · run_from Cert.KernelIdeal.Value.run_blocks m g
  · run_from RefSide.run_result m' g'
    · obtain ⟨e0, e1, e2, e3, e4, e5, e6, e7, e8, e9, e10, e11, e12, e13, e14, e15, e16, e17, e18, e19, e20, e21, e22, e23, e24, e25, e26, e27⟩ := hagree c
      have L : Linked m c (launchContents m' c) := ⟨e0, e1, e2, e3, e4, e5, e6, e7, e8, e9, e10, e11, e12, e13, e14, e15, e16, e17, e18, e19, e20, e21, e22, e23, e24, e25, e26, e27⟩
      obtain ⟨f0, f1, f2, f3, f4, f5, f6, f7, f8, f9, f10, f11, f12, f13, f14, f15, f16, f17, f18, f19, f20, f21, f22, f23, f24, f25⟩ := inputs_real _ _ _ _ _ _ _ _ _ _ _ _ _ _ _ _ _ _ _ _ _ _ _ _ _ _ _ _ (hpre c)
      have R : AllReal (launchContents m' c) := ⟨real_same e0 f0, real_same e1 f1, real_same e2 f2, real_same e3 f3, real_same e4 f4, real_same e5 f5, real_same e6 f6, real_same e7 f7, real_same e8 f8, real_same e9 f9, real_same e10 f10, real_same e11 f11, real_same e12 f12, real_same e13 f13, real_same e14 f14, real_same e15 f15, real_same e16 f16, real_same e17 f17, real_same e18 f18, real_same e19 f19, real_same e20 f20, real_same e21 f21, real_same e22 f22, real_same e23 f23, real_same e24 f24, real_same e25 f25⟩
      exact (final L R).symm

end Cert.Proof

end
-- ==== Proof.lean ====
/- The claims of this problem, each from the module that proves it. -/
module

public import proofs.«01_k».proof.Defs
public import proofs.«01_k».proof.Proof.Gen.ReferenceIdeal.Run
public import proofs.«01_k».proof.Proof.Gen.Reference2Ideal.Run
public import proofs.«01_k».proof.Proof.KernelFrame.Run
public import proofs.«01_k».proof.Proof.KernelIdealFrame.Blocks
public import proofs.«01_k».proof.Proof.Gen.Kernel2.Frame
public import proofs.«01_k».proof.Proof.Gen.Kernel2Ideal.Frame
public import proofs.«01_k».proof.Proof.Gen.Pre_inputs_finite
public import proofs.«01_k».proof.Proof.Gen.Pre_object_named
public import proofs.«01_k».proof.Proof.HeadsRef
public import proofs.«01_k».proof.Proof.Conv.Algebraic
public import Idealize.ShloMosaic.Adequacy
public import Idealize.ShloMosaic.Init
public import Idealize.ShloMosaic.Lib.Quiescent

@[expose] public section

noncomputable section

namespace Cert.Proof

open Idealize.ShloMosaic Idealize.SL.Sem

/-- The first program's reference leaves its arguments as they were; it has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The second program's reference leaves its arguments as they were; it has no semaphore. -/
theorem frame_reference2 : Cert.quiescent_Reference2Ideal := fun m g _ =>
  (θ_run _ _ _).mono (fun r h => ⟨fun c => (h c).2.2, sem_eq_zero_of_no_sems (by decide) r.2⟩) (Cert.Reference2Ideal.Value.run m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_inputs_finite.Gen.facts, Cert.Pre_object_named.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.Kernel2.Gen.frame m g,
    fun m g _ => Cert.Kernel2Ideal.Gen.frame m g,
    fun m g _ => Cert.Kernel2Ideal.Gen.frame m g,
    frame_reference2,
    fun m g _ => frame_reference2 m g trivial,
    trivial,
    algebraic1,
    trivial,
    Cert.Heads.algebraic2⟩

end Cert.Proof

end
